-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_v31) = v4 c
          ∧ r.2.mem ((c.tc : Thread Cert.ReferenceIdeal.nD Cert.ReferenceIdeal.τ).loc Cert.ReferenceIdeal.main_v28) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v14)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v14) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v14)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v14) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v26)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v26) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v26)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v26) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v10) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v14)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v14) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v14)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v14) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg1) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg1) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_arg1) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_v4) = v2 c
          ∧ r.2.mem ((c.tc : Thread Cert.Reference23Ideal.nD Cert.Reference23Ideal.τ).loc Cert.Reference23Ideal.main_v10) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_v28) = v1 c
          ∧ r.2.mem ((c.tc : Thread Cert.Reference24Ideal.nD Cert.Reference24Ideal.τ).loc Cert.Reference24Ideal.main_v9) = v2 c
          ∧ r.2.mem ((c.tc : Thread Cert.Reference24Ideal.nD Cert.Reference24Ideal.τ).loc Cert.Reference24Ideal.main_v15) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Kernel.lean ====
abbrev S2048x768 : Shape := ⟨2, ![2048, 768]⟩
abbrev S6x32x64x64 : Shape := ⟨4, ![6, 32, 64, 64]⟩
abbrev S6x32x1x128 : Shape := ⟨4, ![6, 32, 1, 128]⟩
abbrev S6x32x128x128 : Shape := ⟨4, ![6, 32, 128, 128]⟩
abbrev S256x768 : Shape := ⟨2, ![256, 768]⟩
abbrev S6x4x64x64 : Shape := ⟨4, ![6, 4, 64, 64]⟩
abbrev S6x4x1x128 : Shape := ⟨4, ![6, 4, 1, 128]⟩
abbrev S6x4x128x128 : Shape := ⟨4, ![6, 4, 128, 128]⟩
abbrev S6x128x128 : Shape := ⟨3, ![6, 128, 128]⟩
abbrev S6x1x128x128 : Shape := ⟨4, ![6, 1, 128, 128]⟩
abbrev S64x128 : Shape := ⟨2, ![64, 128]⟩
abbrev S1x64x128 : Shape := ⟨3, ![1, 64, 128]⟩
abbrev S6x64x128 : Shape := ⟨3, ![6, 64, 128]⟩
abbrev S6x1x64x64 : Shape := ⟨4, ![6, 1, 64, 64]⟩
abbrev S6x64x64 : Shape := ⟨3, ![6, 64, 64]⟩
abbrev S6x1x1x128 : Shape := ⟨4, ![6, 1, 1, 128]⟩
abbrev S6x1x128 : Shape := ⟨3, ![6, 1, 128]⟩
abbrev S6x128 : Shape := ⟨2, ![6, 128]⟩

abbrev nBuf : Space → Nat
  | .hbm => 15
  | .vmem => 46
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S6x32x64x64, .f32⟩
  | .hbm, ⟨5, _⟩ => ⟨S6x32x1x128, .f32⟩
  | .hbm, ⟨6, _⟩ => ⟨S2048x768, .f32⟩
  | .hbm, ⟨7, _⟩ => ⟨S2048x768, .f32⟩
  | .hbm, ⟨8, _⟩ => ⟨S6x32x128x128, .f32⟩
  | .hbm, ⟨9, _⟩ => ⟨S2048x768, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S6x32x64x64, .f32⟩
  | .hbm, ⟨14, _⟩ => ⟨S6x32x1x128, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S6x4x64x64, .f32⟩
  | .local _ .vmem, ⟨9, _⟩ => ⟨S6x4x64x64, .f32⟩
  | .local _ .vmem, ⟨10, _⟩ => ⟨S6x4x1x128, .f32⟩
  | .local _ .vmem, ⟨11, _⟩ => ⟨S6x4x1x128, .f32⟩
  | .local _ .vmem, ⟨12, _⟩ => ⟨S256x768, .f32⟩
  | .local _ .vmem, ⟨13, _⟩ => ⟨S256x768, .f32⟩
  | .local _ .vmem, ⟨14, _⟩ => ⟨S6x4x128x128, .f32⟩
  | .local _ .vmem, ⟨15, _⟩ => ⟨S6x4x128x128, .f32⟩
  | .local _ .vmem, ⟨16, _⟩ => ⟨S6x128x128, .f32⟩
  | .local _ .vmem, ⟨17, _⟩ => ⟨S256x768, .f32⟩
  | .local _ .vmem, ⟨18, _⟩ => ⟨S256x768, .f32⟩
  | .local _ .vmem, ⟨19, _⟩ => ⟨S256x768, .f32⟩
  | .local _ .vmem, ⟨20, _⟩ => ⟨S256x768, .f32⟩
  | .local _ .vmem, ⟨21, _⟩ => ⟨S256x768, .f32⟩
  | .local _ .vmem, ⟨22, _⟩ => ⟨S256x768, .f32⟩
  | .local _ .vmem, ⟨23, _⟩ => ⟨S256x768, .f32⟩
  | .local _ .vmem, ⟨24, _⟩ => ⟨S256x768, .f32⟩
  | .local _ .vmem, ⟨25, _⟩ => ⟨S6x4x64x64, .f32⟩
  | .local _ .vmem, ⟨26, _⟩ => ⟨S6x4x64x64, .f32⟩
  | .local _ .vmem, ⟨27, _⟩ => ⟨S6x4x1x128, .f32⟩
  | .local _ .vmem, ⟨28, _⟩ => ⟨S6x4x1x128, .f32⟩
  | .local _ .vmem, ⟨29, _⟩ => ⟨S6x4x128x128, .f32⟩
  | .local _ .vmem, ⟨30, _⟩ => ⟨S6x4x128x128, .f32⟩
  | .local _ .vmem, ⟨31, _⟩ => ⟨S256x768, .f32⟩
  | .local _ .vmem, ⟨32, _⟩ => ⟨S256x768, .f32⟩
  | .local _ .vmem, ⟨33, _⟩ => ⟨S256x768, .f32⟩
  | .local _ .vmem, ⟨34, _⟩ => ⟨S256x768, .f32⟩
  | .local _ .vmem, ⟨35, _⟩ => ⟨S256x768, .f32⟩
  | .local _ .vmem, ⟨36, _⟩ => ⟨S256x768, .f32⟩
  | .local _ .vmem, ⟨37, _⟩ => ⟨S256x768, .f32⟩
  | .local _ .vmem, ⟨38, _⟩ => ⟨S256x768, .f32⟩
  | .local _ .vmem, ⟨39, _⟩ => ⟨S256x768, .f32⟩
  | .local _ .vmem, ⟨40, _⟩ => ⟨S256x768, .f32⟩
  | .local _ .vmem, ⟨41, _⟩ => ⟨S6x4x64x64, .f32⟩
  | .local _ .vmem, ⟨42, _⟩ => ⟨S6x4x64x64, .f32⟩
  | .local _ .vmem, ⟨43, _⟩ => ⟨S6x4x1x128, .f32⟩
  | .local _ .vmem, ⟨44, _⟩ => ⟨S6x4x1x128, .f32⟩
  | .local _ .vmem, ⟨45, _⟩ => ⟨S6x128x128, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_4 (i : grid1.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_5 (i : grid1.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_6 (i : grid1.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_7 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc1_transform_12 (i : grid1.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_13 (i : grid1.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage1_0 : Fin 2 → Memref sig .tc .vmem S256x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S6x4x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S6x4x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S6x4x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x768 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x768 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x768 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S6x4x64x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S6x4x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S2048x768 : Shape := ⟨2, ![2048, 768]⟩
abbrev S6x32x64x64 : Shape := ⟨4, ![6, 32, 64, 64]⟩
abbrev S6x32x1x128 : Shape := ⟨4, ![6, 32, 1, 128]⟩
abbrev S_ : Shape := ⟨0, ![]⟩
abbrev S6x128x128 : Shape := ⟨3, ![6, 128, 128]⟩
abbrev S32x64x6x128 : Shape := ⟨4, ![32, 64, 6, 128]⟩
abbrev S32x6x64x128 : Shape := ⟨4, ![32, 6, 64, 128]⟩
abbrev S32x6x64x64 : Shape := ⟨4, ![32, 6, 64, 64]⟩
abbrev S32x6x1x128 : Shape := ⟨4, ![32, 6, 1, 128]⟩
abbrev S32x6x128x128 : Shape := ⟨4, ![32, 6, 128, 128]⟩
abbrev S1x6x64x128 : Shape := ⟨4, ![1, 6, 64, 128]⟩
abbrev S6x64x128 : Shape := ⟨3, ![6, 64, 128]⟩
abbrev S1x6x64x64 : Shape := ⟨4, ![1, 6, 64, 64]⟩
abbrev S6x64x64 : Shape := ⟨3, ![6, 64, 64]⟩
abbrev S1x6x1x128 : Shape := ⟨4, ![1, 6, 1, 128]⟩
abbrev S6x1x128 : Shape := ⟨3, ![6, 1, 128]⟩
abbrev S1x6x128x128 : Shape := ⟨4, ![1, 6, 128, 128]⟩
abbrev S6x128x64 : Shape := ⟨3, ![6, 128, 64]⟩
abbrev S6x128 : Shape := ⟨2, ![6, 128]⟩

abbrev nBuf : Space → Nat
  | .hbm => 243
  | .vmem => 0
  | .smem => 0
  | _ => 0

abbrev hbmTy0_0 (i : Nat) : BufTy := match i % 128 with
  | 0 => ⟨S2048x768, .f32⟩
  | 1 => ⟨S2048x768, .f32⟩
  | 2 => ⟨S2048x768, .f32⟩
  | 3 => ⟨S2048x768, .f32⟩
  | 4 => ⟨S6x32x64x64, .f32⟩
  | 5 => ⟨S6x32x1x128, .f32⟩
  | 6 => ⟨S2048x768, .f32⟩
  | 7 => ⟨S_, .f32⟩
  | 8 => ⟨S6x128x128, .f32⟩
  | 9 => ⟨S32x64x6x128, .f32⟩
  | 10 => ⟨S32x6x64x128, .f32⟩
  | 11 => ⟨S32x64x6x128, .f32⟩
  | 12 => ⟨S32x6x64x128, .f32⟩
  | 13 => ⟨S32x64x6x128, .f32⟩
  | 14 => ⟨S32x6x64x128, .f32⟩
  | 15 => ⟨S32x6x64x64, .f32⟩
  | 16 => ⟨S32x64x6x128, .f32⟩
  | 17 => ⟨S32x6x64x128, .f32⟩
  | 18 => ⟨S32x6x1x128, .f32⟩
  | 19 => ⟨S_, .f32⟩
  | 20 => ⟨S32x6x64x128, .f32⟩
  | 21 => ⟨S_, .f32⟩
  | 22 => ⟨S32x6x128x128, .f32⟩
  | 23 => ⟨S_, .f32⟩
  | 24 => ⟨S32x6x64x128, .f32⟩
  | 25 => ⟨S_, .i32⟩
  | 26 => ⟨S32x6x64x128, .f32⟩
  | 27 => ⟨S32x6x64x128, .f32⟩
  | 28 => ⟨S32x6x64x128, .f32⟩
  | 29 => ⟨S32x6x64x64, .f32⟩
  | 30 => ⟨S32x6x64x128, .f32⟩
  | 31 => ⟨S32x6x1x128, .f32⟩
  | 32 => ⟨S_, .i32⟩
  | 33 => ⟨S6x128x128, .f32⟩
  | 34 => ⟨S32x6x64x128, .f32⟩
  | 35 => ⟨S32x6x128x128, .f32⟩
  | 36 => ⟨S32x6x64x128, .f32⟩
  | 37 => ⟨S_, .i32⟩
  | 38 => ⟨S_, .i1⟩
  | 39 => ⟨S_, .i32⟩
  | 40 => ⟨S_, .i32⟩
  | 41 => ⟨S_, .i32⟩
  | 42 => ⟨S1x6x64x128, .f32⟩
  | 43 => ⟨S6x64x128, .f32⟩
  | 44 => ⟨S_, .i32⟩
  | 45 => ⟨S_, .i32⟩
  | 46 => ⟨S_, .i32⟩
  | 47 => ⟨S1x6x64x128, .f32⟩
  | 48 => ⟨S6x64x128, .f32⟩
  | 49 => ⟨S_, .i32⟩
  | 50 => ⟨S_, .i32⟩
  | 51 => ⟨S_, .i32⟩
  | 52 => ⟨S1x6x64x128, .f32⟩
  | 53 => ⟨S6x64x128, .f32⟩
  | 54 => ⟨S_, .i32⟩
  | 55 => ⟨S_, .i32⟩
  | 56 => ⟨S_, .i32⟩
  | 57 => ⟨S1x6x64x64, .f32⟩
  | 58 => ⟨S6x64x64, .f32⟩
  | 59 => ⟨S_, .i32⟩
  | 60 => ⟨S_, .i32⟩
  | 61 => ⟨S_, .i32⟩
  | 62 => ⟨S1x6x64x128, .f32⟩
  | 63 => ⟨S6x64x128, .f32⟩
  | 64 => ⟨S_, .i32⟩
  | 65 => ⟨S_, .i32⟩
  | 66 => ⟨S_, .i32⟩
  | 67 => ⟨S1x6x1x128, .f32⟩
  | 68 => ⟨S6x1x128, .f32⟩
  | 69 => ⟨S6x64x128, .f32⟩
  | 70 => ⟨S6x64x128, .f32⟩
  | 71 => ⟨S6x64x128, .f32⟩
  | 72 => ⟨S6x64x128, .f32⟩
  | 73 => ⟨S6x64x128, .f32⟩
  | 74 => ⟨S6x128x128, .f32⟩
  | 75 => ⟨S6x128x128, .f32⟩
  | 76 => ⟨S6x128x128, .f32⟩
  | 77 => ⟨S6x128x128, .f32⟩
  | 78 => ⟨S1x6x64x128, .f32⟩
  | 79 => ⟨S_, .i32⟩
  | 80 => ⟨S_, .i32⟩
  | 81 => ⟨S_, .i32⟩
  | 82 => ⟨S32x6x64x128, .f32⟩
  | 83 => ⟨S1x6x128x128, .f32⟩
  | 84 => ⟨S_, .i32⟩
  | 85 => ⟨S_, .i32⟩
  | 86 => ⟨S_, .i32⟩
  | 87 => ⟨S32x6x128x128, .f32⟩
  | 88 => ⟨S1x6x64x128, .f32⟩
  | 89 => ⟨S_, .i32⟩
  | 90 => ⟨S_, .i32⟩
  | 91 => ⟨S_, .i32⟩
  | 92 => ⟨S32x6x64x128, .f32⟩
  | 93 => ⟨S_, .i32⟩
  | 94 => ⟨S_, .i32⟩
  | 95 => ⟨S32x64x6x128, .f32⟩
  | 96 => ⟨S2048x768, .f32⟩
  | 97 => ⟨S_, .f32⟩
  | 98 => ⟨S6x128x128, .f32⟩
  | 99 => ⟨S32x64x6x128, .f32⟩
  | 100 => ⟨S32x6x64x128, .f32⟩
  | 101 => ⟨S_, .f32⟩
  | 102 => ⟨S6x128x128, .f32⟩
  | 103 => ⟨S_, .f32⟩
  | 104 => ⟨S32x6x64x128, .f32⟩
  | 105 => ⟨S_, .f32⟩
  | 106 => ⟨S32x6x64x128, .f32⟩
  | 107 => ⟨S_, .f32⟩
  | 108 => ⟨S32x6x64x128, .f32⟩
  | 109 => ⟨S_, .f32⟩
  | 110 => ⟨S32x6x64x64, .f32⟩
  | 111 => ⟨S_, .f32⟩
  | 112 => ⟨S32x6x64x128, .f32⟩
  | 113 => ⟨S_, .f32⟩
  | 114 => ⟨S32x6x1x128, .f32⟩
  | 115 => ⟨S_, .i32⟩
  | 116 => ⟨S32x6x64x128, .f32⟩
  | 117 => ⟨S32x6x128x128, .f32⟩
  | 118 => ⟨S32x6x64x128, .f32⟩
  | 119 => ⟨S32x6x64x128, .f32⟩
  | 120 => ⟨S32x6x64x128, .f32⟩
  | 121 => ⟨S32x6x64x64, .f32⟩
  | 122 => ⟨S32x6x1x128, .f32⟩
  | 123 => ⟨S32x6x64x128, .f32⟩
  | 124 => ⟨S_, .i32⟩
  | 125 => ⟨S6x128x128, .f32⟩
  | 126 => ⟨S32x6x64x128, .f32⟩
  | 127 => ⟨S32x6x64x128, .f32⟩
  | _ => ⟨S2048x768, .f32⟩

abbrev hbmTy0_1 (i : Nat) : BufTy := match i % 128 with
  | 0 => ⟨S32x6x64x128, .f32⟩
  | 1 => ⟨S32x6x64x64, .f32⟩
  | 2 => ⟨S32x6x64x128, .f32⟩
  | 3 => ⟨S32x6x1x128, .f32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S1x6x64x128, .f32⟩
  | 14 => ⟨S6x64x128, .f32⟩
  | 15 => ⟨S_, .i32⟩
  | 16 => ⟨S_, .i32⟩
  | 17 => ⟨S_, .i32⟩
  | 18 => ⟨S1x6x128x128, .f32⟩
  | 19 => ⟨S6x128x128, .f32⟩
  | 20 => ⟨S_, .i32⟩
  | 21 => ⟨S_, .i32⟩
  | 22 => ⟨S_, .i32⟩
  | 23 => ⟨S1x6x64x128, .f32⟩
  | 24 => ⟨S6x64x128, .f32⟩
  | 25 => ⟨S_, .i32⟩
  | 26 => ⟨S_, .i32⟩
  | 27 => ⟨S_, .i32⟩
  | 28 => ⟨S1x6x64x128, .f32⟩
  | 29 => ⟨S6x64x128, .f32⟩
  | 30 => ⟨S_, .i32⟩
  | 31 => ⟨S_, .i32⟩
  | 32 => ⟨S_, .i32⟩
  | 33 => ⟨S1x6x64x128, .f32⟩
  | 34 => ⟨S6x64x128, .f32⟩
  | 35 => ⟨S_, .i32⟩
  | 36 => ⟨S_, .i32⟩
  | 37 => ⟨S_, .i32⟩
  | 38 => ⟨S1x6x64x64, .f32⟩
  | 39 => ⟨S6x64x64, .f32⟩
  | 40 => ⟨S_, .i32⟩
  | 41 => ⟨S_, .i32⟩
  | 42 => ⟨S_, .i32⟩
  | 43 => ⟨S1x6x1x128, .f32⟩
  | 44 => ⟨S6x1x128, .f32⟩
  | 45 => ⟨S_, .i32⟩
  | 46 => ⟨S_, .i32⟩
  | 47 => ⟨S_, .i32⟩
  | 48 => ⟨S1x6x64x128, .f32⟩
  | 49 => ⟨S6x64x128, .f32⟩
  | 50 => ⟨S6x128x64, .f32⟩
  | 51 => ⟨S6x64x128, .f32⟩
  | 52 => ⟨S6x128x64, .f32⟩
  | 53 => ⟨S6x64x128, .f32⟩
  | 54 => ⟨S6x128x128, .f32⟩
  | 55 => ⟨S_, .f32⟩
  | 56 => ⟨S6x128, .f32⟩
  | 57 => ⟨S6x1x128, .f32⟩
  | 58 => ⟨S6x128x128, .f32⟩
  | 59 => ⟨S6x128x128, .f32⟩
  | 60 => ⟨S6x128x64, .f32⟩
  | 61 => ⟨S6x64x128, .f32⟩
  | 62 => ⟨S6x64x128, .f32⟩
  | 63 => ⟨S6x64x64, .f32⟩
  | 64 => ⟨S6x128x128, .f32⟩
  | 65 => ⟨S6x128x128, .f32⟩
  | 66 => ⟨S6x128x128, .f32⟩
  | 67 => ⟨S6x64x128, .f32⟩
  | 68 => ⟨S6x64x128, .f32⟩
  | 69 => ⟨S6x128x128, .f32⟩
  | 70 => ⟨S6x128x128, .f32⟩
  | 71 => ⟨S6x128x128, .f32⟩
  | 72 => ⟨S6x64x128, .f32⟩
  | 73 => ⟨S1x6x64x128, .f32⟩
  | 74 => ⟨S_, .i32⟩
  | 75 => ⟨S_, .i32⟩
  | 76 => ⟨S_, .i32⟩
  | 77 => ⟨S32x6x64x128, .f32⟩
  | 78 => ⟨S1x6x64x128, .f32⟩
  | 79 => ⟨S_, .i32⟩
  | 80 => ⟨S_, .i32⟩
  | 81 => ⟨S_, .i32⟩
  | 82 => ⟨S32x6x64x128, .f32⟩
  | 83 => ⟨S1x6x64x128, .f32⟩
  | 84 => ⟨S_, .i32⟩
  | 85 => ⟨S_, .i32⟩
  | 86 => ⟨S_, .i32⟩
  | 87 => ⟨S32x6x64x128, .f32⟩
  | 88 => ⟨S1x6x64x64, .f32⟩
  | 89 => ⟨S_, .i32⟩
  | 90 => ⟨S_, .i32⟩
  | 91 => ⟨S_, .i32⟩
  | 92 => ⟨S32x6x64x64, .f32⟩
  | 93 => ⟨S1x6x64x128, .f32⟩
  | 94 => ⟨S_, .i32⟩
  | 95 => ⟨S_, .i32⟩
  | 96 => ⟨S_, .i32⟩
  | 97 => ⟨S32x6x64x128, .f32⟩
  | 98 => ⟨S1x6x1x128, .f32⟩
  | 99 => ⟨S_, .i32⟩
  | 100 => ⟨S_, .i32⟩
  | 101 => ⟨S_, .i32⟩
  | 102 => ⟨S32x6x1x128, .f32⟩
  | 103 => ⟨S_, .i32⟩
  | 104 => ⟨S_, .i32⟩
  | 105 => ⟨S6x32x1x128, .f32⟩
  | 106 => ⟨S32x64x6x128, .f32⟩
  | 107 => ⟨S2048x768, .f32⟩
  | 108 => ⟨S6x32x64x64, .f32⟩
  | 109 => ⟨S32x64x6x128, .f32⟩
  | 110 => ⟨S2048x768, .f32⟩
  | 111 => ⟨S32x64x6x128, .f32⟩
  | 112 => ⟨S2048x768, .f32⟩
  | 113 => ⟨S32x64x6x128, .f32⟩
  | 114 => ⟨S2048x768, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_c : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev main_v14_4 : Ref sig .tc := ⟨.hbm, 30, rfl⟩
abbrev main_v14_5 : Ref sig .tc := ⟨.hbm, 31, rfl⟩
abbrev main_v14_6 : Ref sig .tc := ⟨.hbm, 32, rfl⟩
abbrev main_v14_7 : Ref sig .tc := ⟨.hbm, 33, rfl⟩
abbrev main_v14_8 : Ref sig .tc := ⟨.hbm, 34, rfl⟩
abbrev main_v14_9 : Ref sig .tc := ⟨.hbm, 35, rfl⟩
abbrev main_v14_10 : Ref sig .tc := ⟨.hbm, 36, rfl⟩
abbrev main_while0c_c_22 : Ref sig .tc := ⟨.hbm, 37, rfl⟩
abbrev main_while0c_v38 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_c_1 : Ref sig .tc := ⟨.hbm, 41, rfl⟩
abbrev main_while0b_call0_v0 : Ref sig .tc := ⟨.hbm, 42, rfl⟩
abbrev main_while0b_v38 : Ref sig .tc := ⟨.hbm, 43, rfl⟩
abbrev main_while0b_call1_c : Ref sig .tc := ⟨.hbm, 44, rfl⟩
abbrev main_while0b_call1_c_0 : Ref sig .tc := ⟨.hbm, 45, rfl⟩
abbrev main_while0b_call1_c_1 : Ref sig .tc := ⟨.hbm, 46, rfl⟩
abbrev main_while0b_call1_v0 : Ref sig .tc := ⟨.hbm, 47, rfl⟩
abbrev main_while0b_v39 : Ref sig .tc := ⟨.hbm, 48, rfl⟩
abbrev main_while0b_call2_c : Ref sig .tc := ⟨.hbm, 49, rfl⟩
abbrev main_while0b_call2_c_0 : Ref sig .tc := ⟨.hbm, 50, rfl⟩
abbrev main_while0b_call2_c_1 : Ref sig .tc := ⟨.hbm, 51, rfl⟩
abbrev main_while0b_call2_v0 : Ref sig .tc := ⟨.hbm, 52, rfl⟩
abbrev main_while0b_v40 : Ref sig .tc := ⟨.hbm, 53, rfl⟩
abbrev main_while0b_call3_c : Ref sig .tc := ⟨.hbm, 54, rfl⟩
abbrev main_while0b_call3_c_0 : Ref sig .tc := ⟨.hbm, 55, rfl⟩
abbrev main_while0b_call3_c_1 : Ref sig .tc := ⟨.hbm, 56, rfl⟩
abbrev main_while0b_call3_v0 : Ref sig .tc := ⟨.hbm, 57, rfl⟩
abbrev main_while0b_v41 : Ref sig .tc := ⟨.hbm, 58, rfl⟩
abbrev main_while0b_call4_c : Ref sig .tc := ⟨.hbm, 59, rfl⟩
abbrev main_while0b_call4_c_0 : Ref sig .tc := ⟨.hbm, 60, rfl⟩
abbrev main_while0b_call4_c_1 : Ref sig .tc := ⟨.hbm, 61, rfl⟩
abbrev main_while0b_call4_v0 : Ref sig .tc := ⟨.hbm, 62, rfl⟩
abbrev main_while0b_v42 : Ref sig .tc := ⟨.hbm, 63, rfl⟩
abbrev main_while0b_call5_c : Ref sig .tc := ⟨.hbm, 64, rfl⟩
abbrev main_while0b_call5_c_0 : Ref sig .tc := ⟨.hbm, 65, rfl⟩
abbrev main_while0b_call5_c_1 : Ref sig .tc := ⟨.hbm, 66, rfl⟩
abbrev main_while0b_call5_v0 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_v49 : Ref sig .tc := ⟨.hbm, 74, rfl⟩
abbrev main_while0b_v50 : Ref sig .tc := ⟨.hbm, 75, rfl⟩
abbrev main_while0b_v51 : Ref sig .tc := ⟨.hbm, 76, rfl⟩
abbrev main_while0b_v52 : Ref sig .tc := ⟨.hbm, 77, rfl⟩
abbrev main_while0b_call6_v0 : Ref sig .tc := ⟨.hbm, 78, rfl⟩
abbrev main_while0b_call6_c : Ref sig .tc := ⟨.hbm, 79, rfl⟩
abbrev main_while0b_call6_c_0 : Ref sig .tc := ⟨.hbm, 80, rfl⟩
abbrev main_while0b_call6_c_1 : Ref sig .tc := ⟨.hbm, 81, rfl⟩
abbrev main_while0b_v53 : Ref sig .tc := ⟨.hbm, 82, rfl⟩
abbrev main_while0b_call7_v0 : Ref sig .tc := ⟨.hbm, 83, rfl⟩
abbrev main_while0b_call7_c : Ref sig .tc := ⟨.hbm, 84, rfl⟩
abbrev main_while0b_call7_c_0 : Ref sig .tc := ⟨.hbm, 85, rfl⟩
abbrev main_while0b_call7_c_1 : Ref sig .tc := ⟨.hbm, 86, rfl⟩
abbrev main_while0b_v54 : Ref sig .tc := ⟨.hbm, 87, rfl⟩
abbrev main_while0b_call8_v0 : Ref sig .tc := ⟨.hbm, 88, rfl⟩
abbrev main_while0b_call8_c : Ref sig .tc := ⟨.hbm, 89, rfl⟩
abbrev main_while0b_call8_c_0 : Ref sig .tc := ⟨.hbm, 90, rfl⟩
abbrev main_while0b_call8_c_1 : Ref sig .tc := ⟨.hbm, 91, rfl⟩
abbrev main_while0b_v55 : Ref sig .tc := ⟨.hbm, 92, rfl⟩
abbrev main_while0b_c_22 : Ref sig .tc := ⟨.hbm, 93, rfl⟩
abbrev main_while0b_v56 : Ref sig .tc := ⟨.hbm, 94, rfl⟩
abbrev main_v15 : Ref sig .tc := ⟨.hbm, 95, rfl⟩
abbrev main_v16 : Ref sig .tc := ⟨.hbm, 96, rfl⟩
abbrev main_cst_3 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_cst_4 : Ref sig .tc := ⟨.hbm, 101, rfl⟩
abbrev main_v20 : Ref sig .tc := ⟨.hbm, 102, rfl⟩
abbrev main_cst_5 : Ref sig .tc := ⟨.hbm, 103, rfl⟩
abbrev main_v21 : Ref sig .tc := ⟨.hbm, 104, rfl⟩
abbrev main_cst_6 : Ref sig .tc := ⟨.hbm, 105, rfl⟩
abbrev main_v22 : Ref sig .tc := ⟨.hbm, 106, rfl⟩
abbrev main_cst_7 : Ref sig .tc := ⟨.hbm, 107, rfl⟩
abbrev main_v23 : Ref sig .tc := ⟨.hbm, 108, rfl⟩
abbrev main_cst_8 : Ref sig .tc := ⟨.hbm, 109, rfl⟩
abbrev main_v24 : Ref sig .tc := ⟨.hbm, 110, rfl⟩
abbrev main_cst_9 : Ref sig .tc := ⟨.hbm, 111, rfl⟩
abbrev main_v25 : Ref sig .tc := ⟨.hbm, 112, rfl⟩
abbrev main_cst_10 : Ref sig .tc := ⟨.hbm, 113, rfl⟩
abbrev main_v26 : Ref sig .tc := ⟨.hbm, 114, rfl⟩
abbrev main_c_11 : Ref sig .tc := ⟨.hbm, 115, rfl⟩
abbrev main_v27_0 : Ref sig .tc := ⟨.hbm, 116, rfl⟩
abbrev main_v27_1 : Ref sig .tc := ⟨.hbm, 117, rfl⟩
abbrev main_v27_2 : Ref sig .tc := ⟨.hbm, 118, rfl⟩
abbrev main_v27_3 : Ref sig .tc := ⟨.hbm, 119, rfl⟩
abbrev main_v27_4 : Ref sig .tc := ⟨.hbm, 120, rfl⟩
abbrev main_v27_5 : Ref sig .tc := ⟨.hbm, 121, rfl⟩
abbrev main_v27_6 : Ref sig .tc := ⟨.hbm, 122, rfl⟩
abbrev main_v27_7 : Ref sig .tc := ⟨.hbm, 123, rfl⟩
abbrev main_v27_8 : Ref sig .tc := ⟨.hbm, 124, rfl⟩
abbrev main_v27_9 : Ref sig .tc := ⟨.hbm, 125, rfl⟩
abbrev main_v27_10 : Ref sig .tc := ⟨.hbm, 126, rfl⟩
abbrev main_v27_11 : Ref sig .tc := ⟨.hbm, 127, rfl⟩
abbrev main_v27_12 : Ref sig .tc := ⟨.hbm, 128, rfl⟩
abbrev main_v27_13 : Ref sig .tc := ⟨.hbm, 129, rfl⟩
abbrev main_v27_14 : Ref sig .tc := ⟨.hbm, 130, rfl⟩
abbrev main_v27_15 : Ref sig .tc := ⟨.hbm, 131, rfl⟩
abbrev main_while1c_c_27 : Ref sig .tc := ⟨.hbm, 132, rfl⟩
abbrev main_while1c_v38 : Ref sig .tc := ⟨.hbm, 133, rfl⟩
abbrev main_while1b_c_27 : Ref sig .tc := ⟨.hbm, 134, rfl⟩
abbrev main_while1b_v38 : Ref sig .tc := ⟨.hbm, 135, rfl⟩
abbrev main_while1b_c_28 : Ref sig .tc := ⟨.hbm, 136, rfl⟩
abbrev main_while1b_v39 : Ref sig .tc := ⟨.hbm, 137, rfl⟩
abbrev main_while1b_call9_c : Ref sig .tc := ⟨.hbm, 138, rfl⟩
abbrev main_while1b_call9_c_0 : Ref sig .tc := ⟨.hbm, 139, rfl⟩
abbrev main_while1b_call9_c_1 : Ref sig .tc := ⟨.hbm, 140, rfl⟩
abbrev main_while1b_call9_v0 : Ref sig .tc := ⟨.hbm, 141, rfl⟩
abbrev main_while1b_v40 : Ref sig .tc := ⟨.hbm, 142, rfl⟩
abbrev main_while1b_call10_c : Ref sig .tc := ⟨.hbm, 143, rfl⟩
abbrev main_while1b_call10_c_0 : Ref sig .tc := ⟨.hbm, 144, rfl⟩
abbrev main_while1b_call10_c_1 : Ref sig .tc := ⟨.hbm, 145, rfl⟩
abbrev main_while1b_call10_v0 : Ref sig .tc := ⟨.hbm, 146, rfl⟩
abbrev main_while1b_v41 : Ref sig .tc := ⟨.hbm, 147, rfl⟩
abbrev main_while1b_call11_c : Ref sig .tc := ⟨.hbm, 148, rfl⟩
abbrev main_while1b_call11_c_0 : Ref sig .tc := ⟨.hbm, 149, rfl⟩
abbrev main_while1b_call11_c_1 : Ref sig .tc := ⟨.hbm, 150, rfl⟩
abbrev main_while1b_call11_v0 : Ref sig .tc := ⟨.hbm, 151, rfl⟩
abbrev main_while1b_v42 : Ref sig .tc := ⟨.hbm, 152, rfl⟩
abbrev main_while1b_call12_c : Ref sig .tc := ⟨.hbm, 153, rfl⟩
abbrev main_while1b_call12_c_0 : Ref sig .tc := ⟨.hbm, 154, rfl⟩
abbrev main_while1b_call12_c_1 : Ref sig .tc := ⟨.hbm, 155, rfl⟩
abbrev main_while1b_call12_v0 : Ref sig .tc := ⟨.hbm, 156, rfl⟩
abbrev main_while1b_v43 : Ref sig .tc := ⟨.hbm, 157, rfl⟩
abbrev main_while1b_call13_c : Ref sig .tc := ⟨.hbm, 158, rfl⟩
abbrev main_while1b_call13_c_0 : Ref sig .tc := ⟨.hbm, 159, rfl⟩
abbrev main_while1b_call13_c_1 : Ref sig .tc := ⟨.hbm, 160, rfl⟩
abbrev main_while1b_call13_v0 : Ref sig .tc := ⟨.hbm, 161, rfl⟩
abbrev main_while1b_v44 : Ref sig .tc := ⟨.hbm, 162, rfl⟩
abbrev main_while1b_call14_c : Ref sig .tc := ⟨.hbm, 163, rfl⟩
abbrev main_while1b_call14_c_0 : Ref sig .tc := ⟨.hbm, 164, rfl⟩
abbrev main_while1b_call14_c_1 : Ref sig .tc := ⟨.hbm, 165, rfl⟩
abbrev main_while1b_call14_v0 : Ref sig .tc := ⟨.hbm, 166, rfl⟩
abbrev main_while1b_v45 : Ref sig .tc := ⟨.hbm, 167, rfl⟩
abbrev main_while1b_call15_c : Ref sig .tc := ⟨.hbm, 168, rfl⟩
abbrev main_while1b_call15_c_0 : Ref sig .tc := ⟨.hbm, 169, rfl⟩
abbrev main_while1b_call15_c_1 : Ref sig .tc := ⟨.hbm, 170, rfl⟩
abbrev main_while1b_call15_v0 : Ref sig .tc := ⟨.hbm, 171, rfl⟩
abbrev main_while1b_v46 : Ref sig .tc := ⟨.hbm, 172, rfl⟩
abbrev main_while1b_call16_c : Ref sig .tc := ⟨.hbm, 173, rfl⟩
abbrev main_while1b_call16_c_0 : Ref sig .tc := ⟨.hbm, 174, rfl⟩
abbrev main_while1b_call16_c_1 : Ref sig .tc := ⟨.hbm, 175, rfl⟩
abbrev main_while1b_call16_v0 : Ref sig .tc := ⟨.hbm, 176, rfl⟩
abbrev main_while1b_v47 : Ref sig .tc := ⟨.hbm, 177, rfl⟩
abbrev main_while1b_v48 : Ref sig .tc := ⟨.hbm, 178, rfl⟩
abbrev main_while1b_v49 : Ref sig .tc := ⟨.hbm, 179, rfl⟩
abbrev main_while1b_v50 : Ref sig .tc := ⟨.hbm, 180, rfl⟩
abbrev main_while1b_v51 : Ref sig .tc := ⟨.hbm, 181, rfl⟩
abbrev main_while1b_v52 : Ref sig .tc := ⟨.hbm, 182, rfl⟩
abbrev main_while1b_cst_29 : Ref sig .tc := ⟨.hbm, 183, rfl⟩
abbrev main_while1b_v53 : Ref sig .tc := ⟨.hbm, 184, rfl⟩
abbrev main_while1b_v54 : Ref sig .tc := ⟨.hbm, 185, rfl⟩
abbrev main_while1b_v55 : Ref sig .tc := ⟨.hbm, 186, rfl⟩
abbrev main_while1b_v56 : Ref sig .tc := ⟨.hbm, 187, rfl⟩
abbrev main_while1b_v57 : Ref sig .tc := ⟨.hbm, 188, rfl⟩
abbrev main_while1b_v58 : Ref sig .tc := ⟨.hbm, 189, rfl⟩
abbrev main_while1b_v59 : Ref sig .tc := ⟨.hbm, 190, rfl⟩
abbrev main_while1b_v60 : Ref sig .tc := ⟨.hbm, 191, rfl⟩
abbrev main_while1b_v61 : Ref sig .tc := ⟨.hbm, 192, rfl⟩
abbrev main_while1b_v62 : Ref sig .tc := ⟨.hbm, 193, rfl⟩
abbrev main_while1b_v63 : Ref sig .tc := ⟨.hbm, 194, rfl⟩
abbrev main_while1b_v64 : Ref sig .tc := ⟨.hbm, 195, rfl⟩
abbrev main_while1b_v65 : Ref sig .tc := ⟨.hbm, 196, rfl⟩
abbrev main_while1b_v66 : Ref sig .tc := ⟨.hbm, 197, rfl⟩
abbrev main_while1b_v67 : Ref sig .tc := ⟨.hbm, 198, rfl⟩
abbrev main_while1b_v68 : Ref sig .tc := ⟨.hbm, 199, rfl⟩
abbrev main_while1b_v69 : Ref sig .tc := ⟨.hbm, 200, rfl⟩
abbrev main_while1b_call17_v0 : Ref sig .tc := ⟨.hbm, 201, rfl⟩
abbrev main_while1b_call17_c : Ref sig .tc := ⟨.hbm, 202, rfl⟩
abbrev main_while1b_call17_c_0 : Ref sig .tc := ⟨.hbm, 203, rfl⟩
abbrev main_while1b_call17_c_1 : Ref sig .tc := ⟨.hbm, 204, rfl⟩
abbrev main_while1b_v70 : Ref sig .tc := ⟨.hbm, 205, rfl⟩
abbrev main_while1b_call18_v0 : Ref sig .tc := ⟨.hbm, 206, rfl⟩
abbrev main_while1b_call18_c : Ref sig .tc := ⟨.hbm, 207, rfl⟩
abbrev main_while1b_call18_c_0 : Ref sig .tc := ⟨.hbm, 208, rfl⟩
abbrev main_while1b_call18_c_1 : Ref sig .tc := ⟨.hbm, 209, rfl⟩
abbrev main_while1b_v71 : Ref sig .tc := ⟨.hbm, 210, rfl⟩
abbrev main_while1b_call19_v0 : Ref sig .tc := ⟨.hbm, 211, rfl⟩
abbrev main_while1b_call19_c : Ref sig .tc := ⟨.hbm, 212, rfl⟩
abbrev main_while1b_call19_c_0 : Ref sig .tc := ⟨.hbm, 213, rfl⟩
abbrev main_while1b_call19_c_1 : Ref sig .tc := ⟨.hbm, 214, rfl⟩
abbrev main_while1b_v72 : Ref sig .tc := ⟨.hbm, 215, rfl⟩
abbrev main_while1b_call20_v0 : Ref sig .tc := ⟨.hbm, 216, rfl⟩
abbrev main_while1b_call20_c : Ref sig .tc := ⟨.hbm, 217, rfl⟩
abbrev main_while1b_call20_c_0 : Ref sig .tc := ⟨.hbm, 218, rfl⟩
abbrev main_while1b_call20_c_1 : Ref sig .tc := ⟨.hbm, 219, rfl⟩
abbrev main_while1b_v73 : Ref sig .tc := ⟨.hbm, 220, rfl⟩
abbrev main_while1b_call21_v0 : Ref sig .tc := ⟨.hbm, 221, rfl⟩
abbrev main_while1b_call21_c : Ref sig .tc := ⟨.hbm, 222, rfl⟩
abbrev main_while1b_call21_c_0 : Ref sig .tc := ⟨.hbm, 223, rfl⟩
abbrev main_while1b_call21_c_1 : Ref sig .tc := ⟨.hbm, 224, rfl⟩
abbrev main_while1b_v74 : Ref sig .tc := ⟨.hbm, 225, rfl⟩
abbrev main_while1b_call22_v0 : Ref sig .tc := ⟨.hbm, 226, rfl⟩
abbrev main_while1b_call22_c : Ref sig .tc := ⟨.hbm, 227, rfl⟩
abbrev main_while1b_call22_c_0 : Ref sig .tc := ⟨.hbm, 228, rfl⟩
abbrev main_while1b_call22_c_1 : Ref sig .tc := ⟨.hbm, 229, rfl⟩
abbrev main_while1b_v75 : Ref sig .tc := ⟨.hbm, 230, rfl⟩
abbrev main_while1b_c_30 : Ref sig .tc := ⟨.hbm, 231, rfl⟩
abbrev main_while1b_v76 : Ref sig .tc := ⟨.hbm, 232, rfl⟩
abbrev main_v28 : Ref sig .tc := ⟨.hbm, 233, rfl⟩
abbrev main_v29 : Ref sig .tc := ⟨.hbm, 234, rfl⟩
abbrev main_v30 : Ref sig .tc := ⟨.hbm, 235, rfl⟩
abbrev main_v31 : Ref sig .tc := ⟨.hbm, 236, rfl⟩
abbrev main_v32 : Ref sig .tc := ⟨.hbm, 237, rfl⟩
abbrev main_v33 : Ref sig .tc := ⟨.hbm, 238, rfl⟩
abbrev main_v34 : Ref sig .tc := ⟨.hbm, 239, rfl⟩
abbrev main_v35 : Ref sig .tc := ⟨.hbm, 240, rfl⟩
abbrev main_v36 : Ref sig .tc := ⟨.hbm, 241, rfl⟩
abbrev main_v37 : Ref sig .tc := ⟨.hbm, 242, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== Kernel2.lean ====
abbrev S2048x11264 : Shape := ⟨2, ![2048, 11264]⟩
abbrev S5632x2048 : Shape := ⟨2, ![5632, 2048]⟩
abbrev S2048x2048 : Shape := ⟨2, ![2048, 2048]⟩
abbrev S8x128 : Shape := ⟨2, ![8, 128]⟩
abbrev S2048x2x2x2816 : Shape := ⟨4, ![2048, 2, 2, 2816]⟩
abbrev S2x2x2048x2816 : Shape := ⟨4, ![2, 2, 2048, 2816]⟩
abbrev S4x2048x2816 : Shape := ⟨3, ![4, 2048, 2816]⟩
abbrev S256x2048 : Shape := ⟨2, ![256, 2048]⟩
abbrev S2x2048x256 : Shape := ⟨3, ![2, 2048, 256]⟩
abbrev S2048x256 : Shape := ⟨2, ![2048, 256]⟩
abbrev S1x2048x256 : Shape := ⟨3, ![1, 2048, 256]⟩

abbrev nBuf : Space → Nat
  | .hbm => 11
  | .vmem => 8
  | .smem => 0
  | _ => 0

abbrev bufTy : (tb : Table) → Fin (tcTables nBuf tb) → BufTy
  | .hbm, ⟨0, _⟩ => ⟨S2048x11264, .f32⟩
  | .hbm, ⟨1, _⟩ => ⟨S5632x2048, .f32⟩
  | .hbm, ⟨2, _⟩ => ⟨S2048x2048, .f32⟩
  | .hbm, ⟨3, _⟩ => ⟨S8x128, .f32⟩
  | .hbm, ⟨4, _⟩ => ⟨S2048x2048, .bf16⟩
  | .hbm, ⟨5, _⟩ => ⟨S5632x2048, .bf16⟩
  | .hbm, ⟨6, _⟩ => ⟨S2048x2x2x2816, .f32⟩
  | .hbm, ⟨7, _⟩ => ⟨S2x2x2048x2816, .f32⟩
  | .hbm, ⟨8, _⟩ => ⟨S4x2048x2816, .f32⟩
  | .hbm, ⟨9, _⟩ => ⟨S4x2048x2816, .bf16⟩
  | .hbm, ⟨10, _⟩ => ⟨S4x2048x2816, .bf16⟩
  | .local _ .vmem, ⟨0, _⟩ => ⟨S2048x2048, .bf16⟩
  | .local _ .vmem, ⟨1, _⟩ => ⟨S256x2048, .bf16⟩
  | .local _ .vmem, ⟨2, _⟩ => ⟨S256x2048, .bf16⟩
  | .local _ .vmem, ⟨3, _⟩ => ⟨S2x2048x256, .bf16⟩
  | .local _ .vmem, ⟨4, _⟩ => ⟨S2x2048x256, .bf16⟩
  | .local _ .vmem, ⟨5, _⟩ => ⟨S8x128, .f32⟩
  | .local _ .vmem, ⟨6, _⟩ => ⟨S2x2048x256, .bf16⟩
  | .local _ .vmem, ⟨7, _⟩ => ⟨S2x2048x256, .bf16⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2048x11264 : Shape := ⟨2, ![2048, 11264]⟩
abbrev S5632x2048 : Shape := ⟨2, ![5632, 2048]⟩
abbrev S2048x2048 : Shape := ⟨2, ![2048, 2048]⟩
abbrev S8x128 : Shape := ⟨2, ![8, 128]⟩
abbrev S2048x5632 : Shape := ⟨2, ![2048, 5632]⟩
abbrev S_ : Shape := ⟨0, ![]⟩
abbrev S2048x2816 : Shape := ⟨2, ![2048, 2816]⟩
abbrev S1x2048x2816 : Shape := ⟨3, ![1, 2048, 2816]⟩
abbrev S4x2048x2816 : Shape := ⟨3, ![4, 2048, 2816]⟩

abbrev nBuf : Space → Nat
  | .hbm => 41
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S5632x2048, .f32⟩
  | .hbm, ⟨2, _⟩ => ⟨S2048x2048, .f32⟩
  | .hbm, ⟨3, _⟩ => ⟨S8x128, .f32⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x2048, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x11264, .f32⟩
  | .hbm, ⟨29, _⟩ => ⟨S2048x5632, .f32⟩
  | .hbm, ⟨30, _⟩ => ⟨S2048x5632, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S1x2048x2816, .f32⟩
  | .hbm, ⟨36, _⟩ => ⟨S1x2048x2816, .f32⟩
  | .hbm, ⟨37, _⟩ => ⟨S1x2048x2816, .f32⟩
  | .hbm, ⟨38, _⟩ => ⟨S1x2048x2816, .f32⟩
  | .hbm, ⟨39, _⟩ => ⟨S4x2048x2816, .f32⟩
  | .hbm, ⟨40, _⟩ => ⟨S4x2048x2816, .bf16⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel3.lean ====
abbrev S2048x2048 : Shape := ⟨2, ![2048, 2048]⟩
abbrev S2048x11264 : Shape := ⟨2, ![2048, 11264]⟩
abbrev S2048x2x2x2816 : Shape := ⟨4, ![2048, 2, 2, 2816]⟩
abbrev S2x2x2048x2816 : Shape := ⟨4, ![2, 2, 2048, 2816]⟩
abbrev S4x2048x2816 : Shape := ⟨3, ![4, 2048, 2816]⟩
abbrev S1x2048x1408 : Shape := ⟨3, ![1, 2048, 1408]⟩
abbrev S2048x1408 : Shape := ⟨2, ![2048, 1408]⟩

abbrev nBuf : Space → Nat
  | .hbm => 8
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x2x2x2816, .f32⟩
  | .hbm, ⟨4, _⟩ => ⟨S2x2x2048x2816, .f32⟩
  | .hbm, ⟨5, _⟩ => ⟨S4x2048x2816, .f32⟩
  | .hbm, ⟨6, _⟩ => ⟨S4x2048x2816, .bf16⟩
  | .hbm, ⟨7, _⟩ => ⟨S4x2048x2816, .bf16⟩
  | .local _ .vmem, ⟨0, _⟩ => ⟨S2048x2048, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![4, 1, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S2048x2048 : Shape := ⟨2, ![2048, 2048]⟩
abbrev S2048x11264 : Shape := ⟨2, ![2048, 11264]⟩
abbrev S_ : Shape := ⟨0, ![]⟩
abbrev S11264x2048 : Shape := ⟨2, ![11264, 2048]⟩
abbrev S2048x5632 : Shape := ⟨2, ![2048, 5632]⟩
abbrev S2048x2816 : Shape := ⟨2, ![2048, 2816]⟩
abbrev S1x2048x2816 : Shape := ⟨3, ![1, 2048, 2816]⟩
abbrev S4x2048x2816 : Shape := ⟨3, ![4, 2048, 2816]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S_, .f32⟩
  | .hbm, ⟨3, _⟩ => ⟨S2048x11264, .f32⟩
  | .hbm, ⟨4, _⟩ => ⟨S2048x11264, .f32⟩
  | .hbm, ⟨5, _⟩ => ⟨S11264x2048, .f32⟩
  | .hbm, ⟨6, _⟩ => ⟨S2048x11264, .f32⟩
  | .hbm, ⟨7, _⟩ => ⟨S2048x5632, .f32⟩
  | .hbm, ⟨8, _⟩ => ⟨S2048x5632, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S1x2048x2816, .f32⟩
  | .hbm, ⟨14, _⟩ => ⟨S1x2048x2816, .f32⟩
  | .hbm, ⟨15, _⟩ => ⟨S1x2048x2816, .f32⟩
  | .hbm, ⟨16, _⟩ => ⟨S1x2048x2816, .f32⟩
  | .hbm, ⟨17, _⟩ => ⟨S4x2048x2816, .f32⟩
  | .hbm, ⟨18, _⟩ => ⟨S4x2048x2816, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel4.lean ====
abbrev S2048x11264 : Shape := ⟨2, ![2048, 11264]⟩
abbrev S8x128 : Shape := ⟨2, ![8, 128]⟩
abbrev S2048x2x2x2816 : Shape := ⟨4, ![2048, 2, 2, 2816]⟩
abbrev S2x2x2048x2816 : Shape := ⟨4, ![2, 2, 2048, 2816]⟩
abbrev S4x2048x2816 : Shape := ⟨3, ![4, 2048, 2816]⟩
abbrev S2048x2048 : Shape := ⟨2, ![2048, 2048]⟩
abbrev S1x1024x2816 : Shape := ⟨3, ![1, 1024, 2816]⟩
abbrev S1024x1024 : Shape := ⟨2, ![1024, 1024]⟩
abbrev S1024x2816 : Shape := ⟨2, ![1024, 2816]⟩

abbrev nBuf : Space → Nat
  | .hbm => 12
  | .vmem => 8
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S8x128, .f32⟩
  | .hbm, ⟨3, _⟩ => ⟨S2048x2x2x2816, .f32⟩
  | .hbm, ⟨4, _⟩ => ⟨S2x2x2048x2816, .f32⟩
  | .hbm, ⟨5, _⟩ => ⟨S4x2048x2816, .f32⟩
  | .hbm, ⟨6, _⟩ => ⟨S4x2048x2816, .bf16⟩
  | .hbm, ⟨7, _⟩ => ⟨S2048x2x2x2816, .f32⟩
  | .hbm, ⟨8, _⟩ => ⟨S2x2x2048x2816, .f32⟩
  | .hbm, ⟨9, _⟩ => ⟨S4x2048x2816, .f32⟩
  | .hbm, ⟨10, _⟩ => ⟨S4x2048x2816, .bf16⟩
  | .hbm, ⟨11, _⟩ => ⟨S2048x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![2, 2, 4, 1], ![false, false, false, false]⟩

def k0_cond2 (i : grid0.Coords) : BitVec 1 :=
  let arg3 : BitVec 32 := BitVec.ofNat 32 (i 3).val
  let c0_i32_0 : BitVec 32 := 0#32
  let v1 : BitVec 1 := Scalar.cmpi .eq arg3 c0_i32_0
  let arg2 : BitVec 32 := BitVec.ofNat 32 (i 2).val
  let c3_i32 : BitVec 32 := 3#32
  let v4 : BitVec 1 := Scalar.cmpi .eq arg2 c3_i32
  let v5 : BitVec 1 := Scalar.andi v1 v4
  let v18 : BitVec 32 := Scalar.extui v5
  let c0_i32_12 : BitVec 32 := 0#32
  let v19 : BitVec 1 := Scalar.cmpi .ne v18 c0_i32_12
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== Reference4Ideal.lean ====
abbrev S2048x11264 : Shape := ⟨2, ![2048, 11264]⟩
abbrev S8x128 : Shape := ⟨2, ![8, 128]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2048x11264, .f32⟩
  | .hbm, ⟨2, _⟩ => ⟨S8x128, .f32⟩
  | .hbm, ⟨3, _⟩ => ⟨S_, .f32⟩
  | .hbm, ⟨4, _⟩ => ⟨S2048x2048, .f32⟩
  | .hbm, ⟨5, _⟩ => ⟨S2048x11264, .f32⟩
  | .hbm, ⟨6, _⟩ => ⟨S2048x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel5.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S1408x2048 : Shape := ⟨2, ![1408, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x2048, .bf16⟩
  | .local _ .vmem, ⟨3, _⟩ => ⟨S1408x2048, .bf16⟩
  | .local _ .vmem, ⟨4, _⟩ => ⟨S1408x2048, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference5Ideal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x2048 : Shape := ⟨2, ![2048, 2048]⟩
abbrev S2048x11264 : Shape := ⟨2, ![2048, 11264]⟩
abbrev S2048x2x2x2816 : Shape := ⟨4, ![2048, 2, 2, 2816]⟩
abbrev S2x2x2048x2816 : Shape := ⟨4, ![2, 2, 2048, 2816]⟩
abbrev S4x2048x2816 : Shape := ⟨3, ![4, 2048, 2816]⟩
abbrev S2048x5632 : Shape := ⟨2, ![2048, 5632]⟩
abbrev S2x2048x256 : Shape := ⟨3, ![2, 2048, 256]⟩
abbrev S2048x256 : Shape := ⟨2, ![2048, 256]⟩
abbrev S1x2048x256 : Shape := ⟨3, ![1, 2048, 256]⟩

abbrev nBuf : Space → Nat
  | .hbm => 9
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x2x2x2816, .f32⟩
  | .hbm, ⟨4, _⟩ => ⟨S2x2x2048x2816, .f32⟩
  | .hbm, ⟨5, _⟩ => ⟨S4x2048x2816, .f32⟩
  | .hbm, ⟨6, _⟩ => ⟨S4x2048x2816, .bf16⟩
  | .hbm, ⟨7, _⟩ => ⟨S4x2048x2816, .bf16⟩
  | .hbm, ⟨8, _⟩ => ⟨S2048x5632, .bf16⟩
  | .local _ .vmem, ⟨0, _⟩ => ⟨S2048x2048, .bf16⟩
  | .local _ .vmem, ⟨1, _⟩ => ⟨S2x2048x256, .bf16⟩
  | .local _ .vmem, ⟨2, _⟩ => ⟨S2x2048x256, .bf16⟩
  | .local _ .vmem, ⟨3, _⟩ => ⟨S2x2048x256, .bf16⟩
  | .local _ .vmem, ⟨4, _⟩ => ⟨S2x2048x256, .bf16⟩
  | .local _ .vmem, ⟨5, _⟩ => ⟨S2048x256, .bf16⟩
  | .local _ .vmem, ⟨6, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2048x2048 : Shape := ⟨2, ![2048, 2048]⟩
abbrev S2048x11264 : Shape := ⟨2, ![2048, 11264]⟩
abbrev S2048x5632 : Shape := ⟨2, ![2048, 5632]⟩
abbrev S2048x2816 : Shape := ⟨2, ![2048, 2816]⟩
abbrev S1x2048x2816 : Shape := ⟨3, ![1, 2048, 2816]⟩
abbrev S4x2048x2816 : Shape := ⟨3, ![4, 2048, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .f32⟩
  | .hbm, ⟨3, _⟩ => ⟨S2048x5632, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S1x2048x2816, .f32⟩
  | .hbm, ⟨10, _⟩ => ⟨S1x2048x2816, .f32⟩
  | .hbm, ⟨11, _⟩ => ⟨S1x2048x2816, .f32⟩
  | .hbm, ⟨12, _⟩ => ⟨S1x2048x2816, .f32⟩
  | .hbm, ⟨13, _⟩ => ⟨S4x2048x2816, .f32⟩
  | .hbm, ⟨14, _⟩ => ⟨S4x2048x2816, .bf16⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S_, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel7.lean ====
abbrev S2048x5632 : Shape := ⟨2, ![2048, 5632]⟩
abbrev S5632x2048 : Shape := ⟨2, ![5632, 2048]⟩
abbrev S2048x2048 : Shape := ⟨2, ![2048, 2048]⟩
abbrev S1024x5632 : Shape := ⟨2, ![1024, 5632]⟩
abbrev S5632x256 : Shape := ⟨2, ![5632, 256]⟩
abbrev S1024x256 : Shape := ⟨2, ![1024, 256]⟩

abbrev nBuf : Space → Nat
  | .hbm => 6
  | .vmem => 8
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x5632, .bf16⟩
  | .hbm, ⟨4, _⟩ => ⟨S5632x2048, .bf16⟩
  | .hbm, ⟨5, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x256, .bf16⟩
  | .local _ .vmem, ⟨3, _⟩ => ⟨S5632x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference7Ideal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S2048x2048 : Shape := ⟨2, ![2048, 2048]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .local _ .vmem, ⟨0, _⟩ => ⟨S2048x2048, .bf16⟩
  | .local _ .vmem, ⟨1, _⟩ => ⟨S2048x1024, .f32⟩
  | .local _ .vmem, ⟨2, _⟩ => ⟨S2048x1024, .f32⟩
  | .local _ .vmem, ⟨3, _⟩ => ⟨S2048x1024, .bf16⟩
  | .local _ .vmem, ⟨4, _⟩ => ⟨S2048x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference8Ideal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x2048 : Shape := ⟨2, ![2048, 2048]⟩
abbrev S8x128 : Shape := ⟨2, ![8, 128]⟩
abbrev S256x2048 : Shape := ⟨2, ![256, 2048]⟩
abbrev S2048x256 : Shape := ⟨2, ![2048, 256]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x128, .f32⟩
  | .hbm, ⟨3, _⟩ => ⟨S2048x2048, .bf16⟩
  | .hbm, ⟨4, _⟩ => ⟨S2048x2048, .f32⟩
  | .local _ .vmem, ⟨0, _⟩ => ⟨S2048x2048, .f32⟩
  | .local _ .vmem, ⟨1, _⟩ => ⟨S256x2048, .bf16⟩
  | .local _ .vmem, ⟨2, _⟩ => ⟨S256x2048, .bf16⟩
  | .local _ .vmem, ⟨3, _⟩ => ⟨S8x128, .f32⟩
  | .local _ .vmem, ⟨4, _⟩ => ⟨S2048x256, .f32⟩
  | .local _ .vmem, ⟨5, _⟩ => ⟨S2048x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨4, ![1, 1, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference9Ideal.lean ====
abbrev S2048x2048 : Shape := ⟨2, ![2048, 2048]⟩
abbrev S8x128 : Shape := ⟨2, ![8, 128]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x128, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel10.lean ====
abbrev S2048x2048 : Shape := ⟨2, ![2048, 2048]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference10Ideal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S256x2048 : Shape := ⟨2, ![256, 2048]⟩
abbrev S256x1024 : Shape := ⟨2, ![256, 1024]⟩
abbrev S2048x1024 : Shape := ⟨2, ![2048, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S256x2048, .bf16⟩
  | .hbm, ⟨3, _⟩ => ⟨S2048x1024, .bf16⟩
  | .local _ .vmem, ⟨0, _⟩ => ⟨S256x2048, .bf16⟩
  | .local _ .vmem, ⟨1, _⟩ => ⟨S256x1024, .f32⟩
  | .local _ .vmem, ⟨2, _⟩ => ⟨S2048x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference11Ideal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S256x1024 : Shape := ⟨2, ![256, 1024]⟩
abbrev S2048x1024 : Shape := ⟨2, ![2048, 1024]⟩
abbrev S8x128 : Shape := ⟨2, ![8, 128]⟩
abbrev S256x2048 : Shape := ⟨2, ![256, 2048]⟩

abbrev nBuf : Space → Nat
  | .hbm => 5
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S8x128, .f32⟩
  | .hbm, ⟨3, _⟩ => ⟨S2048x1024, .bf16⟩
  | .hbm, ⟨4, _⟩ => ⟨S256x2048, .f32⟩
  | .local _ .vmem, ⟨0, _⟩ => ⟨S256x1024, .f32⟩
  | .local _ .vmem, ⟨1, _⟩ => ⟨S2048x1024, .bf16⟩
  | .local _ .vmem, ⟨2, _⟩ => ⟨S8x128, .f32⟩
  | .local _ .vmem, ⟨3, _⟩ => ⟨S256x2048, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true, false]
-- ==== Reference12Ideal.lean ====
abbrev S256x1024 : Shape := ⟨2, ![256, 1024]⟩
abbrev S2048x1024 : Shape := ⟨2, ![2048, 1024]⟩
abbrev S8x128 : Shape := ⟨2, ![8, 128]⟩
abbrev S_ : Shape := ⟨0, ![]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S8x128, .f32⟩
  | .hbm, ⟨3, _⟩ => ⟨S_, .f32⟩
  | .hbm, ⟨4, _⟩ => ⟨S256x2048, .f32⟩
  | .hbm, ⟨5, _⟩ => ⟨S256x1024, .f32⟩
  | .hbm, ⟨6, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel13.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S256x2048, .bf16⟩
  | .hbm, ⟨3, _⟩ => ⟨S2048x1024, .bf16⟩
  | .hbm, ⟨4, _⟩ => ⟨S256x1024, .f32⟩
  | .local _ .vmem, ⟨0, _⟩ => ⟨S256x2048, .bf16⟩
  | .local _ .vmem, ⟨1, _⟩ => ⟨S2048x1024, .bf16⟩
  | .local _ .vmem, ⟨2, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨4, ![1, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true, false]
-- ==== Reference13Ideal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S2048x2048 : Shape := ⟨2, ![2048, 2048]⟩
abbrev S2048x5906 : Shape := ⟨2, ![2048, 5906]⟩
abbrev S2048x768 : Shape := ⟨2, ![2048, 768]⟩
abbrev S2048x6 : Shape := ⟨2, ![2048, 6]⟩
abbrev S2048x2304 : Shape := ⟨2, ![2048, 2304]⟩
abbrev S2048x512 : Shape := ⟨2, ![2048, 512]⟩
abbrev S_ : Shape := ⟨0, ![]⟩
abbrev S2048x238 : Shape := ⟨2, ![2048, 238]⟩
abbrev S2048x6144 : Shape := ⟨2, ![2048, 6144]⟩
abbrev S2048x2560 : Shape := ⟨2, ![2048, 2560]⟩
abbrev S2048x1280 : Shape := ⟨2, ![2048, 1280]⟩

abbrev nBuf : Space → Nat
  | .hbm => 18
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x5906, .f32⟩
  | .hbm, ⟨2, _⟩ => ⟨S2048x2048, .bf16⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x6, .f32⟩
  | .hbm, ⟨7, _⟩ => ⟨S2048x6, .f32⟩
  | .hbm, ⟨8, _⟩ => ⟨S2048x6, .f32⟩
  | .hbm, ⟨9, _⟩ => ⟨S2048x2304, .f32⟩
  | .hbm, ⟨10, _⟩ => ⟨S2048x768, .f32⟩
  | .hbm, ⟨11, _⟩ => ⟨S2048x512, .f32⟩
  | .hbm, ⟨12, _⟩ => ⟨S_, .f32⟩
  | .hbm, ⟨13, _⟩ => ⟨S2048x238, .f32⟩
  | .hbm, ⟨14, _⟩ => ⟨S2048x6144, .f32⟩
  | .hbm, ⟨15, _⟩ => ⟨S2048x2560, .f32⟩
  | .hbm, ⟨16, _⟩ => ⟨S2048x2560, .bf16⟩
  | .hbm, ⟨17, _⟩ => ⟨S2048x2560, .bf16⟩
  | .local _ .vmem, ⟨0, _⟩ => ⟨S2048x2048, .bf16⟩
  | .local _ .vmem, ⟨1, _⟩ => ⟨S2048x1280, .bf16⟩
  | .local _ .vmem, ⟨2, _⟩ => ⟨S2048x1280, .bf16⟩
  | .local _ .vmem, ⟨3, _⟩ => ⟨S2048x1280, .bf16⟩
  | .local _ .vmem, ⟨4, _⟩ => ⟨S2048x1280, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference14Ideal.lean ====
abbrev S2048x2048 : Shape := ⟨2, ![2048, 2048]⟩
abbrev S2048x5906 : Shape := ⟨2, ![2048, 5906]⟩
abbrev S_ : Shape := ⟨0, ![]⟩
abbrev S5906x2048 : Shape := ⟨2, ![5906, 2048]⟩
abbrev S2048x2310 : Shape := ⟨2, ![2048, 2310]⟩
abbrev S2048x12 : Shape := ⟨2, ![2048, 12]⟩
abbrev S2048x238 : Shape := ⟨2, ![2048, 238]⟩
abbrev S2048x2560 : Shape := ⟨2, ![2048, 2560]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5906, .f32⟩
  | .hbm, ⟨2, _⟩ => ⟨S_, .f32⟩
  | .hbm, ⟨3, _⟩ => ⟨S2048x5906, .f32⟩
  | .hbm, ⟨4, _⟩ => ⟨S2048x5906, .f32⟩
  | .hbm, ⟨5, _⟩ => ⟨S5906x2048, .f32⟩
  | .hbm, ⟨6, _⟩ => ⟨S2048x5906, .f32⟩
  | .hbm, ⟨7, _⟩ => ⟨S2048x2310, .f32⟩
  | .hbm, ⟨8, _⟩ => ⟨S2048x12, .f32⟩
  | .hbm, ⟨9, _⟩ => ⟨S_, .f32⟩
  | .hbm, ⟨10, _⟩ => ⟨S2048x238, .f32⟩
  | .hbm, ⟨11, _⟩ => ⟨S2048x2560, .f32⟩
  | .hbm, ⟨12, _⟩ => ⟨S2048x2560, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel15.lean ====
abbrev S2048x2048 : Shape := ⟨2, ![2048, 2048]⟩
abbrev S2048x5906 : Shape := ⟨2, ![2048, 5906]⟩
abbrev S8x128 : Shape := ⟨2, ![8, 128]⟩
abbrev S2048x768 : Shape := ⟨2, ![2048, 768]⟩
abbrev S2048x6 : Shape := ⟨2, ![2048, 6]⟩
abbrev S2048x2304 : Shape := ⟨2, ![2048, 2304]⟩
abbrev S2048x512 : Shape := ⟨2, ![2048, 512]⟩
abbrev S_ : Shape := ⟨0, ![]⟩
abbrev S2048x238 : Shape := ⟨2, ![2048, 238]⟩
abbrev S2048x6144 : Shape := ⟨2, ![2048, 6144]⟩
abbrev S2048x3584 : Shape := ⟨2, ![2048, 3584]⟩

abbrev nBuf : Space → Nat
  | .hbm => 19
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x5906, .f32⟩
  | .hbm, ⟨2, _⟩ => ⟨S8x128, .f32⟩
  | .hbm, ⟨3, _⟩ => ⟨S2048x2048, .bf16⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x6, .f32⟩
  | .hbm, ⟨8, _⟩ => ⟨S2048x6, .f32⟩
  | .hbm, ⟨9, _⟩ => ⟨S2048x6, .f32⟩
  | .hbm, ⟨10, _⟩ => ⟨S2048x2304, .f32⟩
  | .hbm, ⟨11, _⟩ => ⟨S2048x768, .f32⟩
  | .hbm, ⟨12, _⟩ => ⟨S2048x512, .f32⟩
  | .hbm, ⟨13, _⟩ => ⟨S_, .f32⟩
  | .hbm, ⟨14, _⟩ => ⟨S2048x238, .f32⟩
  | .hbm, ⟨15, _⟩ => ⟨S2048x6144, .f32⟩
  | .hbm, ⟨16, _⟩ => ⟨S2048x3584, .f32⟩
  | .hbm, ⟨17, _⟩ => ⟨S2048x3584, .bf16⟩
  | .hbm, ⟨18, _⟩ => ⟨S2048x3584, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S8x128, .f32⟩
  | .local _ .vmem, ⟨4, _⟩ => ⟨S2048x512, .bf16⟩
  | .local _ .vmem, ⟨5, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨4, ![1, 1, 7, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference15Ideal.lean ====
abbrev S2048x2048 : Shape := ⟨2, ![2048, 2048]⟩
abbrev S2048x5906 : Shape := ⟨2, ![2048, 5906]⟩
abbrev S8x128 : Shape := ⟨2, ![8, 128]⟩
abbrev S_ : Shape := ⟨0, ![]⟩
abbrev S5906x2048 : Shape := ⟨2, ![5906, 2048]⟩
abbrev S2048x3072 : Shape := ⟨2, ![2048, 3072]⟩
abbrev S2048x512 : Shape := ⟨2, ![2048, 512]⟩
abbrev S2048x3584 : Shape := ⟨2, ![2048, 3584]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5906, .f32⟩
  | .hbm, ⟨2, _⟩ => ⟨S8x128, .f32⟩
  | .hbm, ⟨3, _⟩ => ⟨S_, .f32⟩
  | .hbm, ⟨4, _⟩ => ⟨S2048x5906, .f32⟩
  | .hbm, ⟨5, _⟩ => ⟨S2048x5906, .f32⟩
  | .hbm, ⟨6, _⟩ => ⟨S5906x2048, .f32⟩
  | .hbm, ⟨7, _⟩ => ⟨S2048x5906, .f32⟩
  | .hbm, ⟨8, _⟩ => ⟨S2048x3072, .f32⟩
  | .hbm, ⟨9, _⟩ => ⟨S2048x512, .f32⟩
  | .hbm, ⟨10, _⟩ => ⟨S2048x3584, .f32⟩
  | .hbm, ⟨11, _⟩ => ⟨S2048x3584, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel16.lean ====
abbrev S2048x5906 : Shape := ⟨2, ![2048, 5906]⟩
abbrev S8x128 : Shape := ⟨2, ![8, 128]⟩
abbrev S2048x768 : Shape := ⟨2, ![2048, 768]⟩
abbrev S2048x6 : Shape := ⟨2, ![2048, 6]⟩
abbrev S2048x2304 : Shape := ⟨2, ![2048, 2304]⟩
abbrev S2048x512 : Shape := ⟨2, ![2048, 512]⟩
abbrev S_ : Shape := ⟨0, ![]⟩
abbrev S2048x238 : Shape := ⟨2, ![2048, 238]⟩
abbrev S2048x6144 : Shape := ⟨2, ![2048, 6144]⟩
abbrev S2048x2560 : Shape := ⟨2, ![2048, 2560]⟩
abbrev S2048x2048 : Shape := ⟨2, ![2048, 2048]⟩
abbrev S512x2560 : Shape := ⟨2, ![512, 2560]⟩

abbrev nBuf : Space → Nat
  | .hbm => 32
  | .vmem => 6
  | .smem => 0
  | _ => 0

abbrev bufTy : (tb : Table) → Fin (tcTables nBuf tb) → BufTy
  | .hbm, ⟨0, _⟩ => ⟨S2048x5906, .f32⟩
  | .hbm, ⟨1, _⟩ => ⟨S2048x5906, .f32⟩
  | .hbm, ⟨2, _⟩ => ⟨S8x128, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x6, .f32⟩
  | .hbm, ⟨7, _⟩ => ⟨S2048x6, .f32⟩
  | .hbm, ⟨8, _⟩ => ⟨S2048x6, .f32⟩
  | .hbm, ⟨9, _⟩ => ⟨S2048x2304, .f32⟩
  | .hbm, ⟨10, _⟩ => ⟨S2048x768, .f32⟩
  | .hbm, ⟨11, _⟩ => ⟨S2048x512, .f32⟩
  | .hbm, ⟨12, _⟩ => ⟨S_, .f32⟩
  | .hbm, ⟨13, _⟩ => ⟨S2048x238, .f32⟩
  | .hbm, ⟨14, _⟩ => ⟨S2048x6144, .f32⟩
  | .hbm, ⟨15, _⟩ => ⟨S2048x2560, .f32⟩
  | .hbm, ⟨16, _⟩ => ⟨S2048x2560, .bf16⟩
  | .hbm, ⟨17, _⟩ => ⟨S2048x768, .f32⟩
  | .hbm, ⟨18, _⟩ => ⟨S2048x768, .f32⟩
  | .hbm, ⟨19, _⟩ => ⟨S2048x768, .f32⟩
  | .hbm, ⟨20, _⟩ => ⟨S2048x6, .f32⟩
  | .hbm, ⟨21, _⟩ => ⟨S2048x6, .f32⟩
  | .hbm, ⟨22, _⟩ => ⟨S2048x6, .f32⟩
  | .hbm, ⟨23, _⟩ => ⟨S2048x2304, .f32⟩
  | .hbm, ⟨24, _⟩ => ⟨S2048x768, .f32⟩
  | .hbm, ⟨25, _⟩ => ⟨S2048x512, .f32⟩
  | .hbm, ⟨26, _⟩ => ⟨S_, .f32⟩
  | .hbm, ⟨27, _⟩ => ⟨S2048x238, .f32⟩
  | .hbm, ⟨28, _⟩ => ⟨S2048x6144, .f32⟩
  | .hbm, ⟨29, _⟩ => ⟨S2048x2560, .f32⟩
  | .hbm, ⟨30, _⟩ => ⟨S2048x2560, .bf16⟩
  | .hbm, ⟨31, _⟩ => ⟨S2048x2048, .f32⟩
  | .local _ .vmem, ⟨0, _⟩ => ⟨S2048x2560, .bf16⟩
  | .local _ .vmem, ⟨1, _⟩ => ⟨S512x2560, .bf16⟩
  | .local _ .vmem, ⟨2, _⟩ => ⟨S512x2560, .bf16⟩
  | .local _ .vmem, ⟨3, _⟩ => ⟨S8x128, .f32⟩
  | .local _ .vmem, ⟨4, _⟩ => ⟨S2048x512, .f32⟩
  | .local _ .vmem, ⟨5, _⟩ => ⟨S2048x512, .f32⟩
  | _, _ => ⟨S2048x5906, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨4, ![1, 1, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S2048x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference16Ideal.lean ====
abbrev S2048x5906 : Shape := ⟨2, ![2048, 5906]⟩
abbrev S8x128 : Shape := ⟨2, ![8, 128]⟩
abbrev S_ : Shape := ⟨0, ![]⟩
abbrev S2048x2048 : Shape := ⟨2, ![2048, 2048]⟩
abbrev S2048x2310 : Shape := ⟨2, ![2048, 2310]⟩
abbrev S2048x12 : Shape := ⟨2, ![2048, 12]⟩

abbrev nBuf : Space → Nat
  | .hbm => 14
  | .vmem => 0
  | .smem => 0
  | _ => 0

abbrev bufTy : (tb : Table) → Fin (tcTables nBuf tb) → BufTy
  | .hbm, ⟨0, _⟩ => ⟨S2048x5906, .f32⟩
  | .hbm, ⟨1, _⟩ => ⟨S2048x5906, .f32⟩
  | .hbm, ⟨2, _⟩ => ⟨S8x128, .f32⟩
  | .hbm, ⟨3, _⟩ => ⟨S_, .f32⟩
  | .hbm, ⟨4, _⟩ => ⟨S2048x2048, .f32⟩
  | .hbm, ⟨5, _⟩ => ⟨S2048x2310, .f32⟩
  | .hbm, ⟨6, _⟩ => ⟨S2048x12, .f32⟩
  | .hbm, ⟨7, _⟩ => ⟨S2048x2310, .f32⟩
  | .hbm, ⟨8, _⟩ => ⟨S2048x12, .f32⟩
  | .hbm, ⟨9, _⟩ => ⟨S2048x2310, .f32⟩
  | .hbm, ⟨10, _⟩ => ⟨S2048x12, .f32⟩
  | .hbm, ⟨11, _⟩ => ⟨S2048x2048, .f32⟩
  | .hbm, ⟨12, _⟩ => ⟨S2048x2048, .f32⟩
  | .hbm, ⟨13, _⟩ => ⟨S2048x2048, .f32⟩
  | _, _ => ⟨S2048x5906, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel17.lean ====
abbrev S2048x5906 : Shape := ⟨2, ![2048, 5906]⟩
abbrev S2048x2048 : Shape := ⟨2, ![2048, 2048]⟩
abbrev S8x128 : Shape := ⟨2, ![8, 128]⟩
abbrev S2048x768 : Shape := ⟨2, ![2048, 768]⟩
abbrev S2048x6 : Shape := ⟨2, ![2048, 6]⟩
abbrev S2048x2304 : Shape := ⟨2, ![2048, 2304]⟩
abbrev S2048x512 : Shape := ⟨2, ![2048, 512]⟩
abbrev S_ : Shape := ⟨0, ![]⟩
abbrev S2048x238 : Shape := ⟨2, ![2048, 238]⟩
abbrev S2048x6144 : Shape := ⟨2, ![2048, 6144]⟩
abbrev S2048x3584 : Shape := ⟨2, ![2048, 3584]⟩
abbrev S256x3584 : Shape := ⟨2, ![256, 3584]⟩
abbrev S2048x256 : Shape := ⟨2, ![2048, 256]⟩

abbrev nBuf : Space → Nat
  | .hbm => 33
  | .vmem => 8
  | .smem => 0
  | _ => 0

abbrev bufTy : (tb : Table) → Fin (tcTables nBuf tb) → BufTy
  | .hbm, ⟨0, _⟩ => ⟨S2048x5906, .f32⟩
  | .hbm, ⟨1, _⟩ => ⟨S2048x5906, .f32⟩
  | .hbm, ⟨2, _⟩ => ⟨S2048x2048, .f32⟩
  | .hbm, ⟨3, _⟩ => ⟨S8x128, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x6, .f32⟩
  | .hbm, ⟨8, _⟩ => ⟨S2048x6, .f32⟩
  | .hbm, ⟨9, _⟩ => ⟨S2048x6, .f32⟩
  | .hbm, ⟨10, _⟩ => ⟨S2048x2304, .f32⟩
  | .hbm, ⟨11, _⟩ => ⟨S2048x768, .f32⟩
  | .hbm, ⟨12, _⟩ => ⟨S2048x512, .f32⟩
  | .hbm, ⟨13, _⟩ => ⟨S_, .f32⟩
  | .hbm, ⟨14, _⟩ => ⟨S2048x238, .f32⟩
  | .hbm, ⟨15, _⟩ => ⟨S2048x6144, .f32⟩
  | .hbm, ⟨16, _⟩ => ⟨S2048x3584, .f32⟩
  | .hbm, ⟨17, _⟩ => ⟨S2048x3584, .bf16⟩
  | .hbm, ⟨18, _⟩ => ⟨S2048x768, .f32⟩
  | .hbm, ⟨19, _⟩ => ⟨S2048x768, .f32⟩
  | .hbm, ⟨20, _⟩ => ⟨S2048x768, .f32⟩
  | .hbm, ⟨21, _⟩ => ⟨S2048x6, .f32⟩
  | .hbm, ⟨22, _⟩ => ⟨S2048x6, .f32⟩
  | .hbm, ⟨23, _⟩ => ⟨S2048x6, .f32⟩
  | .hbm, ⟨24, _⟩ => ⟨S2048x2304, .f32⟩
  | .hbm, ⟨25, _⟩ => ⟨S2048x768, .f32⟩
  | .hbm, ⟨26, _⟩ => ⟨S2048x512, .f32⟩
  | .hbm, ⟨27, _⟩ => ⟨S_, .f32⟩
  | .hbm, ⟨28, _⟩ => ⟨S2048x238, .f32⟩
  | .hbm, ⟨29, _⟩ => ⟨S2048x6144, .f32⟩
  | .hbm, ⟨30, _⟩ => ⟨S2048x3584, .f32⟩
  | .hbm, ⟨31, _⟩ => ⟨S2048x3584, .bf16⟩
  | .hbm, ⟨32, _⟩ => ⟨S2048x2048, .f32⟩
  | .local _ .vmem, ⟨0, _⟩ => ⟨S2048x3584, .bf16⟩
  | .local _ .vmem, ⟨1, _⟩ => ⟨S256x3584, .bf16⟩
  | .local _ .vmem, ⟨2, _⟩ => ⟨S256x3584, .bf16⟩
  | .local _ .vmem, ⟨3, _⟩ => ⟨S2048x256, .f32⟩
  | .local _ .vmem, ⟨4, _⟩ => ⟨S2048x256, .f32⟩
  | .local _ .vmem, ⟨5, _⟩ => ⟨S8x128, .f32⟩
  | .local _ .vmem, ⟨6, _⟩ => ⟨S2048x256, .f32⟩
  | .local _ .vmem, ⟨7, _⟩ => ⟨S2048x256, .f32⟩
  | _, _ => ⟨S2048x5906, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨4, ![1, 1, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S2048x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S256x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false]
-- ==== Reference17Ideal.lean ====
abbrev S2048x5906 : Shape := ⟨2, ![2048, 5906]⟩
abbrev S2048x2048 : Shape := ⟨2, ![2048, 2048]⟩
abbrev S8x128 : Shape := ⟨2, ![8, 128]⟩
abbrev S_ : Shape := ⟨0, ![]⟩
abbrev S2048x3072 : Shape := ⟨2, ![2048, 3072]⟩
abbrev S2048x512 : Shape := ⟨2, ![2048, 512]⟩

abbrev nBuf : Space → Nat
  | .hbm => 16
  | .vmem => 0
  | .smem => 0
  | _ => 0

abbrev bufTy : (tb : Table) → Fin (tcTables nBuf tb) → BufTy
  | .hbm, ⟨0, _⟩ => ⟨S2048x5906, .f32⟩
  | .hbm, ⟨1, _⟩ => ⟨S2048x5906, .f32⟩
  | .hbm, ⟨2, _⟩ => ⟨S2048x2048, .f32⟩
  | .hbm, ⟨3, _⟩ => ⟨S8x128, .f32⟩
  | .hbm, ⟨4, _⟩ => ⟨S_, .f32⟩
  | .hbm, ⟨5, _⟩ => ⟨S2048x2048, .f32⟩
  | .hbm, ⟨6, _⟩ => ⟨S2048x3072, .f32⟩
  | .hbm, ⟨7, _⟩ => ⟨S2048x512, .f32⟩
  | .hbm, ⟨8, _⟩ => ⟨S2048x3072, .f32⟩
  | .hbm, ⟨9, _⟩ => ⟨S2048x512, .f32⟩
  | .hbm, ⟨10, _⟩ => ⟨S2048x3072, .f32⟩
  | .hbm, ⟨11, _⟩ => ⟨S2048x512, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | _, _ => ⟨S2048x5906, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel18.lean ====
abbrev S2048x2048 : Shape := ⟨2, ![2048, 2048]⟩
abbrev S2048x5906 : Shape := ⟨2, ![2048, 5906]⟩
abbrev S2048x768 : Shape := ⟨2, ![2048, 768]⟩
abbrev S2048x6 : Shape := ⟨2, ![2048, 6]⟩
abbrev S2048x2304 : Shape := ⟨2, ![2048, 2304]⟩
abbrev S2048x512 : Shape := ⟨2, ![2048, 512]⟩
abbrev S_ : Shape := ⟨0, ![]⟩
abbrev S2048x238 : Shape := ⟨2, ![2048, 238]⟩
abbrev S2048x6144 : Shape := ⟨2, ![2048, 6144]⟩
abbrev S2048x2560 : Shape := ⟨2, ![2048, 2560]⟩

abbrev nBuf : Space → Nat
  | .hbm => 18
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x5906, .f32⟩
  | .hbm, ⟨2, _⟩ => ⟨S2048x2048, .bf16⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x6, .f32⟩
  | .hbm, ⟨7, _⟩ => ⟨S2048x6, .f32⟩
  | .hbm, ⟨8, _⟩ => ⟨S2048x6, .f32⟩
  | .hbm, ⟨9, _⟩ => ⟨S2048x2304, .f32⟩
  | .hbm, ⟨10, _⟩ => ⟨S2048x768, .f32⟩
  | .hbm, ⟨11, _⟩ => ⟨S2048x512, .f32⟩
  | .hbm, ⟨12, _⟩ => ⟨S_, .f32⟩
  | .hbm, ⟨13, _⟩ => ⟨S2048x238, .f32⟩
  | .hbm, ⟨14, _⟩ => ⟨S2048x6144, .f32⟩
  | .hbm, ⟨15, _⟩ => ⟨S2048x2560, .f32⟩
  | .hbm, ⟨16, _⟩ => ⟨S2048x2560, .bf16⟩
  | .hbm, ⟨17, _⟩ => ⟨S2048x2560, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 5, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference18Ideal.lean ====
abbrev S2048x2048 : Shape := ⟨2, ![2048, 2048]⟩
abbrev S2048x5906 : Shape := ⟨2, ![2048, 5906]⟩
abbrev S2048x2310 : Shape := ⟨2, ![2048, 2310]⟩
abbrev S2048x12 : Shape := ⟨2, ![2048, 12]⟩
abbrev S_ : Shape := ⟨0, ![]⟩
abbrev S2048x238 : Shape := ⟨2, ![2048, 238]⟩
abbrev S2048x2560 : Shape := ⟨2, ![2048, 2560]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5906, .f32⟩
  | .hbm, ⟨2, _⟩ => ⟨S2048x5906, .f32⟩
  | .hbm, ⟨3, _⟩ => ⟨S2048x2310, .f32⟩
  | .hbm, ⟨4, _⟩ => ⟨S2048x12, .f32⟩
  | .hbm, ⟨5, _⟩ => ⟨S_, .f32⟩
  | .hbm, ⟨6, _⟩ => ⟨S2048x238, .f32⟩
  | .hbm, ⟨7, _⟩ => ⟨S2048x2560, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S2048x2048 : Shape := ⟨2, ![2048, 2048]⟩
abbrev S2048x5906 : Shape := ⟨2, ![2048, 5906]⟩
abbrev S2048x768 : Shape := ⟨2, ![2048, 768]⟩
abbrev S2048x6 : Shape := ⟨2, ![2048, 6]⟩
abbrev S2048x2304 : Shape := ⟨2, ![2048, 2304]⟩
abbrev S2048x512 : Shape := ⟨2, ![2048, 512]⟩
abbrev S_ : Shape := ⟨0, ![]⟩
abbrev S2048x238 : Shape := ⟨2, ![2048, 238]⟩
abbrev S2048x6144 : Shape := ⟨2, ![2048, 6144]⟩
abbrev S2048x3584 : Shape := ⟨2, ![2048, 3584]⟩

abbrev nBuf : Space → Nat
  | .hbm => 18
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x5906, .f32⟩
  | .hbm, ⟨2, _⟩ => ⟨S2048x2048, .bf16⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x6, .f32⟩
  | .hbm, ⟨7, _⟩ => ⟨S2048x6, .f32⟩
  | .hbm, ⟨8, _⟩ => ⟨S2048x6, .f32⟩
  | .hbm, ⟨9, _⟩ => ⟨S2048x2304, .f32⟩
  | .hbm, ⟨10, _⟩ => ⟨S2048x768, .f32⟩
  | .hbm, ⟨11, _⟩ => ⟨S2048x512, .f32⟩
  | .hbm, ⟨12, _⟩ => ⟨S_, .f32⟩
  | .hbm, ⟨13, _⟩ => ⟨S2048x238, .f32⟩
  | .hbm, ⟨14, _⟩ => ⟨S2048x6144, .f32⟩
  | .hbm, ⟨15, _⟩ => ⟨S2048x3584, .f32⟩
  | .hbm, ⟨16, _⟩ => ⟨S2048x3584, .bf16⟩
  | .hbm, ⟨17, _⟩ => ⟨S2048x3584, .f32⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 7, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference19Ideal.lean ====
abbrev S2048x2048 : Shape := ⟨2, ![2048, 2048]⟩
abbrev S2048x5906 : Shape := ⟨2, ![2048, 5906]⟩
abbrev S2048x3072 : Shape := ⟨2, ![2048, 3072]⟩
abbrev S2048x512 : Shape := ⟨2, ![2048, 512]⟩
abbrev S2048x3584 : Shape := ⟨2, ![2048, 3584]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5906, .f32⟩
  | .hbm, ⟨2, _⟩ => ⟨S2048x5906, .f32⟩
  | .hbm, ⟨3, _⟩ => ⟨S2048x3072, .f32⟩
  | .hbm, ⟨4, _⟩ => ⟨S2048x512, .f32⟩
  | .hbm, ⟨5, _⟩ => ⟨S2048x3584, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2048x2816 : Shape := ⟨2, ![2048, 2816]⟩
abbrev S128x2816 : Shape := ⟨2, ![128, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S1408x2048 : Shape := ⟨2, ![1408, 2048]⟩
abbrev S176x2048 : Shape := ⟨2, ![176, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S512x5906 : Shape := ⟨2, ![512, 5906]⟩
abbrev S512x2560 : Shape := ⟨2, ![512, 2560]⟩
abbrev S512x3584 : Shape := ⟨2, ![512, 3584]⟩
abbrev S64x5906 : Shape := ⟨2, ![64, 5906]⟩
abbrev S64x2560 : Shape := ⟨2, ![64, 2560]⟩
abbrev S64x3584 : Shape := ⟨2, ![64, 3584]⟩
abbrev S64x6144 : Shape := ⟨2, ![64, 6144]⟩
abbrev S64x2304 : Shape := ⟨2, ![64, 2304]⟩
abbrev S64x6 : Shape := ⟨2, ![64, 6]⟩
abbrev S64x768 : Shape := ⟨2, ![64, 768]⟩
abbrev S64x512 : Shape := ⟨2, ![64, 512]⟩

abbrev nBuf : Space → Nat
  | .hbm => 9
  | .vmem => 18
  | .smem => 0
  | _ => 0

abbrev bufTy : (tb : Table) → Fin (tcTables nBuf tb) → BufTy
  | .hbm, ⟨0, _⟩ => ⟨S512x5906, .f32⟩
  | .hbm, ⟨1, _⟩ => ⟨S512x2560, .f32⟩
  | .hbm, ⟨2, _⟩ => ⟨S512x3584, .f32⟩
  | .hbm, ⟨3, _⟩ => ⟨S512x5906, .f32⟩
  | .hbm, ⟨4, _⟩ => ⟨S512x5906, .f32⟩
  | .hbm, ⟨5, _⟩ => ⟨S512x5906, .f32⟩
  | .hbm, ⟨6, _⟩ => ⟨S512x5906, .f32⟩
  | .hbm, ⟨7, _⟩ => ⟨S512x5906, .f32⟩
  | .hbm, ⟨8, _⟩ => ⟨S512x5906, .f32⟩
  | .local _ .vmem, ⟨0, _⟩ => ⟨S64x5906, .f32⟩
  | .local _ .vmem, ⟨1, _⟩ => ⟨S64x5906, .f32⟩
  | .local _ .vmem, ⟨2, _⟩ => ⟨S64x2560, .f32⟩
  | .local _ .vmem, ⟨3, _⟩ => ⟨S64x2560, .f32⟩
  | .local _ .vmem, ⟨4, _⟩ => ⟨S64x3584, .f32⟩
  | .local _ .vmem, ⟨5, _⟩ => ⟨S64x3584, .f32⟩
  | .local _ .vmem, ⟨6, _⟩ => ⟨S64x5906, .f32⟩
  | .local _ .vmem, ⟨7, _⟩ => ⟨S64x5906, .f32⟩
  | .local _ .vmem, ⟨8, _⟩ => ⟨S64x5906, .f32⟩
  | .local _ .vmem, ⟨9, _⟩ => ⟨S64x5906, .f32⟩
  | .local _ .vmem, ⟨10, _⟩ => ⟨S64x5906, .f32⟩
  | .local _ .vmem, ⟨11, _⟩ => ⟨S64x5906, .f32⟩
  | .local _ .vmem, ⟨12, _⟩ => ⟨S64x5906, .f32⟩
  | .local _ .vmem, ⟨13, _⟩ => ⟨S64x5906, .f32⟩
  | .local _ .vmem, ⟨14, _⟩ => ⟨S64x5906, .f32⟩
  | .local _ .vmem, ⟨15, _⟩ => ⟨S64x5906, .f32⟩
  | .local _ .vmem, ⟨16, _⟩ => ⟨S64x5906, .f32⟩
  | .local _ .vmem, ⟨17, _⟩ => ⟨S64x5906, .f32⟩
  | _, _ => ⟨S512x5906, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x5906 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x5906 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x5906 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x5906 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x5906 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x5906 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x5906 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference24Ideal.lean ====
abbrev S512x5906 : Shape := ⟨2, ![512, 5906]⟩
abbrev S512x2560 : Shape := ⟨2, ![512, 2560]⟩
abbrev S512x3584 : Shape := ⟨2, ![512, 3584]⟩
abbrev S512x2310 : Shape := ⟨2, ![512, 2310]⟩
abbrev S512x3072 : Shape := ⟨2, ![512, 3072]⟩
abbrev S512x12 : Shape := ⟨2, ![512, 12]⟩
abbrev S512x512 : Shape := ⟨2, ![512, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S512x5906, .f32⟩
  | .hbm, ⟨1, _⟩ => ⟨S512x2560, .f32⟩
  | .hbm, ⟨2, _⟩ => ⟨S512x3584, .f32⟩
  | .hbm, ⟨3, _⟩ => ⟨S512x5906, .f32⟩
  | .hbm, ⟨4, _⟩ => ⟨S512x5906, .f32⟩
  | .hbm, ⟨5, _⟩ => ⟨S512x2310, .f32⟩
  | .hbm, ⟨6, _⟩ => ⟨S512x3072, .f32⟩
  | .hbm, ⟨7, _⟩ => ⟨S512x12, .f32⟩
  | .hbm, ⟨8, _⟩ => ⟨S512x512, .f32⟩
  | .hbm, ⟨9, _⟩ => ⟨S512x5906, .f32⟩
  | .hbm, ⟨10, _⟩ => ⟨S_, .f32⟩
  | .hbm, ⟨11, _⟩ => ⟨S512x5906, .f32⟩
  | .hbm, ⟨12, _⟩ => ⟨S512x5906, .f32⟩
  | .hbm, ⟨13, _⟩ => ⟨S_, .f32⟩
  | .hbm, ⟨14, _⟩ => ⟨S512x5906, .f32⟩
  | .hbm, ⟨15, _⟩ => ⟨S512x5906, .f32⟩
  | .hbm, ⟨16, _⟩ => ⟨S512x5906, .f32⟩
  | .hbm, ⟨17, _⟩ => ⟨S_, .f32⟩
  | .hbm, ⟨18, _⟩ => ⟨S512x5906, .f32⟩
  | .hbm, ⟨19, _⟩ => ⟨S512x5906, .f32⟩
  | .hbm, ⟨20, _⟩ => ⟨S512x5906, .f32⟩
  | .hbm, ⟨21, _⟩ => ⟨S_, .f32⟩
  | .hbm, ⟨22, _⟩ => ⟨S512x5906, .f32⟩
  | .hbm, ⟨23, _⟩ => ⟨S512x5906, .f32⟩
  | .hbm, ⟨24, _⟩ => ⟨S512x5906, .f32⟩
  | .hbm, ⟨25, _⟩ => ⟨S_, .f32⟩
  | .hbm, ⟨26, _⟩ => ⟨S512x5906, .f32⟩
  | .hbm, ⟨27, _⟩ => ⟨S512x5906, .f32⟩
  | .hbm, ⟨28, _⟩ => ⟨S_, .f32⟩
  | .hbm, ⟨29, _⟩ => ⟨S512x5906, .f32⟩
  | .hbm, ⟨30, _⟩ => ⟨S512x5906, .f32⟩
  | .hbm, ⟨31, _⟩ => ⟨S512x5906, .f32⟩
  | .hbm, ⟨32, _⟩ => ⟨S_, .f32⟩
  | .hbm, ⟨33, _⟩ => ⟨S512x5906, .f32⟩
  | .hbm, ⟨34, _⟩ => ⟨S512x5906, .f32⟩
  | .hbm, ⟨35, _⟩ => ⟨S512x5906, .f32⟩
  | .hbm, ⟨36, _⟩ => ⟨S_, .f32⟩
  | .hbm, ⟨37, _⟩ => ⟨S512x5906, .f32⟩
  | .hbm, ⟨38, _⟩ => ⟨S512x5906, .f32⟩
  | .hbm, ⟨39, _⟩ => ⟨S512x5906, .f32⟩
  | .hbm, ⟨40, _⟩ => ⟨S_, .f32⟩
  | .hbm, ⟨41, _⟩ => ⟨S512x5906, .f32⟩
  | .hbm, ⟨42, _⟩ => ⟨S512x5906, .f32⟩
  | _, _ => ⟨S512x5906, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Proof.Same.lean ====
module
public import proofs.«01_k».proof.Defs
public import proofs.«01_k».proof.Proof.Gen.Kernel
public import proofs.«01_k».proof.Proof.Gen.KernelIdeal
@[expose] public section
set_option maxRecDepth 65536
set_option maxHeartbeats 4000000

/-! The kernel and its ideal reading have the same text: their bodies, tables and programs at the bits are one. -/

namespace Cert.Proof

open Idealize.ShloMosaic Idealize.SL.Sem

theorem fwd_same : @Cert.Kernel.cc0_gdn_scan_fwd Bits _ Cert.Kernel.Gen.facts = @Cert.KernelIdeal.cc0_gdn_scan_fwd Bits _ Cert.KernelIdeal.Gen.facts := by
  delta Cert.Kernel.cc0_gdn_scan_fwd Cert.KernelIdeal.cc0_gdn_scan_fwd
  rfl

theorem bwd_same : @Cert.Kernel.cc1_gdn_scan_bwd Bits _ Cert.Kernel.Gen.facts = @Cert.KernelIdeal.cc1_gdn_scan_bwd Bits _ Cert.KernelIdeal.Gen.facts := by
  delta Cert.Kernel.cc1_gdn_scan_bwd Cert.KernelIdeal.cc1_gdn_scan_bwd
  rfl

theorem bodies_same : Cert.Kernel.defs₀ (F := Bits) = Cert.KernelIdeal.defs₀ (F := Bits) := by
  delta Cert.Kernel.defs₀ Cert.KernelIdeal.defs₀
  rw [fwd_same, bwd_same]
  refine congrArg Defs.onTc (funext fun l => funext fun x => ?_)
  match l, x with
  | 0, (t, s) => rfl
  | 1, (t, s) => rfl
  | ⟨_ + 2, h⟩, _ => exact absurd h (Nat.not_lt.2 (Nat.le_add_left _ _))

theorem defs_same : Cert.Kernel.defs (F := Bits) = Cert.KernelIdeal.defs (F := Bits) := by
  delta Cert.Kernel.defs Cert.KernelIdeal.defs
  rw [bodies_same]
  rfl

theorem main_same : Cert.Kernel.main (F := Bits) = Cert.KernelIdeal.main (F := Bits) := rfl

/-- A run of the ideal reading's program over the bits is a run of the kernel. -/
theorem run_same {m : (ℓ : Loc Cert.Kernel.nD Cert.Kernel.τ Cert.Kernel.sig) → Buf (Elt Bits) ℓ} {g : Dev Cert.Kernel.nD → PrngReg}
    {Q : PUnit × MemSt Cert.Kernel.nD Cert.Kernel.τ Cert.Kernel.sig (Elt Bits) → Prop}
    (h : θ_run (Cert.KernelIdeal.defs (F := Bits)) (onTc (τ := Cert.KernelIdeal.τ) (Cert.KernelIdeal.main (F := Bits))) ⟨m, fun _ => 0, g⟩ Q) :
    θ_run (Cert.Kernel.defs (F := Bits)) (onTc (τ := Cert.Kernel.τ) (Cert.Kernel.main (F := Bits))) ⟨m, fun _ => 0, g⟩ Q := by
  rw [defs_same, main_same]
  exact h

end Cert.Proof
-- ==== Proof.FwdRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- the covers compare rectangles with axes of some hundred entries
set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition under which the body clears the carried state. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

abbrev VO0_6 : View sig .tc .vmem S256x768 .f32 := (Memref.whole cc0_stg6_0 : Memref sig .tc .vmem S256x768 .f32).view
abbrev VO0_7 : View sig .tc .vmem S6x4x128x128 .f32 := (Memref.whole cc0_stg7_0 : Memref sig .tc .vmem S6x4x128x128 .f32).view
abbrev ms0_0 (t : Fin cfg0.N) : Memref sig .tc .vmem S256x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S6x4x64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S6x4x1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x768 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S6x4x128x128 .f32 := win0_7.stage (cfg0.slots t 7)
abbrev hs0_7 (t : Fin cfg0.N) : (ms0_7 t).IsWhole := hstage0_7 ((cfg0.slots t 7).cast nbuf0_7)
/-- The state the kernel carries between points, a whole scratch buffer. -/
abbrev scM0_0 : Memref sig .tc .vmem S6x128x128 .f32 := Memref.whole cc0_scratch0
/-- The view of the carried state. -/
abbrev VS0_0 : View sig .tc .vmem S6x128x128 .f32 := scM0_0.view

/-- What the region carries unopened: every scoped buffer but its staging buffers and its state, and the generator register. -/
def rest (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- What the region hands the body beside its windows: the carried state at anything, the other scoped buffers, the generator register. -/
theorem PhiA0_eq (c : Dev nD) :
    (Pipeline.ΦA spec0 c : sProp 𝕄)
      = iprop(iprop((∃ d, owns (c : Thread nD τ) scM0_0 fullShare d)) ∗ rest c) := by
  unfold Pipeline.ΦA rest
  rw [Pipeline.scopedRest_split_of_list spec0 c [cc0_scratch0] (by decide) (by decide)]
  simp only [bigSepL_singleton, scM0_0, owns_whole]
  exact equiv_iff.mp ⟨Idealize.SL.BI.sep_assoc, Idealize.SL.BI.sep_assoc'⟩

end Cert.KernelIdeal.Fwd

end
-- ==== Proof.FwdRunA.lean ====
module

public import proofs.«01_k».proof.Proof.FwdRuns

@[expose] public section

-- the covers compare rectangles with axes of some hundred entries
set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at the first point: the pieces its stores leave in each output and in the carried state, with the triple that says so. -/
noncomputable def kernelRun0_A (c : Dev nD) (i : grid0.Coords) (arg1 : Memref sig .tc .vmem S256x768 .f32) (harg1 : arg1.IsWhole) (arg2 : Memref sig .tc .vmem S256x768 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S6x4x64x64 .f32) (harg5 : arg5.IsWhole) (arg6 : Memref sig .tc .vmem S6x4x1x128 .f32) (harg6 : arg6.IsWhole) (arg7 : Memref sig .tc .vmem S256x768 .f32) (harg7 : arg7.IsWhole) (arg8 : Memref sig .tc .vmem S6x4x128x128 .f32) (harg8 : arg8.IsWhole) (arg9 : Memref sig .tc .vmem S6x128x128 .f32) (harg9 : arg9.IsWhole) (hc0 : cond0_0 i)
    (x0 : Vec F S256x768 .f32) (x1 : Vec F S256x768 .f32) (x2 : Vec F S256x768 .f32) (x3 : Vec F S256x768 .f32) (x4 : Vec F S6x4x64x64 .f32) (x5 : Vec F S6x4x1x128 .f32) :
    Σ' (L6 : List (View.Piece (Elt F) S256x768 .f32)), Σ' (L7 : List (View.Piece (Elt F) S6x4x128x128 .f32)), { LS0 : List (View.Piece (Elt F) S6x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_gdn_scan_fwd i arg1 harg1 arg2 harg2 arg3 harg3 arg4 harg4 arg5 harg5 arg6 harg6 arg7 harg7 arg8 harg8 arg9 harg9) K } := by
  refine ⟨?_, ?_, ?_, fun E K => ?run⟩
  case run =>
    simp only [cc0_gdn_scan_fwd_eq_skeleton]; unfold cc0_gdn_scan_fwd_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Fwd

end
-- ==== Proof.FwdRunB.lean ====
module

public import proofs.«01_k».proof.Proof.FwdRunA

@[expose] public section

-- the covers compare rectangles with axes of some hundred entries
set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body at a later point, over the state the point before left. -/
noncomputable def kernelRun0_B (c : Dev nD) (i : grid0.Coords) (arg1 : Memref sig .tc .vmem S256x768 .f32) (harg1 : arg1.IsWhole) (arg2 : Memref sig .tc .vmem S256x768 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S6x4x64x64 .f32) (harg5 : arg5.IsWhole) (arg6 : Memref sig .tc .vmem S6x4x1x128 .f32) (harg6 : arg6.IsWhole) (arg7 : Memref sig .tc .vmem S256x768 .f32) (harg7 : arg7.IsWhole) (arg8 : Memref sig .tc .vmem S6x4x128x128 .f32) (harg8 : arg8.IsWhole) (arg9 : Memref sig .tc .vmem S6x128x128 .f32) (harg9 : arg9.IsWhole) (hc0 : ¬cond0_0 i)
    (x0 : Vec F S256x768 .f32) (x1 : Vec F S256x768 .f32) (x2 : Vec F S256x768 .f32) (x3 : Vec F S256x768 .f32) (x4 : Vec F S6x4x64x64 .f32) (x5 : Vec F S6x4x1x128 .f32) (xs0 : Vec F S6x128x128 .f32) :
    Σ' (L6 : List (View.Piece (Elt F) S256x768 .f32)), Σ' (L7 : List (View.Piece (Elt F) S6x4x128x128 .f32)), { LS0 : List (View.Piece (Elt F) S6x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_gdn_scan_fwd i arg1 harg1 arg2 harg2 arg3 harg3 arg4 harg4 arg5 harg5 arg6 harg6 arg7 harg7 arg8 harg8 arg9 harg9) K } := by
  refine ⟨?_, ?_, ?_, fun E K => ?run⟩
  case run =>
    simp only [cc0_gdn_scan_fwd_eq_skeleton]; unfold cc0_gdn_scan_fwd_skel
    simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Fwd

end
-- ==== Proof.FwdFrame.lean ====
module

public import proofs.«01_k».proof.Proof.FwdRunB

@[expose] public section

-- the covers compare rectangles with axes of some hundred entries
set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid0.Coords) (arg1 : Memref sig .tc .vmem S256x768 .f32) (harg1 : arg1.IsWhole)
   (arg2 : Memref sig .tc .vmem S256x768 .f32) (harg2 : arg2.IsWhole) (arg3 : Memref sig .tc .vmem S256x768 .f32)
   (harg3 : arg3.IsWhole) (arg4 : Memref sig .tc .vmem S256x768 .f32) (harg4 : arg4.IsWhole)
   (arg5 : Memref sig .tc .vmem S6x4x64x64 .f32) (harg5 : arg5.IsWhole) (arg6 : Memref sig .tc .vmem S6x4x1x128 .f32)
   (harg6 : arg6.IsWhole) (arg7 : Memref sig .tc .vmem S256x768 .f32) (harg7 : arg7.IsWhole)
   (arg8 : Memref sig .tc .vmem S6x4x128x128 .f32) (harg8 : arg8.IsWhole) (arg9 : Memref sig .tc .vmem S6x128x128 .f32)
   (harg9 : arg9.IsWhole) (hc0 : cond0_0 i) (x0 : Vec F S256x768 .f32) (x1 : Vec F S256x768 .f32) (x2 : Vec F S256x768 .f32)
   (x3 : Vec F S256x768 .f32) (x4 : Vec F S6x4x64x64 .f32) (x5 : Vec F S6x4x1x128 .f32)

theorem cover0_A_6 (y : S256x768.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set := by
  refine View.cover_of_tiledL (s := S256x768) _ S64x128.size ?_ y
  sl_kernel_rfl

def out0_A_6 : Vec F S256x768 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

theorem cover0_A_7 (y : S6x4x128x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set := by
  refine View.cover_of_tiledL (s := S6x4x128x128) _ S6x1x128x128.size ?_ y
  sl_kernel_rfl

def out0_A_7 : Vec F S6x4x128x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

theorem scover0_A_0 (y : S6x128x128.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set := by
  refine View.cover_of_tiledL (s := S6x128x128) _ S6x128x128.size ?_ y
  sl_kernel_rfl

def sout0_A_0 : Vec F S6x128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4 x5).2.2.1)

end

section

variable (c : Dev nD) (i : grid0.Coords) (arg1 : Memref sig .tc .vmem S256x768 .f32) (harg1 : arg1.IsWhole)
   (arg2 : Memref sig .tc .vmem S256x768 .f32) (harg2 : arg2.IsWhole) (arg3 : Memref sig .tc .vmem S256x768 .f32)
   (harg3 : arg3.IsWhole) (arg4 : Memref sig .tc .vmem S256x768 .f32) (harg4 : arg4.IsWhole)
   (arg5 : Memref sig .tc .vmem S6x4x64x64 .f32) (harg5 : arg5.IsWhole) (arg6 : Memref sig .tc .vmem S6x4x1x128 .f32)
   (harg6 : arg6.IsWhole) (arg7 : Memref sig .tc .vmem S256x768 .f32) (harg7 : arg7.IsWhole)
   (arg8 : Memref sig .tc .vmem S6x4x128x128 .f32) (harg8 : arg8.IsWhole) (arg9 : Memref sig .tc .vmem S6x128x128 .f32)
   (harg9 : arg9.IsWhole) (hc0 : ¬cond0_0 i) (x0 : Vec F S256x768 .f32) (x1 : Vec F S256x768 .f32) (x2 : Vec F S256x768 .f32)
   (x3 : Vec F S256x768 .f32) (x4 : Vec F S6x4x64x64 .f32) (x5 : Vec F S6x4x1x128 .f32) (xs0 : Vec F S6x128x128 .f32)

theorem cover0_B_6 (y : S256x768.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).1, y ∈ pc.1.set := by
  refine View.cover_of_tiledL (s := S256x768) _ S64x128.size ?_ y
  sl_kernel_rfl

def out0_B_6 : Vec F S256x768 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xs0).1)

theorem cover0_B_7 (y : S6x4x128x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.1, y ∈ pc.1.set := by
  refine View.cover_of_tiledL (s := S6x4x128x128) _ S6x1x128x128.size ?_ y
  sl_kernel_rfl

def out0_B_7 : Vec F S6x4x128x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xs0).2.1)

theorem scover0_B_0 (y : S6x128x128.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.2.1, y ∈ pc.1.set := by
  refine View.cover_of_tiledL (s := S6x128x128) _ S6x128x128.size ?_ y
  sl_kernel_rfl

def sout0_B_0 : Vec F S6x128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 x0 x1 x2 x3 x4 x5 xs0).2.2.1)

end

/-! ## What the outputs hold after each point -/

/-- What the outputs' staging buffers and the carried state hold after the body at position `n`. -/
def outsAt0 (c : Dev nD) : (n : ℕ) → n < cfg0.N → Vec F S256x768 .f32 × Vec F S6x4x128x128 .f32 × Vec F S6x128x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 8 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt0 c n (Nat.lt_of_succ_lt hn)).2.2)

theorem outsAt0_A (c : Dev nD) (t : Fin cfg0.N) (h0 : t.val % 8 = 0) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

theorem outsAt0_B (c : Dev nD) (t : Fin cfg0.N) (h0 : ¬t.val % 8 = 0) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk V c 0 t) (iblk V c 1 t) (iblk V c 2 t) (iblk V c 3 t) (iblk V c 4 t) (iblk V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position `n`: at first what the region hands over; later the state at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ rest c)

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2)) ∗ rest c) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2)) ∗ rest c) := by
  cases n with
  | zero => exact absurd rfl hz
  | succ n => rfl

/-! ## The pipeline's proof data -/

/-- The proof data of the region on core `c`. -/
def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq (c : Dev nD) (w : Fin cfg0.W) : (dats V c).A w = V c (Pipeline.arrRef spec0 w) := by
  dsimp only [dats]

theorem PhiS_castSucc (c : Dev nD) (t : Fin cfg0.N) :
    (dats V c).Φ t.castSucc = PhiS V c t.val (Nat.le_of_lt t.isLt) := by
  dsimp only [dats]; exact Pipeline.Dat.Φ_castSucc (PhiS V c) t

theorem after0_0 (c : Dev nD) (t : Fin cfg0.N) : (dats V c).after 0 t = iblk V c 0 t := by dsimp only [dats]
theorem after0_1 (c : Dev nD) (t : Fin cfg0.N) : (dats V c).after 1 t = iblk V c 1 t := by dsimp only [dats]
theorem after0_2 (c : Dev nD) (t : Fin cfg0.N) : (dats V c).after 2 t = iblk V c 2 t := by dsimp only [dats]
theorem after0_3 (c : Dev nD) (t : Fin cfg0.N) : (dats V c).after 3 t = iblk V c 3 t := by dsimp only [dats]
theorem after0_4 (c : Dev nD) (t : Fin cfg0.N) : (dats V c).after 4 t = iblk V c 4 t := by dsimp only [dats]
theorem after0_5 (c : Dev nD) (t : Fin cfg0.N) : (dats V c).after 5 t = iblk V c 5 t := by dsimp only [dats]
theorem after0_6 (c : Dev nD) (t : Fin cfg0.N) : (dats V c).after 6 t = (outsAt0 V c t.val t.isLt).1 := by dsimp only [dats]
theorem after0_7 (c : Dev nD) (t : Fin cfg0.N) : (dats V c).after 7 t = (outsAt0 V c t.val t.isLt).2.1 := by dsimp only [dats]

theorem before0_0 (c : Dev nD) (t : Fin cfg0.N) (d) : (dats V c).before 0 t d = iblk V c 0 t :=
  before0_0_of V (dats V c) (A_eq V c 0) (after0_0 V c) t d
theorem before0_1 (c : Dev nD) (t : Fin cfg0.N) (d) : (dats V c).before 1 t d = iblk V c 1 t :=
  before0_1_of V (dats V c) (A_eq V c 1) (after0_1 V c) t d
theorem before0_2 (c : Dev nD) (t : Fin cfg0.N) (d) : (dats V c).before 2 t d = iblk V c 2 t :=
  before0_2_of V (dats V c) (A_eq V c 2) (after0_2 V c) t d
theorem before0_3 (c : Dev nD) (t : Fin cfg0.N) (d) : (dats V c).before 3 t d = iblk V c 3 t :=
  before0_3_of V (dats V c) (A_eq V c 3) (after0_3 V c) t d
theorem before0_4 (c : Dev nD) (t : Fin cfg0.N) (d) : (dats V c).before 4 t d = iblk V c 4 t :=
  before0_4_of V (dats V c) (A_eq V c 4) (after0_4 V c) t d
theorem before0_5 (c : Dev nD) (t : Fin cfg0.N) (d) : (dats V c).before 5 t d = iblk V c 5 t :=
  before0_5_of V (dats V c) (A_eq V c 5) (after0_5 V c) t d

/-! ## The body obligation, at a generic point -/

/-- What the body is called with at point `t`. -/
def bodyPre (c : Dev nD) (t : Fin cfg0.N) : sProp 𝕄 :=
  iprop((dats V c).Φ t.castSucc ∗ (dats V c).owesAt () t.castSucc
    ∗ (∃ d, owns (c : Thread nD τ) (ms0_0 t) fullShare ((dats V c).before 0 t d))
    ∗ (∃ d, owns (c : Thread nD τ) (ms0_1 t) fullShare ((dats V c).before 1 t d))
    ∗ (∃ d, owns (c : Thread nD τ) (ms0_2 t) fullShare ((dats V c).before 2 t d))
    ∗ (∃ d, owns (c : Thread nD τ) (ms0_3 t) fullShare ((dats V c).before 3 t d))
    ∗ (∃ d, owns (c : Thread nD τ) (ms0_4 t) fullShare ((dats V c).before 4 t d))
    ∗ (∃ d, owns (c : Thread nD τ) (ms0_5 t) fullShare ((dats V c).before 5 t d))
    ∗ (∃ d, owns (c : Thread nD τ) (ms0_6 t) fullShare ((dats V c).before 6 t d))
    ∗ (∃ d, owns (c : Thread nD τ) (ms0_7 t) fullShare ((dats V c).before 7 t d)))

/-- What the body returns at point `t`. -/
def bodyPost (c : Dev nD) (t : Fin cfg0.N) : sProp 𝕄 :=
  iprop((dats V c).Φ t.succ ∗ (dats V c).owesAt () t.succ
    ∗ owns (c : Thread nD τ) (ms0_0 t) fullShare ((dats V c).after 0 t)
    ∗ owns (c : Thread nD τ) (ms0_1 t) fullShare ((dats V c).after 1 t)
    ∗ owns (c : Thread nD τ) (ms0_2 t) fullShare ((dats V c).after 2 t)
    ∗ owns (c : Thread nD τ) (ms0_3 t) fullShare ((dats V c).after 3 t)
    ∗ owns (c : Thread nD τ) (ms0_4 t) fullShare ((dats V c).after 4 t)
    ∗ owns (c : Thread nD τ) (ms0_5 t) fullShare ((dats V c).after 5 t)
    ∗ owns (c : Thread nD τ) (ms0_6 t) fullShare ((dats V c).after 6 t)
    ∗ owns (c : Thread nD τ) (ms0_7 t) fullShare ((dats V c).after 7 t))

set_option maxHeartbeats 6400000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dats V c).owesAt () t.succ = (dats V c).owesAt () t.castSucc from rfl,
    after0_0, after0_1, after0_2, after0_3, after0_4, after0_5, after0_6, after0_7]
  rw [show (dats V c).Φ t.succ = PhiS V c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc V c t, PhiS_zero V c _ _ hz, PhiA0_eq]
      rw [outsAt0_A V c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk V c 0 t) (iblk V c 1 t) (iblk V c 2 t) (iblk V c 3 t) (iblk V c 4 t) (iblk V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc V c t, PhiS_pos V c _ _ hz]
      rw [outsAt0_B V c t h0]
      unfold out0_B_6 out0_B_7 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) V c) (defs₀ (F := F)) Variants.none () Set.univ := fun t => by
  rw [bigSep_W0, bigSep_W0, defs₀_row]
  exact triple_restated (sound_body V c t) rfl .rfl fun _ => .rfl

theorem hin (c : Dev nD) : Pipeline.ΦA spec0 c ⊢ (dats V c).Φ 0 := by
  rw [show (dats V c).Φ 0 = PhiS V c 0 (Nat.zero_le _) from rfl, PhiS_zero V c 0 _ rfl]
  try exact Idealize.SL.BI.Entails.refl _

/-- After any point but the first the invariant gives back what the region handed over. -/
theorem Phi_out (c : Dev nD) (t : Fin (cfg0.N + 1)) (ht : t.val ≠ 0) : (dats V c).Φ t ⊢ Pipeline.ΦA spec0 c := by
  rw [show (dats V c).Φ t = PhiS V c t.val (Nat.le_of_lt_succ t.isLt) from rfl, PhiS_pos V c _ _ ht, PhiA0_eq]
  iintro ⟨HS0, Hg⟩
  isplitl [HS0]
  · iexists _; iexact HS0
  iexact Hg

theorem hout (c : Dev nD) : (dats V c).Φ (Fin.last cfg0.N) ⊢ Pipeline.ΦA spec0 c :=
  Phi_out V c _ (by rw [Fin.val_last]; have : cfg0.N = 8 := N_0; omega)

end Cert.KernelIdeal.Fwd

end
-- ==== Proof.BwdRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- the covers compare rectangles with axes of some hundred entries
set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition under which the body clears the carried state. -/
abbrev cond0_0 (i : grid1.Coords) : Prop := (Scalar.cmpi .ne (Scalar.extui (Scalar.cmpi .eq (BitVec.ofNat 32 (i 0).val) 0#32)) 0#32) = 1#1
/-- It holds at the first point only. -/
theorem hcond0_0 : ∀ t : Fin cfg1.N, cond0_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond0_0, e0]
    word_cmp
   : ∀ t : Fin grid1.N, cond0_0 (grid1.coords t) ↔ t.val % 8 = 0)

/-! ## The kernel body on any staging memrefs: a subtype the run finds -/

abbrev VO0_8 : View sig .tc .vmem S256x768 .f32 := (Memref.whole cc1_stg8_0 : Memref sig .tc .vmem S256x768 .f32).view
abbrev VO0_9 : View sig .tc .vmem S256x768 .f32 := (Memref.whole cc1_stg9_0 : Memref sig .tc .vmem S256x768 .f32).view
abbrev VO0_10 : View sig .tc .vmem S256x768 .f32 := (Memref.whole cc1_stg10_0 : Memref sig .tc .vmem S256x768 .f32).view
abbrev VO0_11 : View sig .tc .vmem S256x768 .f32 := (Memref.whole cc1_stg11_0 : Memref sig .tc .vmem S256x768 .f32).view
abbrev VO0_12 : View sig .tc .vmem S6x4x64x64 .f32 := (Memref.whole cc1_stg12_0 : Memref sig .tc .vmem S6x4x64x64 .f32).view
abbrev VO0_13 : View sig .tc .vmem S6x4x1x128 .f32 := (Memref.whole cc1_stg13_0 : Memref sig .tc .vmem S6x4x1x128 .f32).view
abbrev ms0_0 (t : Fin cfg1.N) : Memref sig .tc .vmem S256x768 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S256x768 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S256x768 .f32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S256x768 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S6x4x64x64 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S6x4x1x128 .f32 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S6x4x128x128 .f32 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S256x768 .f32 := win1_7.stage (cfg1.slots t 7)
abbrev hs0_7 (t : Fin cfg1.N) : (ms0_7 t).IsWhole := hstage1_7 ((cfg1.slots t 7).cast nbuf1_7)
abbrev ms0_8 (t : Fin cfg1.N) : Memref sig .tc .vmem S256x768 .f32 := win1_8.stage (cfg1.slots t 8)
abbrev hs0_8 (t : Fin cfg1.N) : (ms0_8 t).IsWhole := hstage1_8 ((cfg1.slots t 8).cast nbuf1_8)
abbrev ms0_9 (t : Fin cfg1.N) : Memref sig .tc .vmem S256x768 .f32 := win1_9.stage (cfg1.slots t 9)
abbrev hs0_9 (t : Fin cfg1.N) : (ms0_9 t).IsWhole := hstage1_9 ((cfg1.slots t 9).cast nbuf1_9)
abbrev ms0_10 (t : Fin cfg1.N) : Memref sig .tc .vmem S256x768 .f32 := win1_10.stage (cfg1.slots t 10)
abbrev hs0_10 (t : Fin cfg1.N) : (ms0_10 t).IsWhole := hstage1_10 ((cfg1.slots t 10).cast nbuf1_10)
abbrev ms0_11 (t : Fin cfg1.N) : Memref sig .tc .vmem S256x768 .f32 := win1_11.stage (cfg1.slots t 11)
abbrev hs0_11 (t : Fin cfg1.N) : (ms0_11 t).IsWhole := hstage1_11 ((cfg1.slots t 11).cast nbuf1_11)
abbrev ms0_12 (t : Fin cfg1.N) : Memref sig .tc .vmem S6x4x64x64 .f32 := win1_12.stage (cfg1.slots t 12)
abbrev hs0_12 (t : Fin cfg1.N) : (ms0_12 t).IsWhole := hstage1_12 ((cfg1.slots t 12).cast nbuf1_12)
abbrev ms0_13 (t : Fin cfg1.N) : Memref sig .tc .vmem S6x4x1x128 .f32 := win1_13.stage (cfg1.slots t 13)
abbrev hs0_13 (t : Fin cfg1.N) : (ms0_13 t).IsWhole := hstage1_13 ((cfg1.slots t 13).cast nbuf1_13)
/-- The state the kernel carries between points, a whole scratch buffer. -/
abbrev scM0_0 : Memref sig .tc .vmem S6x128x128 .f32 := Memref.whole cc1_scratch0
/-- The view of the carried state. -/
abbrev VS0_0 : View sig .tc .vmem S6x128x128 .f32 := scM0_0.view

/-- What the region carries unopened: every scoped buffer but its staging buffers and its state, and the generator register. -/
def rest (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- What the region hands the body beside its windows: the carried state at anything, the other scoped buffers, the generator register. -/
theorem PhiA0_eq (c : Dev nD) :
    (Pipeline.ΦA spec1 c : sProp 𝕄)
      = iprop(iprop((∃ d, owns (c : Thread nD τ) scM0_0 fullShare d)) ∗ rest c) := by
  unfold Pipeline.ΦA rest
  rw [Pipeline.scopedRest_split_of_list spec1 c [cc1_scratch0] (by decide) (by decide)]
  simp only [bigSepL_singleton, scM0_0, owns_whole]
  exact equiv_iff.mp ⟨Idealize.SL.BI.sep_assoc, Idealize.SL.BI.sep_assoc'⟩

end Cert.KernelIdeal.Bwd

end
-- ==== Proof.BwdRunA.lean ====
module

public import proofs.«01_k».proof.Proof.BwdRuns

@[expose] public section

-- the covers compare rectangles with axes of some hundred entries
set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1800000 in
/-- The body at the first point: the pieces its stores leave in each output and in the carried state, with the triple that says so. -/
noncomputable def kernelRun0_A (c : Dev nD) (i : grid1.Coords) (arg1 : Memref sig .tc .vmem S256x768 .f32) (harg1 : arg1.IsWhole) (arg2 : Memref sig .tc .vmem S256x768 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S6x4x64x64 .f32) (harg5 : arg5.IsWhole) (arg6 : Memref sig .tc .vmem S6x4x1x128 .f32) (harg6 : arg6.IsWhole) (arg7 : Memref sig .tc .vmem S6x4x128x128 .f32) (harg7 : arg7.IsWhole) (arg8 : Memref sig .tc .vmem S256x768 .f32) (harg8 : arg8.IsWhole) (arg9 : Memref sig .tc .vmem S256x768 .f32) (harg9 : arg9.IsWhole) (arg10 : Memref sig .tc .vmem S256x768 .f32) (harg10 : arg10.IsWhole) (arg11 : Memref sig .tc .vmem S256x768 .f32) (harg11 : arg11.IsWhole) (arg12 : Memref sig .tc .vmem S256x768 .f32) (harg12 : arg12.IsWhole) (arg13 : Memref sig .tc .vmem S6x4x64x64 .f32) (harg13 : arg13.IsWhole) (arg14 : Memref sig .tc .vmem S6x4x1x128 .f32) (harg14 : arg14.IsWhole) (arg15 : Memref sig .tc .vmem S6x128x128 .f32) (harg15 : arg15.IsWhole) (hc0 : cond0_0 i)
    (x0 : Vec F S256x768 .f32) (x1 : Vec F S256x768 .f32) (x2 : Vec F S256x768 .f32) (x3 : Vec F S256x768 .f32) (x4 : Vec F S6x4x64x64 .f32) (x5 : Vec F S6x4x1x128 .f32) (x6 : Vec F S6x4x128x128 .f32) (x7 : Vec F S256x768 .f32) :
    Σ' (L8 : List (View.Piece (Elt F) S256x768 .f32)), Σ' (L9 : List (View.Piece (Elt F) S256x768 .f32)), Σ' (L10 : List (View.Piece (Elt F) S256x768 .f32)), Σ' (L11 : List (View.Piece (Elt F) S256x768 .f32)), Σ' (L12 : List (View.Piece (Elt F) S6x4x64x64 .f32)), Σ' (L13 : List (View.Piece (Elt F) S6x4x1x128 .f32)), { LS0 : List (View.Piece (Elt F) S6x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_gdn_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_gdn_scan_bwd_eq_skeleton]; unfold cc1_gdn_scan_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.BwdRunB.lean ====
module

public import proofs.«01_k».proof.Proof.BwdRunA

@[expose] public section

-- the covers compare rectangles with axes of some hundred entries
set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1788000 in
/-- The body at a later point, over the state the point before left. -/
noncomputable def kernelRun0_B (c : Dev nD) (i : grid1.Coords) (arg1 : Memref sig .tc .vmem S256x768 .f32) (harg1 : arg1.IsWhole) (arg2 : Memref sig .tc .vmem S256x768 .f32) (harg2 : arg2.IsWhole) (arg3 : Memref sig .tc .vmem S256x768 .f32) (harg3 : arg3.IsWhole) (arg4 : Memref sig .tc .vmem S256x768 .f32) (harg4 : arg4.IsWhole) (arg5 : Memref sig .tc .vmem S6x4x64x64 .f32) (harg5 : arg5.IsWhole) (arg6 : Memref sig .tc .vmem S6x4x1x128 .f32) (harg6 : arg6.IsWhole) (arg7 : Memref sig .tc .vmem S6x4x128x128 .f32) (harg7 : arg7.IsWhole) (arg8 : Memref sig .tc .vmem S256x768 .f32) (harg8 : arg8.IsWhole) (arg9 : Memref sig .tc .vmem S256x768 .f32) (harg9 : arg9.IsWhole) (arg10 : Memref sig .tc .vmem S256x768 .f32) (harg10 : arg10.IsWhole) (arg11 : Memref sig .tc .vmem S256x768 .f32) (harg11 : arg11.IsWhole) (arg12 : Memref sig .tc .vmem S256x768 .f32) (harg12 : arg12.IsWhole) (arg13 : Memref sig .tc .vmem S6x4x64x64 .f32) (harg13 : arg13.IsWhole) (arg14 : Memref sig .tc .vmem S6x4x1x128 .f32) (harg14 : arg14.IsWhole) (arg15 : Memref sig .tc .vmem S6x128x128 .f32) (harg15 : arg15.IsWhole) (hc0 : ¬cond0_0 i)
    (x0 : Vec F S256x768 .f32) (x1 : Vec F S256x768 .f32) (x2 : Vec F S256x768 .f32) (x3 : Vec F S256x768 .f32) (x4 : Vec F S6x4x64x64 .f32) (x5 : Vec F S6x4x1x128 .f32) (x6 : Vec F S6x4x128x128 .f32) (x7 : Vec F S256x768 .f32) (xs0 : Vec F S6x128x128 .f32) :
    Σ' (L8 : List (View.Piece (Elt F) S256x768 .f32)), Σ' (L9 : List (View.Piece (Elt F) S256x768 .f32)), Σ' (L10 : List (View.Piece (Elt F) S256x768 .f32)), Σ' (L11 : List (View.Piece (Elt F) S256x768 .f32)), Σ' (L12 : List (View.Piece (Elt F) S6x4x64x64 .f32)), Σ' (L13 : List (View.Piece (Elt F) S6x4x1x128 .f32)), { LS0 : List (View.Piece (Elt F) S6x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0)) -∗ K ⟨⟩))
          ⊢ wp frame (wpE (defs₀ (F := F)) Variants.none c none) E (cc1_gdn_scan_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun E K => ?run⟩
  case run =>
    simp only [cc1_gdn_scan_bwd_eq_skeleton]; unfold cc1_gdn_scan_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg15.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.BwdFrame.lean ====
module

public import proofs.«01_k».proof.Proof.BwdRunB

@[expose] public section

-- the covers compare rectangles with axes of some hundred entries
set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section

variable (c : Dev nD) (i : grid1.Coords) (arg1 : Memref sig .tc .vmem S256x768 .f32) (harg1 : arg1.IsWhole)
   (arg2 : Memref sig .tc .vmem S256x768 .f32) (harg2 : arg2.IsWhole) (arg3 : Memref sig .tc .vmem S256x768 .f32)
   (harg3 : arg3.IsWhole) (arg4 : Memref sig .tc .vmem S256x768 .f32) (harg4 : arg4.IsWhole)
   (arg5 : Memref sig .tc .vmem S6x4x64x64 .f32) (harg5 : arg5.IsWhole) (arg6 : Memref sig .tc .vmem S6x4x1x128 .f32)
   (harg6 : arg6.IsWhole) (arg7 : Memref sig .tc .vmem S6x4x128x128 .f32) (harg7 : arg7.IsWhole)
   (arg8 : Memref sig .tc .vmem S256x768 .f32) (harg8 : arg8.IsWhole) (arg9 : Memref sig .tc .vmem S256x768 .f32)
   (harg9 : arg9.IsWhole) (arg10 : Memref sig .tc .vmem S256x768 .f32) (harg10 : arg10.IsWhole)
   (arg11 : Memref sig .tc .vmem S256x768 .f32) (harg11 : arg11.IsWhole) (arg12 : Memref sig .tc .vmem S256x768 .f32)
   (harg12 : arg12.IsWhole) (arg13 : Memref sig .tc .vmem S6x4x64x64 .f32) (harg13 : arg13.IsWhole)
   (arg14 : Memref sig .tc .vmem S6x4x1x128 .f32) (harg14 : arg14.IsWhole) (arg15 : Memref sig .tc .vmem S6x128x128 .f32)
   (harg15 : arg15.IsWhole) (hc0 : cond0_0 i) (x0 : Vec F S256x768 .f32) (x1 : Vec F S256x768 .f32)
   (x2 : Vec F S256x768 .f32) (x3 : Vec F S256x768 .f32) (x4 : Vec F S6x4x64x64 .f32) (x5 : Vec F S6x4x1x128 .f32)
   (x6 : Vec F S6x4x128x128 .f32) (x7 : Vec F S256x768 .f32)

theorem cover0_A_8 (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set := by
  refine View.cover_of_tiledL (s := S256x768) _ S64x128.size ?_ y
  sl_kernel_rfl

def out0_A_8 : Vec F S256x768 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)

theorem cover0_A_9 (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ pc.1.set := by
  refine View.cover_of_tiledL (s := S256x768) _ S64x128.size ?_ y
  sl_kernel_rfl

def out0_A_9 : Vec F S256x768 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)

theorem cover0_A_10 (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ pc.1.set := by
  refine View.cover_of_tiledL (s := S256x768) _ S64x128.size ?_ y
  sl_kernel_rfl

def out0_A_10 : Vec F S256x768 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1)

theorem cover0_A_11 (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1, y ∈ pc.1.set := by
  refine View.cover_of_tiledL (s := S256x768) _ S64x128.size ?_ y
  sl_kernel_rfl

def out0_A_11 : Vec F S256x768 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1)

theorem cover0_A_12 (y : S6x4x64x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1, y ∈ pc.1.set := by
  refine View.cover_of_tiledL (s := S6x4x64x64) _ S6x1x64x64.size ?_ y
  sl_kernel_rfl

def out0_A_12 : Vec F S6x4x64x64 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1)

theorem cover0_A_13 (y : S6x4x1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1, y ∈ pc.1.set := by
  refine View.cover_of_tiledL (s := S6x4x1x128) _ S6x1x1x128.size ?_ y
  sl_kernel_rfl

def out0_A_13 : Vec F S6x4x1x128 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1)

theorem scover0_A_0 (y : S6x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1, y ∈ pc.1.set := by
  refine View.cover_of_tiledL (s := S6x128x128) _ S6x128x128.size ?_ y
  sl_kernel_rfl

def sout0_A_0 : Vec F S6x128x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1)

end

section

variable (c : Dev nD) (i : grid1.Coords) (arg1 : Memref sig .tc .vmem S256x768 .f32) (harg1 : arg1.IsWhole)
   (arg2 : Memref sig .tc .vmem S256x768 .f32) (harg2 : arg2.IsWhole) (arg3 : Memref sig .tc .vmem S256x768 .f32)
   (harg3 : arg3.IsWhole) (arg4 : Memref sig .tc .vmem S256x768 .f32) (harg4 : arg4.IsWhole)
   (arg5 : Memref sig .tc .vmem S6x4x64x64 .f32) (harg5 : arg5.IsWhole) (arg6 : Memref sig .tc .vmem S6x4x1x128 .f32)
   (harg6 : arg6.IsWhole) (arg7 : Memref sig .tc .vmem S6x4x128x128 .f32) (harg7 : arg7.IsWhole)
   (arg8 : Memref sig .tc .vmem S256x768 .f32) (harg8 : arg8.IsWhole) (arg9 : Memref sig .tc .vmem S256x768 .f32)
   (harg9 : arg9.IsWhole) (arg10 : Memref sig .tc .vmem S256x768 .f32) (harg10 : arg10.IsWhole)
   (arg11 : Memref sig .tc .vmem S256x768 .f32) (harg11 : arg11.IsWhole) (arg12 : Memref sig .tc .vmem S256x768 .f32)
   (harg12 : arg12.IsWhole) (arg13 : Memref sig .tc .vmem S6x4x64x64 .f32) (harg13 : arg13.IsWhole)
   (arg14 : Memref sig .tc .vmem S6x4x1x128 .f32) (harg14 : arg14.IsWhole) (arg15 : Memref sig .tc .vmem S6x128x128 .f32)
   (harg15 : arg15.IsWhole) (hc0 : ¬cond0_0 i) (x0 : Vec F S256x768 .f32) (x1 : Vec F S256x768 .f32)
   (x2 : Vec F S256x768 .f32) (x3 : Vec F S256x768 .f32) (x4 : Vec F S6x4x64x64 .f32) (x5 : Vec F S6x4x1x128 .f32)
   (x6 : Vec F S6x4x128x128 .f32) (x7 : Vec F S256x768 .f32) (xs0 : Vec F S6x128x128 .f32)

theorem cover0_B_8 (y : S256x768.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1, y ∈ pc.1.set := by
  refine View.cover_of_tiledL (s := S256x768) _ S64x128.size ?_ y
  sl_kernel_rfl

def out0_B_8 : Vec F S256x768 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1)

theorem cover0_B_9 (y : S256x768.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1, y ∈ pc.1.set := by
  refine View.cover_of_tiledL (s := S256x768) _ S64x128.size ?_ y
  sl_kernel_rfl

def out0_B_9 : Vec F S256x768 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1)

theorem cover0_B_10 (y : S256x768.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1, y ∈ pc.1.set := by
  refine View.cover_of_tiledL (s := S256x768) _ S64x128.size ?_ y
  sl_kernel_rfl

def out0_B_10 : Vec F S256x768 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1)

theorem cover0_B_11 (y : S256x768.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1, y ∈ pc.1.set := by
  refine View.cover_of_tiledL (s := S256x768) _ S64x128.size ?_ y
  sl_kernel_rfl

def out0_B_11 : Vec F S256x768 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1)

theorem cover0_B_12 (y : S6x4x64x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1, y ∈ pc.1.set := by
  refine View.cover_of_tiledL (s := S6x4x64x64) _ S6x1x64x64.size ?_ y
  sl_kernel_rfl

def out0_B_12 : Vec F S6x4x64x64 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1)

theorem cover0_B_13 (y : S6x4x1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1, y ∈ pc.1.set := by
  refine View.cover_of_tiledL (s := S6x4x1x128) _ S6x1x1x128.size ?_ y
  sl_kernel_rfl

def out0_B_13 : Vec F S6x4x1x128 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1)

theorem scover0_B_0 (y : S6x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1, y ∈ pc.1.set := by
  refine View.cover_of_tiledL (s := S6x128x128) _ S6x128x128.size ?_ y
  sl_kernel_rfl

def sout0_B_0 : Vec F S6x128x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1)

end

/-! ## What the outputs hold after each point -/

/-- What the outputs' staging buffers and the carried state hold after the body at position `n`. -/
def outsAt0 (c : Dev nD) : (n : ℕ) → n < cfg1.N → Vec F S256x768 .f32 × Vec F S256x768 .f32 × Vec F S256x768 .f32 × Vec F S256x768 .f32 × Vec F S6x4x64x64 .f32 × Vec F S6x4x1x128 .f32 × Vec F S6x128x128 .f32
  | 0, hn => (out0_A_8 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_9 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_10 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_11 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_12 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), out0_A_13 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩))
  | n + 1, hn =>
    if h0 : (n + 1) % 8 = 0 then
      (out0_A_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_11 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_12 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), out0_A_13 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩))
    else
      (out0_B_8 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2, out0_B_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2, out0_B_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2, out0_B_11 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2, out0_B_12 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2, out0_B_13 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt0 c n (Nat.lt_of_succ_lt hn)).2.2.2.2.2.2)

theorem outsAt0_A (c : Dev nD) (t : Fin cfg1.N) (h0 : t.val % 8 = 0) :
    outsAt0 V c t.val t.isLt = (out0_A_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_11 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_12 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), out0_A_13 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk V c 0 t) (iblk V c 1 t) (iblk V c 2 t) (iblk V c 3 t) (iblk V c 4 t) (iblk V c 5 t) (iblk V c 6 t) (iblk V c 7 t)) := by
  obtain ⟨n, hn⟩ := t
  cases n with
  | zero => exact rfl
  | succ n => exact (dif_pos h0).trans rfl

theorem outsAt0_B (c : Dev nD) (t : Fin cfg1.N) (h0 : ¬t.val % 8 = 0) :
    outsAt0 V c t.val t.isLt = (out0_B_8 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2, out0_B_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2, out0_B_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2, out0_B_11 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2, out0_B_12 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2, out0_B_13 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk V c 0 t) (iblk V c 1 t) (iblk V c 2 t) (iblk V c 3 t) (iblk V c 4 t) (iblk V c 5 t) (iblk V c 6 t) (iblk V c 7 t) (outsAt0 V c (t.val - 1) (Nat.lt_of_le_of_lt (Nat.sub_le _ _) t.isLt)).2.2.2.2.2.2) := by
  obtain ⟨n, hn⟩ := t
  cases n with
  | zero => exact (by exfalso; (try dsimp only at h0); exact absurd (Nat.zero_mod _) h0)
  | succ n => exact (dif_neg h0).trans rfl

/-- The invariant before position `n`: at first what the region hands over; later the state at what the point before left. -/
def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2.2.2.2.2.2)) ∗ rest c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM0_0 fullShare ((outsAt0 V c n hn).2.2.2.2.2.2)) ∗ rest c) := rfl

theorem PhiS_pos (c : Dev nD) (n : ℕ) (h : n ≤ cfg1.N) (hz : n ≠ 0) :
    PhiS V c n h = iprop(iprop(owns (c : Thread nD τ) scM0_0 fullShare ((outsAt0 V c (n - 1) (by omega)).2.2.2.2.2.2)) ∗ rest c) := by
  cases n with
  | zero => exact absurd rfl hz
  | succ n => rfl

/-! ## The pipeline's proof data -/

/-- The proof data of the region on core `c`. -/
def dats (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt0 V c t.val t.isLt).1
    | ⟨9, _⟩ => (outsAt0 V c t.val t.isLt).2.1
    | ⟨10, _⟩ => (outsAt0 V c t.val t.isLt).2.2.1
    | ⟨11, _⟩ => (outsAt0 V c t.val t.isLt).2.2.2.1
    | ⟨12, _⟩ => (outsAt0 V c t.val t.isLt).2.2.2.2.1
    | ⟨13, _⟩ => (outsAt0 V c t.val t.isLt).2.2.2.2.2.1
  Φ t := PhiS V c t.val (Nat.le_of_lt_succ t.isLt)
  q _ := fullShare
  owed _ := 0

theorem A_eq (c : Dev nD) (w : Fin cfg1.W) : (dats V c).A w = V c (Pipeline.arrRef spec1 w) := by
  dsimp only [dats]

theorem PhiS_castSucc (c : Dev nD) (t : Fin cfg1.N) :
    (dats V c).Φ t.castSucc = PhiS V c t.val (Nat.le_of_lt t.isLt) := by
  dsimp only [dats]; exact Pipeline.Dat.Φ_castSucc (PhiS V c) t

theorem after0_0 (c : Dev nD) (t : Fin cfg1.N) : (dats V c).after 0 t = iblk V c 0 t := by dsimp only [dats]
theorem after0_1 (c : Dev nD) (t : Fin cfg1.N) : (dats V c).after 1 t = iblk V c 1 t := by dsimp only [dats]
theorem after0_2 (c : Dev nD) (t : Fin cfg1.N) : (dats V c).after 2 t = iblk V c 2 t := by dsimp only [dats]
theorem after0_3 (c : Dev nD) (t : Fin cfg1.N) : (dats V c).after 3 t = iblk V c 3 t := by dsimp only [dats]
theorem after0_4 (c : Dev nD) (t : Fin cfg1.N) : (dats V c).after 4 t = iblk V c 4 t := by dsimp only [dats]
theorem after0_5 (c : Dev nD) (t : Fin cfg1.N) : (dats V c).after 5 t = iblk V c 5 t := by dsimp only [dats]
theorem after0_6 (c : Dev nD) (t : Fin cfg1.N) : (dats V c).after 6 t = iblk V c 6 t := by dsimp only [dats]
theorem after0_7 (c : Dev nD) (t : Fin cfg1.N) : (dats V c).after 7 t = iblk V c 7 t := by dsimp only [dats]
theorem after0_8 (c : Dev nD) (t : Fin cfg1.N) : (dats V c).after 8 t = (outsAt0 V c t.val t.isLt).1 := by dsimp only [dats]
theorem after0_9 (c : Dev nD) (t : Fin cfg1.N) : (dats V c).after 9 t = (outsAt0 V c t.val t.isLt).2.1 := by dsimp only [dats]
theorem after0_10 (c : Dev nD) (t : Fin cfg1.N) : (dats V c).after 10 t = (outsAt0 V c t.val t.isLt).2.2.1 := by dsimp only [dats]
theorem after0_11 (c : Dev nD) (t : Fin cfg1.N) : (dats V c).after 11 t = (outsAt0 V c t.val t.isLt).2.2.2.1 := by dsimp only [dats]
theorem after0_12 (c : Dev nD) (t : Fin cfg1.N) : (dats V c).after 12 t = (outsAt0 V c t.val t.isLt).2.2.2.2.1 := by dsimp only [dats]
theorem after0_13 (c : Dev nD) (t : Fin cfg1.N) : (dats V c).after 13 t = (outsAt0 V c t.val t.isLt).2.2.2.2.2.1 := by dsimp only [dats]

theorem before0_0 (c : Dev nD) (t : Fin cfg1.N) (d) : (dats V c).before 0 t d = iblk V c 0 t :=
  before0_0_of V (dats V c) (A_eq V c 0) (after0_0 V c) t d
theorem before0_1 (c : Dev nD) (t : Fin cfg1.N) (d) : (dats V c).before 1 t d = iblk V c 1 t :=
  before0_1_of V (dats V c) (A_eq V c 1) (after0_1 V c) t d
theorem before0_2 (c : Dev nD) (t : Fin cfg1.N) (d) : (dats V c).before 2 t d = iblk V c 2 t :=
  before0_2_of V (dats V c) (A_eq V c 2) (after0_2 V c) t d
theorem before0_3 (c : Dev nD) (t : Fin cfg1.N) (d) : (dats V c).before 3 t d = iblk V c 3 t :=
  before0_3_of V (dats V c) (A_eq V c 3) (after0_3 V c) t d
theorem before0_4 (c : Dev nD) (t : Fin cfg1.N) (d) : (dats V c).before 4 t d = iblk V c 4 t :=
  before0_4_of V (dats V c) (A_eq V c 4) (after0_4 V c) t d
theorem before0_5 (c : Dev nD) (t : Fin cfg1.N) (d) : (dats V c).before 5 t d = iblk V c 5 t :=
  before0_5_of V (dats V c) (A_eq V c 5) (after0_5 V c) t d
theorem before0_6 (c : Dev nD) (t : Fin cfg1.N) (d) : (dats V c).before 6 t d = iblk V c 6 t :=
  before0_6_of V (dats V c) (A_eq V c 6) (after0_6 V c) t d
theorem before0_7 (c : Dev nD) (t : Fin cfg1.N) (d) : (dats V c).before 7 t d = iblk V c 7 t :=
  before0_7_of V (dats V c) (A_eq V c 7) (after0_7 V c) t d

/-! ## The body obligation, at a generic point -/

/-- What the body is called with at point `t`. -/
def bodyPre (c : Dev nD) (t : Fin cfg1.N) : sProp 𝕄 :=
  iprop((dats V c).Φ t.castSucc ∗ (dats V c).owesAt () t.castSucc
    ∗ (∃ d, owns (c : Thread nD τ) (ms0_0 t) fullShare ((dats V c).before 0 t d))
    ∗ (∃ d, owns (c : Thread nD τ) (ms0_1 t) fullShare ((dats V c).before 1 t d))
    ∗ (∃ d, owns (c : Thread nD τ) (ms0_2 t) fullShare ((dats V c).before 2 t d))
    ∗ (∃ d, owns (c : Thread nD τ) (ms0_3 t) fullShare ((dats V c).before 3 t d))
    ∗ (∃ d, owns (c : Thread nD τ) (ms0_4 t) fullShare ((dats V c).before 4 t d))
    ∗ (∃ d, owns (c : Thread nD τ) (ms0_5 t) fullShare ((dats V c).before 5 t d))
    ∗ (∃ d, owns (c : Thread nD τ) (ms0_6 t) fullShare ((dats V c).before 6 t d))
    ∗ (∃ d, owns (c : Thread nD τ) (ms0_7 t) fullShare ((dats V c).before 7 t d))
    ∗ (∃ d, owns (c : Thread nD τ) (ms0_8 t) fullShare ((dats V c).before 8 t d))
    ∗ (∃ d, owns (c : Thread nD τ) (ms0_9 t) fullShare ((dats V c).before 9 t d))
    ∗ (∃ d, owns (c : Thread nD τ) (ms0_10 t) fullShare ((dats V c).before 10 t d))
    ∗ (∃ d, owns (c : Thread nD τ) (ms0_11 t) fullShare ((dats V c).before 11 t d))
    ∗ (∃ d, owns (c : Thread nD τ) (ms0_12 t) fullShare ((dats V c).before 12 t d))
    ∗ (∃ d, owns (c : Thread nD τ) (ms0_13 t) fullShare ((dats V c).before 13 t d)))

/-- What the body returns at point `t`. -/
def bodyPost (c : Dev nD) (t : Fin cfg1.N) : sProp 𝕄 :=
  iprop((dats V c).Φ t.succ ∗ (dats V c).owesAt () t.succ
    ∗ owns (c : Thread nD τ) (ms0_0 t) fullShare ((dats V c).after 0 t)
    ∗ owns (c : Thread nD τ) (ms0_1 t) fullShare ((dats V c).after 1 t)
    ∗ owns (c : Thread nD τ) (ms0_2 t) fullShare ((dats V c).after 2 t)
    ∗ owns (c : Thread nD τ) (ms0_3 t) fullShare ((dats V c).after 3 t)
    ∗ owns (c : Thread nD τ) (ms0_4 t) fullShare ((dats V c).after 4 t)
    ∗ owns (c : Thread nD τ) (ms0_5 t) fullShare ((dats V c).after 5 t)
    ∗ owns (c : Thread nD τ) (ms0_6 t) fullShare ((dats V c).after 6 t)
    ∗ owns (c : Thread nD τ) (ms0_7 t) fullShare ((dats V c).after 7 t)
    ∗ owns (c : Thread nD τ) (ms0_8 t) fullShare ((dats V c).after 8 t)
    ∗ owns (c : Thread nD τ) (ms0_9 t) fullShare ((dats V c).after 9 t)
    ∗ owns (c : Thread nD τ) (ms0_10 t) fullShare ((dats V c).after 10 t)
    ∗ owns (c : Thread nD τ) (ms0_11 t) fullShare ((dats V c).after 11 t)
    ∗ owns (c : Thread nD τ) (ms0_12 t) fullShare ((dats V c).after 12 t)
    ∗ owns (c : Thread nD τ) (ms0_13 t) fullShare ((dats V c).after 13 t))

set_option maxHeartbeats 9600000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2, before0_3, before0_4, before0_5, before0_6, before0_7]
  rw [show (dats V c).owesAt () t.succ = (dats V c).owesAt () t.castSucc from rfl,
    after0_0, after0_1, after0_2, after0_3, after0_4, after0_5, after0_6, after0_7, after0_8, after0_9, after0_10, after0_11, after0_12, after0_13]
  rw [show (dats V c).Φ t.succ = PhiS V c (t.val + 1) t.isLt from rfl, PhiS_succ]
  have hN : t.val < 8 := lt_of_lt_of_eq t.isLt (show cfg1.N = 8 from N_1)
  by_cases h0 : t.val % 8 = 0
  · by_cases hz : t.val = 0
    · rw [PhiS_castSucc V c t, PhiS_zero V c _ _ hz, PhiA0_eq]
      rw [outsAt0_A V c t h0]
      unfold out0_A_8 out0_A_9 out0_A_10 out0_A_11 out0_A_12 out0_A_13 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid1.coords t) _ _ _ _ _ _ _ _ _ _ _ _ _ _ _ _ _ _ _ _ _ _ _ _ _ _ _ _ _ _ ((hcond0_0 t).mpr h0) (iblk V c 0 t) (iblk V c 1 t) (iblk V c 2 t) (iblk V c 3 t) (iblk V c 4 t) (iblk V c 5 t) (iblk V c 6 t) (iblk V c 7 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _)
    · exfalso; have hN : t.val < 8 := lt_of_lt_of_eq t.isLt (show cfg1.N = 8 from N_1); omega
  · by_cases hz : t.val = 0
    · exfalso; have hN : t.val < 8 := lt_of_lt_of_eq t.isLt (show cfg1.N = 8 from N_1); omega
    · rw [PhiS_castSucc V c t, PhiS_pos V c _ _ hz]
      rw [outsAt0_B V c t h0]
      unfold out0_B_8 out0_B_9 out0_B_10 out0_B_11 out0_B_12 out0_B_13 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid1.coords t) _ _ _ _ _ _ _ _ _ _ _ _ _ _ _ _ _ _ _ _ _ _ _ _ _ _ _ _ _ _ (fun h => h0 ((hcond0_0 t).mp h)) (iblk V c 0 t) (iblk V c 1 t) (iblk V c 2 t) (iblk V c 3 t) (iblk V c 4 t) (iblk V c 5 t) (iblk V c 6 t) (iblk V c 7 t) _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

/-- The body obligation at every point. -/
theorem body_obligation (c : Dev nD) : BodyObligation (dats (F := F) V c) (defs₀ (F := F)) Variants.none () Set.univ := fun t => by
  rw [bigSep_W1, bigSep_W1, defs₀_row]
  exact triple_restated (sound_body V c t) rfl .rfl fun _ => .rfl

theorem hin (c : Dev nD) : Pipeline.ΦA spec1 c ⊢ (dats V c).Φ 0 := by
  rw [show (dats V c).Φ 0 = PhiS V c 0 (Nat.zero_le _) from rfl, PhiS_zero V c 0 _ rfl]
  try exact Idealize.SL.BI.Entails.refl _

/-- After any point but the first the invariant gives back what the region handed over. -/
theorem Phi_out (c : Dev nD) (t : Fin (cfg1.N + 1)) (ht : t.val ≠ 0) : (dats V c).Φ t ⊢ Pipeline.ΦA spec1 c := by
  rw [show (dats V c).Φ t = PhiS V c t.val (Nat.le_of_lt_succ t.isLt) from rfl, PhiS_pos V c _ _ ht, PhiA0_eq]
  iintro ⟨HS0, Hg⟩
  isplitl [HS0]
  · iexists _; iexact HS0
  iexact Hg

theorem hout (c : Dev nD) : (dats V c).Φ (Fin.last cfg1.N) ⊢ Pipeline.ΦA spec1 c :=
  Phi_out V c _ (by rw [Fin.val_last]; have : cfg1.N = 8 := N_1; omega)

end Cert.KernelIdeal.Bwd

end
-- ==== Proof.Run.lean ====
module

public import proofs.«01_k».proof.Proof.FwdFrame
public import proofs.«01_k».proof.Proof.BwdFrame
public import Idealize.ShloMosaic.Lib.Pipeline.RegionArraysS

@[expose] public section

set_option maxRecDepth 16384

/-!
The whole program run: the forward scan and the backward scan one after the other.  The unscoped buffers are held at a
valuation: at launch (`W0`), after the forward scan (`W1`), after the backward scan (`W2`).
-/

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg RegionSeg Seg cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` at launch. -/
def W0 (c : Dev nD) : Valuation τ sig (Elt F) := fun b => m ((c : Thread nD τ).1, b)

/-- The forward scan's proof data, over the launch buffers. -/
abbrev dat0 (c : Dev nD) : Dat τ (Elt F) Unit ℕ (UR sig nD τ) ℕ cfg0 c :=
  Fwd.dats (fun c b => W0 m c (Proc.devRef .tc b)) c

/-- The buffers of core `c` after the forward scan. -/
def W1 (c : Dev nD) : Valuation τ sig (Elt F) := Pipeline.afterRegion (dat0 m c) (W0 m c)

/-- The backward scan's proof data, over what the forward scan left. -/
abbrev dat1 (c : Dev nD) : Dat τ (Elt F) Unit ℕ (UR sig nD τ) ℕ cfg1 c :=
  Bwd.dats (fun c b => W1 m c (Proc.devRef .tc b)) c

/-- The buffers of core `c` after the backward scan. -/
def W2 (c : Dev nD) : Valuation τ sig (Elt F) := Pipeline.afterRegion (dat1 m c) (W1 m c)

/-- The proof data of both regions. -/
def pdats : (p : Fin 2) → (c : Dev nD) → Dat τ (Elt F) Unit ℕ (UR sig nD τ) ℕ (cfgs p) c
  | 0, c => dat0 m c
  | 1, c => dat1 m c

/-- No core owes another anything. -/
abbrev Lev : GSem nD τ sig → Finset Unit := fun g => if g.1.2 = .tc then {()} else ∅
abbrev lev : GSem nD τ sig → Unit → ℕ := fun _ _ => 0
abbrev adm : (p : Fin 2) → (pcfgs (F := F) p).Adm := fun p => (cfgs p).toPCfg_adm

/-- What rides beside the buffers: the core's dues and its generator register. -/
abbrev ride (c : Dev nD) : sProp 𝕄 :=
  iprop((∃ Wd, owes (c : Thread nD τ) (0 : CellTallies nD τ sig Unit) Wd) ∗ (∃ r, prngReg c r) ∗ emp)

set_option backward.isDefEq.respectTransparency.types false in
/-- The forward scan's region. -/
def R0 : RegionSeg (pcfgs (F := F)) adm (pdats m) () defs₀ Variants.none Lev lev 0 :=
  RegionSeg.ofHeldIn (pcfgs (F := F)) adm (pdats m) () defs₀ Variants.none Lev lev 0 (fun _ => 0) (Pipeline.ucRefs τ sig)
    (fun c => iprop(∃ r, prngReg c r)) (fun c => iprop(∃ r, prngReg c r)) launch0.toP rfl
    (fun c => (Fwd.body_obligation _ c).loose) (fun _ _ => rfl) (fun _ => rfl)
    (fun c w => (dat0 m c).share_full (fun _ => rfl) w)
    (fun c => Fwd.hin _ c) (fun c => Fwd.hout _ c) (fun _ => 0)
    ⟨fun _ _ _ => by simp [Lev], fun _ _ _ => le_rfl, fun _ _ _ h => absurd h (by simp)⟩
    (fun _ => iprop(emp)) (W0 m) (fun c w => Fwd.A_eq (fun c b => W0 m c (Proc.devRef .tc b)) c w)

set_option backward.isDefEq.respectTransparency.types false in
/-- The backward scan's region. -/
def R1 : RegionSeg (pcfgs (F := F)) adm (pdats m) () defs₀ Variants.none Lev lev 1 :=
  RegionSeg.ofHeldIn (pcfgs (F := F)) adm (pdats m) () defs₀ Variants.none Lev lev 1 (fun _ => 0) (Pipeline.ucRefs τ sig)
    (fun c => iprop(∃ r, prngReg c r)) (fun c => iprop(∃ r, prngReg c r)) launch1.toP rfl
    (fun c => (Bwd.body_obligation _ c).loose) (fun _ _ => rfl) (fun _ => rfl)
    (fun c w => (dat1 m c).share_full (fun _ => rfl) w)
    (fun c => Bwd.hin _ c) (fun c => Bwd.hout _ c) (fun _ => 0)
    ⟨fun _ _ _ => by simp [Lev], fun _ _ _ => le_rfl, fun _ _ _ h => absurd h (by simp)⟩
    (fun _ => iprop(emp)) (W1 m) (fun c w => Bwd.A_eq (fun c b => W1 m c (Proc.devRef .tc b)) c w)

theorem arr0_unscoped : ∀ w, (Pipeline.arrRef spec0 w).isScoped = false := by decide
theorem arr1_unscoped : ∀ w, (Pipeline.arrRef spec1 w).isScoped = false := by decide

set_option backward.isDefEq.respectTransparency.types false in
theorem pre0 (c : Dev nD) :
    iprop(StableHlo.held (c : Thread nD τ) (Pipeline.ucRefs τ sig) (W0 m c) ∗ ride c) ⊢ (R0 m).pre c :=
  by unfold R0; refine BI.Entails.trans ?_ (RegionSeg.ofHeldIn_pre (by exact Pipeline.arrRefs_sub_ucRefs spec0 arr0_unscoped) c); exact BI.Entails.refl _
set_option backward.isDefEq.respectTransparency.types false in
theorem post0 (c : Dev nD) :
    (R0 m).post c ⊢ iprop(StableHlo.held (c : Thread nD τ) (Pipeline.ucRefs τ sig) (W1 m c) ∗ ride c) :=
  by unfold R0; exact RegionSeg.ofHeldIn_post (by exact Pipeline.arrRefs_sub_ucRefs spec0 arr0_unscoped) c
set_option backward.isDefEq.respectTransparency.types false in
theorem pre1 (c : Dev nD) :
    iprop(StableHlo.held (c : Thread nD τ) (Pipeline.ucRefs τ sig) (W1 m c) ∗ ride c) ⊢ (R1 m).pre c :=
  by unfold R1; refine BI.Entails.trans ?_ (RegionSeg.ofHeldIn_pre (by exact Pipeline.arrRefs_sub_ucRefs spec1 arr1_unscoped) c); exact BI.Entails.refl _
set_option backward.isDefEq.respectTransparency.types false in
theorem post1 (c : Dev nD) :
    (R1 m).post c ⊢ iprop(StableHlo.held (c : Thread nD τ) (Pipeline.ucRefs τ sig) (W2 m c) ∗ ride c) :=
  by unfold R1; exact RegionSeg.ofHeldIn_post (by exact Pipeline.arrRefs_sub_ucRefs spec1 arr1_unscoped) c

theorem scoped_all : ∀ sm : SemLoc sig, sm.isScoped .tc = true := by decide

set_option backward.isDefEq.respectTransparency.types false in
/-- Every weakly fair execution ends with every unscoped buffer at the last valuation and every semaphore at zero. -/
theorem run_main : θ_run defs (onTc (τ := τ) (main (F := F))) ⟨m, fun _ => 0, ρ⟩ (fun r =>
    (∀ (c : Dev nD) (b : Ref sig .tc), b.isScoped = false → r.2.mem ((c : Thread nD τ).loc b) = W2 m c (Proc.devRef .tc b))
      ∧ r.2.sem = fun _ => 0) :=
  Pipeline.θ_run_regions_kit_sems (pcfgs (F := F)) adm (pdats m) () cellOf_inj emb₁ defs₀ Variants.none Lev lev m ρ main
    [.region (R0 m), .region (R1 m)]
    (fun c Q => by rw [main_segs adm (pdats m) () Variants.none Lev lev (R0 m) (R1 m) c])
    (by simp only [Pipeline.Seg.pipes_host, Pipeline.Seg.pipes_region, Pipeline.Seg.pipes_nil]; decide) (O₀ := 0)
    (hL := fun g h => if_neg h) (G := fun _ => iprop(emp)) (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ ride c))
    (Tₙ := fun c => StableHlo.held (c : Thread nD τ) (Pipeline.ucRefs τ sig) (W2 m c))
    (hch := ⟨fun c => pre0 m c, fun c => (post0 m c).trans (pre1 m c), fun c => (post1 m c).trans (by
      iintro ⟨H, HO, -⟩
      isplitl [H]; · iexact H
      iexact HO)⟩)
    (hinit := by
      refine Pipeline.initEach Lev lev fun c => ?_
      rw [show unscopedBufs c (fun b => m ((c : Thread nD τ).loc b)) = StableHlo.held (c : Thread nD τ) (Pipeline.ucRefs τ sig) (W0 m c) from
        Pipeline.unscopedBufs_held c (W0 m c)]
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => ∀ b : Ref sig .tc, b.isScoped = false → s.mem ((c : Thread nD τ).loc b) = W2 m c (Proc.devRef .tc b))
    (hfin := fun c s' => by
      unfold StableHlo.held
      iintro ⟨Hh, HSI⟩
      ihave Hr := (pointsTo_read_all (Pipeline.ucRefs τ sig) (fun b => ((c : Thread nD τ).1, b)) (W2 m c) s') $$ [Hh HSI]
      · isplitl [Hh] <;> iassumption
      icases Hr with ⟨%h, HSI⟩
      imodintro
      isplitr
      · ipureintro
        intro b hb
        exact h (Proc.devRef .tc b) (Finset.mem_filter.mpr ⟨StableHlo.devRef_mem_tcRefs b, by
          intro h'; exact Bool.false_ne_true (hb.symm.trans h')⟩)
      · iexact HSI)
    (hQ := fun _ h hz => ⟨h, funext fun g => hz g (.inr (scoped_all g.2))⟩)

end Cert.KernelIdeal.Run

end
-- ==== Proof.RefOps.lean ====
/- The operations of the reference: @main is a stretch, a counted loop over the chunks going forwards, a stretch, a counted loop
   over the chunks going backwards, and a last stretch. Each stretch as a list, the buffers it writes, and @main and the two loop
   bodies as chains of stretches. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Loops

open Idealize.ShloMosaic Idealize.ShloMosaic.TcCoe Idealize.ShloMosaic.StableHlo Cert.ReferenceIdeal.Gen
open Idealize.SL Idealize.SL.RA Idealize.SL.BI
open scoped Idealize.SL.BI
open Idealize.SL.BI.BIBase Idealize.SL.Sem

variable {F : FTy → Type} [FloatOps F]

/-- Arrays of float32, and of words. -/
local notation "Arr" s:max => BufTy.Contents (Elt F) (BufTy.mk s EltTy.f32)
local notation "Word" s:max => BufTy.Contents (Elt F) (BufTy.mk s EltTy.i32)

/-- A list of operations. -/
local notation "Ops" => List (HloOp τ sig (Elt F))

/-- An operation that touches the device's own buffers only, and one that leaves no buffer to settle. -/
abbrev Ours (op : HloOp τ sig (Elt F)) : Prop := op.bufs ⊆ tcRefs τ sig
abbrev Settled (op : HloOp τ sig (Elt F)) : Prop := op.fresh = ∅

/-- Operations that write to the buffers `W` only. -/
abbrev Writes (ops : Ops) (W : List (Ref sig .tc)) : Prop := ops.Forall fun op => op.writes ⊆ (W.map (Proc.devRef (τ := τ) .tc)).toFinset

/-- 30 host operations of @main, in order. -/
abbrev hostOps0 : Ops :=
  [ nullary main_cst (constant S_ .f32 0x00000000#32),
    unary main_cst main_v0 (broadcastInDim S6x128x128 ![] bcast_S_S6x128x128 : Arr S_ → Arr S6x128x128),
    reshape main_arg0 main_v1 (rfl : (.f32 : EltTy) = .f32) shapeCasts_S2048x768_S32x64x6x128,
    unary main_v1 main_v2 ((transpose S32x6x64x128 [0, 2, 1, 3] · transposes_S32x64x6x128_S32x6x64x128_0_2_1_3) : Arr S32x64x6x128 → Arr S32x6x64x128),
    reshape main_arg1 main_v3 (rfl : (.f32 : EltTy) = .f32) shapeCasts_S2048x768_S32x64x6x128,
    unary main_v3 main_v4 ((transpose S32x6x64x128 [0, 2, 1, 3] · transposes_S32x64x6x128_S32x6x64x128_0_2_1_3) : Arr S32x64x6x128 → Arr S32x6x64x128),
    reshape main_arg2 main_v5 (rfl : (.f32 : EltTy) = .f32) shapeCasts_S2048x768_S32x64x6x128,
    unary main_v5 main_v6 ((transpose S32x6x64x128 [0, 2, 1, 3] · transposes_S32x64x6x128_S32x6x64x128_0_2_1_3) : Arr S32x64x6x128 → Arr S32x6x64x128),
    unary main_arg4 main_v7 ((transpose S32x6x64x64 [1, 0, 2, 3] · transposes_S6x32x64x64_S32x6x64x64_1_0_2_3) : Arr S6x32x64x64 → Arr S32x6x64x64),
    reshape main_arg3 main_v8 (rfl : (.f32 : EltTy) = .f32) shapeCasts_S2048x768_S32x64x6x128,
    unary main_v8 main_v9 ((transpose S32x6x64x128 [0, 2, 1, 3] · transposes_S32x64x6x128_S32x6x64x128_0_2_1_3) : Arr S32x64x6x128 → Arr S32x6x64x128),
    unary main_arg5 main_v10 ((transpose S32x6x1x128 [1, 0, 2, 3] · transposes_S6x32x1x128_S32x6x1x128_1_0_2_3) : Arr S6x32x1x128 → Arr S32x6x1x128),
    nullary main_cst_0 (constant S_ .f32 0x00000000#32),
    unary main_cst_0 main_v11 (broadcastInDim S32x6x64x128 ![] bcast_S_S32x6x64x128 : Arr S_ → Arr S32x6x64x128),
    nullary main_cst_1 (constant S_ .f32 0x00000000#32),
    unary main_cst_1 main_v12 (broadcastInDim S32x6x128x128 ![] bcast_S_S32x6x128x128 : Arr S_ → Arr S32x6x128x128),
    nullary main_cst_2 (constant S_ .f32 0x00000000#32),
    unary main_cst_2 main_v13 (broadcastInDim S32x6x64x128 ![] bcast_S_S32x6x64x128 : Arr S_ → Arr S32x6x64x128),
    nullary main_c (constantI S_ 32 0#32),
    unary main_v2 main_v14_0 id,
    unary main_v4 main_v14_1 id,
    unary main_v6 main_v14_2 id,
    unary main_v7 main_v14_3 id,
    unary main_v9 main_v14_4 id,
    unary main_v10 main_v14_5 id,
    unary main_c main_v14_6 id,
    unary main_v0 main_v14_7 id,
    unary main_v11 main_v14_8 id,
    unary main_v12 main_v14_9 id,
    unary main_v13 main_v14_10 id ]
/-- Each touches TensorCore references only (`HostSeg.ofOps` over `tcRefs`, or a subset by `sub_ucRefs`). -/
theorem hostOps0_sub : (hostOps0 : Ops).Forall Ours :=
  ⟨nullary_bufs_sub .., unary_bufs_sub .., reshape_bufs_sub .., unary_bufs_sub .., reshape_bufs_sub .., unary_bufs_sub .., reshape_bufs_sub .., unary_bufs_sub .., unary_bufs_sub .., reshape_bufs_sub .., unary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- 37 host operations of @main, in order. -/
abbrev hostOps0_1 : Ops :=
  ( unary main_v14_8 main_v15 ((transpose S32x64x6x128 [0, 2, 1, 3] · transposes_S32x6x64x128_S32x64x6x128_0_2_1_3) : Arr S32x6x64x128 → Arr S32x64x6x128)
  :: reshape main_v15 main_v16 (rfl : (.f32 : EltTy) = .f32) shapeCasts_S32x64x6x128_S2048x768
  :: nullary main_cst_3 (constant S_ .f32 0x00000000#32)
  :: unary main_cst_3 main_v17 (broadcastInDim S6x128x128 ![] bcast_S_S6x128x128 : Arr S_ → Arr S6x128x128)
  :: reshape main_arg6 main_v18 (rfl : (.f32 : EltTy) = .f32) shapeCasts_S2048x768_S32x64x6x128
  :: unary main_v18 main_v19 ((transpose S32x6x64x128 [0, 2, 1, 3] · transposes_S32x64x6x128_S32x6x64x128_0_2_1_3) : Arr S32x64x6x128 → Arr S32x6x64x128)
  :: nullary main_cst_4 (constant S_ .f32 0x00000000#32)
  :: unary main_cst_4 main_v20 (broadcastInDim S6x128x128 ![] bcast_S_S6x128x128 : Arr S_ → Arr S6x128x128)
  :: nullary main_cst_5 (constant S_ .f32 0x00000000#32)
  :: unary main_cst_5 main_v21 (broadcastInDim S32x6x64x128 ![] bcast_S_S32x6x64x128 : Arr S_ → Arr S32x6x64x128)
  :: nullary main_cst_6 (constant S_ .f32 0x00000000#32)
  :: unary main_cst_6 main_v22 (broadcastInDim S32x6x64x128 ![] bcast_S_S32x6x64x128 : Arr S_ → Arr S32x6x64x128)
  :: nullary main_cst_7 (constant S_ .f32 0x00000000#32)
  :: unary main_cst_7 main_v23 (broadcastInDim S32x6x64x128 ![] bcast_S_S32x6x64x128 : Arr S_ → Arr S32x6x64x128)
  :: nullary main_cst_8 (constant S_ .f32 0x00000000#32)
  :: unary main_cst_8 main_v24 (broadcastInDim S32x6x64x64 ![] bcast_S_S32x6x64x64 : Arr S_ → Arr S32x6x64x64)
  :: nullary main_cst_9 (constant S_ .f32 0x00000000#32)
  :: unary main_cst_9 main_v25 (broadcastInDim S32x6x64x128 ![] bcast_S_S32x6x64x128 : Arr S_ → Arr S32x6x64x128)
  :: nullary main_cst_10 (constant S_ .f32 0x00000000#32)
  :: unary main_cst_10 main_v26 (broadcastInDim S32x6x1x128 ![] bcast_S_S32x6x1x128 : Arr S_ → Arr S32x6x1x128)
  :: nullary main_c_11 (constantI S_ 32 0#32)
  :: unary main_v19 main_v27_0 id
  :: unary main_v14_9 main_v27_1 id
  :: unary main_v4 main_v27_2 id
  :: unary main_v6 main_v27_3 id
  :: unary main_v14_10 main_v27_4 id
  :: unary main_v7 main_v27_5 id
  :: unary main_v10 main_v27_6 id
  :: unary main_v9 main_v27_7 id
  :: unary main_c_11 main_v27_8 id
  :: unary main_v20 main_v27_9 id
  :: unary main_v21 main_v27_10 id
  :: unary main_v22 main_v27_11 id
  :: unary main_v23 main_v27_12 id
  :: unary main_v24 main_v27_13 id
  :: unary main_v25 main_v27_14 id
  :: unary main_v26 main_v27_15 id
  :: [] )
theorem hostOps0_1_sub : (hostOps0_1 : Ops).Forall Ours :=
  ⟨unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- 10 host operations of @main, in order. -/
abbrev hostOps0_2 : Ops :=
  [ unary main_v27_15 main_v28 ((transpose S6x32x1x128 [1, 0, 2, 3] · transposes_S32x6x1x128_S6x32x1x128_1_0_2_3) : Arr S32x6x1x128 → Arr S6x32x1x128),
    unary main_v27_14 main_v29 ((transpose S32x64x6x128 [0, 2, 1, 3] · transposes_S32x6x64x128_S32x64x6x128_0_2_1_3) : Arr S32x6x64x128 → Arr S32x64x6x128),
    reshape main_v29 main_v30 (rfl : (.f32 : EltTy) = .f32) shapeCasts_S32x64x6x128_S2048x768,
    unary main_v27_13 main_v31 ((transpose S6x32x64x64 [1, 0, 2, 3] · transposes_S32x6x64x64_S6x32x64x64_1_0_2_3) : Arr S32x6x64x64 → Arr S6x32x64x64),
    unary main_v27_12 main_v32 ((transpose S32x64x6x128 [0, 2, 1, 3] · transposes_S32x6x64x128_S32x64x6x128_0_2_1_3) : Arr S32x6x64x128 → Arr S32x64x6x128),
    reshape main_v32 main_v33 (rfl : (.f32 : EltTy) = .f32) shapeCasts_S32x64x6x128_S2048x768,
    unary main_v27_11 main_v34 ((transpose S32x64x6x128 [0, 2, 1, 3] · transposes_S32x6x64x128_S32x64x6x128_0_2_1_3) : Arr S32x6x64x128 → Arr S32x64x6x128),
    reshape main_v34 main_v35 (rfl : (.f32 : EltTy) = .f32) shapeCasts_S32x64x6x128_S2048x768,
    unary main_v27_10 main_v36 ((transpose S32x64x6x128 [0, 2, 1, 3] · transposes_S32x6x64x128_S32x64x6x128_0_2_1_3) : Arr S32x6x64x128 → Arr S32x64x6x128),
    reshape main_v36 main_v37 (rfl : (.f32 : EltTy) = .f32) shapeCasts_S32x64x6x128_S2048x768 ]
theorem hostOps0_2_sub : (hostOps0_2 : Ops).Forall Ours :=
  ⟨unary_bufs_sub .., unary_bufs_sub .., reshape_bufs_sub .., unary_bufs_sub .., unary_bufs_sub .., reshape_bufs_sub .., unary_bufs_sub .., reshape_bufs_sub .., unary_bufs_sub .., reshape_bufs_sub ..⟩
/-- 30 host operations of @main, window 0 (statements 1 … 60), in order. -/
abbrev main_part0_ops0 : Ops :=
  [ nullary main_cst (constant S_ .f32 0x00000000#32),
    unary main_cst main_v0 (broadcastInDim S6x128x128 ![] bcast_S_S6x128x128 : Arr S_ → Arr S6x128x128),
    reshape main_arg0 main_v1 (rfl : (.f32 : EltTy) = .f32) shapeCasts_S2048x768_S32x64x6x128,
    unary main_v1 main_v2 ((transpose S32x6x64x128 [0, 2, 1, 3] · transposes_S32x64x6x128_S32x6x64x128_0_2_1_3) : Arr S32x64x6x128 → Arr S32x6x64x128),
    reshape main_arg1 main_v3 (rfl : (.f32 : EltTy) = .f32) shapeCasts_S2048x768_S32x64x6x128,
    unary main_v3 main_v4 ((transpose S32x6x64x128 [0, 2, 1, 3] · transposes_S32x64x6x128_S32x6x64x128_0_2_1_3) : Arr S32x64x6x128 → Arr S32x6x64x128),
    reshape main_arg2 main_v5 (rfl : (.f32 : EltTy) = .f32) shapeCasts_S2048x768_S32x64x6x128,
    unary main_v5 main_v6 ((transpose S32x6x64x128 [0, 2, 1, 3] · transposes_S32x64x6x128_S32x6x64x128_0_2_1_3) : Arr S32x64x6x128 → Arr S32x6x64x128),
    unary main_arg4 main_v7 ((transpose S32x6x64x64 [1, 0, 2, 3] · transposes_S6x32x64x64_S32x6x64x64_1_0_2_3) : Arr S6x32x64x64 → Arr S32x6x64x64),
    reshape main_arg3 main_v8 (rfl : (.f32 : EltTy) = .f32) shapeCasts_S2048x768_S32x64x6x128,
    unary main_v8 main_v9 ((transpose S32x6x64x128 [0, 2, 1, 3] · transposes_S32x64x6x128_S32x6x64x128_0_2_1_3) : Arr S32x64x6x128 → Arr S32x6x64x128),
    unary main_arg5 main_v10 ((transpose S32x6x1x128 [1, 0, 2, 3] · transposes_S6x32x1x128_S32x6x1x128_1_0_2_3) : Arr S6x32x1x128 → Arr S32x6x1x128),
    nullary main_cst_0 (constant S_ .f32 0x00000000#32),
    unary main_cst_0 main_v11 (broadcastInDim S32x6x64x128 ![] bcast_S_S32x6x64x128 : Arr S_ → Arr S32x6x64x128),
    nullary main_cst_1 (constant S_ .f32 0x00000000#32),
    unary main_cst_1 main_v12 (broadcastInDim S32x6x128x128 ![] bcast_S_S32x6x128x128 : Arr S_ → Arr S32x6x128x128),
    nullary main_cst_2 (constant S_ .f32 0x00000000#32),
    unary main_cst_2 main_v13 (broadcastInDim S32x6x64x128 ![] bcast_S_S32x6x64x128 : Arr S_ → Arr S32x6x64x128),
    nullary main_c (constantI S_ 32 0#32),
    unary main_v2 main_v14_0 id,
    unary main_v4 main_v14_1 id,
    unary main_v6 main_v14_2 id,
    unary main_v7 main_v14_3 id,
    unary main_v9 main_v14_4 id,
    unary main_v10 main_v14_5 id,
    unary main_c main_v14_6 id,
    unary main_v0 main_v14_7 id,
    unary main_v11 main_v14_8 id,
    unary main_v12 main_v14_9 id,
    unary main_v13 main_v14_10 id ]
theorem main_part0_ops0_sub : (main_part0_ops0 : Ops).Forall Ours :=
  ⟨nullary_bufs_sub .., unary_bufs_sub .., reshape_bufs_sub .., unary_bufs_sub .., reshape_bufs_sub .., unary_bufs_sub .., reshape_bufs_sub .., unary_bufs_sub .., unary_bufs_sub .., reshape_bufs_sub .., unary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- 29 host operations of @main, window 0 (statements 1 … 60), in order. -/
abbrev main_part0_ops1 : Ops :=
  [ unary main_v14_8 main_v15 ((transpose S32x64x6x128 [0, 2, 1, 3] · transposes_S32x6x64x128_S32x64x6x128_0_2_1_3) : Arr S32x6x64x128 → Arr S32x64x6x128),
    reshape main_v15 main_v16 (rfl : (.f32 : EltTy) = .f32) shapeCasts_S32x64x6x128_S2048x768,
    nullary main_cst_3 (constant S_ .f32 0x00000000#32),
    unary main_cst_3 main_v17 (broadcastInDim S6x128x128 ![] bcast_S_S6x128x128 : Arr S_ → Arr S6x128x128),
    reshape main_arg6 main_v18 (rfl : (.f32 : EltTy) = .f32) shapeCasts_S2048x768_S32x64x6x128,
    unary main_v18 main_v19 ((transpose S32x6x64x128 [0, 2, 1, 3] · transposes_S32x64x6x128_S32x6x64x128_0_2_1_3) : Arr S32x64x6x128 → Arr S32x6x64x128),
    nullary main_cst_4 (constant S_ .f32 0x00000000#32),
    unary main_cst_4 main_v20 (broadcastInDim S6x128x128 ![] bcast_S_S6x128x128 : Arr S_ → Arr S6x128x128),
    nullary main_cst_5 (constant S_ .f32 0x00000000#32),
    unary main_cst_5 main_v21 (broadcastInDim S32x6x64x128 ![] bcast_S_S32x6x64x128 : Arr S_ → Arr S32x6x64x128),
    nullary main_cst_6 (constant S_ .f32 0x00000000#32),
    unary main_cst_6 main_v22 (broadcastInDim S32x6x64x128 ![] bcast_S_S32x6x64x128 : Arr S_ → Arr S32x6x64x128),
    nullary main_cst_7 (constant S_ .f32 0x00000000#32),
    unary main_cst_7 main_v23 (broadcastInDim S32x6x64x128 ![] bcast_S_S32x6x64x128 : Arr S_ → Arr S32x6x64x128),
    nullary main_cst_8 (constant S_ .f32 0x00000000#32),
    unary main_cst_8 main_v24 (broadcastInDim S32x6x64x64 ![] bcast_S_S32x6x64x64 : Arr S_ → Arr S32x6x64x64),
    nullary main_cst_9 (constant S_ .f32 0x00000000#32),
    unary main_cst_9 main_v25 (broadcastInDim S32x6x64x128 ![] bcast_S_S32x6x64x128 : Arr S_ → Arr S32x6x64x128),
    nullary main_cst_10 (constant S_ .f32 0x00000000#32),
    unary main_cst_10 main_v26 (broadcastInDim S32x6x1x128 ![] bcast_S_S32x6x1x128 : Arr S_ → Arr S32x6x1x128),
    nullary main_c_11 (constantI S_ 32 0#32),
    unary main_v19 main_v27_0 id,
    unary main_v14_9 main_v27_1 id,
    unary main_v4 main_v27_2 id,
    unary main_v6 main_v27_3 id,
    unary main_v14_10 main_v27_4 id,
    unary main_v7 main_v27_5 id,
    unary main_v10 main_v27_6 id,
    unary main_v9 main_v27_7 id ]
theorem main_part0_ops1_sub : (main_part0_ops1 : Ops).Forall Ours :=
  ⟨unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ seq main_part0_ops0,
    HostLoop.enter 0 ]
  (seq main_part0_ops1) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

/-- 8 host operations of @main, window 1 (statements 61 … 80), in order. -/
abbrev main_part1_ops0 : Ops :=
  [ unary main_c_11 main_v27_8 id,
    unary main_v20 main_v27_9 id,
    unary main_v21 main_v27_10 id,
    unary main_v22 main_v27_11 id,
    unary main_v23 main_v27_12 id,
    unary main_v24 main_v27_13 id,
    unary main_v25 main_v27_14 id,
    unary main_v26 main_v27_15 id ]
theorem main_part1_ops0_sub : (main_part1_ops0 : Ops).Forall Ours :=
  ⟨unary_bufs_sub .., unary_bufs_sub .., unary_bufs_sub .., unary_bufs_sub .., unary_bufs_sub .., unary_bufs_sub .., unary_bufs_sub .., unary_bufs_sub ..⟩
/-- 10 host operations of @main, window 1 (statements 61 … 80), in order. -/
abbrev main_part1_ops1 : Ops :=
  [ unary main_v27_15 main_v28 ((transpose S6x32x1x128 [1, 0, 2, 3] · transposes_S32x6x1x128_S6x32x1x128_1_0_2_3) : Arr S32x6x1x128 → Arr S6x32x1x128),
    unary main_v27_14 main_v29 ((transpose S32x64x6x128 [0, 2, 1, 3] · transposes_S32x6x64x128_S32x64x6x128_0_2_1_3) : Arr S32x6x64x128 → Arr S32x64x6x128),
    reshape main_v29 main_v30 (rfl : (.f32 : EltTy) = .f32) shapeCasts_S32x64x6x128_S2048x768,
    unary main_v27_13 main_v31 ((transpose S6x32x64x64 [1, 0, 2, 3] · transposes_S32x6x64x64_S6x32x64x64_1_0_2_3) : Arr S32x6x64x64 → Arr S6x32x64x64),
    unary main_v27_12 main_v32 ((transpose S32x64x6x128 [0, 2, 1, 3] · transposes_S32x6x64x128_S32x64x6x128_0_2_1_3) : Arr S32x6x64x128 → Arr S32x64x6x128),
    reshape main_v32 main_v33 (rfl : (.f32 : EltTy) = .f32) shapeCasts_S32x64x6x128_S2048x768,
    unary main_v27_11 main_v34 ((transpose S32x64x6x128 [0, 2, 1, 3] · transposes_S32x6x64x128_S32x64x6x128_0_2_1_3) : Arr S32x6x64x128 → Arr S32x64x6x128),
    reshape main_v34 main_v35 (rfl : (.f32 : EltTy) = .f32) shapeCasts_S32x64x6x128_S2048x768,
    unary main_v27_10 main_v36 ((transpose S32x64x6x128 [0, 2, 1, 3] · transposes_S32x6x64x128_S32x64x6x128_0_2_1_3) : Arr S32x6x64x128 → Arr S32x64x6x128),
    reshape main_v36 main_v37 (rfl : (.f32 : EltTy) = .f32) shapeCasts_S32x64x6x128_S2048x768 ]
theorem main_part1_ops1_sub : (main_part1_ops1 : Ops).Forall Ours :=
  ⟨unary_bufs_sub .., unary_bufs_sub .., reshape_bufs_sub .., unary_bufs_sub .., unary_bufs_sub .., reshape_bufs_sub .., unary_bufs_sub .., reshape_bufs_sub .., unary_bufs_sub .., reshape_bufs_sub ..⟩
/-- The last window of `main` (`main_part1`, statements 61 … 80) is the chain of ITS items, each item aligned with the window's
    statements, then `chain_rfl`. -/
theorem main_part1_chain (c : Dev nD) : main_part1 (F := F) c = (Pipeline.chain
  [ seq main_part1_ops0,
    HostLoop.enter 1,
    seq main_part1_ops1 ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ seq main_part0_ops0,
    HostLoop.enter 0,
    seq main_part0_ops1,
    seq main_part1_ops0,
    HostLoop.enter 1,
    seq main_part1_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1, main_part1_ops0],
    .prog (HostLoop.enter 1),
    .ops [main_part1_ops1] ]

/-- The windows' item list is `main_groups` with each stretch cut into its window pieces (`StableHlo.Group.cut`): the two
    lists are the same, by `chain_rfl`. -/
theorem main_chain_cut (c : Dev nD) : (Pipeline.chain
  [ seq main_part0_ops0,
    HostLoop.enter 0,
    seq main_part0_ops1,
    seq main_part1_ops0,
    HostLoop.enter 1,
    seq main_part1_ops1 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ seq hostOps0,
    HostLoop.enter 0,
    seq hostOps0_1,
    HostLoop.enter 1,
    seq hostOps0_2 ] : Prog (TpuEff nD τ sig (Elt F) (HostLoop.Sig (Pipeline.Sig Λ₀ (Fin 0) fun p => (pcfgs (F := F) p).Adm) 2) .tc) PUnit) := by
  chain_rfl

/-- `main` is the chain of its items (`Pipeline.chain`): operation stretches, regions, loops and branches in
    order, a module-local function called from it a stretch of its own. Assembled from its 2 windows'
    equations (`main_chain_windows`: the chain cut at the window boundaries); `chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ seq hostOps0,
    HostLoop.enter 0,
    seq hostOps0_1,
    HostLoop.enter 1,
    seq hostOps0_2 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (chain_cut_eq_whole (main_groups (F := F) c)).trans (main_chain_whole (F := F) c)

-- no `main_segs` (the loop-free kit's `Seg.run` equation) for this @main: it has a host loop; a certificate takes `main_chain` (Lib/Pipeline/RegionsLoop.lean)

/-- 5 host operations of @dynamic_index_in_dim (main_while0b_call0), in order. -/
abbrev while0Ops0 : Ops :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.nullary (.of main_while0b_call0_c_1 : TRef sig ⟨S_, .i32⟩) (constantI S_ 32 0#32),
    TRef.unaryIndexed (.of main_v14_0 : TRef sig ⟨S32x6x64x128, .f32⟩) ![(.of main_v14_6 : TRef sig ⟨S_, .i32⟩), (.of main_while0b_call0_c : TRef sig ⟨S_, .i32⟩), (.of main_while0b_call0_c_0 : TRef sig ⟨S_, .i32⟩), (.of main_while0b_call0_c_1 : TRef sig ⟨S_, .i32⟩)] (.of main_while0b_call0_v0 : TRef sig ⟨S1x6x64x128, .f32⟩) (fun x i => Host.dynamicSlice S1x6x64x128 x (fun k => (i k (Shape.Idx.first h_S_)).toInt) sliceFits_S32x6x64x128_S1x6x64x128),
    TRef.reshape (.of main_while0b_call0_v0 : TRef sig ⟨S1x6x64x128, .f32⟩) (.of main_while0b_v38 : TRef sig ⟨S6x64x128, .f32⟩) (rfl : (.f32 : EltTy) = .f32) shapeCasts_S1x6x64x128_S6x64x128 ]
theorem while0Ops0_sub : (while0Ops0 : Ops).Forall Ours :=
  ⟨nullary_bufs_sub .., nullary_bufs_sub .., nullary_bufs_sub .., unaryIndexed_bufs_sub .., reshape_bufs_sub ..⟩
/-- 5 host operations of @dynamic_index_in_dim (main_while0b_call1), in order. -/
abbrev while0Ops0_1 : Ops :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.unaryIndexed (.of main_v14_1 : TRef sig ⟨S32x6x64x128, .f32⟩) ![(.of main_v14_6 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩)] (.of main_while0b_call1_v0 : TRef sig ⟨S1x6x64x128, .f32⟩) (fun x i => Host.dynamicSlice S1x6x64x128 x (fun k => (i k (Shape.Idx.first h_S_)).toInt) sliceFits_S32x6x64x128_S1x6x64x128),
    TRef.reshape (.of main_while0b_call1_v0 : TRef sig ⟨S1x6x64x128, .f32⟩) (.of main_while0b_v39 : TRef sig ⟨S6x64x128, .f32⟩) (rfl : (.f32 : EltTy) = .f32) shapeCasts_S1x6x64x128_S6x64x128 ]
theorem while0Ops0_1_sub : (while0Ops0_1 : Ops).Forall Ours :=
  ⟨nullary_bufs_sub .., nullary_bufs_sub .., nullary_bufs_sub .., unaryIndexed_bufs_sub .., reshape_bufs_sub ..⟩
/-- 5 host operations of @dynamic_index_in_dim (main_while0b_call2), in order. -/
abbrev while0Ops0_2 : Ops :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.unaryIndexed (.of main_v14_2 : TRef sig ⟨S32x6x64x128, .f32⟩) ![(.of main_v14_6 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩)] (.of main_while0b_call2_v0 : TRef sig ⟨S1x6x64x128, .f32⟩) (fun x i => Host.dynamicSlice S1x6x64x128 x (fun k => (i k (Shape.Idx.first h_S_)).toInt) sliceFits_S32x6x64x128_S1x6x64x128),
    TRef.reshape (.of main_while0b_call2_v0 : TRef sig ⟨S1x6x64x128, .f32⟩) (.of main_while0b_v40 : TRef sig ⟨S6x64x128, .f32⟩) (rfl : (.f32 : EltTy) = .f32) shapeCasts_S1x6x64x128_S6x64x128 ]
theorem while0Ops0_2_sub : (while0Ops0_2 : Ops).Forall Ours :=
  ⟨nullary_bufs_sub .., nullary_bufs_sub .., nullary_bufs_sub .., unaryIndexed_bufs_sub .., reshape_bufs_sub ..⟩
/-- 5 host operations of @dynamic_index_in_dim_0 (main_while0b_call3), in order. -/
abbrev while0Ops0_3 : Ops :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.unaryIndexed (.of main_v14_3 : TRef sig ⟨S32x6x64x64, .f32⟩) ![(.of main_v14_6 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩)] (.of main_while0b_call3_v0 : TRef sig ⟨S1x6x64x64, .f32⟩) (fun x i => Host.dynamicSlice S1x6x64x64 x (fun k => (i k (Shape.Idx.first h_S_)).toInt) sliceFits_S32x6x64x64_S1x6x64x64),
    TRef.reshape (.of main_while0b_call3_v0 : TRef sig ⟨S1x6x64x64, .f32⟩) (.of main_while0b_v41 : TRef sig ⟨S6x64x64, .f32⟩) (rfl : (.f32 : EltTy) = .f32) shapeCasts_S1x6x64x64_S6x64x64 ]
theorem while0Ops0_3_sub : (while0Ops0_3 : Ops).Forall Ours :=
  ⟨nullary_bufs_sub .., nullary_bufs_sub .., nullary_bufs_sub .., unaryIndexed_bufs_sub .., reshape_bufs_sub ..⟩
/-- 5 host operations of @dynamic_index_in_dim (main_while0b_call4), in order. -/
abbrev while0Ops0_4 : Ops :=
  [ TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.unaryIndexed (.of main_v14_4 : TRef sig ⟨S32x6x64x128, .f32⟩) ![(.of main_v14_6 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩)] (.of main_while0b_call4_v0 : TRef sig ⟨S1x6x64x128, .f32⟩) (fun x i => Host.dynamicSlice S1x6x64x128 x (fun k => (i k (Shape.Idx.first h_S_)).toInt) sliceFits_S32x6x64x128_S1x6x64x128),
    TRef.reshape (.of main_while0b_call4_v0 : TRef sig ⟨S1x6x64x128, .f32⟩) (.of main_while0b_v42 : TRef sig ⟨S6x64x128, .f32⟩) (rfl : (.f32 : EltTy) = .f32) shapeCasts_S1x6x64x128_S6x64x128 ]
theorem while0Ops0_4_sub : (while0Ops0_4 : Ops).Forall Ours :=
  ⟨nullary_bufs_sub .., nullary_bufs_sub .., nullary_bufs_sub .., unaryIndexed_bufs_sub .., reshape_bufs_sub ..⟩
/-- 5 host operations of @dynamic_index_in_dim_1 (main_while0b_call5), in order. -/
abbrev while0Ops0_5 : Ops :=
  [ TRef.nullary (.of main_while0b_call5_c : TRef sig ⟨S_, .i32⟩) (constantI S_ 32 0#32),
    TRef.nullary (.of main_while0b_call5_c_0 : TRef sig ⟨S_, .i32⟩) (constantI S_ 32 0#32),
    TRef.nullary (.of main_while0b_call5_c_1 : TRef sig ⟨S_, .i32⟩) (constantI S_ 32 0#32),
    TRef.unaryIndexed (.of main_v14_5 : TRef sig ⟨S32x6x1x128, .f32⟩) ![(.of main_v14_6 : TRef sig ⟨S_, .i32⟩), (.of main_while0b_call5_c : TRef sig ⟨S_, .i32⟩), (.of main_while0b_call5_c_0 : TRef sig ⟨S_, .i32⟩), (.of main_while0b_call5_c_1 : TRef sig ⟨S_, .i32⟩)] (.of main_while0b_call5_v0 : TRef sig ⟨S1x6x1x128, .f32⟩) (fun x i => Host.dynamicSlice S1x6x1x128 x (fun k => (i k (Shape.Idx.first h_S_)).toInt) sliceFits_S32x6x1x128_S1x6x1x128),
    TRef.reshape (.of main_while0b_call5_v0 : TRef sig ⟨S1x6x1x128, .f32⟩) (.of main_while0b_v43 : TRef sig ⟨S6x1x128, .f32⟩) (rfl : (.f32 : EltTy) = .f32) shapeCasts_S1x6x1x128_S6x1x128 ]
theorem while0Ops0_5_sub : (while0Ops0_5 : Ops).Forall Ours :=
  ⟨nullary_bufs_sub .., nullary_bufs_sub .., nullary_bufs_sub .., unaryIndexed_bufs_sub .., reshape_bufs_sub ..⟩
/-- 9 host operations of host loop 0's body region, in order. -/
abbrev while0Ops0_6 : Ops :=
  [ binary main_while0b_v39 main_v14_7 main_while0b_v44 ((fun l r => Host.dotGeneral dot_S6x64x128_S6x128x128_S6x64x128_2_1_1_2_0_0 none l r) : Arr S6x64x128 → Arr S6x128x128 → Arr S6x64x128),
    binary main_while0b_v38 main_while0b_v44 main_while0b_v45 (subf : Arr S6x64x128 → Arr S6x64x128 → Arr S6x64x128),
    binary main_while0b_v40 main_v14_7 main_while0b_v46 ((fun l r => Host.dotGeneral dot_S6x64x128_S6x128x128_S6x64x128_2_1_1_2_0_0 none l r) : Arr S6x64x128 → Arr S6x128x128 → Arr S6x64x128),
    binary main_while0b_v41 main_while0b_v45 main_while0b_v47 ((fun l r => Host.dotGeneral dot_S6x64x64_S6x64x128_S6x64x128_2_1_1_2_0_0 none l r) : Arr S6x64x64 → Arr S6x64x128 → Arr S6x64x128),
    binary main_while0b_v46 main_while0b_v47 main_while0b_v48 (addf : Arr S6x64x128 → Arr S6x64x128 → Arr S6x64x128),
    unary main_while0b_v43 main_while0b_v49 (broadcastInDim S6x128x128 ![0, 1, 2] bcast_S6x1x128_S6x128x128_0_1_2 : Arr S6x1x128 → Arr S6x128x128),
    binary main_v14_7 main_while0b_v49 main_while0b_v50 (mulf : Arr S6x128x128 → Arr S6x128x128 → Arr S6x128x128),
    binary main_while0b_v42 main_while0b_v45 main_while0b_v51 ((fun l r => Host.dotGeneral dot_S6x64x128_S6x64x128_S6x128x128_1_1_2_2_0_0 none l r) : Arr S6x64x128 → Arr S6x64x128 → Arr S6x128x128),
    binary main_while0b_v50 main_while0b_v51 main_while0b_v52 (addf : Arr S6x128x128 → Arr S6x128x128 → Arr S6x128x128) ]
theorem while0Ops0_6_sub : (while0Ops0_6 : Ops).Forall Ours :=
  ⟨binary_bufs_sub .., binary_bufs_sub .., binary_bufs_sub .., binary_bufs_sub .., binary_bufs_sub .., unary_bufs_sub .., binary_bufs_sub .., binary_bufs_sub .., binary_bufs_sub ..⟩
/-- 5 host operations of @dynamic_update_index_in_dim (main_while0b_call6), in order. -/
abbrev while0Ops0_7 : Ops :=
  [ TRef.unary (.of main_while0b_v48 : TRef sig ⟨S6x64x128, .f32⟩) (.of main_while0b_call6_v0 : TRef sig ⟨S1x6x64x128, .f32⟩) (broadcastInDim S1x6x64x128 ![1, 2, 3] bcast_S6x64x128_S1x6x64x128_1_2_3),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.binaryIndexed (.of main_v14_8 : TRef sig ⟨S32x6x64x128, .f32⟩) (.of main_while0b_call6_v0 : TRef sig ⟨S1x6x64x128, .f32⟩) ![(.of main_v14_6 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩)] (.of main_while0b_v53 : TRef sig ⟨S32x6x64x128, .f32⟩) (fun x u i => Host.dynamicUpdateSlice x u (fun k => (i k (Shape.Idx.first h_S_)).toInt) updateFits_S32x6x64x128_S1x6x64x128) ]
theorem while0Ops0_7_sub : (while0Ops0_7 : Ops).Forall Ours :=
  ⟨unary_bufs_sub .., nullary_bufs_sub .., nullary_bufs_sub .., nullary_bufs_sub .., binaryIndexed_bufs_sub ..⟩
/-- 5 host operations of @dynamic_update_index_in_dim_2 (main_while0b_call7), in order. -/
abbrev while0Ops0_8 : Ops :=
  [ TRef.unary (.of main_v14_7 : TRef sig ⟨S6x128x128, .f32⟩) (.of main_while0b_call7_v0 : TRef sig ⟨S1x6x128x128, .f32⟩) (broadcastInDim S1x6x128x128 ![1, 2, 3] bcast_S6x128x128_S1x6x128x128_1_2_3),
    TRef.nullary (.of main_while0b_call7_c : TRef sig ⟨S_, .i32⟩) (constantI S_ 32 0#32),
    TRef.nullary (.of main_while0b_call7_c_0 : TRef sig ⟨S_, .i32⟩) (constantI S_ 32 0#32),
    TRef.nullary (.of main_while0b_call7_c_1 : TRef sig ⟨S_, .i32⟩) (constantI S_ 32 0#32),
    TRef.binaryIndexed (.of main_v14_9 : TRef sig ⟨S32x6x128x128, .f32⟩) (.of main_while0b_call7_v0 : TRef sig ⟨S1x6x128x128, .f32⟩) ![(.of main_v14_6 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩)] (.of main_while0b_v54 : TRef sig ⟨S32x6x128x128, .f32⟩) (fun x u i => Host.dynamicUpdateSlice x u (fun k => (i k (Shape.Idx.first h_S_)).toInt) updateFits_S32x6x128x128_S1x6x128x128) ]
theorem while0Ops0_8_sub : (while0Ops0_8 : Ops).Forall Ours :=
  ⟨unary_bufs_sub .., nullary_bufs_sub .., nullary_bufs_sub .., nullary_bufs_sub .., binaryIndexed_bufs_sub ..⟩
/-- 5 host operations of @dynamic_update_index_in_dim (main_while0b_call8), in order. -/
abbrev while0Ops0_9 : Ops :=
  [ TRef.unary (.of main_while0b_v45 : TRef sig ⟨S6x64x128, .f32⟩) (.of main_while0b_call8_v0 : TRef sig ⟨S1x6x64x128, .f32⟩) (broadcastInDim S1x6x64x128 ![1, 2, 3] bcast_S6x64x128_S1x6x64x128_1_2_3),
    TRef.nullary (.of main_while0b_call8_c : TRef sig ⟨S_, .i32⟩) (constantI S_ 32 0#32),
    TRef.nullary (.of main_while0b_call8_c_0 : TRef sig ⟨S_, .i32⟩) (constantI S_ 32 0#32),
    TRef.nullary (.of main_while0b_call8_c_1 : TRef sig ⟨S_, .i32⟩) (constantI S_ 32 0#32),
    TRef.binaryIndexed (.of main_v14_10 : TRef sig ⟨S32x6x64x128, .f32⟩) (.of main_while0b_call8_v0 : TRef sig ⟨S1x6x64x128, .f32⟩) ![(.of main_v14_6 : TRef sig ⟨S_, .i32⟩), (.of main_while0b_call8_c : TRef sig ⟨S_, .i32⟩), (.of main_while0b_call8_c_0 : TRef sig ⟨S_, .i32⟩), (.of main_while0b_call8_c_1 : TRef sig ⟨S_, .i32⟩)] (.of main_while0b_v55 : TRef sig ⟨S32x6x64x128, .f32⟩) (fun x u i => Host.dynamicUpdateSlice x u (fun k => (i k (Shape.Idx.first h_S_)).toInt) updateFits_S32x6x64x128_S1x6x64x128) ]
theorem while0Ops0_9_sub : (while0Ops0_9 : Ops).Forall Ours :=
  ⟨unary_bufs_sub .., nullary_bufs_sub .., nullary_bufs_sub .., nullary_bufs_sub .., binaryIndexed_bufs_sub ..⟩
/-- 7 host operations of host loop 0's body region, in order. -/
abbrev while0Ops0_10 : Ops :=
  [ nullary main_while0b_c_22 (constantI S_ 32 1#32),
    binary main_v14_6 main_while0b_c_22 main_while0b_v56 (addi : Word S_ → Word S_ → Word S_),
    unary main_while0b_v56 main_v14_6 id,
    unary main_while0b_v52 main_v14_7 id,
    unary main_while0b_v53 main_v14_8 id,
    unary main_while0b_v54 main_v14_9 id,
    unary main_while0b_v55 main_v14_10 id ]
theorem while0Ops0_10_sub : (while0Ops0_10 : Ops).Forall Ours :=
  ⟨nullary_bufs_sub .., binary_bufs_sub .., unary_bufs_sub .., unary_bufs_sub .., unary_bufs_sub .., unary_bufs_sub .., unary_bufs_sub ..⟩
/-- `main_while0_body` is the chain of its items (`Pipeline.chain`): operation stretches, regions, loops and branches in
    order, a module-local function called from it a stretch of its own. Each item aligned with the block's
    statements (`chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7,
    seq while0Ops0_8,
    seq while0Ops0_9,
    seq while0Ops0_10 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, chain_seq_cons, Pipeline.chain_cons, Pipeline.chain_cons, Pipeline.chain_cons, chain_seq_cons]
  chain_rfl

/-- 4 host operations of host loop 1's body region, in order. -/
abbrev while1Ops0 : Ops :=
  [ nullary main_while1b_c_27 (constantI S_ 32 32#32),
    binary main_while1b_c_27 main_v27_8 main_while1b_v38 (subi : Word S_ → Word S_ → Word S_),
    nullary main_while1b_c_28 (constantI S_ 32 1#32),
    binary main_while1b_v38 main_while1b_c_28 main_while1b_v39 (subi : Word S_ → Word S_ → Word S_) ]
theorem while1Ops0_sub : (while1Ops0 : Ops).Forall Ours :=
  ⟨nullary_bufs_sub .., binary_bufs_sub .., nullary_bufs_sub .., binary_bufs_sub ..⟩
/-- 5 host operations of @dynamic_index_in_dim (main_while1b_call9), in order. -/
abbrev while1Ops0_1 : Ops :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.nullary (.of main_while1b_call9_c_1 : TRef sig ⟨S_, .i32⟩) (constantI S_ 32 0#32),
    TRef.unaryIndexed (.of main_v27_0 : TRef sig ⟨S32x6x64x128, .f32⟩) ![(.of main_while1b_v39 : TRef sig ⟨S_, .i32⟩), (.of main_while1b_call9_c : TRef sig ⟨S_, .i32⟩), (.of main_while1b_call9_c_0 : TRef sig ⟨S_, .i32⟩), (.of main_while1b_call9_c_1 : TRef sig ⟨S_, .i32⟩)] (.of main_while1b_call9_v0 : TRef sig ⟨S1x6x64x128, .f32⟩) (fun x i => Host.dynamicSlice S1x6x64x128 x (fun k => (i k (Shape.Idx.first h_S_)).toInt) sliceFits_S32x6x64x128_S1x6x64x128),
    TRef.reshape (.of main_while1b_call9_v0 : TRef sig ⟨S1x6x64x128, .f32⟩) (.of main_while1b_v40 : TRef sig ⟨S6x64x128, .f32⟩) (rfl : (.f32 : EltTy) = .f32) shapeCasts_S1x6x64x128_S6x64x128 ]
theorem while1Ops0_1_sub : (while1Ops0_1 : Ops).Forall Ours :=
  ⟨nullary_bufs_sub .., nullary_bufs_sub .., nullary_bufs_sub .., unaryIndexed_bufs_sub .., reshape_bufs_sub ..⟩
/-- 5 host operations of @dynamic_index_in_dim_3 (main_while1b_call10), in order. -/
abbrev while1Ops0_2 : Ops :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.unaryIndexed (.of main_v27_1 : TRef sig ⟨S32x6x128x128, .f32⟩) ![(.of main_while1b_v39 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩)] (.of main_while1b_call10_v0 : TRef sig ⟨S1x6x128x128, .f32⟩) (fun x i => Host.dynamicSlice S1x6x128x128 x (fun k => (i k (Shape.Idx.first h_S_)).toInt) sliceFits_S32x6x128x128_S1x6x128x128),
    TRef.reshape (.of main_while1b_call10_v0 : TRef sig ⟨S1x6x128x128, .f32⟩) (.of main_while1b_v41 : TRef sig ⟨S6x128x128, .f32⟩) (rfl : (.f32 : EltTy) = .f32) shapeCasts_S1x6x128x128_S6x128x128 ]
theorem while1Ops0_2_sub : (while1Ops0_2 : Ops).Forall Ours :=
  ⟨nullary_bufs_sub .., nullary_bufs_sub .., nullary_bufs_sub .., unaryIndexed_bufs_sub .., reshape_bufs_sub ..⟩
/-- 5 host operations of @dynamic_index_in_dim (main_while1b_call11), in order. -/
abbrev while1Ops0_3 : Ops :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.unaryIndexed (.of main_v27_2 : TRef sig ⟨S32x6x64x128, .f32⟩) ![(.of main_while1b_v39 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩)] (.of main_while1b_call11_v0 : TRef sig ⟨S1x6x64x128, .f32⟩) (fun x i => Host.dynamicSlice S1x6x64x128 x (fun k => (i k (Shape.Idx.first h_S_)).toInt) sliceFits_S32x6x64x128_S1x6x64x128),
    TRef.reshape (.of main_while1b_call11_v0 : TRef sig ⟨S1x6x64x128, .f32⟩) (.of main_while1b_v42 : TRef sig ⟨S6x64x128, .f32⟩) (rfl : (.f32 : EltTy) = .f32) shapeCasts_S1x6x64x128_S6x64x128 ]
theorem while1Ops0_3_sub : (while1Ops0_3 : Ops).Forall Ours :=
  ⟨nullary_bufs_sub .., nullary_bufs_sub .., nullary_bufs_sub .., unaryIndexed_bufs_sub .., reshape_bufs_sub ..⟩
/-- 5 host operations of @dynamic_index_in_dim (main_while1b_call12), in order. -/
abbrev while1Ops0_4 : Ops :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.unaryIndexed (.of main_v27_3 : TRef sig ⟨S32x6x64x128, .f32⟩) ![(.of main_while1b_v39 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩)] (.of main_while1b_call12_v0 : TRef sig ⟨S1x6x64x128, .f32⟩) (fun x i => Host.dynamicSlice S1x6x64x128 x (fun k => (i k (Shape.Idx.first h_S_)).toInt) sliceFits_S32x6x64x128_S1x6x64x128),
    TRef.reshape (.of main_while1b_call12_v0 : TRef sig ⟨S1x6x64x128, .f32⟩) (.of main_while1b_v43 : TRef sig ⟨S6x64x128, .f32⟩) (rfl : (.f32 : EltTy) = .f32) shapeCasts_S1x6x64x128_S6x64x128 ]
theorem while1Ops0_4_sub : (while1Ops0_4 : Ops).Forall Ours :=
  ⟨nullary_bufs_sub .., nullary_bufs_sub .., nullary_bufs_sub .., unaryIndexed_bufs_sub .., reshape_bufs_sub ..⟩
/-- 5 host operations of @dynamic_index_in_dim (main_while1b_call13), in order. -/
abbrev while1Ops0_5 : Ops :=
  [ TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.unaryIndexed (.of main_v27_4 : TRef sig ⟨S32x6x64x128, .f32⟩) ![(.of main_while1b_v39 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩)] (.of main_while1b_call13_v0 : TRef sig ⟨S1x6x64x128, .f32⟩) (fun x i => Host.dynamicSlice S1x6x64x128 x (fun k => (i k (Shape.Idx.first h_S_)).toInt) sliceFits_S32x6x64x128_S1x6x64x128),
    TRef.reshape (.of main_while1b_call13_v0 : TRef sig ⟨S1x6x64x128, .f32⟩) (.of main_while1b_v44 : TRef sig ⟨S6x64x128, .f32⟩) (rfl : (.f32 : EltTy) = .f32) shapeCasts_S1x6x64x128_S6x64x128 ]
theorem while1Ops0_5_sub : (while1Ops0_5 : Ops).Forall Ours :=
  ⟨nullary_bufs_sub .., nullary_bufs_sub .., nullary_bufs_sub .., unaryIndexed_bufs_sub .., reshape_bufs_sub ..⟩
/-- 5 host operations of @dynamic_index_in_dim_0 (main_while1b_call14), in order. -/
abbrev while1Ops0_6 : Ops :=
  [ TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.unaryIndexed (.of main_v27_5 : TRef sig ⟨S32x6x64x64, .f32⟩) ![(.of main_while1b_v39 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩)] (.of main_while1b_call14_v0 : TRef sig ⟨S1x6x64x64, .f32⟩) (fun x i => Host.dynamicSlice S1x6x64x64 x (fun k => (i k (Shape.Idx.first h_S_)).toInt) sliceFits_S32x6x64x64_S1x6x64x64),
    TRef.reshape (.of main_while1b_call14_v0 : TRef sig ⟨S1x6x64x64, .f32⟩) (.of main_while1b_v45 : TRef sig ⟨S6x64x64, .f32⟩) (rfl : (.f32 : EltTy) = .f32) shapeCasts_S1x6x64x64_S6x64x64 ]
theorem while1Ops0_6_sub : (while1Ops0_6 : Ops).Forall Ours :=
  ⟨nullary_bufs_sub .., nullary_bufs_sub .., nullary_bufs_sub .., unaryIndexed_bufs_sub .., reshape_bufs_sub ..⟩
/-- 5 host operations of @dynamic_index_in_dim_1 (main_while1b_call15), in order. -/
abbrev while1Ops0_7 : Ops :=
  [ TRef.nullary (.of main_while1b_call15_c : TRef sig ⟨S_, .i32⟩) (constantI S_ 32 0#32),
    TRef.nullary (.of main_while1b_call15_c_0 : TRef sig ⟨S_, .i32⟩) (constantI S_ 32 0#32),
    TRef.nullary (.of main_while1b_call15_c_1 : TRef sig ⟨S_, .i32⟩) (constantI S_ 32 0#32),
    TRef.unaryIndexed (.of main_v27_6 : TRef sig ⟨S32x6x1x128, .f32⟩) ![(.of main_while1b_v39 : TRef sig ⟨S_, .i32⟩), (.of main_while1b_call15_c : TRef sig ⟨S_, .i32⟩), (.of main_while1b_call15_c_0 : TRef sig ⟨S_, .i32⟩), (.of main_while1b_call15_c_1 : TRef sig ⟨S_, .i32⟩)] (.of main_while1b_call15_v0 : TRef sig ⟨S1x6x1x128, .f32⟩) (fun x i => Host.dynamicSlice S1x6x1x128 x (fun k => (i k (Shape.Idx.first h_S_)).toInt) sliceFits_S32x6x1x128_S1x6x1x128),
    TRef.reshape (.of main_while1b_call15_v0 : TRef sig ⟨S1x6x1x128, .f32⟩) (.of main_while1b_v46 : TRef sig ⟨S6x1x128, .f32⟩) (rfl : (.f32 : EltTy) = .f32) shapeCasts_S1x6x1x128_S6x1x128 ]
theorem while1Ops0_7_sub : (while1Ops0_7 : Ops).Forall Ours :=
  ⟨nullary_bufs_sub .., nullary_bufs_sub .., nullary_bufs_sub .., unaryIndexed_bufs_sub .., reshape_bufs_sub ..⟩
/-- 5 host operations of @dynamic_index_in_dim (main_while1b_call16), in order. -/
abbrev while1Ops0_8 : Ops :=
  [ TRef.nullary (.of main_while1b_call16_c : TRef sig ⟨S_, .i32⟩) (constantI S_ 32 0#32),
    TRef.nullary (.of main_while1b_call16_c_0 : TRef sig ⟨S_, .i32⟩) (constantI S_ 32 0#32),
    TRef.nullary (.of main_while1b_call16_c_1 : TRef sig ⟨S_, .i32⟩) (constantI S_ 32 0#32),
    TRef.unaryIndexed (.of main_v27_7 : TRef sig ⟨S32x6x64x128, .f32⟩) ![(.of main_while1b_v39 : TRef sig ⟨S_, .i32⟩), (.of main_while1b_call16_c : TRef sig ⟨S_, .i32⟩), (.of main_while1b_call16_c_0 : TRef sig ⟨S_, .i32⟩), (.of main_while1b_call16_c_1 : TRef sig ⟨S_, .i32⟩)] (.of main_while1b_call16_v0 : TRef sig ⟨S1x6x64x128, .f32⟩) (fun x i => Host.dynamicSlice S1x6x64x128 x (fun k => (i k (Shape.Idx.first h_S_)).toInt) sliceFits_S32x6x64x128_S1x6x64x128),
    TRef.reshape (.of main_while1b_call16_v0 : TRef sig ⟨S1x6x64x128, .f32⟩) (.of main_while1b_v47 : TRef sig ⟨S6x64x128, .f32⟩) (rfl : (.f32 : EltTy) = .f32) shapeCasts_S1x6x64x128_S6x64x128 ]
theorem while1Ops0_8_sub : (while1Ops0_8 : Ops).Forall Ours :=
  ⟨nullary_bufs_sub .., nullary_bufs_sub .., nullary_bufs_sub .., unaryIndexed_bufs_sub .., reshape_bufs_sub ..⟩
/-- 23 host operations of host loop 1's body region, in order. -/
abbrev while1Ops0_9 : Ops :=
  [ binary main_v27_9 main_while1b_v47 main_while1b_v48 ((fun l r => Host.dotGeneral dot_S6x128x128_S6x64x128_S6x128x64_1_2_2_1_0_0 none l r) : Arr S6x128x128 → Arr S6x64x128 → Arr S6x128x64),
    unary main_while1b_v48 main_while1b_v49 ((transpose S6x64x128 [0, 2, 1] · transposes_S6x128x64_S6x64x128_0_2_1) : Arr S6x128x64 → Arr S6x64x128),
    binary main_v27_9 main_while1b_v44 main_while1b_v50 ((fun l r => Host.dotGeneral dot_S6x128x128_S6x64x128_S6x128x64_2_2_1_1_0_0 none l r) : Arr S6x128x128 → Arr S6x64x128 → Arr S6x128x64),
    unary main_while1b_v50 main_while1b_v51 ((transpose S6x64x128 [0, 2, 1] · transposes_S6x128x64_S6x64x128_0_2_1) : Arr S6x128x64 → Arr S6x64x128),
    binary main_while1b_v41 main_v27_9 main_while1b_v52 (mulf : Arr S6x128x128 → Arr S6x128x128 → Arr S6x128x128),
    nullary main_while1b_cst_29 (constant S_ .f32 0x00000000#32),
    binary main_while1b_v52 main_while1b_cst_29 main_while1b_v53 ((fun x v => Host.reduceAdd x v reducesTo_S6x128x128_S6x128_d1 h_S_) : Arr S6x128x128 → Arr S_ → Arr S6x128),
    reshape main_while1b_v53 main_while1b_v54 (rfl : (.f32 : EltTy) = .f32) shapeCasts_S6x128_S6x1x128,
    unary main_while1b_v46 main_while1b_v55 (broadcastInDim S6x128x128 ![0, 1, 2] bcast_S6x1x128_S6x128x128_0_1_2 : Arr S6x1x128 → Arr S6x128x128),
    binary main_v27_9 main_while1b_v55 main_while1b_v56 (mulf : Arr S6x128x128 → Arr S6x128x128 → Arr S6x128x128),
    binary main_while1b_v40 main_while1b_v45 main_while1b_v57 ((fun l r => Host.dotGeneral dot_S6x64x128_S6x64x64_S6x128x64_1_1_2_2_0_0 none l r) : Arr S6x64x128 → Arr S6x64x64 → Arr S6x128x64),
    unary main_while1b_v57 main_while1b_v58 ((transpose S6x64x128 [0, 2, 1] · transposes_S6x128x64_S6x64x128_0_2_1) : Arr S6x128x64 → Arr S6x64x128),
    binary main_while1b_v49 main_while1b_v58 main_while1b_v59 (addf : Arr S6x64x128 → Arr S6x64x128 → Arr S6x64x128),
    binary main_while1b_v40 main_while1b_v44 main_while1b_v60 ((fun l r => Host.dotGeneral dot_S6x64x128_S6x64x128_S6x64x64_2_2_1_1_0_0 none l r) : Arr S6x64x128 → Arr S6x64x128 → Arr S6x64x64),
    binary main_while1b_v40 main_while1b_v43 main_while1b_v61 ((fun l r => Host.dotGeneral dot_S6x64x128_S6x64x128_S6x128x128_1_1_2_2_0_0 none l r) : Arr S6x64x128 → Arr S6x64x128 → Arr S6x128x128),
    unary main_while1b_v61 main_while1b_v62 ((transpose S6x128x128 [0, 2, 1] · transposes_S6x128x128_S6x128x128_0_2_1) : Arr S6x128x128 → Arr S6x128x128),
    binary main_while1b_v56 main_while1b_v62 main_while1b_v63 (addf : Arr S6x128x128 → Arr S6x128x128 → Arr S6x128x128),
    binary main_while1b_v40 main_while1b_v41 main_while1b_v64 ((fun l r => Host.dotGeneral dot_S6x64x128_S6x128x128_S6x64x128_2_2_1_1_0_0 none l r) : Arr S6x64x128 → Arr S6x128x128 → Arr S6x64x128),
    unary main_while1b_v59 main_while1b_v65 (Host.negf : Arr S6x64x128 → Arr S6x64x128),
    binary main_while1b_v65 main_while1b_v42 main_while1b_v66 ((fun l r => Host.dotGeneral dot_S6x64x128_S6x64x128_S6x128x128_1_1_2_2_0_0 none l r) : Arr S6x64x128 → Arr S6x64x128 → Arr S6x128x128),
    unary main_while1b_v66 main_while1b_v67 ((transpose S6x128x128 [0, 2, 1] · transposes_S6x128x128_S6x128x128_0_2_1) : Arr S6x128x128 → Arr S6x128x128),
    binary main_while1b_v63 main_while1b_v67 main_while1b_v68 (addf : Arr S6x128x128 → Arr S6x128x128 → Arr S6x128x128),
    binary main_while1b_v65 main_while1b_v41 main_while1b_v69 ((fun l r => Host.dotGeneral dot_S6x64x128_S6x128x128_S6x64x128_2_2_1_1_0_0 none l r) : Arr S6x64x128 → Arr S6x128x128 → Arr S6x64x128) ]
theorem while1Ops0_9_sub : (while1Ops0_9 : Ops).Forall Ours :=
  ⟨binary_bufs_sub .., unary_bufs_sub .., binary_bufs_sub .., unary_bufs_sub .., binary_bufs_sub .., nullary_bufs_sub .., binary_bufs_sub .., reshape_bufs_sub .., unary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩
/-- 5 host operations of @dynamic_update_index_in_dim (main_while1b_call17), in order. -/
abbrev while1Ops0_10 : Ops :=
  [ TRef.unary (.of main_while1b_v59 : TRef sig ⟨S6x64x128, .f32⟩) (.of main_while1b_call17_v0 : TRef sig ⟨S1x6x64x128, .f32⟩) (broadcastInDim S1x6x64x128 ![1, 2, 3] bcast_S6x64x128_S1x6x64x128_1_2_3),
    TRef.nullary (.of main_while1b_call17_c : TRef sig ⟨S_, .i32⟩) (constantI S_ 32 0#32),
    TRef.nullary (.of main_while1b_call17_c_0 : TRef sig ⟨S_, .i32⟩) (constantI S_ 32 0#32),
    TRef.nullary (.of main_while1b_call17_c_1 : TRef sig ⟨S_, .i32⟩) (constantI S_ 32 0#32),
    TRef.binaryIndexed (.of main_v27_10 : TRef sig ⟨S32x6x64x128, .f32⟩) (.of main_while1b_call17_v0 : TRef sig ⟨S1x6x64x128, .f32⟩) ![(.of main_while1b_v39 : TRef sig ⟨S_, .i32⟩), (.of main_while1b_call17_c : TRef sig ⟨S_, .i32⟩), (.of main_while1b_call17_c_0 : TRef sig ⟨S_, .i32⟩), (.of main_while1b_call17_c_1 : TRef sig ⟨S_, .i32⟩)] (.of main_while1b_v70 : TRef sig ⟨S32x6x64x128, .f32⟩) (fun x u i => Host.dynamicUpdateSlice x u (fun k => (i k (Shape.Idx.first h_S_)).toInt) updateFits_S32x6x64x128_S1x6x64x128) ]
theorem while1Ops0_10_sub : (while1Ops0_10 : Ops).Forall Ours :=
  ⟨unary_bufs_sub .., nullary_bufs_sub .., nullary_bufs_sub .., nullary_bufs_sub .., binaryIndexed_bufs_sub ..⟩
/-- 5 host operations of @dynamic_update_index_in_dim (main_while1b_call18), in order. -/
abbrev while1Ops0_11 : Ops :=
  [ TRef.unary (.of main_while1b_v69 : TRef sig ⟨S6x64x128, .f32⟩) (.of main_while1b_call18_v0 : TRef sig ⟨S1x6x64x128, .f32⟩) (broadcastInDim S1x6x64x128 ![1, 2, 3] bcast_S6x64x128_S1x6x64x128_1_2_3),
    TRef.nullary (.of main_while1b_call18_c : TRef sig ⟨S_, .i32⟩) (constantI S_ 32 0#32),
    TRef.nullary (.of main_while1b_call18_c_0 : TRef sig ⟨S_, .i32⟩) (constantI S_ 32 0#32),
    TRef.nullary (.of main_while1b_call18_c_1 : TRef sig ⟨S_, .i32⟩) (constantI S_ 32 0#32),
    TRef.binaryIndexed (.of main_v27_11 : TRef sig ⟨S32x6x64x128, .f32⟩) (.of main_while1b_call18_v0 : TRef sig ⟨S1x6x64x128, .f32⟩) ![(.of main_while1b_v39 : TRef sig ⟨S_, .i32⟩), (.of main_while1b_call18_c : TRef sig ⟨S_, .i32⟩), (.of main_while1b_call18_c_0 : TRef sig ⟨S_, .i32⟩), (.of main_while1b_call18_c_1 : TRef sig ⟨S_, .i32⟩)] (.of main_while1b_v71 : TRef sig ⟨S32x6x64x128, .f32⟩) (fun x u i => Host.dynamicUpdateSlice x u (fun k => (i k (Shape.Idx.first h_S_)).toInt) updateFits_S32x6x64x128_S1x6x64x128) ]
theorem while1Ops0_11_sub : (while1Ops0_11 : Ops).Forall Ours :=
  ⟨unary_bufs_sub .., nullary_bufs_sub .., nullary_bufs_sub .., nullary_bufs_sub .., binaryIndexed_bufs_sub ..⟩
/-- 5 host operations of @dynamic_update_index_in_dim (main_while1b_call19), in order. -/
abbrev while1Ops0_12 : Ops :=
  [ TRef.unary (.of main_while1b_v64 : TRef sig ⟨S6x64x128, .f32⟩) (.of main_while1b_call19_v0 : TRef sig ⟨S1x6x64x128, .f32⟩) (broadcastInDim S1x6x64x128 ![1, 2, 3] bcast_S6x64x128_S1x6x64x128_1_2_3),
    TRef.nullary (.of main_while1b_call19_c : TRef sig ⟨S_, .i32⟩) (constantI S_ 32 0#32),
    TRef.nullary (.of main_while1b_call19_c_0 : TRef sig ⟨S_, .i32⟩) (constantI S_ 32 0#32),
    TRef.nullary (.of main_while1b_call19_c_1 : TRef sig ⟨S_, .i32⟩) (constantI S_ 32 0#32),
    TRef.binaryIndexed (.of main_v27_12 : TRef sig ⟨S32x6x64x128, .f32⟩) (.of main_while1b_call19_v0 : TRef sig ⟨S1x6x64x128, .f32⟩) ![(.of main_while1b_v39 : TRef sig ⟨S_, .i32⟩), (.of main_while1b_call19_c : TRef sig ⟨S_, .i32⟩), (.of main_while1b_call19_c_0 : TRef sig ⟨S_, .i32⟩), (.of main_while1b_call19_c_1 : TRef sig ⟨S_, .i32⟩)] (.of main_while1b_v72 : TRef sig ⟨S32x6x64x128, .f32⟩) (fun x u i => Host.dynamicUpdateSlice x u (fun k => (i k (Shape.Idx.first h_S_)).toInt) updateFits_S32x6x64x128_S1x6x64x128) ]
theorem while1Ops0_12_sub : (while1Ops0_12 : Ops).Forall Ours :=
  ⟨unary_bufs_sub .., nullary_bufs_sub .., nullary_bufs_sub .., nullary_bufs_sub .., binaryIndexed_bufs_sub ..⟩
/-- 5 host operations of @dynamic_update_index_in_dim_4 (main_while1b_call20), in order. -/
abbrev while1Ops0_13 : Ops :=
  [ TRef.unary (.of main_while1b_v60 : TRef sig ⟨S6x64x64, .f32⟩) (.of main_while1b_call20_v0 : TRef sig ⟨S1x6x64x64, .f32⟩) (broadcastInDim S1x6x64x64 ![1, 2, 3] bcast_S6x64x64_S1x6x64x64_1_2_3),
    TRef.nullary (.of main_while1b_call20_c : TRef sig ⟨S_, .i32⟩) (constantI S_ 32 0#32),
    TRef.nullary (.of main_while1b_call20_c_0 : TRef sig ⟨S_, .i32⟩) (constantI S_ 32 0#32),
    TRef.nullary (.of main_while1b_call20_c_1 : TRef sig ⟨S_, .i32⟩) (constantI S_ 32 0#32),
    TRef.binaryIndexed (.of main_v27_13 : TRef sig ⟨S32x6x64x64, .f32⟩) (.of main_while1b_call20_v0 : TRef sig ⟨S1x6x64x64, .f32⟩) ![(.of main_while1b_v39 : TRef sig ⟨S_, .i32⟩), (.of main_while1b_call20_c : TRef sig ⟨S_, .i32⟩), (.of main_while1b_call20_c_0 : TRef sig ⟨S_, .i32⟩), (.of main_while1b_call20_c_1 : TRef sig ⟨S_, .i32⟩)] (.of main_while1b_v73 : TRef sig ⟨S32x6x64x64, .f32⟩) (fun x u i => Host.dynamicUpdateSlice x u (fun k => (i k (Shape.Idx.first h_S_)).toInt) updateFits_S32x6x64x64_S1x6x64x64) ]
theorem while1Ops0_13_sub : (while1Ops0_13 : Ops).Forall Ours :=
  ⟨unary_bufs_sub .., nullary_bufs_sub .., nullary_bufs_sub .., nullary_bufs_sub .., binaryIndexed_bufs_sub ..⟩
/-- 5 host operations of @dynamic_update_index_in_dim (main_while1b_call21), in order. -/
abbrev while1Ops0_14 : Ops :=
  [ TRef.unary (.of main_while1b_v51 : TRef sig ⟨S6x64x128, .f32⟩) (.of main_while1b_call21_v0 : TRef sig ⟨S1x6x64x128, .f32⟩) (broadcastInDim S1x6x64x128 ![1, 2, 3] bcast_S6x64x128_S1x6x64x128_1_2_3),
    TRef.nullary (.of main_while1b_call21_c : TRef sig ⟨S_, .i32⟩) (constantI S_ 32 0#32),
    TRef.nullary (.of main_while1b_call21_c_0 : TRef sig ⟨S_, .i32⟩) (constantI S_ 32 0#32),
    TRef.nullary (.of main_while1b_call21_c_1 : TRef sig ⟨S_, .i32⟩) (constantI S_ 32 0#32),
    TRef.binaryIndexed (.of main_v27_14 : TRef sig ⟨S32x6x64x128, .f32⟩) (.of main_while1b_call21_v0 : TRef sig ⟨S1x6x64x128, .f32⟩) ![(.of main_while1b_v39 : TRef sig ⟨S_, .i32⟩), (.of main_while1b_call21_c : TRef sig ⟨S_, .i32⟩), (.of main_while1b_call21_c_0 : TRef sig ⟨S_, .i32⟩), (.of main_while1b_call21_c_1 : TRef sig ⟨S_, .i32⟩)] (.of main_while1b_v74 : TRef sig ⟨S32x6x64x128, .f32⟩) (fun x u i => Host.dynamicUpdateSlice x u (fun k => (i k (Shape.Idx.first h_S_)).toInt) updateFits_S32x6x64x128_S1x6x64x128) ]
theorem while1Ops0_14_sub : (while1Ops0_14 : Ops).Forall Ours :=
  ⟨unary_bufs_sub .., nullary_bufs_sub .., nullary_bufs_sub .., nullary_bufs_sub .., binaryIndexed_bufs_sub ..⟩
/-- 5 host operations of @dynamic_update_index_in_dim_5 (main_while1b_call22), in order. -/
abbrev while1Ops0_15 : Ops :=
  [ TRef.unary (.of main_while1b_v54 : TRef sig ⟨S6x1x128, .f32⟩) (.of main_while1b_call22_v0 : TRef sig ⟨S1x6x1x128, .f32⟩) (broadcastInDim S1x6x1x128 ![1, 2, 3] bcast_S6x1x128_S1x6x1x128_1_2_3),
    TRef.nullary (.of main_while1b_call22_c : TRef sig ⟨S_, .i32⟩) (constantI S_ 32 0#32),
    TRef.nullary (.of main_while1b_call22_c_0 : TRef sig ⟨S_, .i32⟩) (constantI S_ 32 0#32),
    TRef.nullary (.of main_while1b_call22_c_1 : TRef sig ⟨S_, .i32⟩) (constantI S_ 32 0#32),
    TRef.binaryIndexed (.of main_v27_15 : TRef sig ⟨S32x6x1x128, .f32⟩) (.of main_while1b_call22_v0 : TRef sig ⟨S1x6x1x128, .f32⟩) ![(.of main_while1b_v39 : TRef sig ⟨S_, .i32⟩), (.of main_while1b_call22_c : TRef sig ⟨S_, .i32⟩), (.of main_while1b_call22_c_0 : TRef sig ⟨S_, .i32⟩), (.of main_while1b_call22_c_1 : TRef sig ⟨S_, .i32⟩)] (.of main_while1b_v75 : TRef sig ⟨S32x6x1x128, .f32⟩) (fun x u i => Host.dynamicUpdateSlice x u (fun k => (i k (Shape.Idx.first h_S_)).toInt) updateFits_S32x6x1x128_S1x6x1x128) ]
theorem while1Ops0_15_sub : (while1Ops0_15 : Ops).Forall Ours :=
  ⟨unary_bufs_sub .., nullary_bufs_sub .., nullary_bufs_sub .., nullary_bufs_sub .., binaryIndexed_bufs_sub ..⟩
/-- 10 host operations of host loop 1's body region, in order. -/
abbrev while1Ops0_16 : Ops :=
  [ nullary main_while1b_c_30 (constantI S_ 32 1#32),
    binary main_v27_8 main_while1b_c_30 main_while1b_v76 (addi : Word S_ → Word S_ → Word S_),
    unary main_while1b_v76 main_v27_8 id,
    unary main_while1b_v68 main_v27_9 id,
    unary main_while1b_v70 main_v27_10 id,
    unary main_while1b_v71 main_v27_11 id,
    unary main_while1b_v72 main_v27_12 id,
    unary main_while1b_v73 main_v27_13 id,
    unary main_while1b_v74 main_v27_14 id,
    unary main_while1b_v75 main_v27_15 id ]
theorem while1Ops0_16_sub : (while1Ops0_16 : Ops).Forall Ours :=
  ⟨nullary_bufs_sub .., binary_bufs_sub .., unary_bufs_sub .., unary_bufs_sub .., unary_bufs_sub .., unary_bufs_sub .., unary_bufs_sub .., unary_bufs_sub .., unary_bufs_sub .., unary_bufs_sub ..⟩
/-- `main_while1_body` is the chain of its items (`Pipeline.chain`): operation stretches, regions, loops and branches in
    order, a module-local function called from it a stretch of its own. Each item aligned with the block's
    statements (`chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7,
    seq while1Ops0_8,
    seq while1Ops0_9,
    seq while1Ops0_10,
    seq while1Ops0_11,
    seq while1Ops0_12,
    seq while1Ops0_13,
    seq while1Ops0_14,
    seq while1Ops0_15,
    seq while1Ops0_16 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, Pipeline.chain_cons, Pipeline.chain_cons, chain_seq_cons]
  chain_rfl

/-! ## What each stretch writes -/

theorem hostOps0_fresh : (hostOps0 : Ops).Forall Settled := forall_fresh_of_map rfl
abbrev hostOps0_W : List (Ref sig .tc) := [main_cst, main_v0, main_v1, main_v2, main_v3, main_v4, main_v5, main_v6, main_v7, main_v8, main_v9, main_v10, main_cst_0, main_v11, main_cst_1, main_v12, main_cst_2, main_v13, main_c, main_v14_0, main_v14_1, main_v14_2, main_v14_3, main_v14_4, main_v14_5, main_v14_6, main_v14_7, main_v14_8, main_v14_9, main_v14_10]
theorem hostOps0_writes : Writes (F := F) hostOps0 hostOps0_W :=
  forall_writes_sub_of_map rfl
theorem hostOps0_keep (r : Ref sig .tc) (h : r ∉ hostOps0_W) (V : Valuation τ sig (Elt F)) :
    after hostOps0 V (Proc.devRef .tc r) = V (Proc.devRef .tc r) := after_of_writes_sub hostOps0 V hostOps0_writes h

theorem hostOps0_1_fresh : (hostOps0_1 : Ops).Forall Settled := forall_fresh_of_map rfl
abbrev hostOps0_1_W : List (Ref sig .tc) := [main_v15, main_v16, main_cst_3, main_v17, main_v18, main_v19, main_cst_4, main_v20, main_cst_5, main_v21, main_cst_6, main_v22, main_cst_7, main_v23, main_cst_8, main_v24, main_cst_9, main_v25, main_cst_10, main_v26, main_c_11, main_v27_0, main_v27_1, main_v27_2, main_v27_3, main_v27_4, main_v27_5, main_v27_6, main_v27_7, main_v27_8, main_v27_9, main_v27_10, main_v27_11, main_v27_12, main_v27_13, main_v27_14, main_v27_15]
theorem hostOps0_1_writes : Writes (F := F) hostOps0_1 hostOps0_1_W :=
  forall_writes_sub_of_map rfl
theorem hostOps0_1_keep (r : Ref sig .tc) (h : r ∉ hostOps0_1_W) (V : Valuation τ sig (Elt F)) :
    after hostOps0_1 V (Proc.devRef .tc r) = V (Proc.devRef .tc r) := after_of_writes_sub hostOps0_1 V hostOps0_1_writes h

theorem hostOps0_2_fresh : (hostOps0_2 : Ops).Forall Settled := forall_fresh_of_map rfl
abbrev hostOps0_2_W : List (Ref sig .tc) := [main_v28, main_v29, main_v30, main_v31, main_v32, main_v33, main_v34, main_v35, main_v36, main_v37]
theorem hostOps0_2_writes : Writes (F := F) hostOps0_2 hostOps0_2_W :=
  forall_writes_sub_of_map rfl
theorem hostOps0_2_keep (r : Ref sig .tc) (h : r ∉ hostOps0_2_W) (V : Valuation τ sig (Elt F)) :
    after hostOps0_2 V (Proc.devRef .tc r) = V (Proc.devRef .tc r) := after_of_writes_sub hostOps0_2 V hostOps0_2_writes h

theorem while0Ops0_fresh : (while0Ops0 : Ops).Forall Settled := forall_fresh_of_map rfl
abbrev while0Ops0_W : List (Ref sig .tc) := [main_while0b_call0_c, main_while0b_call0_c_0, main_while0b_call0_c_1, main_while0b_call0_v0, main_while0b_v38]
theorem while0Ops0_writes : Writes (F := F) while0Ops0 while0Ops0_W :=
  forall_writes_sub_of_map rfl
theorem while0Ops0_keep (r : Ref sig .tc) (h : r ∉ while0Ops0_W) (V : Valuation τ sig (Elt F)) :
    after while0Ops0 V (Proc.devRef .tc r) = V (Proc.devRef .tc r) := after_of_writes_sub while0Ops0 V while0Ops0_writes h

theorem while0Ops0_1_fresh : (while0Ops0_1 : Ops).Forall Settled := forall_fresh_of_map rfl
abbrev while0Ops0_1_W : List (Ref sig .tc) := [main_while0b_call1_c, main_while0b_call1_c_0, main_while0b_call1_c_1, main_while0b_call1_v0, main_while0b_v39]
theorem while0Ops0_1_writes : Writes (F := F) while0Ops0_1 while0Ops0_1_W :=
  forall_writes_sub_of_map rfl
theorem while0Ops0_1_keep (r : Ref sig .tc) (h : r ∉ while0Ops0_1_W) (V : Valuation τ sig (Elt F)) :
    after while0Ops0_1 V (Proc.devRef .tc r) = V (Proc.devRef .tc r) := after_of_writes_sub while0Ops0_1 V while0Ops0_1_writes h

theorem while0Ops0_2_fresh : (while0Ops0_2 : Ops).Forall Settled := forall_fresh_of_map rfl
abbrev while0Ops0_2_W : List (Ref sig .tc) := [main_while0b_call2_c, main_while0b_call2_c_0, main_while0b_call2_c_1, main_while0b_call2_v0, main_while0b_v40]
theorem while0Ops0_2_writes : Writes (F := F) while0Ops0_2 while0Ops0_2_W :=
  forall_writes_sub_of_map rfl
theorem while0Ops0_2_keep (r : Ref sig .tc) (h : r ∉ while0Ops0_2_W) (V : Valuation τ sig (Elt F)) :
    after while0Ops0_2 V (Proc.devRef .tc r) = V (Proc.devRef .tc r) := after_of_writes_sub while0Ops0_2 V while0Ops0_2_writes h

theorem while0Ops0_3_fresh : (while0Ops0_3 : Ops).Forall Settled := forall_fresh_of_map rfl
abbrev while0Ops0_3_W : List (Ref sig .tc) := [main_while0b_call3_c, main_while0b_call3_c_0, main_while0b_call3_c_1, main_while0b_call3_v0, main_while0b_v41]
theorem while0Ops0_3_writes : Writes (F := F) while0Ops0_3 while0Ops0_3_W :=
  forall_writes_sub_of_map rfl
theorem while0Ops0_3_keep (r : Ref sig .tc) (h : r ∉ while0Ops0_3_W) (V : Valuation τ sig (Elt F)) :
    after while0Ops0_3 V (Proc.devRef .tc r) = V (Proc.devRef .tc r) := after_of_writes_sub while0Ops0_3 V while0Ops0_3_writes h

theorem while0Ops0_4_fresh : (while0Ops0_4 : Ops).Forall Settled := forall_fresh_of_map rfl
abbrev while0Ops0_4_W : List (Ref sig .tc) := [main_while0b_call4_c, main_while0b_call4_c_0, main_while0b_call4_c_1, main_while0b_call4_v0, main_while0b_v42]
theorem while0Ops0_4_writes : Writes (F := F) while0Ops0_4 while0Ops0_4_W :=
  forall_writes_sub_of_map rfl
theorem while0Ops0_4_keep (r : Ref sig .tc) (h : r ∉ while0Ops0_4_W) (V : Valuation τ sig (Elt F)) :
    after while0Ops0_4 V (Proc.devRef .tc r) = V (Proc.devRef .tc r) := after_of_writes_sub while0Ops0_4 V while0Ops0_4_writes h

theorem while0Ops0_5_fresh : (while0Ops0_5 : Ops).Forall Settled := forall_fresh_of_map rfl
abbrev while0Ops0_5_W : List (Ref sig .tc) := [main_while0b_call5_c, main_while0b_call5_c_0, main_while0b_call5_c_1, main_while0b_call5_v0, main_while0b_v43]
theorem while0Ops0_5_writes : Writes (F := F) while0Ops0_5 while0Ops0_5_W :=
  forall_writes_sub_of_map rfl
theorem while0Ops0_5_keep (r : Ref sig .tc) (h : r ∉ while0Ops0_5_W) (V : Valuation τ sig (Elt F)) :
    after while0Ops0_5 V (Proc.devRef .tc r) = V (Proc.devRef .tc r) := after_of_writes_sub while0Ops0_5 V while0Ops0_5_writes h

theorem while0Ops0_6_fresh : (while0Ops0_6 : Ops).Forall Settled := forall_fresh_of_map rfl
abbrev while0Ops0_6_W : List (Ref sig .tc) := [main_while0b_v44, main_while0b_v45, main_while0b_v46, main_while0b_v47, main_while0b_v48, main_while0b_v49, main_while0b_v50, main_while0b_v51, main_while0b_v52]
theorem while0Ops0_6_writes : Writes (F := F) while0Ops0_6 while0Ops0_6_W :=
  forall_writes_sub_of_map rfl
theorem while0Ops0_6_keep (r : Ref sig .tc) (h : r ∉ while0Ops0_6_W) (V : Valuation τ sig (Elt F)) :
    after while0Ops0_6 V (Proc.devRef .tc r) = V (Proc.devRef .tc r) := after_of_writes_sub while0Ops0_6 V while0Ops0_6_writes h

theorem while0Ops0_7_fresh : (while0Ops0_7 : Ops).Forall Settled := forall_fresh_of_map rfl
abbrev while0Ops0_7_W : List (Ref sig .tc) := [main_while0b_call6_v0, main_while0b_call6_c, main_while0b_call6_c_0, main_while0b_call6_c_1, main_while0b_v53]
theorem while0Ops0_7_writes : Writes (F := F) while0Ops0_7 while0Ops0_7_W :=
  forall_writes_sub_of_map rfl
theorem while0Ops0_7_keep (r : Ref sig .tc) (h : r ∉ while0Ops0_7_W) (V : Valuation τ sig (Elt F)) :
    after while0Ops0_7 V (Proc.devRef .tc r) = V (Proc.devRef .tc r) := after_of_writes_sub while0Ops0_7 V while0Ops0_7_writes h

theorem while0Ops0_8_fresh : (while0Ops0_8 : Ops).Forall Settled := forall_fresh_of_map rfl
abbrev while0Ops0_8_W : List (Ref sig .tc) := [main_while0b_call7_v0, main_while0b_call7_c, main_while0b_call7_c_0, main_while0b_call7_c_1, main_while0b_v54]
theorem while0Ops0_8_writes : Writes (F := F) while0Ops0_8 while0Ops0_8_W :=
  forall_writes_sub_of_map rfl
theorem while0Ops0_8_keep (r : Ref sig .tc) (h : r ∉ while0Ops0_8_W) (V : Valuation τ sig (Elt F)) :
    after while0Ops0_8 V (Proc.devRef .tc r) = V (Proc.devRef .tc r) := after_of_writes_sub while0Ops0_8 V while0Ops0_8_writes h

theorem while0Ops0_9_fresh : (while0Ops0_9 : Ops).Forall Settled := forall_fresh_of_map rfl
abbrev while0Ops0_9_W : List (Ref sig .tc) := [main_while0b_call8_v0, main_while0b_call8_c, main_while0b_call8_c_0, main_while0b_call8_c_1, main_while0b_v55]
theorem while0Ops0_9_writes : Writes (F := F) while0Ops0_9 while0Ops0_9_W :=
  forall_writes_sub_of_map rfl
theorem while0Ops0_9_keep (r : Ref sig .tc) (h : r ∉ while0Ops0_9_W) (V : Valuation τ sig (Elt F)) :
    after while0Ops0_9 V (Proc.devRef .tc r) = V (Proc.devRef .tc r) := after_of_writes_sub while0Ops0_9 V while0Ops0_9_writes h

theorem while0Ops0_10_fresh : (while0Ops0_10 : Ops).Forall Settled := forall_fresh_of_map rfl
abbrev while0Ops0_10_W : List (Ref sig .tc) := [main_while0b_c_22, main_while0b_v56, main_v14_6, main_v14_7, main_v14_8, main_v14_9, main_v14_10]
theorem while0Ops0_10_writes : Writes (F := F) while0Ops0_10 while0Ops0_10_W :=
  forall_writes_sub_of_map rfl
theorem while0Ops0_10_keep (r : Ref sig .tc) (h : r ∉ while0Ops0_10_W) (V : Valuation τ sig (Elt F)) :
    after while0Ops0_10 V (Proc.devRef .tc r) = V (Proc.devRef .tc r) := after_of_writes_sub while0Ops0_10 V while0Ops0_10_writes h

theorem while1Ops0_fresh : (while1Ops0 : Ops).Forall Settled := forall_fresh_of_map rfl
abbrev while1Ops0_W : List (Ref sig .tc) := [main_while1b_c_27, main_while1b_v38, main_while1b_c_28, main_while1b_v39]
theorem while1Ops0_writes : Writes (F := F) while1Ops0 while1Ops0_W :=
  forall_writes_sub_of_map rfl
theorem while1Ops0_keep (r : Ref sig .tc) (h : r ∉ while1Ops0_W) (V : Valuation τ sig (Elt F)) :
    after while1Ops0 V (Proc.devRef .tc r) = V (Proc.devRef .tc r) := after_of_writes_sub while1Ops0 V while1Ops0_writes h

theorem while1Ops0_1_fresh : (while1Ops0_1 : Ops).Forall Settled := forall_fresh_of_map rfl
abbrev while1Ops0_1_W : List (Ref sig .tc) := [main_while1b_call9_c, main_while1b_call9_c_0, main_while1b_call9_c_1, main_while1b_call9_v0, main_while1b_v40]
theorem while1Ops0_1_writes : Writes (F := F) while1Ops0_1 while1Ops0_1_W :=
  forall_writes_sub_of_map rfl
theorem while1Ops0_1_keep (r : Ref sig .tc) (h : r ∉ while1Ops0_1_W) (V : Valuation τ sig (Elt F)) :
    after while1Ops0_1 V (Proc.devRef .tc r) = V (Proc.devRef .tc r) := after_of_writes_sub while1Ops0_1 V while1Ops0_1_writes h

theorem while1Ops0_2_fresh : (while1Ops0_2 : Ops).Forall Settled := forall_fresh_of_map rfl
abbrev while1Ops0_2_W : List (Ref sig .tc) := [main_while1b_call10_c, main_while1b_call10_c_0, main_while1b_call10_c_1, main_while1b_call10_v0, main_while1b_v41]
theorem while1Ops0_2_writes : Writes (F := F) while1Ops0_2 while1Ops0_2_W :=
  forall_writes_sub_of_map rfl
theorem while1Ops0_2_keep (r : Ref sig .tc) (h : r ∉ while1Ops0_2_W) (V : Valuation τ sig (Elt F)) :
    after while1Ops0_2 V (Proc.devRef .tc r) = V (Proc.devRef .tc r) := after_of_writes_sub while1Ops0_2 V while1Ops0_2_writes h

theorem while1Ops0_3_fresh : (while1Ops0_3 : Ops).Forall Settled := forall_fresh_of_map rfl
abbrev while1Ops0_3_W : List (Ref sig .tc) := [main_while1b_call11_c, main_while1b_call11_c_0, main_while1b_call11_c_1, main_while1b_call11_v0, main_while1b_v42]
theorem while1Ops0_3_writes : Writes (F := F) while1Ops0_3 while1Ops0_3_W :=
  forall_writes_sub_of_map rfl
theorem while1Ops0_3_keep (r : Ref sig .tc) (h : r ∉ while1Ops0_3_W) (V : Valuation τ sig (Elt F)) :
    after while1Ops0_3 V (Proc.devRef .tc r) = V (Proc.devRef .tc r) := after_of_writes_sub while1Ops0_3 V while1Ops0_3_writes h

theorem while1Ops0_4_fresh : (while1Ops0_4 : Ops).Forall Settled := forall_fresh_of_map rfl
abbrev while1Ops0_4_W : List (Ref sig .tc) := [main_while1b_call12_c, main_while1b_call12_c_0, main_while1b_call12_c_1, main_while1b_call12_v0, main_while1b_v43]
theorem while1Ops0_4_writes : Writes (F := F) while1Ops0_4 while1Ops0_4_W :=
  forall_writes_sub_of_map rfl
theorem while1Ops0_4_keep (r : Ref sig .tc) (h : r ∉ while1Ops0_4_W) (V : Valuation τ sig (Elt F)) :
    after while1Ops0_4 V (Proc.devRef .tc r) = V (Proc.devRef .tc r) := after_of_writes_sub while1Ops0_4 V while1Ops0_4_writes h

theorem while1Ops0_5_fresh : (while1Ops0_5 : Ops).Forall Settled := forall_fresh_of_map rfl
abbrev while1Ops0_5_W : List (Ref sig .tc) := [main_while1b_call13_c, main_while1b_call13_c_0, main_while1b_call13_c_1, main_while1b_call13_v0, main_while1b_v44]
theorem while1Ops0_5_writes : Writes (F := F) while1Ops0_5 while1Ops0_5_W :=
  forall_writes_sub_of_map rfl
theorem while1Ops0_5_keep (r : Ref sig .tc) (h : r ∉ while1Ops0_5_W) (V : Valuation τ sig (Elt F)) :
    after while1Ops0_5 V (Proc.devRef .tc r) = V (Proc.devRef .tc r) := after_of_writes_sub while1Ops0_5 V while1Ops0_5_writes h

theorem while1Ops0_6_fresh : (while1Ops0_6 : Ops).Forall Settled := forall_fresh_of_map rfl
abbrev while1Ops0_6_W : List (Ref sig .tc) := [main_while1b_call14_c, main_while1b_call14_c_0, main_while1b_call14_c_1, main_while1b_call14_v0, main_while1b_v45]
theorem while1Ops0_6_writes : Writes (F := F) while1Ops0_6 while1Ops0_6_W :=
  forall_writes_sub_of_map rfl
theorem while1Ops0_6_keep (r : Ref sig .tc) (h : r ∉ while1Ops0_6_W) (V : Valuation τ sig (Elt F)) :
    after while1Ops0_6 V (Proc.devRef .tc r) = V (Proc.devRef .tc r) := after_of_writes_sub while1Ops0_6 V while1Ops0_6_writes h

theorem while1Ops0_7_fresh : (while1Ops0_7 : Ops).Forall Settled := forall_fresh_of_map rfl
abbrev while1Ops0_7_W : List (Ref sig .tc) := [main_while1b_call15_c, main_while1b_call15_c_0, main_while1b_call15_c_1, main_while1b_call15_v0, main_while1b_v46]
theorem while1Ops0_7_writes : Writes (F := F) while1Ops0_7 while1Ops0_7_W :=
  forall_writes_sub_of_map rfl
theorem while1Ops0_7_keep (r : Ref sig .tc) (h : r ∉ while1Ops0_7_W) (V : Valuation τ sig (Elt F)) :
    after while1Ops0_7 V (Proc.devRef .tc r) = V (Proc.devRef .tc r) := after_of_writes_sub while1Ops0_7 V while1Ops0_7_writes h

theorem while1Ops0_8_fresh : (while1Ops0_8 : Ops).Forall Settled := forall_fresh_of_map rfl
abbrev while1Ops0_8_W : List (Ref sig .tc) := [main_while1b_call16_c, main_while1b_call16_c_0, main_while1b_call16_c_1, main_while1b_call16_v0, main_while1b_v47]
theorem while1Ops0_8_writes : Writes (F := F) while1Ops0_8 while1Ops0_8_W :=
  forall_writes_sub_of_map rfl
theorem while1Ops0_8_keep (r : Ref sig .tc) (h : r ∉ while1Ops0_8_W) (V : Valuation τ sig (Elt F)) :
    after while1Ops0_8 V (Proc.devRef .tc r) = V (Proc.devRef .tc r) := after_of_writes_sub while1Ops0_8 V while1Ops0_8_writes h

theorem while1Ops0_9_fresh : (while1Ops0_9 : Ops).Forall Settled := forall_fresh_of_map rfl
abbrev while1Ops0_9_W : List (Ref sig .tc) := [main_while1b_v48, main_while1b_v49, main_while1b_v50, main_while1b_v51, main_while1b_v52, main_while1b_cst_29, main_while1b_v53, main_while1b_v54, main_while1b_v55, main_while1b_v56, main_while1b_v57, main_while1b_v58, main_while1b_v59, main_while1b_v60, main_while1b_v61, main_while1b_v62, main_while1b_v63, main_while1b_v64, main_while1b_v65, main_while1b_v66, main_while1b_v67, main_while1b_v68, main_while1b_v69]
theorem while1Ops0_9_writes : Writes (F := F) while1Ops0_9 while1Ops0_9_W :=
  forall_writes_sub_of_map rfl
theorem while1Ops0_9_keep (r : Ref sig .tc) (h : r ∉ while1Ops0_9_W) (V : Valuation τ sig (Elt F)) :
    after while1Ops0_9 V (Proc.devRef .tc r) = V (Proc.devRef .tc r) := after_of_writes_sub while1Ops0_9 V while1Ops0_9_writes h

theorem while1Ops0_10_fresh : (while1Ops0_10 : Ops).Forall Settled := forall_fresh_of_map rfl
abbrev while1Ops0_10_W : List (Ref sig .tc) := [main_while1b_call17_v0, main_while1b_call17_c, main_while1b_call17_c_0, main_while1b_call17_c_1, main_while1b_v70]
theorem while1Ops0_10_writes : Writes (F := F) while1Ops0_10 while1Ops0_10_W :=
  forall_writes_sub_of_map rfl
theorem while1Ops0_10_keep (r : Ref sig .tc) (h : r ∉ while1Ops0_10_W) (V : Valuation τ sig (Elt F)) :
    after while1Ops0_10 V (Proc.devRef .tc r) = V (Proc.devRef .tc r) := after_of_writes_sub while1Ops0_10 V while1Ops0_10_writes h

theorem while1Ops0_11_fresh : (while1Ops0_11 : Ops).Forall Settled := forall_fresh_of_map rfl
abbrev while1Ops0_11_W : List (Ref sig .tc) := [main_while1b_call18_v0, main_while1b_call18_c, main_while1b_call18_c_0, main_while1b_call18_c_1, main_while1b_v71]
theorem while1Ops0_11_writes : Writes (F := F) while1Ops0_11 while1Ops0_11_W :=
  forall_writes_sub_of_map rfl
theorem while1Ops0_11_keep (r : Ref sig .tc) (h : r ∉ while1Ops0_11_W) (V : Valuation τ sig (Elt F)) :
    after while1Ops0_11 V (Proc.devRef .tc r) = V (Proc.devRef .tc r) := after_of_writes_sub while1Ops0_11 V while1Ops0_11_writes h

theorem while1Ops0_12_fresh : (while1Ops0_12 : Ops).Forall Settled := forall_fresh_of_map rfl
abbrev while1Ops0_12_W : List (Ref sig .tc) := [main_while1b_call19_v0, main_while1b_call19_c, main_while1b_call19_c_0, main_while1b_call19_c_1, main_while1b_v72]
theorem while1Ops0_12_writes : Writes (F := F) while1Ops0_12 while1Ops0_12_W :=
  forall_writes_sub_of_map rfl
theorem while1Ops0_12_keep (r : Ref sig .tc) (h : r ∉ while1Ops0_12_W) (V : Valuation τ sig (Elt F)) :
    after while1Ops0_12 V (Proc.devRef .tc r) = V (Proc.devRef .tc r) := after_of_writes_sub while1Ops0_12 V while1Ops0_12_writes h

theorem while1Ops0_13_fresh : (while1Ops0_13 : Ops).Forall Settled := forall_fresh_of_map rfl
abbrev while1Ops0_13_W : List (Ref sig .tc) := [main_while1b_call20_v0, main_while1b_call20_c, main_while1b_call20_c_0, main_while1b_call20_c_1, main_while1b_v73]
theorem while1Ops0_13_writes : Writes (F := F) while1Ops0_13 while1Ops0_13_W :=
  forall_writes_sub_of_map rfl
theorem while1Ops0_13_keep (r : Ref sig .tc) (h : r ∉ while1Ops0_13_W) (V : Valuation τ sig (Elt F)) :
    after while1Ops0_13 V (Proc.devRef .tc r) = V (Proc.devRef .tc r) := after_of_writes_sub while1Ops0_13 V while1Ops0_13_writes h

theorem while1Ops0_14_fresh : (while1Ops0_14 : Ops).Forall Settled := forall_fresh_of_map rfl
abbrev while1Ops0_14_W : List (Ref sig .tc) := [main_while1b_call21_v0, main_while1b_call21_c, main_while1b_call21_c_0, main_while1b_call21_c_1, main_while1b_v74]
theorem while1Ops0_14_writes : Writes (F := F) while1Ops0_14 while1Ops0_14_W :=
  forall_writes_sub_of_map rfl
theorem while1Ops0_14_keep (r : Ref sig .tc) (h : r ∉ while1Ops0_14_W) (V : Valuation τ sig (Elt F)) :
    after while1Ops0_14 V (Proc.devRef .tc r) = V (Proc.devRef .tc r) := after_of_writes_sub while1Ops0_14 V while1Ops0_14_writes h

theorem while1Ops0_15_fresh : (while1Ops0_15 : Ops).Forall Settled := forall_fresh_of_map rfl
abbrev while1Ops0_15_W : List (Ref sig .tc) := [main_while1b_call22_v0, main_while1b_call22_c, main_while1b_call22_c_0, main_while1b_call22_c_1, main_while1b_v75]
theorem while1Ops0_15_writes : Writes (F := F) while1Ops0_15 while1Ops0_15_W :=
  forall_writes_sub_of_map rfl
theorem while1Ops0_15_keep (r : Ref sig .tc) (h : r ∉ while1Ops0_15_W) (V : Valuation τ sig (Elt F)) :
    after while1Ops0_15 V (Proc.devRef .tc r) = V (Proc.devRef .tc r) := after_of_writes_sub while1Ops0_15 V while1Ops0_15_writes h

theorem while1Ops0_16_fresh : (while1Ops0_16 : Ops).Forall Settled := forall_fresh_of_map rfl
abbrev while1Ops0_16_W : List (Ref sig .tc) := [main_while1b_c_30, main_while1b_v76, main_v27_8, main_v27_9, main_v27_10, main_v27_11, main_v27_12, main_v27_13, main_v27_14, main_v27_15]
theorem while1Ops0_16_writes : Writes (F := F) while1Ops0_16 while1Ops0_16_W :=
  forall_writes_sub_of_map rfl
theorem while1Ops0_16_keep (r : Ref sig .tc) (h : r ∉ while1Ops0_16_W) (V : Valuation τ sig (Elt F)) :
    after while1Ops0_16 V (Proc.devRef .tc r) = V (Proc.devRef .tc r) := after_of_writes_sub while1Ops0_16 V while1Ops0_16_writes h

end Cert.ReferenceIdeal.Loops
-- ==== Proof.RefRun.lean ====
/- The run of the reference: its two counted loops, and what every buffer holds at the end. -/
module

public import proofs.«01_k».proof.Proof.RefOps

@[expose] public section

noncomputable section

namespace Cert.ReferenceIdeal.Loops

open Idealize.ShloMosaic Idealize.ShloMosaic.TcCoe Idealize.ShloMosaic.StableHlo Cert.ReferenceIdeal.Gen
open Idealize.SL Idealize.SL.RA Idealize.SL.BI
open scoped Idealize.SL.BI
open Idealize.SL.BI.BIBase Idealize.SL.Sem Idealize.SL.BI.Laws Idealize.SL.ProofMode
open Idealize.ShloMosaic.Pipeline (CSeg Ticket ucRefs sub_ucRefs)

variable {F : FTy → Type} [FloatOps F]

/-! ## The lists of the two loops -/

abbrev cond0 : List (HloOp τ sig (Elt F)) :=
  [ StableHlo.nullary main_while0c_c_22 (constantI S_ 32 32#32),
    StableHlo.binary main_v14_6 main_while0c_c_22 main_while0c_v38 (cmpi .slt) ]
abbrev cond0_W : List (Ref sig .tc) := [main_while0c_c_22, main_while0c_v38]
theorem cond0_writes : (cond0 : List (HloOp τ sig (Elt F))).Forall fun op => op.writes ⊆ (cond0_W.map (Proc.devRef (τ := τ) .tc)).toFinset :=
  forall_writes_sub_of_map rfl
theorem cond0_keep (r : Ref sig .tc) (h : r ∉ cond0_W) (V : Valuation τ sig (Elt F)) :
    after cond0 V (Proc.devRef .tc r) = V (Proc.devRef .tc r) := after_of_writes_sub cond0 V cond0_writes h

abbrev cond1 : List (HloOp τ sig (Elt F)) :=
  [ StableHlo.nullary main_while1c_c_27 (constantI S_ 32 32#32),
    StableHlo.binary main_v27_8 main_while1c_c_27 main_while1c_v38 (cmpi .slt) ]
abbrev cond1_W : List (Ref sig .tc) := [main_while1c_c_27, main_while1c_v38]
theorem cond1_writes : (cond1 : List (HloOp τ sig (Elt F))).Forall fun op => op.writes ⊆ (cond1_W.map (Proc.devRef (τ := τ) .tc)).toFinset :=
  forall_writes_sub_of_map rfl
theorem cond1_keep (r : Ref sig .tc) (h : r ∉ cond1_W) (V : Valuation τ sig (Elt F)) :
    after cond1 V (Proc.devRef .tc r) = V (Proc.devRef .tc r) := after_of_writes_sub cond1 V cond1_writes h

abbrev body0 : List (List (HloOp τ sig (Elt F))) := [while0Ops0, while0Ops0_1, while0Ops0_2, while0Ops0_3, while0Ops0_4, while0Ops0_5, while0Ops0_6, while0Ops0_7, while0Ops0_8, while0Ops0_9, while0Ops0_10]
abbrev body1 : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16]

theorem hpre : Plain ([hostOps0] : List (List (HloOp τ sig (Elt F)))) := .cons hostOps0_sub (hf := List.forall_iff_forall_mem.mp hostOps0_fresh) .nil
theorem hmid : Plain ([hostOps0_1] : List (List (HloOp τ sig (Elt F)))) := .cons hostOps0_1_sub (hf := List.forall_iff_forall_mem.mp hostOps0_1_fresh) .nil
theorem hpost : Plain ([hostOps0_2] : List (List (HloOp τ sig (Elt F)))) := .cons hostOps0_2_sub (hf := List.forall_iff_forall_mem.mp hostOps0_2_fresh) .nil
theorem hbody0 : Plain (body0 (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) .nil))))))))))
theorem hbody1 : Plain (body1 (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.cons while1Ops0_9_sub (hf := List.forall_iff_forall_mem.mp while1Ops0_9_fresh) (.cons while1Ops0_10_sub (hf := List.forall_iff_forall_mem.mp while1Ops0_10_fresh) (.cons while1Ops0_11_sub (hf := List.forall_iff_forall_mem.mp while1Ops0_11_fresh) (.cons while1Ops0_12_sub (hf := List.forall_iff_forall_mem.mp while1Ops0_12_fresh) (.cons while1Ops0_13_sub (hf := List.forall_iff_forall_mem.mp while1Ops0_13_fresh) (.cons while1Ops0_14_sub (hf := List.forall_iff_forall_mem.mp while1Ops0_14_fresh) (.cons while1Ops0_15_sub (hf := List.forall_iff_forall_mem.mp while1Ops0_15_fresh) (.cons while1Ops0_16_sub (hf := List.forall_iff_forall_mem.mp while1Ops0_16_fresh) .nil))))))))))))))))

variable (m : (ℓ : Loc nD τ sig) → Buf (Elt F) ℓ) (ρ : Dev nD → PrngReg)

/-! ## The contents between the stretches -/

abbrev entry0 (c : Dev nD) : Valuation τ sig (Elt F) := after hostOps0 (launchContents m c)
/-- Before the `k`-th test of the forward loop. -/
abbrev at0 (k : ℕ) (c : Dev nD) : Valuation τ sig (Elt F) := atTrip cond0 body0 (entry0 m) k c
abbrev entry1 (c : Dev nD) : Valuation τ sig (Elt F) := after hostOps0_1 (after cond0 (at0 m 32 c))
/-- Before the `k`-th test of the backward loop. -/
abbrev at1 (k : ℕ) (c : Dev nD) : Valuation τ sig (Elt F) := atTrip cond1 body1 (entry1 m) k c
abbrev final (c : Dev nD) : Valuation τ sig (Elt F) := after hostOps0_2 (after cond1 (at1 m 32 c))

/-! ## The two counters -/

set_option maxRecDepth 100000 in
theorem ctr0_step (X : Valuation τ sig (Elt F)) :
    after while0Ops0_10 X (Proc.devRef .tc main_v14_6) = addi (X (Proc.devRef .tc main_v14_6)) (constantI S_ 32 1#32) := by
  after_results
  rfl

set_option maxRecDepth 100000 in
theorem ctr1_step (X : Valuation τ sig (Elt F)) :
    after while1Ops0_16 X (Proc.devRef .tc main_v27_8) = addi (X (Proc.devRef .tc main_v27_8)) (constantI S_ 32 1#32) := by
  after_results
  rfl

theorem ctr0_entry (c : Dev nD) : entry0 m c (Proc.devRef .tc main_v14_6) = fun _ => (0#32 : BitVec 32) := by
  unfold entry0
  after_reads_simp
  rfl

theorem ctr1_entry (c : Dev nD) : entry1 m c (Proc.devRef .tc main_v27_8) = fun _ => (0#32 : BitVec 32) := by
  unfold entry1
  after_reads_simp
  rfl

theorem at0_ctr (c : Dev nD) : ∀ k, at0 m k c (Proc.devRef .tc main_v14_6) = fun _ => Scf.iv 0#32 1#32 k
  | 0 => by rw [show at0 m 0 c = entry0 m c from rfl, ctr0_entry, Scf.iv_zero]
  | k + 1 => by
    rw [show at0 m (k + 1) c = afterL body0 (after cond0 (at0 m k c)) from rfl]
    simp only [afterL_cons, afterL_nil]
    rw [ctr0_step, while0Ops0_9_keep main_v14_6 (by decide +kernel), while0Ops0_8_keep main_v14_6 (by decide +kernel), while0Ops0_7_keep main_v14_6 (by decide +kernel), while0Ops0_6_keep main_v14_6 (by decide +kernel), while0Ops0_5_keep main_v14_6 (by decide +kernel), while0Ops0_4_keep main_v14_6 (by decide +kernel), while0Ops0_3_keep main_v14_6 (by decide +kernel), while0Ops0_2_keep main_v14_6 (by decide +kernel), while0Ops0_1_keep main_v14_6 (by decide +kernel), while0Ops0_keep main_v14_6 (by decide +kernel), cond0_keep main_v14_6 (by decide +kernel), at0_ctr c k, Scf.iv_succ]
    rfl

theorem at1_ctr (c : Dev nD) : ∀ k, at1 m k c (Proc.devRef .tc main_v27_8) = fun _ => Scf.iv 0#32 1#32 k
  | 0 => by rw [show at1 m 0 c = entry1 m c from rfl, ctr1_entry, Scf.iv_zero]
  | k + 1 => by
    rw [show at1 m (k + 1) c = afterL body1 (after cond1 (at1 m k c)) from rfl]
    simp only [afterL_cons, afterL_nil]
    rw [ctr1_step, while1Ops0_15_keep main_v27_8 (by decide +kernel), while1Ops0_14_keep main_v27_8 (by decide +kernel), while1Ops0_13_keep main_v27_8 (by decide +kernel), while1Ops0_12_keep main_v27_8 (by decide +kernel), while1Ops0_11_keep main_v27_8 (by decide +kernel), while1Ops0_10_keep main_v27_8 (by decide +kernel), while1Ops0_9_keep main_v27_8 (by decide +kernel), while1Ops0_8_keep main_v27_8 (by decide +kernel), while1Ops0_7_keep main_v27_8 (by decide +kernel), while1Ops0_6_keep main_v27_8 (by decide +kernel), while1Ops0_5_keep main_v27_8 (by decide +kernel), while1Ops0_4_keep main_v27_8 (by decide +kernel), while1Ops0_3_keep main_v27_8 (by decide +kernel), while1Ops0_2_keep main_v27_8 (by decide +kernel), while1Ops0_1_keep main_v27_8 (by decide +kernel), while1Ops0_keep main_v27_8 (by decide +kernel), cond1_keep main_v27_8 (by decide +kernel), at1_ctr c k, Scf.iv_succ]
    rfl

/-! ## The run -/

local notation "𝕄" => MT nD τ sig Unit (Elt F) ℕ (Option PUnit) ℕ

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev Lix : GSem nD τ sig → Finset Unit := fun _ => ∅
abbrev Llv : GSem nD τ sig → Unit → ℕ := fun _ _ => 0
abbrev Rw (c : Dev nD) : sProp 𝕄 := iprop(∃ W, owes (c : Thread nD τ) (0 : CellTallies nD τ sig Unit) W)

set_option backward.isDefEq.respectTransparency.types false in
theorem cond0_spec : LoopCond (pcfgs (F := F)) defs₀ Variants.none loops Rw (main_while0_cond (F := F)) cond0 body0 (entry0 m) 32 := by
  intro k hk c bd
  have hctr := at0_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v14_6 HostLoop.idx0)
        (HloOp.result _ (at0 m k c) main_while0c_c_22 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]
  · rw [after_cons, after_cons, after_nil]; iexact Hh
  iexact HR

set_option backward.isDefEq.respectTransparency.types false in
theorem cond1_spec : LoopCond (pcfgs (F := F)) defs₀ Variants.none loops Rw (main_while1_cond (F := F)) cond1 body1 (entry1 m) 32 := by
  intro k hk c bd
  have hctr := at1_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v27_8 HostLoop.idx0)
        (HloOp.result _ (at1 m k c) main_while1c_c_27 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]
  · rw [after_cons, after_cons, after_nil]; iexact Hh
  iexact HR

theorem body0_eq : main_while0_body (F := F) = Pipeline.chain ((body0 (F := F)).map fun ops => (seq ops : Prog _ PUnit)) := by
  rw [while0_body_chain]; rfl
theorem body1_eq : main_while1_body (F := F) = Pipeline.chain ((body1 (F := F)).map fun ops => (seq ops : Prog _ PUnit)) := by
  rw [while1_body_chain]; rfl

abbrev segA : List (CSeg (pcfgs (F := F)) adm defs₀ Variants.none Lix Llv loops tk) :=
  segsOf _ _ _ _ _ _ _ _ Rw [hostOps0] hpre (launchContents m)
abbrev segB : CSeg (pcfgs (F := F)) adm defs₀ Variants.none Lix Llv loops tk :=
  loopSeg _ _ _ _ _ _ _ _ 0 main_while0_cond main_while0_body rfl cond0 body0 hbody0 body0_eq 32 (entry0 m) Rw (cond0_spec m)
abbrev segC : List (CSeg (pcfgs (F := F)) adm defs₀ Variants.none Lix Llv loops tk) :=
  segsOf _ _ _ _ _ _ _ _ Rw [hostOps0_1] hmid (fun c => after cond0 (at0 m 32 c))
abbrev segD : CSeg (pcfgs (F := F)) adm defs₀ Variants.none Lix Llv loops tk :=
  loopSeg _ _ _ _ _ _ _ _ 1 main_while1_cond main_while1_body rfl cond1 body1 hbody1 body1_eq 32 (entry1 m) Rw (cond1_spec m)
abbrev segE : List (CSeg (pcfgs (F := F)) adm defs₀ Variants.none Lix Llv loops tk) :=
  segsOf _ _ _ _ _ _ _ _ Rw [hostOps0_2] hpost (fun c => after cond1 (at1 m 32 c))

/-- @main's segments: a stretch, a loop, a stretch, a loop, a stretch. -/
def runSegs : List (CSeg (pcfgs (F := F)) adm defs₀ Variants.none Lix Llv loops tk) :=
  segA m ++ segB m :: (segC m ++ segD m :: segE m)

theorem runSegs_prog : (runSegs m).map CSeg.prog
    = [ (seq hostOps0 : Prog _ PUnit), HostLoop.enter 0, seq hostOps0_1, HostLoop.enter 1, seq hostOps0_2 ] := by
  unfold runSegs
  rw [List.map_append, List.map_cons, List.map_append, List.map_cons, segsOf_prog, segsOf_prog, segsOf_prog]
  rfl

theorem runSegs_chains :
    CSeg.Chains (fun c => iprop(held (c : Thread nD τ) (ucRefs τ sig) (launchContents m c) ∗ Rw c)) (runSegs m)
      (fun c => iprop(iprop(held (c : Thread nD τ) (ucRefs τ sig) (final m c)) ∗ ∃ W, owes (c : Thread nD τ) (0 : CellTallies nD τ sig Unit) W)) := by
  unfold runSegs
  exact CSeg.Chains.append (segsOf_chains _ _ _ _ _ _ _ _ Rw [hostOps0] hpre _)
    ⟨fun _ => .rfl, CSeg.Chains.append (segsOf_chains _ _ _ _ _ _ _ _ Rw [hostOps0_1] hmid _)
      ⟨fun _ => .rfl, segsOf_chains _ _ _ _ _ _ _ _ Rw [hostOps0_2] hpost _⟩⟩

theorem scoped_all : ∀ sm : SemLoc sig, sm.isScoped .tc = true := by decide

/-- Every weakly fair execution of the reference ends, with every tensor buffer at `final`. -/
theorem run_final : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = final m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none Lix Llv loops tk m ρ main
    (runSegs m)
    (fun c Q => by
      rw [show main (F := F) c = CSeg.runL (runSegs m) from
        (main_chain c).trans (congrArg Pipeline.chain (runSegs_prog m)).symm])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (final m c)))
    (hch := runSegs_chains m)
    (hinit := by
      refine Pipeline.initEach Lix Llv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (scoped_all g.2))⟩)

/-! ## Buffers that nothing writes -/

abbrev body0_W : List (Ref sig .tc) := [cond0_W, while0Ops0_W, while0Ops0_1_W, while0Ops0_2_W, while0Ops0_3_W, while0Ops0_4_W, while0Ops0_5_W, while0Ops0_6_W, while0Ops0_7_W, while0Ops0_8_W, while0Ops0_9_W, while0Ops0_10_W].flatten

theorem trip0_keep (r : Ref sig .tc) (h : r ∉ body0_W) (V : Valuation τ sig (Elt F)) :
    afterL body0 (after cond0 V) (Proc.devRef .tc r) = V (Proc.devRef .tc r) := by
  have hm : ∀ W ∈ [cond0_W, while0Ops0_W, while0Ops0_1_W, while0Ops0_2_W, while0Ops0_3_W, while0Ops0_4_W, while0Ops0_5_W, while0Ops0_6_W, while0Ops0_7_W, while0Ops0_8_W, while0Ops0_9_W, while0Ops0_10_W], r ∉ W := fun W hW hr => h (List.mem_flatten.mpr ⟨W, hW, hr⟩)
  simp only [List.forall_mem_cons] at hm
  obtain ⟨hc, h0, h1, h2, h3, h4, h5, h6, h7, h8, h9, h10, -⟩ := hm
  simp only [afterL_cons, afterL_nil]
  rw [while0Ops0_10_keep r h10, while0Ops0_9_keep r h9, while0Ops0_8_keep r h8, while0Ops0_7_keep r h7, while0Ops0_6_keep r h6, while0Ops0_5_keep r h5, while0Ops0_4_keep r h4, while0Ops0_3_keep r h3, while0Ops0_2_keep r h2, while0Ops0_1_keep r h1, while0Ops0_keep r h0, cond0_keep r hc]

theorem at0_keep (r : Ref sig .tc) (h : r ∉ body0_W) (c : Dev nD) : ∀ k, at0 m k c (Proc.devRef .tc r) = entry0 m c (Proc.devRef .tc r)
  | 0 => rfl
  | k + 1 => by
    rw [show at0 m (k + 1) c = afterL body0 (after cond0 (at0 m k c)) from rfl, trip0_keep r h, at0_keep r h c k]

abbrev body1_W : List (Ref sig .tc) := [cond1_W, while1Ops0_W, while1Ops0_1_W, while1Ops0_2_W, while1Ops0_3_W, while1Ops0_4_W, while1Ops0_5_W, while1Ops0_6_W, while1Ops0_7_W, while1Ops0_8_W, while1Ops0_9_W, while1Ops0_10_W, while1Ops0_11_W, while1Ops0_12_W, while1Ops0_13_W, while1Ops0_14_W, while1Ops0_15_W, while1Ops0_16_W].flatten

theorem trip1_keep (r : Ref sig .tc) (h : r ∉ body1_W) (V : Valuation τ sig (Elt F)) :
    afterL body1 (after cond1 V) (Proc.devRef .tc r) = V (Proc.devRef .tc r) := by
  have hm : ∀ W ∈ [cond1_W, while1Ops0_W, while1Ops0_1_W, while1Ops0_2_W, while1Ops0_3_W, while1Ops0_4_W, while1Ops0_5_W, while1Ops0_6_W, while1Ops0_7_W, while1Ops0_8_W, while1Ops0_9_W, while1Ops0_10_W, while1Ops0_11_W, while1Ops0_12_W, while1Ops0_13_W, while1Ops0_14_W, while1Ops0_15_W, while1Ops0_16_W], r ∉ W := fun W hW hr => h (List.mem_flatten.mpr ⟨W, hW, hr⟩)
  simp only [List.forall_mem_cons] at hm
  obtain ⟨hc, h0, h1, h2, h3, h4, h5, h6, h7, h8, h9, h10, h11, h12, h13, h14, h15, h16, -⟩ := hm
  simp only [afterL_cons, afterL_nil]
  rw [while1Ops0_16_keep r h16, while1Ops0_15_keep r h15, while1Ops0_14_keep r h14, while1Ops0_13_keep r h13, while1Ops0_12_keep r h12, while1Ops0_11_keep r h11, while1Ops0_10_keep r h10, while1Ops0_9_keep r h9, while1Ops0_8_keep r h8, while1Ops0_7_keep r h7, while1Ops0_6_keep r h6, while1Ops0_5_keep r h5, while1Ops0_4_keep r h4, while1Ops0_3_keep r h3, while1Ops0_2_keep r h2, while1Ops0_1_keep r h1, while1Ops0_keep r h0, cond1_keep r hc]

theorem at1_keep (r : Ref sig .tc) (h : r ∉ body1_W) (c : Dev nD) : ∀ k, at1 m k c (Proc.devRef .tc r) = entry1 m c (Proc.devRef .tc r)
  | 0 => rfl
  | k + 1 => by
    rw [show at1 m (k + 1) c = afterL body1 (after cond1 (at1 m k c)) from rfl, trip1_keep r h, at1_keep r h c k]

theorem final_keep (r : Ref sig .tc) (h0 : r ∉ hostOps0_W) (h1 : r ∉ hostOps0_1_W) (h2 : r ∉ hostOps0_2_W) (hb0 : r ∉ body0_W) (hb1 : r ∉ body1_W)
    (hc0 : r ∉ cond0_W) (hc1 : r ∉ cond1_W) (c : Dev nD) : final m c (Proc.devRef .tc r) = m ((c.tc : Thread nD τ).loc r) := by
  unfold final
  rw [hostOps0_2_keep r h2, cond1_keep r hc1, at1_keep m r hb1]
  unfold entry1
  rw [hostOps0_1_keep r h1, cond0_keep r hc0, at0_keep m r hb0]
  unfold entry0
  rw [hostOps0_keep r h0]

theorem final_arg0 (c : Dev nD) : final m c (Proc.devRef .tc main_arg0) = m ((c.tc : Thread nD τ).loc main_arg0) :=
  final_keep m main_arg0 (by decide +kernel) (by decide +kernel) (by decide +kernel) (by decide +kernel) (by decide +kernel) (by decide +kernel) (by decide +kernel) c

theorem final_arg1 (c : Dev nD) : final m c (Proc.devRef .tc main_arg1) = m ((c.tc : Thread nD τ).loc main_arg1) :=
  final_keep m main_arg1 (by decide +kernel) (by decide +kernel) (by decide +kernel) (by decide +kernel) (by decide +kernel) (by decide +kernel) (by decide +kernel) c

theorem final_arg2 (c : Dev nD) : final m c (Proc.devRef .tc main_arg2) = m ((c.tc : Thread nD τ).loc main_arg2) :=
  final_keep m main_arg2 (by decide +kernel) (by decide +kernel) (by decide +kernel) (by decide +kernel) (by decide +kernel) (by decide +kernel) (by decide +kernel) c

theorem final_arg3 (c : Dev nD) : final m c (Proc.devRef .tc main_arg3) = m ((c.tc : Thread nD τ).loc main_arg3) :=
  final_keep m main_arg3 (by decide +kernel) (by decide +kernel) (by decide +kernel) (by decide +kernel) (by decide +kernel) (by decide +kernel) (by decide +kernel) c

theorem final_arg4 (c : Dev nD) : final m c (Proc.devRef .tc main_arg4) = m ((c.tc : Thread nD τ).loc main_arg4) :=
  final_keep m main_arg4 (by decide +kernel) (by decide +kernel) (by decide +kernel) (by decide +kernel) (by decide +kernel) (by decide +kernel) (by decide +kernel) c

theorem final_arg5 (c : Dev nD) : final m c (Proc.devRef .tc main_arg5) = m ((c.tc : Thread nD τ).loc main_arg5) :=
  final_keep m main_arg5 (by decide +kernel) (by decide +kernel) (by decide +kernel) (by decide +kernel) (by decide +kernel) (by decide +kernel) (by decide +kernel) c

theorem final_arg6 (c : Dev nD) : final m c (Proc.devRef .tc main_arg6) = m ((c.tc : Thread nD τ).loc main_arg6) :=
  final_keep m main_arg6 (by decide +kernel) (by decide +kernel) (by decide +kernel) (by decide +kernel) (by decide +kernel) (by decide +kernel) (by decide +kernel) c

end Cert.ReferenceIdeal.Loops
-- ==== Proof.Frames.lean ====
module

public import proofs.«01_k».proof.Proof.Same
public import proofs.«01_k».proof.Defs
public import proofs.«01_k».proof.Proof.Gen.Kernel
public import proofs.«01_k».proof.Proof.Run
public import proofs.«01_k».proof.Proof.RefRun

@[expose] public section

set_option maxRecDepth 16384

/-!
The frames: both kernels and the reference run, leave their arguments as they were, and end with every semaphore at zero.
-/

noncomputable section

namespace Cert.KernelIdeal.Run

open Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W1_keeps (r : Ref sig .tc) (h : ∀ w, Pipeline.arrRef spec0 w = r → (cfg0.win w).isOut = false) (c : Dev nD) :
    W1 m c (Proc.devRef .tc r) = m ((c : Thread nD τ).loc r) :=
  Pipeline.afterRegion_keeps (dat0 m c) (W0 m c) launch0.win.arr_inj (fun _ => rfl) r h

theorem W2_keeps (r : Ref sig .tc) (h : ∀ w, Pipeline.arrRef spec1 w = r → (cfg1.win w).isOut = false) (c : Dev nD) :
    W2 m c (Proc.devRef .tc r) = W1 m c (Proc.devRef .tc r) :=
  Pipeline.afterRegion_keeps (dat1 m c) (W1 m c) launch1.win.arr_inj (fun _ => rfl) r h

theorem W2_arg (r : Ref sig .tc) (h0 : ∀ w, Pipeline.arrRef spec0 w = r → (cfg0.win w).isOut = false)
    (h1 : ∀ w, Pipeline.arrRef spec1 w = r → (cfg1.win w).isOut = false) (c : Dev nD) :
    W2 m c (Proc.devRef .tc r) = m ((c : Thread nD τ).loc r) :=
  (W2_keeps m r h1 c).trans (W1_keeps m r h0 c)

theorem W2_arg0 (c : Dev nD) : W2 m c (Proc.devRef .tc main_arg0) = m ((c : Thread nD τ).loc main_arg0) :=
  W2_arg m main_arg0 (by decide +kernel) (by decide +kernel) c

theorem W2_arg1 (c : Dev nD) : W2 m c (Proc.devRef .tc main_arg1) = m ((c : Thread nD τ).loc main_arg1) :=
  W2_arg m main_arg1 (by decide +kernel) (by decide +kernel) c

theorem W2_arg2 (c : Dev nD) : W2 m c (Proc.devRef .tc main_arg2) = m ((c : Thread nD τ).loc main_arg2) :=
  W2_arg m main_arg2 (by decide +kernel) (by decide +kernel) c

theorem W2_arg3 (c : Dev nD) : W2 m c (Proc.devRef .tc main_arg3) = m ((c : Thread nD τ).loc main_arg3) :=
  W2_arg m main_arg3 (by decide +kernel) (by decide +kernel) c

theorem W2_arg4 (c : Dev nD) : W2 m c (Proc.devRef .tc main_arg4) = m ((c : Thread nD τ).loc main_arg4) :=
  W2_arg m main_arg4 (by decide +kernel) (by decide +kernel) c

theorem W2_arg5 (c : Dev nD) : W2 m c (Proc.devRef .tc main_arg5) = m ((c : Thread nD τ).loc main_arg5) :=
  W2_arg m main_arg5 (by decide +kernel) (by decide +kernel) c

theorem W2_arg6 (c : Dev nD) : W2 m c (Proc.devRef .tc main_arg6) = m ((c : Thread nD τ).loc main_arg6) :=
  W2_arg m main_arg6 (by decide +kernel) (by decide +kernel) c

/-- The kernel runs, keeps its arguments and ends with every semaphore at zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run (defs (F := F)) _ _).mono (fun r h => ⟨fun c => ⟨(h.1 c main_arg0 rfl).trans (W2_arg0 m c), (h.1 c main_arg1 rfl).trans (W2_arg1 m c), (h.1 c main_arg2 rfl).trans (W2_arg2 m c), (h.1 c main_arg3 rfl).trans (W2_arg3 m c), (h.1 c main_arg4 rfl).trans (W2_arg4 m c), (h.1 c main_arg5 rfl).trans (W2_arg5 m c), (h.1 c main_arg6 rfl).trans (W2_arg6 m c)⟩, h.2⟩) (run_main m ρ)

end Cert.KernelIdeal.Run

namespace Cert.ReferenceIdeal.Loops

open Idealize.ShloMosaic Idealize.ShloMosaic.TcCoe Idealize.SL.Sem

variable {F : FTy → Type} [FloatOps F]
variable (m : (ℓ : Loc nD τ sig) → Buf (Elt F) ℓ) (ρ : Dev nD → PrngReg)

/-- The reference runs, keeps its arguments and ends with every semaphore at zero. -/
theorem frame : θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  (θ_run (defs (F := F)) _ _).mono (fun r h => ⟨fun c => ⟨(h.1 c main_arg0 rfl).trans (final_arg0 m c), (h.1 c main_arg1 rfl).trans (final_arg1 m c), (h.1 c main_arg2 rfl).trans (final_arg2 m c), (h.1 c main_arg3 rfl).trans (final_arg3 m c), (h.1 c main_arg4 rfl).trans (final_arg4 m c), (h.1 c main_arg5 rfl).trans (final_arg5 m c), (h.1 c main_arg6 rfl).trans (final_arg6 m c)⟩, h.2⟩) (run_final m ρ)

end Cert.ReferenceIdeal.Loops

namespace Cert.Proof

open Idealize.ShloMosaic Idealize.SL.Sem

theorem frame_Kernel : Cert.quiescent_Kernel := fun m ρ _ => run_same (Cert.KernelIdeal.Run.frame (F := Bits) m ρ)
theorem frame_KernelIdeal : Cert.quiescent_KernelIdeal := fun m ρ _ => Cert.KernelIdeal.Run.frame (F := Ideal) m ρ
theorem frame_ReferenceIdeal : Cert.quiescent_ReferenceIdeal := fun m ρ _ => Cert.ReferenceIdeal.Loops.frame (F := Ideal) m ρ

end Cert.Proof

end
-- ==== Proof.Scan.lean ====
module

public import proofs.«01_k».proof.Proof.Gen.KernelIdeal
public import Idealize.ShloMosaic.Lib.Pipeline.ValueKit
public import Idealize.ShloMosaic.Lib.Pointwise

@[expose] public section

set_option maxRecDepth 16384

/-!
The scan over chunks and its gradient, in plain mathematics over the extended reals.  A chunk is 64 rows of six heads of width
128; the state of a head is a 128 × 128 matrix.
-/

noncomputable section

namespace Cert.Scan

open Cert.KernelIdeal
open Idealize.ShloMosaic

/-- Six heads' rows of a chunk. -/
abbrev Rows := FVec Ideal S6x64x128 .f32
/-- Six heads' states. -/
abbrev State := FVec Ideal S6x128x128 .f32
/-- Six heads' weights of a chunk's rows against its rows. -/
abbrev Wts := FVec Ideal S6x64x64 .f32

/-! ## The products, head by head -/

/-- `l · r`. -/
def rowsState (l : Rows) (r : State) : Rows := fun y => ∑ d : Fin 128, l (ix3 (y 0) (y 1) d) * r (ix3 (y 0) d (y 2))
/-- `l · rᵀ`. -/
def rowsStateT (l : Rows) (r : State) : Rows := fun y => ∑ e : Fin 128, l (ix3 (y 0) (y 1) e) * r (ix3 (y 0) (y 2) e)
/-- `lᵀ · r`. -/
def rowsTRows (l r : Rows) : State := fun y => ∑ c : Fin 64, l (ix3 (y 0) c (y 1)) * r (ix3 (y 0) c (y 2))
/-- `l · rᵀ`. -/
def rowsRowsT (l r : Rows) : Wts := fun y => ∑ e : Fin 128, l (ix3 (y 0) (y 1) e) * r (ix3 (y 0) (y 2) e)
/-- `lᵀ · r`. -/
def wtsTRows (l : Wts) (r : Rows) : Rows := fun y => ∑ c : Fin 64, l (ix3 (y 0) c (y 1)) * r (ix3 (y 0) c (y 2))
/-- `-x`. -/
def negRows (x : Rows) : Rows := fun y => -(x y)
/-- The sum over a state's rows of the product of two states. -/
def colSum (s d : State) : FVec Ideal S6x1x128 .f32 := fun y => ∑ k : Fin 128, s (ix3 (y 0) k (y 2)) * d (ix3 (y 0) k (y 2))

/-! ## A chunk forward -/

/-- The chunk's new values: `u - w · S`. -/
def vNew (u w : Rows) (S : State) : Rows := subf u (rowsState w S)
/-- The state after the chunk: `S * g + kᵀ · v`. -/
def next (u w k : Rows) (g S : State) : State := addf (mulf S g) (rowsTRows k (vNew u w S))

/-! ## A chunk backward -/

/-- The gradient of `u`: `k · D + aᵀ · o`. -/
def dU (k o : Rows) (a : Wts) (D : State) : Rows := addf (rowsState k D) (wtsTRows a o)
/-- The gradient of `w`. -/
def dW (k o : Rows) (a : Wts) (S D : State) : Rows := rowsStateT (negRows (dU k o a D)) S
/-- The gradient of the gated queries. -/
def dQ (o : Rows) (S : State) : Rows := rowsStateT o S
/-- The gradient of the decayed keys. -/
def dK (u w : Rows) (S D : State) : Rows := rowsStateT (vNew u w S) D
/-- The gradient of the weights. -/
def dA (u w o : Rows) (S : State) : Wts := rowsRowsT o (vNew u w S)
/-- The gradient of the state before the chunk. -/
def prev (w q k o : Rows) (a : Wts) (g D : State) : State :=
  addf (addf (mulf D g) (rowsTRows q o)) (rowsTRows w (negRows (dU k o a D)))

/-- The zero state. -/
def zeroState : State := fun _ => 0

/-! ## The chunks of the arrays -/

abbrev Wide := FVec Ideal S2048x768 .f32

/-- Chunk `i` of a `[2048, 768]` array. -/
def rows (x : Wide) (i : ℕ) : Rows := fun y =>
  x (ix2 ⟨(64 * i + (y 1).val) % 2048, Nat.mod_lt _ (by decide)⟩ ⟨(128 * (y 0).val + (y 2).val) % 768, Nat.mod_lt _ (by decide)⟩)
/-- Chunk `i` of the weights. -/
def wts (x : FVec Ideal S6x32x64x64 .f32) (i : ℕ) : Wts := fun y => x (ix4 (y 0) ⟨i % 32, Nat.mod_lt _ (by decide)⟩ (y 1) (y 2))
/-- Chunk `i` of the decays, each over the rows of a state. -/
def decay (x : FVec Ideal S6x32x1x128 .f32) (i : ℕ) : State := fun y => x (ix4 (y 0) ⟨i % 32, Nat.mod_lt _ (by decide)⟩ 0 (y 2))
/-- Chunk `i` of the states. -/
def stateOf (x : FVec Ideal S6x32x128x128 .f32) (i : ℕ) : State := fun y => x (ix4 (y 0) ⟨i % 32, Nat.mod_lt _ (by decide)⟩ (y 1) (y 2))

/-! ## The whole scan -/

section

variable (u w q k : Wide) (a : FVec Ideal S6x32x64x64 .f32) (g : FVec Ideal S6x32x1x128 .f32) (o : Wide)

/-- The state before chunk `i`. -/
def fwd : ℕ → State
  | 0 => zeroState
  | i + 1 => next (rows u i) (rows w i) (rows k i) (decay g i) (fwd i)

/-- The gradient of the state after chunk `31 - i`. -/
def bwd : ℕ → State
  | 0 => zeroState
  | i + 1 => prev (rows w (31 - i)) (rows q (31 - i)) (rows k (31 - i)) (rows o (31 - i)) (wts a (31 - i)) (decay g (31 - i)) (bwd i)

/-- A chunk-wise result laid out as a `[2048, 768]` array. -/
def wide (X : ℕ → Rows) : Wide := fun y =>
  X ((y 0).val / 64) (ix3 ⟨(y 1).val / 128 % 6, Nat.mod_lt _ (by decide)⟩ ⟨(y 0).val % 64, Nat.mod_lt _ (by decide)⟩ ⟨(y 1).val % 128, Nat.mod_lt _ (by decide)⟩)

def gradU : Wide := wide fun i => dU (rows k i) (rows o i) (wts a i) (bwd w q k a g o (31 - i))
def gradW : Wide := wide fun i => dW (rows k i) (rows o i) (wts a i) (fwd u w k g i) (bwd w q k a g o (31 - i))
def gradQ : Wide := wide fun i => dQ (rows o i) (fwd u w k g i)
def gradK : Wide := wide fun i => dK (rows u i) (rows w i) (fwd u w k g i) (bwd w q k a g o (31 - i))
def gradA : FVec Ideal S6x32x64x64 .f32 := fun y =>
  dA (rows u (y 1).val) (rows w (y 1).val) (rows o (y 1).val) (fwd u w k g (y 1).val) (ix3 (y 0) (y 2) (y 3))
def gradG : FVec Ideal S6x32x1x128 .f32 := fun y =>
  colSum (fwd u w k g (y 1).val) (bwd w q k a g o (31 - (y 1).val)) (ix3 (y 0) 0 (y 3))

end

end Cert.Scan

end
-- ==== Proof.ChunkOps.lean ====
module

public import proofs.«01_k».proof.Proof.Scan

@[expose] public section

set_option maxRecDepth 16384

/-!
The kernels' operations on a chunk, read as the mathematics of `Scan`.
-/

noncomputable section

namespace Cert.Scan

open Cert.KernelIdeal Cert.KernelIdeal.Gen
open Idealize.ShloMosaic

theorem mm_rowsState (l : Rows) (r : State) (hl hr) :
    matmul dot_S6x64x128_S6x128x128_S6x64x128_2_1_1_2_0_0 none (truncf .bf16 l hl) (truncf .bf16 r hr) (constant S6x64x128 .f32 0x00000000#32)
      = rowsState l r := by
  funext y; pointwise [rowsState]

theorem mm_rowsStateT (l : Rows) (r : State) (hl hr) :
    matmul dot_S6x64x128_S6x128x128_S6x64x128_2_2_1_1_0_0 none (truncf .bf16 l hl) (truncf .bf16 r hr) (constant S6x64x128 .f32 0x00000000#32)
      = rowsStateT l r := by
  funext y; pointwise [rowsStateT]

theorem mm_rowsTRows (l r : Rows) (hl hr) :
    matmul dot_S6x64x128_S6x64x128_S6x128x128_1_1_2_2_0_0 none (truncf .bf16 l hl) (truncf .bf16 r hr) (constant S6x128x128 .f32 0x00000000#32)
      = rowsTRows l r := by
  funext y; pointwise [rowsTRows]

theorem mm_rowsRowsT (l r : Rows) (hl hr) :
    matmul dot_S6x64x128_S6x64x128_S6x64x64_2_2_1_1_0_0 none (truncf .bf16 l hl) (truncf .bf16 r hr) (constant S6x64x64 .f32 0x00000000#32)
      = rowsRowsT l r := by
  funext y; pointwise [rowsRowsT]

theorem mm_wtsTRows (l : Wts) (r : Rows) (hl hr) :
    matmul dot_S6x64x64_S6x64x128_S6x64x128_1_1_2_2_0_0 none (truncf .bf16 l hl) (truncf .bf16 r hr) (constant S6x64x128 .f32 0x00000000#32)
      = wtsTRows l r := by
  funext y; pointwise [wtsTRows]

theorem zero_sub_rows (x : Rows) : subf (broadcast S6x64x128 (FloatOps.ofBits (F := Ideal) FTy.f32 0#32)) x = negRows x := by
  funext y; pointwise [negRows]
  exact zero_sub _

theorem red_colSum (s d : State) (h1 h2 h3 h4) :
    shapeCast S6x1x128 (multiReduction (F := Ideal) .add [1] S6x128 (mulf s d) 0x00000000#32 h1 h2 h3) h4 = colSum s d := by
  funext y; pointwise [colSum]

theorem cast_state (x : State) (h) : shapeCast S6x128x128 x h = x := by
  funext y; pointwise

theorem zero_splat : broadcast S6x128x128 (FloatOps.ofBits (F := Ideal) FTy.f32 0#32) = zeroState := by
  funext y; pointwise [zeroState]

/-! ## A block of four chunks -/

abbrev Blk := FVec Ideal S256x768 .f32

/-- Chunk `j` of a block. -/
def rows4 (x : Blk) (j : ℕ) : Rows := fun y =>
  x (ix2 ⟨(64 * j + (y 1).val) % 256, Nat.mod_lt _ (by decide)⟩ ⟨(128 * (y 0).val + (y 2).val) % 768, Nat.mod_lt _ (by decide)⟩)
def wts4 (x : FVec Ideal S6x4x64x64 .f32) (j : ℕ) : Wts := fun y => x (ix4 (y 0) ⟨j % 4, Nat.mod_lt _ (by decide)⟩ (y 1) (y 2))
def decay4 (x : FVec Ideal S6x4x1x128 .f32) (j : ℕ) : State := fun y => x (ix4 (y 0) ⟨j % 4, Nat.mod_lt _ (by decide)⟩ 0 (y 2))
def state4 (x : FVec Ideal S6x4x128x128 .f32) (j : ℕ) : State := fun y => x (ix4 (y 0) ⟨j % 4, Nat.mod_lt _ (by decide)⟩ (y 1) (y 2))

theorem load_rows4 (x : Blk) (j o l : ℕ) (ho : o = 64 * j) (hj : j < 4) (k : ∀ a : Fin S256x768.rank, ![o, l] a + S64x128.size a ≤ S256x768.size a) (g)
    (y : S6x64x128.Idx) (i : S1x64x128.Idx) (h : l = 128 * (y 0).val) (h0 : (i 0).val = 0) (h1 : (i 1).val = (y 1).val) (h2 : (i 2).val = (y 2).val) :
    shapeCast S1x64x128 (View.ld (Val := Elt Ideal) (S := S256x768) (e' := .f32) x (Rect.unit ![o, l] S64x128.size k)) g i = rows4 x j y := by
  have y0 : (y 0).val < 6 := (y 0).isLt
  have y1 : (y 1).val < 64 := (y 1).isLt
  have y2 : (y 2).val < 128 := (y 2).isLt
  refine (shapeCast_addUnit_apply ![64, 128] _ _ i).trans ?_
  refine View.ld_unit_apply_of _ _ _ _ _ _ fun a => ?_
  match a with
  | ⟨0, _⟩ =>
    show (64 * j + (y 1).val) % 256 = o + (i 1).val
    omega
  | ⟨1, _⟩ =>
    show (128 * (y 0).val + (y 2).val) % 768 = l + (i 2).val
    omega

/-- Six loads of one head each, stacked. -/
theorem stack_rows4 (x : Blk) (j o : ℕ) (ho : o = 64 * j) (hj : j < 4) (k0 k1 k2 k3 k4 k5 g0 g1 g2 g3 g4 g5 hc) :
    concatenate S6x64x128 0
      [⟨S1x64x128, shapeCast (s := S64x128) S1x64x128 (View.ld (Val := Elt Ideal) (S := S256x768) (e' := .f32) x (Rect.unit ![o, 0] ![64, 128] k0)) g0⟩,
       ⟨S1x64x128, shapeCast (s := S64x128) S1x64x128 (View.ld (Val := Elt Ideal) (S := S256x768) (e' := .f32) x (Rect.unit ![o, 128] ![64, 128] k1)) g1⟩,
       ⟨S1x64x128, shapeCast (s := S64x128) S1x64x128 (View.ld (Val := Elt Ideal) (S := S256x768) (e' := .f32) x (Rect.unit ![o, 256] ![64, 128] k2)) g2⟩,
       ⟨S1x64x128, shapeCast (s := S64x128) S1x64x128 (View.ld (Val := Elt Ideal) (S := S256x768) (e' := .f32) x (Rect.unit ![o, 384] ![64, 128] k3)) g3⟩,
       ⟨S1x64x128, shapeCast (s := S64x128) S1x64x128 (View.ld (Val := Elt Ideal) (S := S256x768) (e' := .f32) x (Rect.unit ![o, 512] ![64, 128] k4)) g4⟩,
       ⟨S1x64x128, shapeCast (s := S64x128) S1x64x128 (View.ld (Val := Elt Ideal) (S := S256x768) (e' := .f32) x (Rect.unit ![o, 640] ![64, 128] k5)) g5⟩] hc
      = rows4 x j := by
  funext y
  concat_tiles i h
  all_goals
    refine load_rows4 x j _ _ ho hj _ _ y i ?_ ‹_› ‹_› ‹_›
    omega

theorem stack_rows4_0 (x : Blk) (k0 k1 k2 k3 k4 k5 g0 g1 g2 g3 g4 g5 hc) :
    concatenate S6x64x128 0
      [⟨S1x64x128, shapeCast (s := S64x128) S1x64x128 (View.ld (Val := Elt Ideal) (S := S256x768) (e' := .f32) x (Rect.unit ![0, 0] ![64, 128] k0)) g0⟩,
       ⟨S1x64x128, shapeCast (s := S64x128) S1x64x128 (View.ld (Val := Elt Ideal) (S := S256x768) (e' := .f32) x (Rect.unit ![0, 128] ![64, 128] k1)) g1⟩,
       ⟨S1x64x128, shapeCast (s := S64x128) S1x64x128 (View.ld (Val := Elt Ideal) (S := S256x768) (e' := .f32) x (Rect.unit ![0, 256] ![64, 128] k2)) g2⟩,
       ⟨S1x64x128, shapeCast (s := S64x128) S1x64x128 (View.ld (Val := Elt Ideal) (S := S256x768) (e' := .f32) x (Rect.unit ![0, 384] ![64, 128] k3)) g3⟩,
       ⟨S1x64x128, shapeCast (s := S64x128) S1x64x128 (View.ld (Val := Elt Ideal) (S := S256x768) (e' := .f32) x (Rect.unit ![0, 512] ![64, 128] k4)) g4⟩,
       ⟨S1x64x128, shapeCast (s := S64x128) S1x64x128 (View.ld (Val := Elt Ideal) (S := S256x768) (e' := .f32) x (Rect.unit ![0, 640] ![64, 128] k5)) g5⟩] hc
      = rows4 x 0 :=
  stack_rows4 x 0 0 rfl (by decide) _ _ _ _ _ _ _ _ _ _ _ _ _

theorem stack_rows4_1 (x : Blk) (k0 k1 k2 k3 k4 k5 g0 g1 g2 g3 g4 g5 hc) :
    concatenate S6x64x128 0
      [⟨S1x64x128, shapeCast (s := S64x128) S1x64x128 (View.ld (Val := Elt Ideal) (S := S256x768) (e' := .f32) x (Rect.unit ![64, 0] ![64, 128] k0)) g0⟩,
       ⟨S1x64x128, shapeCast (s := S64x128) S1x64x128 (View.ld (Val := Elt Ideal) (S := S256x768) (e' := .f32) x (Rect.unit ![64, 128] ![64, 128] k1)) g1⟩,
       ⟨S1x64x128, shapeCast (s := S64x128) S1x64x128 (View.ld (Val := Elt Ideal) (S := S256x768) (e' := .f32) x (Rect.unit ![64, 256] ![64, 128] k2)) g2⟩,
       ⟨S1x64x128, shapeCast (s := S64x128) S1x64x128 (View.ld (Val := Elt Ideal) (S := S256x768) (e' := .f32) x (Rect.unit ![64, 384] ![64, 128] k3)) g3⟩,
       ⟨S1x64x128, shapeCast (s := S64x128) S1x64x128 (View.ld (Val := Elt Ideal) (S := S256x768) (e' := .f32) x (Rect.unit ![64, 512] ![64, 128] k4)) g4⟩,
       ⟨S1x64x128, shapeCast (s := S64x128) S1x64x128 (View.ld (Val := Elt Ideal) (S := S256x768) (e' := .f32) x (Rect.unit ![64, 640] ![64, 128] k5)) g5⟩] hc
      = rows4 x 1 :=
  stack_rows4 x 1 64 rfl (by decide) _ _ _ _ _ _ _ _ _ _ _ _ _

theorem stack_rows4_2 (x : Blk) (k0 k1 k2 k3 k4 k5 g0 g1 g2 g3 g4 g5 hc) :
    concatenate S6x64x128 0
      [⟨S1x64x128, shapeCast (s := S64x128) S1x64x128 (View.ld (Val := Elt Ideal) (S := S256x768) (e' := .f32) x (Rect.unit ![128, 0] ![64, 128] k0)) g0⟩,
       ⟨S1x64x128, shapeCast (s := S64x128) S1x64x128 (View.ld (Val := Elt Ideal) (S := S256x768) (e' := .f32) x (Rect.unit ![128, 128] ![64, 128] k1)) g1⟩,
       ⟨S1x64x128, shapeCast (s := S64x128) S1x64x128 (View.ld (Val := Elt Ideal) (S := S256x768) (e' := .f32) x (Rect.unit ![128, 256] ![64, 128] k2)) g2⟩,
       ⟨S1x64x128, shapeCast (s := S64x128) S1x64x128 (View.ld (Val := Elt Ideal) (S := S256x768) (e' := .f32) x (Rect.unit ![128, 384] ![64, 128] k3)) g3⟩,
       ⟨S1x64x128, shapeCast (s := S64x128) S1x64x128 (View.ld (Val := Elt Ideal) (S := S256x768) (e' := .f32) x (Rect.unit ![128, 512] ![64, 128] k4)) g4⟩,
       ⟨S1x64x128, shapeCast (s := S64x128) S1x64x128 (View.ld (Val := Elt Ideal) (S := S256x768) (e' := .f32) x (Rect.unit ![128, 640] ![64, 128] k5)) g5⟩] hc
      = rows4 x 2 :=
  stack_rows4 x 2 128 rfl (by decide) _ _ _ _ _ _ _ _ _ _ _ _ _

theorem stack_rows4_3 (x : Blk) (k0 k1 k2 k3 k4 k5 g0 g1 g2 g3 g4 g5 hc) :
    concatenate S6x64x128 0
      [⟨S1x64x128, shapeCast (s := S64x128) S1x64x128 (View.ld (Val := Elt Ideal) (S := S256x768) (e' := .f32) x (Rect.unit ![192, 0] ![64, 128] k0)) g0⟩,
       ⟨S1x64x128, shapeCast (s := S64x128) S1x64x128 (View.ld (Val := Elt Ideal) (S := S256x768) (e' := .f32) x (Rect.unit ![192, 128] ![64, 128] k1)) g1⟩,
       ⟨S1x64x128, shapeCast (s := S64x128) S1x64x128 (View.ld (Val := Elt Ideal) (S := S256x768) (e' := .f32) x (Rect.unit ![192, 256] ![64, 128] k2)) g2⟩,
       ⟨S1x64x128, shapeCast (s := S64x128) S1x64x128 (View.ld (Val := Elt Ideal) (S := S256x768) (e' := .f32) x (Rect.unit ![192, 384] ![64, 128] k3)) g3⟩,
       ⟨S1x64x128, shapeCast (s := S64x128) S1x64x128 (View.ld (Val := Elt Ideal) (S := S256x768) (e' := .f32) x (Rect.unit ![192, 512] ![64, 128] k4)) g4⟩,
       ⟨S1x64x128, shapeCast (s := S64x128) S1x64x128 (View.ld (Val := Elt Ideal) (S := S256x768) (e' := .f32) x (Rect.unit ![192, 640] ![64, 128] k5)) g5⟩] hc
      = rows4 x 3 :=
  stack_rows4 x 3 192 rfl (by decide) _ _ _ _ _ _ _ _ _ _ _ _ _

theorem cast_wts (x : FVec Ideal S6x1x64x64 .f32) (h) (y : S6x64x64.Idx) :
    shapeCast S6x64x64 x h y = x (ix4 (y 0) 0 (y 1) (y 2)) := by
  pointwise

theorem cast_states (x : FVec Ideal S6x1x128x128 .f32) (h) (y : S6x128x128.Idx) :
    shapeCast S6x128x128 x h y = x (ix4 (y 0) 0 (y 1) (y 2)) := by
  pointwise

theorem cast_decay (x : FVec Ideal S6x1x1x128 .f32) (h h') (y : S6x128x128.Idx) :
    broadcastTo S6x128x128 (shapeCast S6x1x128 x h) h' y = x (ix4 (y 0) 0 0 (y 2)) := by
  pointwise

theorem load_wts4 (x : FVec Ideal S6x4x64x64 .f32) (j : ℕ) (hj : j < 4) (k : ∀ a : Fin S6x4x64x64.rank, ![0, j, 0, 0] a + S6x1x64x64.size a ≤ S6x4x64x64.size a) (g) :
    shapeCast (s := S6x1x64x64) S6x64x64 (View.ld (Val := Elt Ideal) (S := S6x4x64x64) (e' := .f32) x (Rect.unit ![0, j, 0, 0] ![6, 1, 64, 64] k)) g = wts4 x j := by
  funext y
  refine (cast_wts _ _ y).trans ?_
  refine View.ld_unit_apply_of _ _ _ _ _ _ fun a => ?_
  match a with
  | ⟨0, _⟩ => show (y 0).val = 0 + (y 0).val; omega
  | ⟨1, _⟩ => show j % 4 = j + 0; omega
  | ⟨2, _⟩ => show (y 1).val = 0 + (y 1).val; omega
  | ⟨3, _⟩ => show (y 2).val = 0 + (y 2).val; omega

theorem load_decay4 (x : FVec Ideal S6x4x1x128 .f32) (j : ℕ) (hj : j < 4) (k : ∀ a : Fin S6x4x1x128.rank, ![0, j, 0, 0] a + S6x1x1x128.size a ≤ S6x4x1x128.size a) (g g') :
    broadcastTo S6x128x128 (shapeCast (s := S6x1x1x128) S6x1x128 (View.ld (Val := Elt Ideal) (S := S6x4x1x128) (e' := .f32) x (Rect.unit ![0, j, 0, 0] ![6, 1, 1, 128] k)) g) g' = decay4 x j := by
  funext y
  refine (cast_decay _ _ _ y).trans ?_
  refine View.ld_unit_apply_of _ _ _ _ _ _ fun a => ?_
  match a with
  | ⟨0, _⟩ => show (y 0).val = 0 + (y 0).val; omega
  | ⟨1, _⟩ => show j % 4 = j + 0; omega
  | ⟨2, _⟩ => show 0 = 0 + 0; omega
  | ⟨3, _⟩ => show (y 2).val = 0 + (y 2).val; omega

theorem load_state4 (x : FVec Ideal S6x4x128x128 .f32) (j : ℕ) (hj : j < 4) (k : ∀ a : Fin S6x4x128x128.rank, ![0, j, 0, 0] a + S6x1x128x128.size a ≤ S6x4x128x128.size a) (g) :
    shapeCast (s := S6x1x128x128) S6x128x128 (View.ld (Val := Elt Ideal) (S := S6x4x128x128) (e' := .f32) x (Rect.unit ![0, j, 0, 0] ![6, 1, 128, 128] k)) g = state4 x j := by
  funext y
  refine (cast_states _ _ y).trans ?_
  refine View.ld_unit_apply_of _ _ _ _ _ _ fun a => ?_
  match a with
  | ⟨0, _⟩ => show (y 0).val = 0 + (y 0).val; omega
  | ⟨1, _⟩ => show j % 4 = j + 0; omega
  | ⟨2, _⟩ => show (y 1).val = 0 + (y 1).val; omega
  | ⟨3, _⟩ => show (y 2).val = 0 + (y 2).val; omega

theorem cast_piece_state (x : State) (h) (y : S6x1x128x128.Idx) :
    shapeCast S6x1x128x128 x h y = x (ix3 (y 0) (y 2) (y 3)) := by
  pointwise

theorem cast_piece_wts (x : Wts) (h) (y : S6x1x64x64.Idx) :
    shapeCast S6x1x64x64 x h y = x (ix3 (y 0) (y 2) (y 3)) := by
  pointwise

theorem cast_piece_decay (x : FVec Ideal S6x1x128 .f32) (h) (y : S6x1x1x128.Idx) :
    shapeCast S6x1x1x128 x h y = x (ix3 (y 0) 0 (y 3)) := by
  pointwise

theorem cast_piece_rows (x : Rows) (o : ℕ) (ho : o < 6) (h : S6x64x128.Slices ![o, 0, 0] S1x64x128) (h') (y : S64x128.Idx) :
    shapeCast S64x128 (extractStridedSlice S1x64x128 ![o, 0, 0] x h) h' y = x (ix3 ⟨o, ho⟩ (y 0) (y 1)) := by
  pointwise

/-- A chunk's state stored in a block of four. -/
theorem piece_state (X : ℕ → State) (Y : State) (j : ℕ) (x : S6x1x128x128.Idx) (y : S6x4x128x128.Idx) (h)
    (h0 : (y 0).val = (x 0).val) (h1 : (y 1).val = j) (h2 : (y 2).val = (x 2).val) (h3 : (y 3).val = (x 3).val) (hY : Y = X j) :
    shapeCast S6x1x128x128 Y h x = X (y 1).val (ix3 (y 0) (y 2) (y 3)) := by
  rw [cast_piece_state, hY, h1]
  refine congrArg (X j) (funext fun a => ?_)
  match a with
  | ⟨0, _⟩ => exact Fin.ext h0.symm
  | ⟨1, _⟩ => exact Fin.ext h2.symm
  | ⟨2, _⟩ => exact Fin.ext h3.symm

/-- A chunk-wise result laid out as a block. -/
def wide4 (X : ℕ → Rows) : Blk := fun y =>
  X ((y 0).val / 64) (ix3 ⟨(y 1).val / 128 % 6, Nat.mod_lt _ (by decide)⟩ ⟨(y 0).val % 64, Nat.mod_lt _ (by decide)⟩ ⟨(y 1).val % 128, Nat.mod_lt _ (by decide)⟩)

/-- One head of a chunk's rows stored in a block of four. -/
theorem piece_rows (X : ℕ → Rows) (Y : Rows) (j o : ℕ) (ho : o < 6) (x : S64x128.Idx) (y : S256x768.Idx) (h h')
    (h0 : (y 0).val = 64 * j + (x 0).val) (h1 : (y 1).val = 128 * o + (x 1).val) (hY : Y = X j) :
    shapeCast S64x128 (extractStridedSlice S1x64x128 ![o, 0, 0] Y h) h' x = wide4 X y := by
  have x0 : (x 0).val < 64 := (x 0).isLt
  have x1 : (x 1).val < 128 := (x 1).isLt
  have e : (y 0).val / 64 = j := by omega
  rw [cast_piece_rows Y o ho, hY]
  unfold wide4
  rw [e]
  refine congrArg (X j) (funext fun a => ?_)
  match a with
  | ⟨0, _⟩ => exact Fin.ext (show o = (y 1).val / 128 % 6 by omega)
  | ⟨1, _⟩ => exact Fin.ext (show (x 0).val = (y 0).val % 64 by omega)
  | ⟨2, _⟩ => exact Fin.ext (show (x 1).val = (y 1).val % 128 by omega)

/-- A chunk's weights stored in a block of four. -/
theorem piece_wts (X : ℕ → Wts) (Y : Wts) (j : ℕ) (x : S6x1x64x64.Idx) (y : S6x4x64x64.Idx) (h)
    (h0 : (y 0).val = (x 0).val) (h1 : (y 1).val = j) (h2 : (y 2).val = (x 2).val) (h3 : (y 3).val = (x 3).val) (hY : Y = X j) :
    shapeCast S6x1x64x64 Y h x = X (y 1).val (ix3 (y 0) (y 2) (y 3)) := by
  rw [cast_piece_wts, hY, h1]
  refine congrArg (X j) (funext fun a => ?_)
  match a with
  | ⟨0, _⟩ => exact Fin.ext h0.symm
  | ⟨1, _⟩ => exact Fin.ext h2.symm
  | ⟨2, _⟩ => exact Fin.ext h3.symm

/-- A chunk's row of decays stored in a block of four. -/
theorem piece_decay (X : ℕ → FVec Ideal S6x1x128 .f32) (Y : FVec Ideal S6x1x128 .f32) (j : ℕ) (x : S6x1x1x128.Idx) (y : S6x4x1x128.Idx) (h)
    (h0 : (y 0).val = (x 0).val) (h1 : (y 1).val = j) (h3 : (y 3).val = (x 3).val) (hY : Y = X j) :
    shapeCast S6x1x1x128 Y h x = X (y 1).val (ix3 (y 0) 0 (y 3)) := by
  rw [cast_piece_decay, hY, h1]
  refine congrArg (X j) (funext fun a => ?_)
  match a with
  | ⟨0, _⟩ => exact Fin.ext h0.symm
  | ⟨1, _⟩ => rfl
  | ⟨2, _⟩ => exact Fin.ext h3.symm

/-! ## The four chunks of a block, forward -/

section

variable (u w k : Blk) (g : FVec Ideal S6x4x1x128 .f32) (S : State)

/-- The state before chunk `j` of a block entered with state `S`. -/
def fwd4 : ℕ → State
  | 0 => S
  | j + 1 => next (rows4 u j) (rows4 w j) (rows4 k j) (decay4 g j) (fwd4 j)

end

/-! ## The four chunks of a block, backward -/

section

variable (w q k o : Blk) (a : FVec Ideal S6x4x64x64 .f32) (g : FVec Ideal S6x4x1x128 .f32) (D : State)

/-- The gradient of the state after chunk `3 - j` of a block left with gradient `D`. -/
def bwd4 : ℕ → State
  | 0 => D
  | j + 1 => prev (rows4 w (3 - j)) (rows4 q (3 - j)) (rows4 k (3 - j)) (rows4 o (3 - j)) (wts4 a (3 - j)) (decay4 g (3 - j)) (bwd4 j)

end

end Cert.Scan

end
-- ==== Proof.FwdPoint.lean ====
module

public import proofs.«01_k».proof.Proof.FwdFrame
public import proofs.«01_k».proof.Proof.ChunkOps

@[expose] public section

set_option maxRecDepth 16384
set_option maxHeartbeats 2000000

/-!
What a grid point of the forward kernel leaves: the states of its four chunks, and the state it carries on.
-/

noncomputable section

namespace Cert.KernelIdeal.Fwd

open Cert.KernelIdeal.Gen Cert.Scan
open Idealize.ShloMosaic Idealize.ShloMosaic.TcCoe Idealize.ShloMosaic.Tactic

variable (V : (c : Dev nD) → (b : Ref sig .tc) → Buf (Elt Ideal) ((c : Thread nD τ).loc b))

/-- The state a point carries on. -/
theorem scratch_B (c : Dev nD) (t : Fin cfg0.N) (hc : ¬t.val % 8 = 0) :
    (outsAt0 V c t.val t.isLt).2.2
      = fwd4 (iblk V c 0 t) (iblk V c 1 t) (iblk V c 3 t) (iblk V c 5 t) (outsAt0 V c (t.val - 1) (Nat.lt_of_le_of_lt (Nat.sub_le _ _) t.isLt)).2.2 4 := by
  rw [outsAt0_B V c t hc]
  frame_out
  simp only [k0_pay2, k0_pay1, k0_pay55, k0_pay49, k0_pay51, k0_pay38, k0_pay24, k0_pay10, k0_pay8, k0_pay4, k0_pay22, k0_pay36, k0_pay52, cast_state, zero_splat]
  repeat rw [stack_rows4_0]
  repeat rw [stack_rows4_1]
  repeat rw [stack_rows4_2]
  repeat rw [stack_rows4_3]
  rw [load_decay4 _ 0 (by decide), load_decay4 _ 1 (by decide), load_decay4 _ 2 (by decide), load_decay4 _ 3 (by decide)]
  simp only [mm_rowsState, mm_rowsTRows]
  try rw [(hs0_0 t).read_unread (iblk V c 0 t)]
  try rw [(hs0_1 t).read_unread (iblk V c 1 t)]
  try rw [(hs0_3 t).read_unread (iblk V c 3 t)]
  try rw [(Memref.isWhole_whole _).read_unread]
  rfl

/-- The states of a point's chunks. -/
theorem states_B (c : Dev nD) (t : Fin cfg0.N) (hc : ¬t.val % 8 = 0) (y : S6x4x128x128.Idx) :
    (outsAt0 V c t.val t.isLt).2.1 y
      = fwd4 (iblk V c 0 t) (iblk V c 1 t) (iblk V c 3 t) (iblk V c 5 t) (outsAt0 V c (t.val - 1) (Nat.lt_of_le_of_lt (Nat.sub_le _ _) t.isLt)).2.2 (y 1).val (ix3 (y 0) (y 2) (y 3)) := by
  rw [outsAt0_B V c t hc]
  frame_out
  canon_tiles x h
  · try simp only [k0_pay3]
    refine piece_state _ _ 3 x y _ h0 (by omega) h2 h3 ?_
    try simp only [k0_pay2, k0_pay38, k0_pay24, k0_pay10, k0_pay8, k0_pay4, k0_pay22, k0_pay36, cast_state, zero_splat]
    repeat rw [stack_rows4_0]
    repeat rw [stack_rows4_1]
    repeat rw [stack_rows4_2]
    rw [load_decay4 _ 0 (by decide)]
    rw [load_decay4 _ 1 (by decide)]
    rw [load_decay4 _ 2 (by decide)]
    simp only [mm_rowsState, mm_rowsTRows]
    try rw [(hs0_0 t).read_unread (iblk V c 0 t)]
    try rw [(hs0_1 t).read_unread (iblk V c 1 t)]
    try rw [(hs0_3 t).read_unread (iblk V c 3 t)]
    try rw [(Memref.isWhole_whole _).read_unread]
    rfl
  · try simp only [k0_pay3]
    refine piece_state _ _ 2 x y _ h0 (by omega) h2 h3 ?_
    try simp only [k0_pay2, k0_pay38, k0_pay24, k0_pay10, k0_pay8, k0_pay4, k0_pay22, k0_pay36, cast_state, zero_splat]
    repeat rw [stack_rows4_0]
    repeat rw [stack_rows4_1]
    rw [load_decay4 _ 0 (by decide)]
    rw [load_decay4 _ 1 (by decide)]
    simp only [mm_rowsState, mm_rowsTRows]
    try rw [(hs0_0 t).read_unread (iblk V c 0 t)]
    try rw [(hs0_1 t).read_unread (iblk V c 1 t)]
    try rw [(hs0_3 t).read_unread (iblk V c 3 t)]
    try rw [(Memref.isWhole_whole _).read_unread]
    rfl
  · try simp only [k0_pay3]
    refine piece_state _ _ 1 x y _ h0 (by omega) h2 h3 ?_
    try simp only [k0_pay2, k0_pay38, k0_pay24, k0_pay10, k0_pay8, k0_pay4, k0_pay22, k0_pay36, cast_state, zero_splat]
    repeat rw [stack_rows4_0]
    rw [load_decay4 _ 0 (by decide)]
    simp only [mm_rowsState, mm_rowsTRows]
    try rw [(hs0_0 t).read_unread (iblk V c 0 t)]
    try rw [(hs0_1 t).read_unread (iblk V c 1 t)]
    try rw [(hs0_3 t).read_unread (iblk V c 3 t)]
    try rw [(Memref.isWhole_whole _).read_unread]
    rfl
  · try simp only [k0_pay3]
    refine piece_state _ _ 0 x y _ h0 (by omega) h2 h3 ?_
    try simp only [k0_pay2, k0_pay38, k0_pay24, k0_pay10, k0_pay8, k0_pay4, k0_pay22, k0_pay36, cast_state, zero_splat]
    try rw [(Memref.isWhole_whole _).read_unread]
    rfl

/-- The state a point carries on. -/
theorem scratch_A (c : Dev nD) (t : Fin cfg0.N) (hc : t.val % 8 = 0) :
    (outsAt0 V c t.val t.isLt).2.2
      = fwd4 (iblk V c 0 t) (iblk V c 1 t) (iblk V c 3 t) (iblk V c 5 t) zeroState 4 := by
  rw [outsAt0_A V c t hc]
  frame_out
  simp only [k0_pay2, k0_pay1, k0_pay55, k0_pay49, k0_pay51, k0_pay38, k0_pay24, k0_pay10, k0_pay8, k0_pay4, k0_pay22, k0_pay36, k0_pay52, cast_state, zero_splat]
  repeat rw [stack_rows4_0]
  repeat rw [stack_rows4_1]
  repeat rw [stack_rows4_2]
  repeat rw [stack_rows4_3]
  rw [load_decay4 _ 0 (by decide), load_decay4 _ 1 (by decide), load_decay4 _ 2 (by decide), load_decay4 _ 3 (by decide)]
  simp only [mm_rowsState, mm_rowsTRows]
  try rw [(hs0_0 t).read_unread (iblk V c 0 t)]
  try rw [(hs0_1 t).read_unread (iblk V c 1 t)]
  try rw [(hs0_3 t).read_unread (iblk V c 3 t)]
  rfl

/-- The states of a point's chunks. -/
theorem states_A (c : Dev nD) (t : Fin cfg0.N) (hc : t.val % 8 = 0) (y : S6x4x128x128.Idx) :
    (outsAt0 V c t.val t.isLt).2.1 y
      = fwd4 (iblk V c 0 t) (iblk V c 1 t) (iblk V c 3 t) (iblk V c 5 t) zeroState (y 1).val (ix3 (y 0) (y 2) (y 3)) := by
  rw [outsAt0_A V c t hc]
  frame_out
  canon_tiles x h
  · try simp only [k0_pay3]
    refine piece_state _ _ 3 x y _ h0 (by omega) h2 h3 ?_
    try simp only [k0_pay2, k0_pay38, k0_pay24, k0_pay10, k0_pay8, k0_pay4, k0_pay22, k0_pay36, cast_state, zero_splat]
    repeat rw [stack_rows4_0]
    repeat rw [stack_rows4_1]
    repeat rw [stack_rows4_2]
    rw [load_decay4 _ 0 (by decide)]
    rw [load_decay4 _ 1 (by decide)]
    rw [load_decay4 _ 2 (by decide)]
    simp only [mm_rowsState, mm_rowsTRows]
    try rw [(hs0_0 t).read_unread (iblk V c 0 t)]
    try rw [(hs0_1 t).read_unread (iblk V c 1 t)]
    try rw [(hs0_3 t).read_unread (iblk V c 3 t)]
    rfl
  · try simp only [k0_pay3]
    refine piece_state _ _ 2 x y _ h0 (by omega) h2 h3 ?_
    try simp only [k0_pay2, k0_pay38, k0_pay24, k0_pay10, k0_pay8, k0_pay4, k0_pay22, k0_pay36, cast_state, zero_splat]
    repeat rw [stack_rows4_0]
    repeat rw [stack_rows4_1]
    rw [load_decay4 _ 0 (by decide)]
    rw [load_decay4 _ 1 (by decide)]
    simp only [mm_rowsState, mm_rowsTRows]
    try rw [(hs0_0 t).read_unread (iblk V c 0 t)]
    try rw [(hs0_1 t).read_unread (iblk V c 1 t)]
    try rw [(hs0_3 t).read_unread (iblk V c 3 t)]
    rfl
  · try simp only [k0_pay3]
    refine piece_state _ _ 1 x y _ h0 (by omega) h2 h3 ?_
    try simp only [k0_pay2, k0_pay38, k0_pay24, k0_pay10, k0_pay8, k0_pay4, k0_pay22, k0_pay36, cast_state, zero_splat]
    repeat rw [stack_rows4_0]
    rw [load_decay4 _ 0 (by decide)]
    simp only [mm_rowsState, mm_rowsTRows]
    try rw [(hs0_0 t).read_unread (iblk V c 0 t)]
    try rw [(hs0_1 t).read_unread (iblk V c 1 t)]
    try rw [(hs0_3 t).read_unread (iblk V c 3 t)]
    rfl
  · try simp only [k0_pay3]
    refine piece_state _ _ 0 x y _ h0 (by omega) h2 h3 ?_
    try simp only [k0_pay2, k0_pay38, k0_pay24, k0_pay10, k0_pay8, k0_pay4, k0_pay22, k0_pay36, cast_state, zero_splat]
    rfl

end Cert.KernelIdeal.Fwd

end
-- ==== Proof.FwdArr.lean ====
module

public import proofs.«01_k».proof.Proof.Run
public import proofs.«01_k».proof.Proof.FwdPoint
public import Idealize.ShloMosaic.Lib.Pipeline.Value

@[expose] public section

set_option maxRecDepth 16384
set_option maxHeartbeats 2000000

/-!
The array of states the forward kernel leaves: the state before every chunk, of the scan over the whole arrays.
-/

noncomputable section

namespace Cert.KernelIdeal.Fwd

open Cert.KernelIdeal.Gen Cert.Scan
open Idealize.ShloMosaic Idealize.ShloMosaic.TcCoe Idealize.ShloMosaic.Tactic

variable (V : (c : Dev nD) → (b : Ref sig .tc) → Buf (Elt Ideal) ((c : Thread nD τ).loc b))

/-- The blocks the windows visit at point `t`. -/
theorem idx : ∀ t : Fin cfg0.N, win0_0.index t = ![t.val, 0] ∧ win0_1.index t = ![t.val, 0] ∧ win0_3.index t = ![t.val, 0]
    ∧ win0_5.index t = ![0, t.val, 0, 0] ∧ win0_7.index t = ![0, t.val, 0, 0] :=
  (by decide +kernel : ∀ t : Fin grid0.N, _)

theorem lt8 (t : Fin cfg0.N) : t.val < 8 := lt_of_lt_of_eq t.isLt (show cfg0.N = 8 from N_0)

theorem rows_u (c : Dev nD) (t : Fin cfg0.N) (j : ℕ) (hj : j < 4) : rows4 (iblk V c 0 t) j = rows (V c main_arg0) (4 * t.val + j) := by
  funext y
  have ht := lt8 t
  unfold rows4 rows
  blk_point [iblk, idx t]
theorem rows_w (c : Dev nD) (t : Fin cfg0.N) (j : ℕ) (hj : j < 4) : rows4 (iblk V c 1 t) j = rows (V c main_arg1) (4 * t.val + j) := by
  funext y
  have ht := lt8 t
  unfold rows4 rows
  blk_point [iblk, idx t]
theorem rows_k (c : Dev nD) (t : Fin cfg0.N) (j : ℕ) (hj : j < 4) : rows4 (iblk V c 3 t) j = rows (V c main_arg3) (4 * t.val + j) := by
  funext y
  have ht := lt8 t
  unfold rows4 rows
  blk_point [iblk, idx t]
theorem decay_g (c : Dev nD) (t : Fin cfg0.N) (j : ℕ) (hj : j < 4) : decay4 (iblk V c 5 t) j = decay (V c main_arg5) (4 * t.val + j) := by
  funext y
  have ht := lt8 t
  unfold decay4 decay
  blk_point [iblk, idx t]

/-- The states of a block's chunks, when the block starts with the scan's state. -/
theorem fwd4_eq (c : Dev nD) (t : Fin cfg0.N) (j : ℕ) (hj : j ≤ 4) :
    fwd4 (iblk V c 0 t) (iblk V c 1 t) (iblk V c 3 t) (iblk V c 5 t)
      (Scan.fwd (V c main_arg0) (V c main_arg1) (V c main_arg3) (V c main_arg5) (4 * t.val)) j
      = Scan.fwd (V c main_arg0) (V c main_arg1) (V c main_arg3) (V c main_arg5) (4 * t.val + j) := by
  induction j with
  | zero => rfl
  | succ j ih =>
    show next _ _ _ _ _ = next _ _ _ _ _
    rw [ih (by omega), rows_u V c t j (by omega), rows_w V c t j (by omega), rows_k V c t j (by omega), decay_g V c t j (by omega)]
    rfl

/-- The state a point carries on is the scan's. -/
theorem carried (c : Dev nD) (n : ℕ) (hn : n < cfg0.N) :
    (outsAt0 V c n hn).2.2 = Scan.fwd (V c main_arg0) (V c main_arg1) (V c main_arg3) (V c main_arg5) (4 * n + 4) := by
  have h8 := lt8 ⟨n, hn⟩
  induction n with
  | zero =>
    refine (scratch_A V c ⟨0, hn⟩ rfl).trans ?_
    exact fwd4_eq V c ⟨0, hn⟩ 4 le_rfl
  | succ n ih =>
    refine (scratch_B V c ⟨n + 1, hn⟩ (by dsimp only at h8 ⊢; omega)).trans ?_
    rw [show (outsAt0 V c ((⟨n + 1, hn⟩ : Fin cfg0.N).val - 1) _).2.2 = _ from ih (Nat.lt_of_succ_lt hn) (by dsimp only at h8 ⊢; omega)]
    exact fwd4_eq V c ⟨n + 1, hn⟩ 4 le_rfl

/-- The states a point writes. -/
theorem states_eq (c : Dev nD) (t : Fin cfg0.N) (y : S6x4x128x128.Idx) :
    (outsAt0 V c t.val t.isLt).2.1 y
      = Scan.fwd (V c main_arg0) (V c main_arg1) (V c main_arg3) (V c main_arg5) (4 * t.val + (y 1).val) (ix3 (y 0) (y 2) (y 3)) := by
  have h8 := lt8 t
  by_cases hc : t.val % 8 = 0
  · refine (states_A V c t hc y).trans ?_
    have h0 : t.val = 0 := by omega
    have e := fwd4_eq V c t (y 1).val (le_of_lt (y 1).isLt)
    rw [← e, h0]; rfl
  · refine (states_B V c t hc y).trans ?_
    rw [carried V c (t.val - 1) _, show 4 * (t.val - 1) + 4 = 4 * t.val by omega, fwd4_eq V c t (y 1).val (le_of_lt (y 1).isLt)]

/-- The states, as an array. -/
def statesArr (u w k : Wide) (g : FVec Ideal S6x32x1x128 .f32) : FVec Ideal S6x32x128x128 .f32 :=
  fun y => Scan.fwd u w k g (y 1).val (ix3 (y 0) (y 2) (y 3))

theorem statesArr_at (u w k : Wide) (g : FVec Ideal S6x32x1x128 .f32) (i : S6x32x128x128.Idx) (n : ℕ) (y : S6x128x128.Idx)
    (h0 : (i 0).val = (y 0).val) (h1 : (i 1).val = n) (h2 : (i 2).val = (y 1).val) (h3 : (i 3).val = (y 2).val) :
    statesArr u w k g i = Scan.fwd u w k g n y := by
  unfold statesArr
  rw [h1]
  congr 1
  funext a
  match a with
  | 0 => exact Fin.ext h0
  | 1 => exact Fin.ext h2
  | 2 => exact Fin.ext h3

theorem stateOf_statesArr (u w k : Wide) (g : FVec Ideal S6x32x1x128 .f32) (i : ℕ) (hi : i < 32) :
    stateOf (statesArr u w k g) i = Scan.fwd u w k g i := by
  funext y
  exact statesArr_at u w k g _ i y rfl (Nat.mod_eq_of_lt hi) rfl rfl

theorem final (c : Dev nD) : (dats V c).arrAt 7 cfg0.N = statesArr (V c main_arg0) (V c main_arg1) (V c main_arg3) (V c main_arg5) := by
  refine (dats V c).arrAt_eq_of_covers 7 _ (by decide +kernel) fun t hf y => ?_
  blk_simp
  rw [after0_7, states_eq]
  refine (statesArr_at _ _ _ _ _ _ _ ?_ ?_ ?_ ?_).symm
  all_goals blk_simp [idx t]
  all_goals first | rfl | omega | skip

end Cert.KernelIdeal.Fwd

end
-- ==== Proof.BwdPoint.lean ====
module

public import proofs.«01_k».proof.Proof.BwdFrame
public import proofs.«01_k».proof.Proof.ChunkOps

@[expose] public section

set_option maxRecDepth 16384
set_option maxHeartbeats 2000000

/-!
What a grid point of the backward kernel leaves: the gradients of its four chunks, and the state's gradient it carries on.
-/

noncomputable section

namespace Cert.KernelIdeal.Bwd

open Cert.KernelIdeal.Gen Cert.Scan
open Idealize.ShloMosaic Idealize.ShloMosaic.TcCoe Idealize.ShloMosaic.Tactic

variable (V : (c : Dev nD) → (b : Ref sig .tc) → Buf (Elt Ideal) ((c : Thread nD τ).loc b))

/-- The gradient of the state a point carries on. -/
theorem scratch_B (c : Dev nD) (t : Fin cfg0.N) (hc : ¬t.val % 8 = 0) :
    (outsAt0 V c t.val t.isLt).2.2.2.2.2.2 = bwd4 (iblk V c 1 t) (iblk V c 2 t) (iblk V c 3 t) (iblk V c 7 t) (iblk V c 4 t) (iblk V c 5 t) (outsAt0 V c (t.val - 1) (Nat.lt_of_le_of_lt (Nat.sub_le _ _) t.isLt)).2.2.2.2.2.2 4 := by
  rw [outsAt0_B V c t hc]
  frame_out
  simp only [k1_pay3, k1_pay6, k1_pay7, k1_pay8, k1_pay9, k1_pay10, k1_pay13, k1_pay14, k1_pay15, k1_pay17, k1_pay19, k1_pay21, k1_pay22, k1_pay24, k1_pay26, k1_pay53, k1_pay55, k1_pay56, k1_pay57, k1_pay58, k1_pay59, k1_pay60, k1_pay61, k1_pay62, k1_pay63, k1_pay66, k1_pay67, k1_pay68, k1_pay70, k1_pay72, k1_pay74, k1_pay76, k1_pay78, k1_pay105, k1_pay107, k1_pay108, k1_pay109, k1_pay110, k1_pay111, k1_pay114, k1_pay115, k1_pay116, k1_pay118, k1_pay122, k1_pay124, k1_pay126, k1_pay155, k1_pay157, k1_pay158, k1_pay159, k1_pay160, k1_pay161, k1_pay162, k1_pay163, k1_pay164, k1_pay165, k1_pay166, k1_pay169, k1_pay170, k1_pay171, k1_pay175, k1_pay177, k1_pay179, cast_state]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsState, mm_rowsTRows, mm_wtsTRows, zero_sub_rows]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  try rw [(Memref.isWhole_whole _).read_unread]
  rfl

theorem du_B (c : Dev nD) (t : Fin cfg0.N) (hc : ¬t.val % 8 = 0) (y : S256x768.Idx) :
    (outsAt0 V c t.val t.isLt).1 y = wide4 (fun j => dU (rows4 (iblk V c 3 t) j) (rows4 (iblk V c 7 t) j) (wts4 (iblk V c 4 t) j) (bwd4 (iblk V c 1 t) (iblk V c 2 t) (iblk V c 3 t) (iblk V c 7 t) (iblk V c 4 t) (iblk V c 5 t) (outsAt0 V c (t.val - 1) (Nat.lt_of_le_of_lt (Nat.sub_le _ _) t.isLt)).2.2.2.2.2.2 (3 - j))) y := by
  rw [outsAt0_B V c t hc]
  frame_out
  simp only [k1_pay6, k1_pay7, k1_pay8, k1_pay9, k1_pay10, k1_pay13, k1_pay14, k1_pay15, k1_pay17, k1_pay19, k1_pay21, k1_pay22, k1_pay24, k1_pay26, k1_pay27, k1_pay31, k1_pay35, k1_pay39, k1_pay43, k1_pay47, k1_pay53, k1_pay55, k1_pay56, k1_pay57, k1_pay58, k1_pay59, k1_pay60, k1_pay61, k1_pay62, k1_pay63, k1_pay66, k1_pay67, k1_pay68, k1_pay70, k1_pay72, k1_pay74, k1_pay76, k1_pay78, k1_pay79, k1_pay83, k1_pay87, k1_pay91, k1_pay95, k1_pay99, k1_pay105, k1_pay107, k1_pay108, k1_pay109, k1_pay110, k1_pay111, k1_pay114, k1_pay115, k1_pay116, k1_pay118, k1_pay122, k1_pay124, k1_pay126, k1_pay127, k1_pay131, k1_pay132, k1_pay136, k1_pay140, k1_pay145, k1_pay149, k1_pay155, k1_pay159, k1_pay160, k1_pay161, k1_pay162, k1_pay163, k1_pay164, k1_pay165, k1_pay169, k1_pay171, k1_pay175, k1_pay180, k1_pay184, k1_pay188, k1_pay192, k1_pay196, k1_pay200, cast_state]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsState, mm_rowsTRows, mm_wtsTRows, zero_sub_rows]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  try rw [(Memref.isWhole_whole _).read_unread]
  canon_tiles x h
  all_goals first
    | exact piece_rows _ _ 0 _ (by decide) x y _ _ (by omega) (by omega) (by rfl)
    | exact piece_rows _ _ 1 _ (by decide) x y _ _ (by omega) (by omega) (by rfl)
    | exact piece_rows _ _ 2 _ (by decide) x y _ _ (by omega) (by omega) (by rfl)
    | exact piece_rows _ _ 3 _ (by decide) x y _ _ (by omega) (by omega) (by rfl)

theorem dw_B (c : Dev nD) (t : Fin cfg0.N) (hc : ¬t.val % 8 = 0) (y : S256x768.Idx) :
    (outsAt0 V c t.val t.isLt).2.1 y = wide4 (fun j => dW (rows4 (iblk V c 3 t) j) (rows4 (iblk V c 7 t) j) (wts4 (iblk V c 4 t) j) (state4 (iblk V c 6 t) j) (bwd4 (iblk V c 1 t) (iblk V c 2 t) (iblk V c 3 t) (iblk V c 7 t) (iblk V c 4 t) (iblk V c 5 t) (outsAt0 V c (t.val - 1) (Nat.lt_of_le_of_lt (Nat.sub_le _ _) t.isLt)).2.2.2.2.2.2 (3 - j))) y := by
  rw [outsAt0_B V c t hc]
  frame_out
  simp only [k1_pay6, k1_pay7, k1_pay8, k1_pay9, k1_pay10, k1_pay11, k1_pay13, k1_pay14, k1_pay15, k1_pay17, k1_pay19, k1_pay21, k1_pay22, k1_pay24, k1_pay25, k1_pay26, k1_pay28, k1_pay32, k1_pay36, k1_pay40, k1_pay44, k1_pay48, k1_pay53, k1_pay55, k1_pay56, k1_pay57, k1_pay58, k1_pay59, k1_pay60, k1_pay61, k1_pay62, k1_pay63, k1_pay64, k1_pay66, k1_pay67, k1_pay68, k1_pay70, k1_pay72, k1_pay74, k1_pay76, k1_pay77, k1_pay78, k1_pay80, k1_pay84, k1_pay88, k1_pay92, k1_pay96, k1_pay100, k1_pay105, k1_pay107, k1_pay108, k1_pay109, k1_pay110, k1_pay111, k1_pay112, k1_pay114, k1_pay115, k1_pay116, k1_pay118, k1_pay122, k1_pay124, k1_pay125, k1_pay126, k1_pay128, k1_pay133, k1_pay137, k1_pay141, k1_pay146, k1_pay150, k1_pay155, k1_pay159, k1_pay160, k1_pay161, k1_pay162, k1_pay163, k1_pay164, k1_pay165, k1_pay167, k1_pay169, k1_pay171, k1_pay175, k1_pay177, k1_pay178, k1_pay181, k1_pay185, k1_pay189, k1_pay193, k1_pay197, k1_pay201, cast_state]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsState, mm_rowsStateT, mm_rowsTRows, mm_wtsTRows, zero_sub_rows]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  try rw [(Memref.isWhole_whole _).read_unread]
  canon_tiles x h
  all_goals first
    | exact piece_rows _ _ 0 _ (by decide) x y _ _ (by omega) (by omega) (by rfl)
    | exact piece_rows _ _ 1 _ (by decide) x y _ _ (by omega) (by omega) (by rfl)
    | exact piece_rows _ _ 2 _ (by decide) x y _ _ (by omega) (by omega) (by rfl)
    | exact piece_rows _ _ 3 _ (by decide) x y _ _ (by omega) (by omega) (by rfl)

theorem dqg_B (c : Dev nD) (t : Fin cfg0.N) (hc : ¬t.val % 8 = 0) (y : S256x768.Idx) :
    (outsAt0 V c t.val t.isLt).2.2.1 y = wide4 (fun j => dQ (rows4 (iblk V c 7 t) j) (state4 (iblk V c 6 t) j)) y := by
  rw [outsAt0_B V c t hc]
  frame_out
  simp only [k1_pay11, k1_pay13, k1_pay23, k1_pay29, k1_pay33, k1_pay37, k1_pay41, k1_pay45, k1_pay49, k1_pay64, k1_pay66, k1_pay75, k1_pay81, k1_pay85, k1_pay89, k1_pay93, k1_pay97, k1_pay101, k1_pay112, k1_pay114, k1_pay123, k1_pay129, k1_pay134, k1_pay138, k1_pay142, k1_pay143, k1_pay147, k1_pay151, k1_pay167, k1_pay169, k1_pay176, k1_pay182, k1_pay186, k1_pay190, k1_pay194, k1_pay198, k1_pay202]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsStateT]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  try rw [(Memref.isWhole_whole _).read_unread]
  canon_tiles x h
  all_goals first
    | exact piece_rows _ _ 0 _ (by decide) x y _ _ (by omega) (by omega) (by rfl)
    | exact piece_rows _ _ 1 _ (by decide) x y _ _ (by omega) (by omega) (by rfl)
    | exact piece_rows _ _ 2 _ (by decide) x y _ _ (by omega) (by omega) (by rfl)
    | exact piece_rows _ _ 3 _ (by decide) x y _ _ (by omega) (by omega) (by rfl)

theorem dkd_B (c : Dev nD) (t : Fin cfg0.N) (hc : ¬t.val % 8 = 0) (y : S256x768.Idx) :
    (outsAt0 V c t.val t.isLt).2.2.2.1 y = wide4 (fun j => dK (rows4 (iblk V c 0 t) j) (rows4 (iblk V c 1 t) j) (state4 (iblk V c 6 t) j) (bwd4 (iblk V c 1 t) (iblk V c 2 t) (iblk V c 3 t) (iblk V c 7 t) (iblk V c 4 t) (iblk V c 5 t) (outsAt0 V c (t.val - 1) (Nat.lt_of_le_of_lt (Nat.sub_le _ _) t.isLt)).2.2.2.2.2.2 (3 - j))) y := by
  rw [outsAt0_B V c t hc]
  frame_out
  simp only [k1_pay5, k1_pay6, k1_pay7, k1_pay8, k1_pay9, k1_pay10, k1_pay11, k1_pay12, k1_pay13, k1_pay14, k1_pay15, k1_pay16, k1_pay17, k1_pay19, k1_pay21, k1_pay22, k1_pay24, k1_pay26, k1_pay30, k1_pay34, k1_pay38, k1_pay42, k1_pay46, k1_pay50, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay72, k1_pay74, k1_pay76, k1_pay78, k1_pay82, k1_pay86, k1_pay90, k1_pay94, k1_pay98, k1_pay102, k1_pay105, k1_pay106, k1_pay107, k1_pay108, k1_pay109, k1_pay110, k1_pay111, k1_pay112, k1_pay113, k1_pay114, k1_pay115, k1_pay116, k1_pay117, k1_pay118, k1_pay122, k1_pay124, k1_pay126, k1_pay130, k1_pay135, k1_pay139, k1_pay144, k1_pay148, k1_pay152, k1_pay155, k1_pay156, k1_pay157, k1_pay167, k1_pay168, k1_pay171, k1_pay172, k1_pay183, k1_pay187, k1_pay191, k1_pay195, k1_pay199, k1_pay203, cast_state]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsState, mm_rowsStateT, mm_rowsTRows, mm_wtsTRows, zero_sub_rows]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  try rw [(Memref.isWhole_whole _).read_unread]
  canon_tiles x h
  all_goals first
    | exact piece_rows _ _ 0 _ (by decide) x y _ _ (by omega) (by omega) (by rfl)
    | exact piece_rows _ _ 1 _ (by decide) x y _ _ (by omega) (by omega) (by rfl)
    | exact piece_rows _ _ 2 _ (by decide) x y _ _ (by omega) (by omega) (by rfl)
    | exact piece_rows _ _ 3 _ (by decide) x y _ _ (by omega) (by omega) (by rfl)

theorem dat_B (c : Dev nD) (t : Fin cfg0.N) (hc : ¬t.val % 8 = 0) (y : S6x4x64x64.Idx) :
    (outsAt0 V c t.val t.isLt).2.2.2.2.1 y = (fun j : ℕ => dA (rows4 (iblk V c 0 t) j) (rows4 (iblk V c 1 t) j) (rows4 (iblk V c 7 t) j) (state4 (iblk V c 6 t) j)) (y 1).val (ix3 (y 0) (y 2) (y 3)) := by
  rw [outsAt0_B V c t hc]
  frame_out
  simp only [k1_pay1, k1_pay5, k1_pay6, k1_pay11, k1_pay12, k1_pay13, k1_pay20, k1_pay51, k1_pay54, k1_pay55, k1_pay56, k1_pay57, k1_pay58, k1_pay59, k1_pay60, k1_pay64, k1_pay65, k1_pay66, k1_pay73, k1_pay103, k1_pay106, k1_pay107, k1_pay112, k1_pay113, k1_pay114, k1_pay121, k1_pay153, k1_pay156, k1_pay157, k1_pay167, k1_pay168, k1_pay169, k1_pay174]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsState, mm_rowsRowsT]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  try rw [(Memref.isWhole_whole _).read_unread]
  canon_tiles x h
  · exact piece_wts (fun j : ℕ => dA (rows4 (iblk V c 0 t) j) (rows4 (iblk V c 1 t) j) (rows4 (iblk V c 7 t) j) (state4 (iblk V c 6 t) j)) _ 0 x y _ (by omega) (by omega) (by omega) (by omega) rfl
  · exact piece_wts (fun j : ℕ => dA (rows4 (iblk V c 0 t) j) (rows4 (iblk V c 1 t) j) (rows4 (iblk V c 7 t) j) (state4 (iblk V c 6 t) j)) _ 1 x y _ (by omega) (by omega) (by omega) (by omega) rfl
  · exact piece_wts (fun j : ℕ => dA (rows4 (iblk V c 0 t) j) (rows4 (iblk V c 1 t) j) (rows4 (iblk V c 7 t) j) (state4 (iblk V c 6 t) j)) _ 2 x y _ (by omega) (by omega) (by omega) (by omega) rfl
  · exact piece_wts (fun j : ℕ => dA (rows4 (iblk V c 0 t) j) (rows4 (iblk V c 1 t) j) (rows4 (iblk V c 7 t) j) (state4 (iblk V c 6 t) j)) _ 3 x y _ (by omega) (by omega) (by omega) (by omega) rfl

theorem deg_B (c : Dev nD) (t : Fin cfg0.N) (hc : ¬t.val % 8 = 0) (y : S6x4x1x128.Idx) :
    (outsAt0 V c t.val t.isLt).2.2.2.2.2.1 y = (fun j : ℕ => colSum (state4 (iblk V c 6 t) j) (bwd4 (iblk V c 1 t) (iblk V c 2 t) (iblk V c 3 t) (iblk V c 7 t) (iblk V c 4 t) (iblk V c 5 t) (outsAt0 V c (t.val - 1) (Nat.lt_of_le_of_lt (Nat.sub_le _ _) t.isLt)).2.2.2.2.2.2 (3 - j))) (y 1).val (ix3 (y 0) 0 (y 3)) := by
  rw [outsAt0_B V c t hc]
  frame_out
  simp only [k1_pay2, k1_pay6, k1_pay7, k1_pay8, k1_pay9, k1_pay10, k1_pay11, k1_pay13, k1_pay14, k1_pay15, k1_pay17, k1_pay18, k1_pay19, k1_pay21, k1_pay22, k1_pay24, k1_pay26, k1_pay52, k1_pay53, k1_pay55, k1_pay56, k1_pay57, k1_pay58, k1_pay59, k1_pay60, k1_pay61, k1_pay62, k1_pay63, k1_pay64, k1_pay66, k1_pay67, k1_pay68, k1_pay70, k1_pay71, k1_pay72, k1_pay74, k1_pay76, k1_pay78, k1_pay104, k1_pay105, k1_pay107, k1_pay108, k1_pay109, k1_pay110, k1_pay111, k1_pay112, k1_pay114, k1_pay115, k1_pay116, k1_pay118, k1_pay119, k1_pay120, k1_pay122, k1_pay124, k1_pay126, k1_pay154, k1_pay155, k1_pay167, k1_pay170, k1_pay173, cast_state]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsState, mm_rowsTRows, mm_wtsTRows, zero_sub_rows]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  try rw [(Memref.isWhole_whole _).read_unread]
  canon_tiles x h
  · exact piece_decay (fun j : ℕ => colSum (state4 (iblk V c 6 t) j) (bwd4 (iblk V c 1 t) (iblk V c 2 t) (iblk V c 3 t) (iblk V c 7 t) (iblk V c 4 t) (iblk V c 5 t) (outsAt0 V c (t.val - 1) (Nat.lt_of_le_of_lt (Nat.sub_le _ _) t.isLt)).2.2.2.2.2.2 (3 - j))) _ 0 x y _ (by omega) (by omega) (by omega) ((red_colSum _ _ _ _ _ _).trans rfl)
  · exact piece_decay (fun j : ℕ => colSum (state4 (iblk V c 6 t) j) (bwd4 (iblk V c 1 t) (iblk V c 2 t) (iblk V c 3 t) (iblk V c 7 t) (iblk V c 4 t) (iblk V c 5 t) (outsAt0 V c (t.val - 1) (Nat.lt_of_le_of_lt (Nat.sub_le _ _) t.isLt)).2.2.2.2.2.2 (3 - j))) _ 1 x y _ (by omega) (by omega) (by omega) ((red_colSum _ _ _ _ _ _).trans rfl)
  · exact piece_decay (fun j : ℕ => colSum (state4 (iblk V c 6 t) j) (bwd4 (iblk V c 1 t) (iblk V c 2 t) (iblk V c 3 t) (iblk V c 7 t) (iblk V c 4 t) (iblk V c 5 t) (outsAt0 V c (t.val - 1) (Nat.lt_of_le_of_lt (Nat.sub_le _ _) t.isLt)).2.2.2.2.2.2 (3 - j))) _ 2 x y _ (by omega) (by omega) (by omega) ((red_colSum _ _ _ _ _ _).trans rfl)
  · exact piece_decay (fun j : ℕ => colSum (state4 (iblk V c 6 t) j) (bwd4 (iblk V c 1 t) (iblk V c 2 t) (iblk V c 3 t) (iblk V c 7 t) (iblk V c 4 t) (iblk V c 5 t) (outsAt0 V c (t.val - 1) (Nat.lt_of_le_of_lt (Nat.sub_le _ _) t.isLt)).2.2.2.2.2.2 (3 - j))) _ 3 x y _ (by omega) (by omega) (by omega) ((red_colSum _ _ _ _ _ _).trans rfl)

/-- The gradient of the state a point carries on. -/
theorem scratch_A (c : Dev nD) (t : Fin cfg0.N) (hc : t.val % 8 = 0) :
    (outsAt0 V c t.val t.isLt).2.2.2.2.2.2 = bwd4 (iblk V c 1 t) (iblk V c 2 t) (iblk V c 3 t) (iblk V c 7 t) (iblk V c 4 t) (iblk V c 5 t) zeroState 4 := by
  rw [outsAt0_A V c t hc]
  frame_out
  simp only [k1_pay3, k1_pay4, k1_pay6, k1_pay7, k1_pay8, k1_pay9, k1_pay10, k1_pay13, k1_pay14, k1_pay15, k1_pay17, k1_pay19, k1_pay21, k1_pay22, k1_pay24, k1_pay26, k1_pay53, k1_pay55, k1_pay56, k1_pay57, k1_pay58, k1_pay59, k1_pay60, k1_pay61, k1_pay62, k1_pay63, k1_pay66, k1_pay67, k1_pay68, k1_pay70, k1_pay72, k1_pay74, k1_pay76, k1_pay78, k1_pay105, k1_pay107, k1_pay108, k1_pay109, k1_pay110, k1_pay111, k1_pay114, k1_pay115, k1_pay116, k1_pay118, k1_pay122, k1_pay124, k1_pay126, k1_pay155, k1_pay157, k1_pay158, k1_pay159, k1_pay160, k1_pay161, k1_pay162, k1_pay163, k1_pay164, k1_pay165, k1_pay166, k1_pay169, k1_pay170, k1_pay171, k1_pay175, k1_pay177, k1_pay179, cast_state, zero_splat]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsState, mm_rowsTRows, mm_wtsTRows, zero_sub_rows]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  rfl

theorem du_A (c : Dev nD) (t : Fin cfg0.N) (hc : t.val % 8 = 0) (y : S256x768.Idx) :
    (outsAt0 V c t.val t.isLt).1 y = wide4 (fun j => dU (rows4 (iblk V c 3 t) j) (rows4 (iblk V c 7 t) j) (wts4 (iblk V c 4 t) j) (bwd4 (iblk V c 1 t) (iblk V c 2 t) (iblk V c 3 t) (iblk V c 7 t) (iblk V c 4 t) (iblk V c 5 t) zeroState (3 - j))) y := by
  rw [outsAt0_A V c t hc]
  frame_out
  simp only [k1_pay4, k1_pay6, k1_pay7, k1_pay8, k1_pay9, k1_pay10, k1_pay13, k1_pay14, k1_pay15, k1_pay17, k1_pay19, k1_pay21, k1_pay22, k1_pay24, k1_pay26, k1_pay27, k1_pay31, k1_pay35, k1_pay39, k1_pay43, k1_pay47, k1_pay53, k1_pay55, k1_pay56, k1_pay57, k1_pay58, k1_pay59, k1_pay60, k1_pay61, k1_pay62, k1_pay63, k1_pay66, k1_pay67, k1_pay68, k1_pay70, k1_pay72, k1_pay74, k1_pay76, k1_pay78, k1_pay79, k1_pay83, k1_pay87, k1_pay91, k1_pay95, k1_pay99, k1_pay105, k1_pay107, k1_pay108, k1_pay109, k1_pay110, k1_pay111, k1_pay114, k1_pay115, k1_pay116, k1_pay118, k1_pay122, k1_pay124, k1_pay126, k1_pay127, k1_pay131, k1_pay132, k1_pay136, k1_pay140, k1_pay145, k1_pay149, k1_pay155, k1_pay159, k1_pay160, k1_pay161, k1_pay162, k1_pay163, k1_pay164, k1_pay165, k1_pay169, k1_pay171, k1_pay175, k1_pay180, k1_pay184, k1_pay188, k1_pay192, k1_pay196, k1_pay200, cast_state, zero_splat]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsState, mm_rowsTRows, mm_wtsTRows, zero_sub_rows]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  canon_tiles x h
  all_goals first
    | exact piece_rows _ _ 0 _ (by decide) x y _ _ (by omega) (by omega) (by rfl)
    | exact piece_rows _ _ 1 _ (by decide) x y _ _ (by omega) (by omega) (by rfl)
    | exact piece_rows _ _ 2 _ (by decide) x y _ _ (by omega) (by omega) (by rfl)
    | exact piece_rows _ _ 3 _ (by decide) x y _ _ (by omega) (by omega) (by rfl)

theorem dw_A (c : Dev nD) (t : Fin cfg0.N) (hc : t.val % 8 = 0) (y : S256x768.Idx) :
    (outsAt0 V c t.val t.isLt).2.1 y = wide4 (fun j => dW (rows4 (iblk V c 3 t) j) (rows4 (iblk V c 7 t) j) (wts4 (iblk V c 4 t) j) (state4 (iblk V c 6 t) j) (bwd4 (iblk V c 1 t) (iblk V c 2 t) (iblk V c 3 t) (iblk V c 7 t) (iblk V c 4 t) (iblk V c 5 t) zeroState (3 - j))) y := by
  rw [outsAt0_A V c t hc]
  frame_out
  simp only [k1_pay4, k1_pay6, k1_pay7, k1_pay8, k1_pay9, k1_pay10, k1_pay11, k1_pay13, k1_pay14, k1_pay15, k1_pay17, k1_pay19, k1_pay21, k1_pay22, k1_pay24, k1_pay25, k1_pay26, k1_pay28, k1_pay32, k1_pay36, k1_pay40, k1_pay44, k1_pay48, k1_pay53, k1_pay55, k1_pay56, k1_pay57, k1_pay58, k1_pay59, k1_pay60, k1_pay61, k1_pay62, k1_pay63, k1_pay64, k1_pay66, k1_pay67, k1_pay68, k1_pay70, k1_pay72, k1_pay74, k1_pay76, k1_pay77, k1_pay78, k1_pay80, k1_pay84, k1_pay88, k1_pay92, k1_pay96, k1_pay100, k1_pay105, k1_pay107, k1_pay108, k1_pay109, k1_pay110, k1_pay111, k1_pay112, k1_pay114, k1_pay115, k1_pay116, k1_pay118, k1_pay122, k1_pay124, k1_pay125, k1_pay126, k1_pay128, k1_pay133, k1_pay137, k1_pay141, k1_pay146, k1_pay150, k1_pay155, k1_pay159, k1_pay160, k1_pay161, k1_pay162, k1_pay163, k1_pay164, k1_pay165, k1_pay167, k1_pay169, k1_pay171, k1_pay175, k1_pay177, k1_pay178, k1_pay181, k1_pay185, k1_pay189, k1_pay193, k1_pay197, k1_pay201, cast_state, zero_splat]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsState, mm_rowsStateT, mm_rowsTRows, mm_wtsTRows, zero_sub_rows]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  canon_tiles x h
  all_goals first
    | exact piece_rows _ _ 0 _ (by decide) x y _ _ (by omega) (by omega) (by rfl)
    | exact piece_rows _ _ 1 _ (by decide) x y _ _ (by omega) (by omega) (by rfl)
    | exact piece_rows _ _ 2 _ (by decide) x y _ _ (by omega) (by omega) (by rfl)
    | exact piece_rows _ _ 3 _ (by decide) x y _ _ (by omega) (by omega) (by rfl)

theorem dqg_A (c : Dev nD) (t : Fin cfg0.N) (hc : t.val % 8 = 0) (y : S256x768.Idx) :
    (outsAt0 V c t.val t.isLt).2.2.1 y = wide4 (fun j => dQ (rows4 (iblk V c 7 t) j) (state4 (iblk V c 6 t) j)) y := by
  rw [outsAt0_A V c t hc]
  frame_out
  simp only [k1_pay11, k1_pay13, k1_pay23, k1_pay29, k1_pay33, k1_pay37, k1_pay41, k1_pay45, k1_pay49, k1_pay64, k1_pay66, k1_pay75, k1_pay81, k1_pay85, k1_pay89, k1_pay93, k1_pay97, k1_pay101, k1_pay112, k1_pay114, k1_pay123, k1_pay129, k1_pay134, k1_pay138, k1_pay142, k1_pay143, k1_pay147, k1_pay151, k1_pay167, k1_pay169, k1_pay176, k1_pay182, k1_pay186, k1_pay190, k1_pay194, k1_pay198, k1_pay202]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsStateT]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  canon_tiles x h
  all_goals first
    | exact piece_rows _ _ 0 _ (by decide) x y _ _ (by omega) (by omega) (by rfl)
    | exact piece_rows _ _ 1 _ (by decide) x y _ _ (by omega) (by omega) (by rfl)
    | exact piece_rows _ _ 2 _ (by decide) x y _ _ (by omega) (by omega) (by rfl)
    | exact piece_rows _ _ 3 _ (by decide) x y _ _ (by omega) (by omega) (by rfl)

theorem dkd_A (c : Dev nD) (t : Fin cfg0.N) (hc : t.val % 8 = 0) (y : S256x768.Idx) :
    (outsAt0 V c t.val t.isLt).2.2.2.1 y = wide4 (fun j => dK (rows4 (iblk V c 0 t) j) (rows4 (iblk V c 1 t) j) (state4 (iblk V c 6 t) j) (bwd4 (iblk V c 1 t) (iblk V c 2 t) (iblk V c 3 t) (iblk V c 7 t) (iblk V c 4 t) (iblk V c 5 t) zeroState (3 - j))) y := by
  rw [outsAt0_A V c t hc]
  frame_out
  simp only [k1_pay4, k1_pay5, k1_pay6, k1_pay7, k1_pay8, k1_pay9, k1_pay10, k1_pay11, k1_pay12, k1_pay13, k1_pay14, k1_pay15, k1_pay16, k1_pay17, k1_pay19, k1_pay21, k1_pay22, k1_pay24, k1_pay26, k1_pay30, k1_pay34, k1_pay38, k1_pay42, k1_pay46, k1_pay50, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay72, k1_pay74, k1_pay76, k1_pay78, k1_pay82, k1_pay86, k1_pay90, k1_pay94, k1_pay98, k1_pay102, k1_pay105, k1_pay106, k1_pay107, k1_pay108, k1_pay109, k1_pay110, k1_pay111, k1_pay112, k1_pay113, k1_pay114, k1_pay115, k1_pay116, k1_pay117, k1_pay118, k1_pay122, k1_pay124, k1_pay126, k1_pay130, k1_pay135, k1_pay139, k1_pay144, k1_pay148, k1_pay152, k1_pay155, k1_pay156, k1_pay157, k1_pay167, k1_pay168, k1_pay171, k1_pay172, k1_pay183, k1_pay187, k1_pay191, k1_pay195, k1_pay199, k1_pay203, cast_state, zero_splat]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsState, mm_rowsStateT, mm_rowsTRows, mm_wtsTRows, zero_sub_rows]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  canon_tiles x h
  all_goals first
    | exact piece_rows _ _ 0 _ (by decide) x y _ _ (by omega) (by omega) (by rfl)
    | exact piece_rows _ _ 1 _ (by decide) x y _ _ (by omega) (by omega) (by rfl)
    | exact piece_rows _ _ 2 _ (by decide) x y _ _ (by omega) (by omega) (by rfl)
    | exact piece_rows _ _ 3 _ (by decide) x y _ _ (by omega) (by omega) (by rfl)

theorem dat_A (c : Dev nD) (t : Fin cfg0.N) (hc : t.val % 8 = 0) (y : S6x4x64x64.Idx) :
    (outsAt0 V c t.val t.isLt).2.2.2.2.1 y = (fun j : ℕ => dA (rows4 (iblk V c 0 t) j) (rows4 (iblk V c 1 t) j) (rows4 (iblk V c 7 t) j) (state4 (iblk V c 6 t) j)) (y 1).val (ix3 (y 0) (y 2) (y 3)) := by
  rw [outsAt0_A V c t hc]
  frame_out
  simp only [k1_pay1, k1_pay5, k1_pay6, k1_pay11, k1_pay12, k1_pay13, k1_pay20, k1_pay51, k1_pay54, k1_pay55, k1_pay56, k1_pay57, k1_pay58, k1_pay59, k1_pay60, k1_pay64, k1_pay65, k1_pay66, k1_pay73, k1_pay103, k1_pay106, k1_pay107, k1_pay112, k1_pay113, k1_pay114, k1_pay121, k1_pay153, k1_pay156, k1_pay157, k1_pay167, k1_pay168, k1_pay169, k1_pay174]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsState, mm_rowsRowsT]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  canon_tiles x h
  · exact piece_wts (fun j : ℕ => dA (rows4 (iblk V c 0 t) j) (rows4 (iblk V c 1 t) j) (rows4 (iblk V c 7 t) j) (state4 (iblk V c 6 t) j)) _ 0 x y _ (by omega) (by omega) (by omega) (by omega) rfl
  · exact piece_wts (fun j : ℕ => dA (rows4 (iblk V c 0 t) j) (rows4 (iblk V c 1 t) j) (rows4 (iblk V c 7 t) j) (state4 (iblk V c 6 t) j)) _ 1 x y _ (by omega) (by omega) (by omega) (by omega) rfl
  · exact piece_wts (fun j : ℕ => dA (rows4 (iblk V c 0 t) j) (rows4 (iblk V c 1 t) j) (rows4 (iblk V c 7 t) j) (state4 (iblk V c 6 t) j)) _ 2 x y _ (by omega) (by omega) (by omega) (by omega) rfl
  · exact piece_wts (fun j : ℕ => dA (rows4 (iblk V c 0 t) j) (rows4 (iblk V c 1 t) j) (rows4 (iblk V c 7 t) j) (state4 (iblk V c 6 t) j)) _ 3 x y _ (by omega) (by omega) (by omega) (by omega) rfl

theorem deg_A (c : Dev nD) (t : Fin cfg0.N) (hc : t.val % 8 = 0) (y : S6x4x1x128.Idx) :
    (outsAt0 V c t.val t.isLt).2.2.2.2.2.1 y = (fun j : ℕ => colSum (state4 (iblk V c 6 t) j) (bwd4 (iblk V c 1 t) (iblk V c 2 t) (iblk V c 3 t) (iblk V c 7 t) (iblk V c 4 t) (iblk V c 5 t) zeroState (3 - j))) (y 1).val (ix3 (y 0) 0 (y 3)) := by
  rw [outsAt0_A V c t hc]
  frame_out
  simp only [k1_pay2, k1_pay4, k1_pay6, k1_pay7, k1_pay8, k1_pay9, k1_pay10, k1_pay11, k1_pay13, k1_pay14, k1_pay15, k1_pay17, k1_pay18, k1_pay19, k1_pay21, k1_pay22, k1_pay24, k1_pay26, k1_pay52, k1_pay53, k1_pay55, k1_pay56, k1_pay57, k1_pay58, k1_pay59, k1_pay60, k1_pay61, k1_pay62, k1_pay63, k1_pay64, k1_pay66, k1_pay67, k1_pay68, k1_pay70, k1_pay71, k1_pay72, k1_pay74, k1_pay76, k1_pay78, k1_pay104, k1_pay105, k1_pay107, k1_pay108, k1_pay109, k1_pay110, k1_pay111, k1_pay112, k1_pay114, k1_pay115, k1_pay116, k1_pay118, k1_pay119, k1_pay120, k1_pay122, k1_pay124, k1_pay126, k1_pay154, k1_pay155, k1_pay167, k1_pay170, k1_pay173, cast_state, zero_splat]
  repeat rw [stack_rows4_0]
  repeat rw [stack_rows4_1]
  repeat rw [stack_rows4_2]
  repeat rw [stack_rows4_3]
  repeat rw [load_wts4 _ 0 (by decide)]
  repeat rw [load_wts4 _ 1 (by decide)]
  repeat rw [load_wts4 _ 2 (by decide)]
  repeat rw [load_wts4 _ 3 (by decide)]
  repeat rw [load_decay4 _ 0 (by decide)]
  repeat rw [load_decay4 _ 1 (by decide)]
  repeat rw [load_decay4 _ 2 (by decide)]
  repeat rw [load_decay4 _ 3 (by decide)]
  repeat rw [load_state4 _ 0 (by decide)]
  repeat rw [load_state4 _ 1 (by decide)]
  repeat rw [load_state4 _ 2 (by decide)]
  repeat rw [load_state4 _ 3 (by decide)]
  simp only [mm_rowsState, mm_rowsTRows, mm_wtsTRows, zero_sub_rows]
  try rw [(hs0_0 t).read_unread (iblk V c 0 t)]
  try rw [(hs0_1 t).read_unread (iblk V c 1 t)]
  try rw [(hs0_2 t).read_unread (iblk V c 2 t)]
  try rw [(hs0_3 t).read_unread (iblk V c 3 t)]
  try rw [(hs0_4 t).read_unread (iblk V c 4 t)]
  try rw [(hs0_5 t).read_unread (iblk V c 5 t)]
  try rw [(hs0_6 t).read_unread (iblk V c 6 t)]
  try rw [(hs0_7 t).read_unread (iblk V c 7 t)]
  canon_tiles x h
  · exact piece_decay (fun j : ℕ => colSum (state4 (iblk V c 6 t) j) (bwd4 (iblk V c 1 t) (iblk V c 2 t) (iblk V c 3 t) (iblk V c 7 t) (iblk V c 4 t) (iblk V c 5 t) zeroState (3 - j))) _ 0 x y _ (by omega) (by omega) (by omega) ((red_colSum _ _ _ _ _ _).trans rfl)
  · exact piece_decay (fun j : ℕ => colSum (state4 (iblk V c 6 t) j) (bwd4 (iblk V c 1 t) (iblk V c 2 t) (iblk V c 3 t) (iblk V c 7 t) (iblk V c 4 t) (iblk V c 5 t) zeroState (3 - j))) _ 1 x y _ (by omega) (by omega) (by omega) ((red_colSum _ _ _ _ _ _).trans rfl)
  · exact piece_decay (fun j : ℕ => colSum (state4 (iblk V c 6 t) j) (bwd4 (iblk V c 1 t) (iblk V c 2 t) (iblk V c 3 t) (iblk V c 7 t) (iblk V c 4 t) (iblk V c 5 t) zeroState (3 - j))) _ 2 x y _ (by omega) (by omega) (by omega) ((red_colSum _ _ _ _ _ _).trans rfl)
  · exact piece_decay (fun j : ℕ => colSum (state4 (iblk V c 6 t) j) (bwd4 (iblk V c 1 t) (iblk V c 2 t) (iblk V c 3 t) (iblk V c 7 t) (iblk V c 4 t) (iblk V c 5 t) zeroState (3 - j))) _ 3 x y _ (by omega) (by omega) (by omega) ((red_colSum _ _ _ _ _ _).trans rfl)

end Cert.KernelIdeal.Bwd

end
-- ==== Proof.BwdArr.lean ====
module

public import proofs.«01_k».proof.Proof.FwdArr
public import proofs.«01_k».proof.Proof.BwdPoint

@[expose] public section

set_option maxRecDepth 16384
set_option maxHeartbeats 2000000

/-!
The arrays the backward kernel leaves, when it is given the states of the forward scan: the six gradients of the scan over
the whole arrays.  Point `t` works on block `7 - t`, so chunk `3 - j` of its block is chunk `31 - (4 t + j)` of the arrays.
-/

noncomputable section

namespace Cert.KernelIdeal.Bwd

open Cert.KernelIdeal.Gen Cert.Scan
open Idealize.ShloMosaic Idealize.ShloMosaic.TcCoe Idealize.ShloMosaic.Tactic

variable (V : (c : Dev nD) → (b : Ref sig .tc) → Buf (Elt Ideal) ((c : Thread nD τ).loc b))

/-- The blocks the windows visit at point `t`. -/
theorem idx : ∀ t : Fin cfg1.N, win1_0.index t = ![7 - t.val, 0] ∧ win1_1.index t = ![7 - t.val, 0] ∧ win1_2.index t = ![7 - t.val, 0] ∧ win1_3.index t = ![7 - t.val, 0] ∧ win1_4.index t = ![0, 7 - t.val, 0, 0] ∧ win1_5.index t = ![0, 7 - t.val, 0, 0] ∧ win1_6.index t = ![0, 7 - t.val, 0, 0] ∧ win1_7.index t = ![7 - t.val, 0] ∧ win1_8.index t = ![7 - t.val, 0] ∧ win1_9.index t = ![7 - t.val, 0] ∧ win1_10.index t = ![7 - t.val, 0] ∧ win1_11.index t = ![7 - t.val, 0] ∧ win1_12.index t = ![0, 7 - t.val, 0, 0] ∧ win1_13.index t = ![0, 7 - t.val, 0, 0] :=
  (by decide +kernel : ∀ t : Fin grid1.N, _)

theorem lt8 (t : Fin cfg1.N) : t.val < 8 := lt_of_lt_of_eq t.isLt (show cfg1.N = 8 from N_1)

theorem rows_u (c : Dev nD) (t : Fin cfg1.N) (j : ℕ) (hj : j < 4) : rows4 (iblk V c 0 t) j = rows (V c main_arg0) (4 * (7 - t.val) + j) := by
  funext y
  have ht := lt8 t
  unfold rows4 rows
  blk_point [iblk, idx t]
theorem rows_w (c : Dev nD) (t : Fin cfg1.N) (j : ℕ) (hj : j < 4) : rows4 (iblk V c 1 t) j = rows (V c main_arg1) (4 * (7 - t.val) + j) := by
  funext y
  have ht := lt8 t
  unfold rows4 rows
  blk_point [iblk, idx t]
theorem rows_q (c : Dev nD) (t : Fin cfg1.N) (j : ℕ) (hj : j < 4) : rows4 (iblk V c 2 t) j = rows (V c main_arg2) (4 * (7 - t.val) + j) := by
  funext y
  have ht := lt8 t
  unfold rows4 rows
  blk_point [iblk, idx t]
theorem rows_k (c : Dev nD) (t : Fin cfg1.N) (j : ℕ) (hj : j < 4) : rows4 (iblk V c 3 t) j = rows (V c main_arg3) (4 * (7 - t.val) + j) := by
  funext y
  have ht := lt8 t
  unfold rows4 rows
  blk_point [iblk, idx t]
theorem wts_a (c : Dev nD) (t : Fin cfg1.N) (j : ℕ) (hj : j < 4) : wts4 (iblk V c 4 t) j = wts (V c main_arg4) (4 * (7 - t.val) + j) := by
  funext y
  have ht := lt8 t
  unfold wts4 wts
  blk_point [iblk, idx t]
theorem decay_g (c : Dev nD) (t : Fin cfg1.N) (j : ℕ) (hj : j < 4) : decay4 (iblk V c 5 t) j = decay (V c main_arg5) (4 * (7 - t.val) + j) := by
  funext y
  have ht := lt8 t
  unfold decay4 decay
  blk_point [iblk, idx t]
theorem state_s (c : Dev nD) (t : Fin cfg1.N) (j : ℕ) (hj : j < 4) : state4 (iblk V c 6 t) j = stateOf (V c main_v0_1) (4 * (7 - t.val) + j) := by
  funext y
  have ht := lt8 t
  unfold state4 stateOf
  blk_point [iblk, idx t]
theorem rows_o (c : Dev nD) (t : Fin cfg1.N) (j : ℕ) (hj : j < 4) : rows4 (iblk V c 7 t) j = rows (V c main_arg6) (4 * (7 - t.val) + j) := by
  funext y
  have ht := lt8 t
  unfold rows4 rows
  blk_point [iblk, idx t]

/-- The gradient of the state before `n` chunks from the end. -/
abbrev grad (c : Dev nD) (n : ℕ) : State := Scan.bwd (V c main_arg1) (V c main_arg2) (V c main_arg3) (V c main_arg4) (V c main_arg5) (V c main_arg6) n
/-- The forward scan's state before chunk `i`. -/
abbrev states (c : Dev nD) (i : ℕ) : State := Scan.fwd (V c main_arg0) (V c main_arg1) (V c main_arg3) (V c main_arg5) i

theorem bwd4_eq (c : Dev nD) (t : Fin cfg1.N) (j : ℕ) (hj : j ≤ 4) :
    bwd4 (iblk V c 1 t) (iblk V c 2 t) (iblk V c 3 t) (iblk V c 7 t) (iblk V c 4 t) (iblk V c 5 t) (grad V c (4 * t.val)) j = grad V c (4 * t.val + j) := by
  have h8 := lt8 t
  induction j with
  | zero => rfl
  | succ j ih =>
    have e : 4 * (7 - t.val) + (3 - j) = 31 - (4 * t.val + j) := by omega
    show prev _ _ _ _ _ _ _ = prev _ _ _ _ _ _ _
    rw [ih (by omega), rows_w V c t (3 - j) (by omega), rows_q V c t (3 - j) (by omega), rows_k V c t (3 - j) (by omega),
      rows_o V c t (3 - j) (by omega), wts_a V c t (3 - j) (by omega), decay_g V c t (3 - j) (by omega), e]
    rfl

/-- The gradient a point carries on is the scan's. -/
theorem carried (c : Dev nD) (n : ℕ) (hn : n < cfg1.N) : (outsAt0 V c n hn).2.2.2.2.2.2 = grad V c (4 * n + 4) := by
  have h8 := lt8 ⟨n, hn⟩
  induction n with
  | zero =>
    refine (scratch_A V c ⟨0, hn⟩ rfl).trans ?_
    exact bwd4_eq V c ⟨0, hn⟩ 4 le_rfl
  | succ n ih =>
    refine (scratch_B V c ⟨n + 1, hn⟩ (by dsimp only at h8 ⊢; omega)).trans ?_
    rw [show (outsAt0 V c ((⟨n + 1, hn⟩ : Fin cfg1.N).val - 1) _).2.2.2.2.2.2 = _ from ih (Nat.lt_of_succ_lt hn) (by dsimp only at h8 ⊢; omega)]
    exact bwd4_eq V c ⟨n + 1, hn⟩ 4 le_rfl

/-- The gradient after chunk `j` of a first point's block. -/
theorem first4 (c : Dev nD) (t : Fin cfg1.N) (hc : t.val % 8 = 0) (j : ℕ) (hj : j < 4) :
    bwd4 (iblk V c 1 t) (iblk V c 2 t) (iblk V c 3 t) (iblk V c 7 t) (iblk V c 4 t) (iblk V c 5 t) zeroState (3 - j) = grad V c (31 - (4 * (7 - t.val) + j)) := by
  have h8 := lt8 t
  have h0 : t.val = 0 := by omega
  have e := bwd4_eq V c t (3 - j) (by omega)
  rw [show 31 - (4 * (7 - t.val) + j) = 4 * t.val + (3 - j) by omega, ← e, h0]
  rfl

/-- The gradient after chunk `j` of a later point's block. -/
theorem later4 (c : Dev nD) (t : Fin cfg1.N) (hc : ¬t.val % 8 = 0) (j : ℕ) (hj : j < 4) :
    bwd4 (iblk V c 1 t) (iblk V c 2 t) (iblk V c 3 t) (iblk V c 7 t) (iblk V c 4 t) (iblk V c 5 t) (outsAt0 V c (t.val - 1) (Nat.lt_of_le_of_lt (Nat.sub_le _ _) t.isLt)).2.2.2.2.2.2 (3 - j) = grad V c (31 - (4 * (7 - t.val) + j)) := by
  have h8 := lt8 t
  rw [show 31 - (4 * (7 - t.val) + j) = 4 * t.val + (3 - j) by omega, carried V c (t.val - 1) _,
    show 4 * (t.val - 1) + 4 = 4 * t.val by omega, bwd4_eq V c t (3 - j) (by omega)]

/-- A block's chunks laid out, as a part of the array of all chunks laid out. -/
theorem wide4_wide (X : ℕ → Rows) (G : ℕ → Rows) (t : ℕ) (ht : t < 8) (y : S256x768.Idx) (i : S2048x768.Idx)
    (h0 : (i 0).val = (7 - t) * 256 + (y 0).val) (h1 : (i 1).val = (y 1).val) (e : ∀ j < 4, X j = G (4 * (7 - t) + j)) :
    wide4 X y = wide G i := by
  have y0 : (y 0).val < 256 := (y 0).isLt
  unfold wide4 wide
  rw [e _ (by omega), show 4 * (7 - t) + (y 0).val / 64 = (i 0).val / 64 by omega]
  congr 1
  funext a
  match a with
  | 0 => exact Fin.ext (show (y 1).val / 128 % 6 = (i 1).val / 128 % 6 by rw [h1])
  | 1 => exact Fin.ext (show (y 0).val % 64 = (i 0).val % 64 by omega)
  | 2 => exact Fin.ext (show (y 1).val % 128 = (i 1).val % 128 by rw [h1])

theorem gradA_at (u w k : Wide) (g : FVec Ideal S6x32x1x128 .f32) (o : Wide) (i : S6x32x64x64.Idx) (n : ℕ) (y : S6x64x64.Idx)
    (h0 : (i 0).val = (y 0).val) (h1 : (i 1).val = n) (h2 : (i 2).val = (y 1).val) (h3 : (i 3).val = (y 2).val) :
    gradA u w k g o i = dA (rows u n) (rows w n) (rows o n) (Scan.fwd u w k g n) y := by
  unfold gradA
  rw [h1]
  congr 1
  funext a
  match a with
  | 0 => exact Fin.ext h0
  | 1 => exact Fin.ext h2
  | 2 => exact Fin.ext h3

theorem gradG_at (u w q k : Wide) (a : FVec Ideal S6x32x64x64 .f32) (g : FVec Ideal S6x32x1x128 .f32) (o : Wide) (i : S6x32x1x128.Idx) (n : ℕ) (y : S6x1x128.Idx)
    (h0 : (i 0).val = (y 0).val) (h1 : (i 1).val = n) (h3 : (i 3).val = (y 2).val) :
    gradG u w q k a g o i = colSum (Scan.fwd u w k g n) (Scan.bwd w q k a g o (31 - n)) y := by
  unfold gradG
  rw [h1]
  congr 1
  funext a
  match a with
  | 0 => exact Fin.ext h0
  | 1 => exact Fin.ext (by have := (y 1).isLt; show 0 = (y 1).val; change (y 1).val < 1 at this; omega)
  | 2 => exact Fin.ext h3

/-- The gradient of `u`. -/
theorem final_du (c : Dev nD) : (dats V c).arrAt 8 cfg1.N = Scan.gradU (V c main_arg1) (V c main_arg2) (V c main_arg3) (V c main_arg4) (V c main_arg5) (V c main_arg6) := by
  refine (dats V c).arrAt_eq_of_covers 8 _ (by decide +kernel) fun t hf y => ?_
  have h8 := lt8 t
  blk_simp
  rw [after0_8]
  by_cases hc : t.val % 8 = 0
  · refine (du_A V c t hc y).trans ?_
    refine wide4_wide _ _ t.val h8 _ _ ?_ ?_ ?_
    · blk_simp [idx t]
    · blk_simp [idx t]
    · intro j hj
      dsimp only
      rw [rows_k V c t j hj, rows_o V c t j hj, wts_a V c t j hj, first4 V c t hc j hj]
  · refine (du_B V c t hc y).trans ?_
    refine wide4_wide _ _ t.val h8 _ _ ?_ ?_ ?_
    · blk_simp [idx t]
    · blk_simp [idx t]
    · intro j hj
      dsimp only
      rw [rows_k V c t j hj, rows_o V c t j hj, wts_a V c t j hj, later4 V c t hc j hj]
/-- The gradient of `w`. -/
theorem final_dw (c : Dev nD) (hS : V c main_v0_1 = Fwd.statesArr (V c main_arg0) (V c main_arg1) (V c main_arg3) (V c main_arg5)) : (dats V c).arrAt 9 cfg1.N = Scan.gradW (V c main_arg0) (V c main_arg1) (V c main_arg2) (V c main_arg3) (V c main_arg4) (V c main_arg5) (V c main_arg6) := by
  refine (dats V c).arrAt_eq_of_covers 9 _ (by decide +kernel) fun t hf y => ?_
  have h8 := lt8 t
  blk_simp
  rw [after0_9]
  by_cases hc : t.val % 8 = 0
  · refine (dw_A V c t hc y).trans ?_
    refine wide4_wide _ _ t.val h8 _ _ ?_ ?_ ?_
    · blk_simp [idx t]
    · blk_simp [idx t]
    · intro j hj
      dsimp only
      rw [rows_k V c t j hj, rows_o V c t j hj, wts_a V c t j hj, state_s V c t j hj, hS, Fwd.stateOf_statesArr _ _ _ _ _ (by omega), first4 V c t hc j hj]
  · refine (dw_B V c t hc y).trans ?_
    refine wide4_wide _ _ t.val h8 _ _ ?_ ?_ ?_
    · blk_simp [idx t]
    · blk_simp [idx t]
    · intro j hj
      dsimp only
      rw [rows_k V c t j hj, rows_o V c t j hj, wts_a V c t j hj, state_s V c t j hj, hS, Fwd.stateOf_statesArr _ _ _ _ _ (by omega), later4 V c t hc j hj]
/-- The gradient of the gated queries. -/
theorem final_dqg (c : Dev nD) (hS : V c main_v0_1 = Fwd.statesArr (V c main_arg0) (V c main_arg1) (V c main_arg3) (V c main_arg5)) : (dats V c).arrAt 10 cfg1.N = Scan.gradQ (V c main_arg0) (V c main_arg1) (V c main_arg3) (V c main_arg5) (V c main_arg6) := by
  refine (dats V c).arrAt_eq_of_covers 10 _ (by decide +kernel) fun t hf y => ?_
  have h8 := lt8 t
  blk_simp
  rw [after0_10]
  by_cases hc : t.val % 8 = 0
  · refine (dqg_A V c t hc y).trans ?_
    refine wide4_wide _ _ t.val h8 _ _ ?_ ?_ ?_
    · blk_simp [idx t]
    · blk_simp [idx t]
    · intro j hj
      dsimp only
      rw [rows_o V c t j hj, state_s V c t j hj, hS, Fwd.stateOf_statesArr _ _ _ _ _ (by omega)]
  · refine (dqg_B V c t hc y).trans ?_
    refine wide4_wide _ _ t.val h8 _ _ ?_ ?_ ?_
    · blk_simp [idx t]
    · blk_simp [idx t]
    · intro j hj
      dsimp only
      rw [rows_o V c t j hj, state_s V c t j hj, hS, Fwd.stateOf_statesArr _ _ _ _ _ (by omega)]
/-- The gradient of the decayed keys. -/
theorem final_dkd (c : Dev nD) (hS : V c main_v0_1 = Fwd.statesArr (V c main_arg0) (V c main_arg1) (V c main_arg3) (V c main_arg5)) : (dats V c).arrAt 11 cfg1.N = Scan.gradK (V c main_arg0) (V c main_arg1) (V c main_arg2) (V c main_arg3) (V c main_arg4) (V c main_arg5) (V c main_arg6) := by
  refine (dats V c).arrAt_eq_of_covers 11 _ (by decide +kernel) fun t hf y => ?_
  have h8 := lt8 t
  blk_simp
  rw [after0_11]
  by_cases hc : t.val % 8 = 0
  · refine (dkd_A V c t hc y).trans ?_
    refine wide4_wide _ _ t.val h8 _ _ ?_ ?_ ?_
    · blk_simp [idx t]
    · blk_simp [idx t]
    · intro j hj
      dsimp only
      rw [rows_u V c t j hj, rows_w V c t j hj, state_s V c t j hj, hS, Fwd.stateOf_statesArr _ _ _ _ _ (by omega), first4 V c t hc j hj]
  · refine (dkd_B V c t hc y).trans ?_
    refine wide4_wide _ _ t.val h8 _ _ ?_ ?_ ?_
    · blk_simp [idx t]
    · blk_simp [idx t]
    · intro j hj
      dsimp only
      rw [rows_u V c t j hj, rows_w V c t j hj, state_s V c t j hj, hS, Fwd.stateOf_statesArr _ _ _ _ _ (by omega), later4 V c t hc j hj]
/-- The gradient of the weights. -/
theorem final_dat (c : Dev nD) (hS : V c main_v0_1 = Fwd.statesArr (V c main_arg0) (V c main_arg1) (V c main_arg3) (V c main_arg5)) : (dats V c).arrAt 12 cfg1.N = Scan.gradA (V c main_arg0) (V c main_arg1) (V c main_arg3) (V c main_arg5) (V c main_arg6) := by
  refine (dats V c).arrAt_eq_of_covers 12 _ (by decide +kernel) fun t hf y => ?_
  have h8 := lt8 t
  blk_simp
  rw [after0_12]
  by_cases hc : t.val % 8 = 0
  · refine (dat_A V c t hc y).trans ?_
    obtain ⟨j, hy⟩ : ∃ j, j = (y 1).val := ⟨_, rfl⟩
    have hj : j < 4 := hy ▸ (y 1).isLt
    dsimp only
    rw [← hy, rows_u V c t j hj, rows_w V c t j hj, rows_o V c t j hj, state_s V c t j hj, hS, Fwd.stateOf_statesArr _ _ _ _ _ (by omega)]
    refine (gradA_at _ _ _ _ _ _ (4 * (7 - t.val) + j) _ ?_ ?_ ?_ ?_).symm
    all_goals blk_simp [idx t]
    all_goals first | rfl | omega | skip
  · refine (dat_B V c t hc y).trans ?_
    obtain ⟨j, hy⟩ : ∃ j, j = (y 1).val := ⟨_, rfl⟩
    have hj : j < 4 := hy ▸ (y 1).isLt
    dsimp only
    rw [← hy, rows_u V c t j hj, rows_w V c t j hj, rows_o V c t j hj, state_s V c t j hj, hS, Fwd.stateOf_statesArr _ _ _ _ _ (by omega)]
    refine (gradA_at _ _ _ _ _ _ (4 * (7 - t.val) + j) _ ?_ ?_ ?_ ?_).symm
    all_goals blk_simp [idx t]
    all_goals first | rfl | omega | skip
/-- The gradient of the decays. -/
theorem final_deg (c : Dev nD) (hS : V c main_v0_1 = Fwd.statesArr (V c main_arg0) (V c main_arg1) (V c main_arg3) (V c main_arg5)) : (dats V c).arrAt 13 cfg1.N = Scan.gradG (V c main_arg0) (V c main_arg1) (V c main_arg2) (V c main_arg3) (V c main_arg4) (V c main_arg5) (V c main_arg6) := by
  refine (dats V c).arrAt_eq_of_covers 13 _ (by decide +kernel) fun t hf y => ?_
  have h8 := lt8 t
  blk_simp
  rw [after0_13]
  by_cases hc : t.val % 8 = 0
  · refine (deg_A V c t hc y).trans ?_
    obtain ⟨j, hy⟩ : ∃ j, j = (y 1).val := ⟨_, rfl⟩
    have hj : j < 4 := hy ▸ (y 1).isLt
    dsimp only
    rw [← hy, state_s V c t j hj, hS, Fwd.stateOf_statesArr _ _ _ _ _ (by omega), first4 V c t hc j hj]
    refine (gradG_at _ _ _ _ _ _ _ _ (4 * (7 - t.val) + j) _ ?_ ?_ ?_).symm
    all_goals blk_simp [idx t]
    all_goals first | rfl | omega | skip
  · refine (deg_B V c t hc y).trans ?_
    obtain ⟨j, hy⟩ : ∃ j, j = (y 1).val := ⟨_, rfl⟩
    have hj : j < 4 := hy ▸ (y 1).isLt
    dsimp only
    rw [← hy, state_s V c t j hj, hS, Fwd.stateOf_statesArr _ _ _ _ _ (by omega), later4 V c t hc j hj]
    refine (gradG_at _ _ _ _ _ _ _ _ (4 * (7 - t.val) + j) _ ?_ ?_ ?_).symm
    all_goals blk_simp [idx t]
    all_goals first | rfl | omega | skip

end Cert.KernelIdeal.Bwd

end
-- ==== Proof.RefTerms.lean ====
module

public import proofs.«01_k».proof.Proof.Scan
public import proofs.«01_k».proof.Proof.Gen.ReferenceIdeal
public import Idealize.ShloMosaic.Lib.WordCmp

@[expose] public section

set_option maxRecDepth 16384

/-!
The reference's operations read as the mathematics of `Scan`: its products, and the stacks of chunks it takes chunk after
chunk from and puts chunk after chunk into.
-/

noncomputable section

namespace Cert.Scan.Ref

open Cert.ReferenceIdeal Cert.ReferenceIdeal.Gen Cert.Scan
open Idealize.ShloMosaic Idealize.ShloMosaic.WordCmp

theorem ix4_eq {a b c d : ℕ} {i i' : Fin a} {j j' : Fin b} {k k' : Fin c} {l l' : Fin d} (h0 : i.val = i'.val) (h1 : j.val = j'.val)
    (h2 : k.val = k'.val) (h3 : l.val = l'.val) : ix4 i j k l = ix4 i' j' k' l' := by
  rw [Fin.ext h0, Fin.ext h1, Fin.ext h2, Fin.ext h3]

theorem ix2_eq {a b : ℕ} {i i' : Fin a} {j j' : Fin b} (h0 : i.val = i'.val) (h1 : j.val = j'.val) : ix2 i j = ix2 i' j' := by
  rw [Fin.ext h0, Fin.ext h1]

/-- A 32-bit scalar. -/
abbrev Word := (⟨S_, .i32⟩ : BufTy).Contents (Elt Ideal)

/-- The word says `i`. -/
def Says (n : Word) (i : ℕ) : Prop := (n (Shape.Idx.first h_S_)).toInt = (i : ℤ)

/-! ## Stacks of `[6, 64, 128]` -/

/-- Entry `i` of a stack. -/
def atRows (x : FVec Ideal S32x6x64x128 .f32) (i : ℕ) : FVec Ideal S6x64x128 .f32 := fun y => x (ix4 ⟨i % 32, Nat.mod_lt _ (by decide)⟩ (y 0) (y 1) (y 2))
/-- The entry the word says. -/
def takeRows (x : FVec Ideal S32x6x64x128 .f32) (n : Word) : FVec Ideal S6x64x128 .f32 :=
  shapeCast S6x64x128 (Host.dynamicSlice S1x6x64x128 x (fun k => ((![n, constantI S_ 32 0#32, constantI S_ 32 0#32, constantI S_ 32 0#32] : Fin 4 → Word) k (Shape.Idx.first h_S_)).toInt) sliceFits_S32x6x64x128_S1x6x64x128) shapeCasts_S1x6x64x128_S6x64x128
/-- The stack with the word's entry replaced. -/
def putRows (x : FVec Ideal S32x6x64x128 .f32) (v : FVec Ideal S6x64x128 .f32) (n : Word) : FVec Ideal S32x6x64x128 .f32 :=
  Host.dynamicUpdateSlice x (broadcastInDim S1x6x64x128 ![1, 2, 3] bcast_S6x64x128_S1x6x64x128_1_2_3 v) (fun k => ((![n, constantI S_ 32 0#32, constantI S_ 32 0#32, constantI S_ 32 0#32] : Fin 4 → Word) k (Shape.Idx.first h_S_)).toInt) updateFits_S32x6x64x128_S1x6x64x128

theorem takeRows_eq (x : FVec Ideal S32x6x64x128 .f32) (n : Word) (i : ℕ) (hn : Says n i) (hi : i < 32) : takeRows x n = atRows x i := by
  unfold takeRows
  rw [dynamicSlice_eq_extract S1x6x64x128 x _ _ (![i, 0, 0, 0] : Fin 4 → ℕ) ⟨rfl, by intro a; match a with | 0 => exact (by show i + 1 ≤ 32; omega) | 1 => exact le_rfl | 2 => exact le_rfl | 3 => exact le_rfl⟩ (by
    intro a
    match a with
    | 0 => exact hn
    | 1 => rfl
    | 2 => rfl
    | 3 => rfl)]
  funext y
  pointwise [atRows]
  exact congrArg x (ix4_eq (by show i = i % 32; omega) rfl rfl rfl)

theorem putRows_eq (x : FVec Ideal S32x6x64x128 .f32) (v : FVec Ideal S6x64x128 .f32) (n : Word) (i : ℕ) (hn : Says n i) (hi : i < 32) (j : ℕ) (hj : j < 32) :
    atRows (putRows x v n) j = if j = i then v else atRows x j := by
  unfold putRows
  refine (congrArg (fun s => atRows s j) (dynamicUpdateSlice_eq_update (u := S1x6x64x128) x (broadcastInDim S1x6x64x128 ![1, 2, 3] bcast_S6x64x128_S1x6x64x128_1_2_3 v) (fun k => ((![n, constantI S_ 32 0#32, constantI S_ 32 0#32, constantI S_ 32 0#32] : Fin 4 → Word) k (Shape.Idx.first h_S_)).toInt) updateFits_S32x6x64x128_S1x6x64x128 (![i, 0, 0, 0] : Fin 4 → ℕ) ⟨rfl, by intro a; match a with | 0 => exact (by show i + 1 ≤ 32; omega) | 1 => exact le_rfl | 2 => exact le_rfl | 3 => exact le_rfl⟩ (by
    intro a
    match a with
    | 0 => exact hn
    | 1 => rfl
    | 2 => rfl
    | 3 => rfl))).trans ?_
  funext y
  unfold atRows
  pointwise
  by_cases e : j = i
  · rw [if_pos e, dif_pos (by omega)]
  · rw [if_neg e, dif_neg (by omega)]

/-! ## Stacks of `[6, 128, 128]` -/

/-- Entry `i` of a stack. -/
def atState (x : FVec Ideal S32x6x128x128 .f32) (i : ℕ) : FVec Ideal S6x128x128 .f32 := fun y => x (ix4 ⟨i % 32, Nat.mod_lt _ (by decide)⟩ (y 0) (y 1) (y 2))
/-- The entry the word says. -/
def takeState (x : FVec Ideal S32x6x128x128 .f32) (n : Word) : FVec Ideal S6x128x128 .f32 :=
  shapeCast S6x128x128 (Host.dynamicSlice S1x6x128x128 x (fun k => ((![n, constantI S_ 32 0#32, constantI S_ 32 0#32, constantI S_ 32 0#32] : Fin 4 → Word) k (Shape.Idx.first h_S_)).toInt) sliceFits_S32x6x128x128_S1x6x128x128) shapeCasts_S1x6x128x128_S6x128x128
/-- The stack with the word's entry replaced. -/
def putState (x : FVec Ideal S32x6x128x128 .f32) (v : FVec Ideal S6x128x128 .f32) (n : Word) : FVec Ideal S32x6x128x128 .f32 :=
  Host.dynamicUpdateSlice x (broadcastInDim S1x6x128x128 ![1, 2, 3] bcast_S6x128x128_S1x6x128x128_1_2_3 v) (fun k => ((![n, constantI S_ 32 0#32, constantI S_ 32 0#32, constantI S_ 32 0#32] : Fin 4 → Word) k (Shape.Idx.first h_S_)).toInt) updateFits_S32x6x128x128_S1x6x128x128

theorem takeState_eq (x : FVec Ideal S32x6x128x128 .f32) (n : Word) (i : ℕ) (hn : Says n i) (hi : i < 32) : takeState x n = atState x i := by
  unfold takeState
  rw [dynamicSlice_eq_extract S1x6x128x128 x _ _ (![i, 0, 0, 0] : Fin 4 → ℕ) ⟨rfl, by intro a; match a with | 0 => exact (by show i + 1 ≤ 32; omega) | 1 => exact le_rfl | 2 => exact le_rfl | 3 => exact le_rfl⟩ (by
    intro a
    match a with
    | 0 => exact hn
    | 1 => rfl
    | 2 => rfl
    | 3 => rfl)]
  funext y
  pointwise [atState]
  exact congrArg x (ix4_eq (by show i = i % 32; omega) rfl rfl rfl)

theorem putState_eq (x : FVec Ideal S32x6x128x128 .f32) (v : FVec Ideal S6x128x128 .f32) (n : Word) (i : ℕ) (hn : Says n i) (hi : i < 32) (j : ℕ) (hj : j < 32) :
    atState (putState x v n) j = if j = i then v else atState x j := by
  unfold putState
  refine (congrArg (fun s => atState s j) (dynamicUpdateSlice_eq_update (u := S1x6x128x128) x (broadcastInDim S1x6x128x128 ![1, 2, 3] bcast_S6x128x128_S1x6x128x128_1_2_3 v) (fun k => ((![n, constantI S_ 32 0#32, constantI S_ 32 0#32, constantI S_ 32 0#32] : Fin 4 → Word) k (Shape.Idx.first h_S_)).toInt) updateFits_S32x6x128x128_S1x6x128x128 (![i, 0, 0, 0] : Fin 4 → ℕ) ⟨rfl, by intro a; match a with | 0 => exact (by show i + 1 ≤ 32; omega) | 1 => exact le_rfl | 2 => exact le_rfl | 3 => exact le_rfl⟩ (by
    intro a
    match a with
    | 0 => exact hn
    | 1 => rfl
    | 2 => rfl
    | 3 => rfl))).trans ?_
  funext y
  unfold atState
  pointwise
  by_cases e : j = i
  · rw [if_pos e, dif_pos (by omega)]
  · rw [if_neg e, dif_neg (by omega)]

/-! ## Stacks of `[6, 64, 64]` -/

/-- Entry `i` of a stack. -/
def atWts (x : FVec Ideal S32x6x64x64 .f32) (i : ℕ) : FVec Ideal S6x64x64 .f32 := fun y => x (ix4 ⟨i % 32, Nat.mod_lt _ (by decide)⟩ (y 0) (y 1) (y 2))
/-- The entry the word says. -/
def takeWts (x : FVec Ideal S32x6x64x64 .f32) (n : Word) : FVec Ideal S6x64x64 .f32 :=
  shapeCast S6x64x64 (Host.dynamicSlice S1x6x64x64 x (fun k => ((![n, constantI S_ 32 0#32, constantI S_ 32 0#32, constantI S_ 32 0#32] : Fin 4 → Word) k (Shape.Idx.first h_S_)).toInt) sliceFits_S32x6x64x64_S1x6x64x64) shapeCasts_S1x6x64x64_S6x64x64
/-- The stack with the word's entry replaced. -/
def putWts (x : FVec Ideal S32x6x64x64 .f32) (v : FVec Ideal S6x64x64 .f32) (n : Word) : FVec Ideal S32x6x64x64 .f32 :=
  Host.dynamicUpdateSlice x (broadcastInDim S1x6x64x64 ![1, 2, 3] bcast_S6x64x64_S1x6x64x64_1_2_3 v) (fun k => ((![n, constantI S_ 32 0#32, constantI S_ 32 0#32, constantI S_ 32 0#32] : Fin 4 → Word) k (Shape.Idx.first h_S_)).toInt) updateFits_S32x6x64x64_S1x6x64x64

theorem takeWts_eq (x : FVec Ideal S32x6x64x64 .f32) (n : Word) (i : ℕ) (hn : Says n i) (hi : i < 32) : takeWts x n = atWts x i := by
  unfold takeWts
  rw [dynamicSlice_eq_extract S1x6x64x64 x _ _ (![i, 0, 0, 0] : Fin 4 → ℕ) ⟨rfl, by intro a; match a with | 0 => exact (by show i + 1 ≤ 32; omega) | 1 => exact le_rfl | 2 => exact le_rfl | 3 => exact le_rfl⟩ (by
    intro a
    match a with
    | 0 => exact hn
    | 1 => rfl
    | 2 => rfl
    | 3 => rfl)]
  funext y
  pointwise [atWts]
  exact congrArg x (ix4_eq (by show i = i % 32; omega) rfl rfl rfl)

theorem putWts_eq (x : FVec Ideal S32x6x64x64 .f32) (v : FVec Ideal S6x64x64 .f32) (n : Word) (i : ℕ) (hn : Says n i) (hi : i < 32) (j : ℕ) (hj : j < 32) :
    atWts (putWts x v n) j = if j = i then v else atWts x j := by
  unfold putWts
  refine (congrArg (fun s => atWts s j) (dynamicUpdateSlice_eq_update (u := S1x6x64x64) x (broadcastInDim S1x6x64x64 ![1, 2, 3] bcast_S6x64x64_S1x6x64x64_1_2_3 v) (fun k => ((![n, constantI S_ 32 0#32, constantI S_ 32 0#32, constantI S_ 32 0#32] : Fin 4 → Word) k (Shape.Idx.first h_S_)).toInt) updateFits_S32x6x64x64_S1x6x64x64 (![i, 0, 0, 0] : Fin 4 → ℕ) ⟨rfl, by intro a; match a with | 0 => exact (by show i + 1 ≤ 32; omega) | 1 => exact le_rfl | 2 => exact le_rfl | 3 => exact le_rfl⟩ (by
    intro a
    match a with
    | 0 => exact hn
    | 1 => rfl
    | 2 => rfl
    | 3 => rfl))).trans ?_
  funext y
  unfold atWts
  pointwise
  by_cases e : j = i
  · rw [if_pos e, dif_pos (by omega)]
  · rw [if_neg e, dif_neg (by omega)]

/-! ## Stacks of `[6, 1, 128]` -/

/-- Entry `i` of a stack. -/
def atDecay (x : FVec Ideal S32x6x1x128 .f32) (i : ℕ) : FVec Ideal S6x1x128 .f32 := fun y => x (ix4 ⟨i % 32, Nat.mod_lt _ (by decide)⟩ (y 0) (y 1) (y 2))
/-- The entry the word says. -/
def takeDecay (x : FVec Ideal S32x6x1x128 .f32) (n : Word) : FVec Ideal S6x1x128 .f32 :=
  shapeCast S6x1x128 (Host.dynamicSlice S1x6x1x128 x (fun k => ((![n, constantI S_ 32 0#32, constantI S_ 32 0#32, constantI S_ 32 0#32] : Fin 4 → Word) k (Shape.Idx.first h_S_)).toInt) sliceFits_S32x6x1x128_S1x6x1x128) shapeCasts_S1x6x1x128_S6x1x128
/-- The stack with the word's entry replaced. -/
def putDecay (x : FVec Ideal S32x6x1x128 .f32) (v : FVec Ideal S6x1x128 .f32) (n : Word) : FVec Ideal S32x6x1x128 .f32 :=
  Host.dynamicUpdateSlice x (broadcastInDim S1x6x1x128 ![1, 2, 3] bcast_S6x1x128_S1x6x1x128_1_2_3 v) (fun k => ((![n, constantI S_ 32 0#32, constantI S_ 32 0#32, constantI S_ 32 0#32] : Fin 4 → Word) k (Shape.Idx.first h_S_)).toInt) updateFits_S32x6x1x128_S1x6x1x128

theorem takeDecay_eq (x : FVec Ideal S32x6x1x128 .f32) (n : Word) (i : ℕ) (hn : Says n i) (hi : i < 32) : takeDecay x n = atDecay x i := by
  unfold takeDecay
  rw [dynamicSlice_eq_extract S1x6x1x128 x _ _ (![i, 0, 0, 0] : Fin 4 → ℕ) ⟨rfl, by intro a; match a with | 0 => exact (by show i + 1 ≤ 32; omega) | 1 => exact le_rfl | 2 => exact le_rfl | 3 => exact le_rfl⟩ (by
    intro a
    match a with
    | 0 => exact hn
    | 1 => rfl
    | 2 => rfl
    | 3 => rfl)]
  funext y
  pointwise [atDecay]
  exact congrArg x (ix4_eq (by show i = i % 32; omega) rfl (by have h1 : (y 1).val < 1 := (y 1).isLt; show 0 = (y 1).val; omega) rfl)

theorem putDecay_eq (x : FVec Ideal S32x6x1x128 .f32) (v : FVec Ideal S6x1x128 .f32) (n : Word) (i : ℕ) (hn : Says n i) (hi : i < 32) (j : ℕ) (hj : j < 32) :
    atDecay (putDecay x v n) j = if j = i then v else atDecay x j := by
  unfold putDecay
  refine (congrArg (fun s => atDecay s j) (dynamicUpdateSlice_eq_update (u := S1x6x1x128) x (broadcastInDim S1x6x1x128 ![1, 2, 3] bcast_S6x1x128_S1x6x1x128_1_2_3 v) (fun k => ((![n, constantI S_ 32 0#32, constantI S_ 32 0#32, constantI S_ 32 0#32] : Fin 4 → Word) k (Shape.Idx.first h_S_)).toInt) updateFits_S32x6x1x128_S1x6x1x128 (![i, 0, 0, 0] : Fin 4 → ℕ) ⟨rfl, by intro a; match a with | 0 => exact (by show i + 1 ≤ 32; omega) | 1 => exact le_rfl | 2 => exact le_rfl | 3 => exact le_rfl⟩ (by
    intro a
    match a with
    | 0 => exact hn
    | 1 => rfl
    | 2 => rfl
    | 3 => rfl))).trans ?_
  funext y
  unfold atDecay
  pointwise
  by_cases e : j = i
  · rw [if_pos e, dif_pos (by omega)]
    exact congrArg v (funext fun b => by
      match b with
      | 0 => rfl
      | 1 => exact Fin.ext (by have h1 : (y 1).val < 1 := (y 1).isLt; show 0 = (y 1).val; omega)
      | 2 => rfl)
  · rw [if_neg e, dif_neg (by omega)]

/-! ## The arrays as stacks -/

def chunks (x : Wide) : FVec Ideal S32x6x64x128 .f32 :=
  transpose S32x6x64x128 [0, 2, 1, 3] (shapeCast S32x64x6x128 x shapeCasts_S2048x768_S32x64x6x128) transposes_S32x64x6x128_S32x6x64x128_0_2_1_3
theorem chunks_at (x : Wide) (i : ℕ) (hi : i < 32) : atRows (chunks x) i = rows x i := by
  funext y
  pointwise [atRows, chunks, rows]
  have h0 : (y 0).val < 6 := (y 0).isLt
  have h1 : (y 1).val < 64 := (y 1).isLt
  have h2 : (y 2).val < 128 := (y 2).isLt
  exact congrArg x (ix2_eq (by show i % 32 * 64 + (y 1).val = (64 * i + (y 1).val) % 2048; omega)
    (by show (y 0).val * 128 + (y 2).val = (128 * (y 0).val + (y 2).val) % 768; omega))
theorem chunks_back (x : FVec Ideal S32x6x64x128 .f32) (h h') :
    shapeCast S2048x768 (transpose S32x64x6x128 [0, 2, 1, 3] x h) h' = wide (atRows x) := by
  funext y
  pointwise [atRows, wide]
  have h0 : (y 0).val < 2048 := (y 0).isLt
  have h1 : (y 1).val < 768 := (y 1).isLt
  exact congrArg x (ix4_eq (by show (y 0).val / 64 = (y 0).val / 64 % 32; omega) (by show (y 1).val / 128 = (y 1).val / 128 % 6; omega) rfl rfl)
theorem wts_at (x : FVec Ideal S6x32x64x64 .f32) (h) (i : ℕ) (hi : i < 32) : atWts (transpose S32x6x64x64 [1, 0, 2, 3] x h) i = wts x i := by
  funext y
  pointwise [atWts, wts]
theorem wts_back (x : FVec Ideal S32x6x64x64 .f32) (h) (y : S6x32x64x64.Idx) :
    transpose S6x32x64x64 [1, 0, 2, 3] x h y = atWts x (y 1).val (ix3 (y 0) (y 2) (y 3)) := by
  pointwise [atWts]
  have h1 : (y 1).val < 32 := (y 1).isLt
  exact congrArg x (ix4_eq (by show (y 1).val = (y 1).val % 32; omega) rfl rfl rfl)
theorem decay_at (x : FVec Ideal S6x32x1x128 .f32) (h h') (i : ℕ) (hi : i < 32) :
    broadcastInDim S6x128x128 ![0, 1, 2] h' (atDecay (transpose S32x6x1x128 [1, 0, 2, 3] x h) i) = decay x i := by
  funext y
  pointwise [atDecay, decay]
theorem decay_back (x : FVec Ideal S32x6x1x128 .f32) (h) (y : S6x32x1x128.Idx) :
    transpose S6x32x1x128 [1, 0, 2, 3] x h y = atDecay x (y 1).val (ix3 (y 0) 0 (y 3)) := by
  pointwise [atDecay]
  have h1 : (y 1).val < 32 := (y 1).isLt
  exact congrArg x (ix4_eq (by show (y 1).val = (y 1).val % 32; omega) rfl rfl rfl)

/-! ## The products -/

theorem dot_rowsState (l : Rows) (r : State) : Host.dotGeneral dot_S6x64x128_S6x128x128_S6x64x128_2_1_1_2_0_0 none l r = rowsState l r := by
  funext y; pointwise [rowsState]
theorem dot_rowsTRows (l r : Rows) : Host.dotGeneral dot_S6x64x128_S6x64x128_S6x128x128_1_1_2_2_0_0 none l r = rowsTRows l r := by
  funext y; pointwise [rowsTRows]
theorem dot_rowsTRows_swap (l r : Rows) (h) :
    transpose S6x128x128 [0, 2, 1] (Host.dotGeneral (F := Ideal) (φ₁ := .f32) (φ₂ := .f32) dot_S6x64x128_S6x64x128_S6x128x128_1_1_2_2_0_0 none l r) h = rowsTRows r l := by
  funext y; pointwise [rowsTRows]
  exact Finset.sum_congr rfl fun k _ => mul_comm _ _
theorem dot_rowsState_swap (l : State) (r : Rows) (h) :
    transpose S6x64x128 [0, 2, 1] (Host.dotGeneral (F := Ideal) (φ₁ := .f32) (φ₂ := .f32) dot_S6x128x128_S6x64x128_S6x128x64_1_2_2_1_0_0 none l r) h = rowsState r l := by
  funext y; pointwise [rowsState]
  exact Finset.sum_congr rfl fun k _ => mul_comm _ _
theorem dot_rowsStateT_swap (l : State) (r : Rows) (h) :
    transpose S6x64x128 [0, 2, 1] (Host.dotGeneral (F := Ideal) (φ₁ := .f32) (φ₂ := .f32) dot_S6x128x128_S6x64x128_S6x128x64_2_2_1_1_0_0 none l r) h = rowsStateT r l := by
  funext y; pointwise [rowsStateT]
  exact Finset.sum_congr rfl fun k _ => mul_comm _ _
theorem dot_wtsTRows_swap (l : Rows) (r : Wts) (h) :
    transpose S6x64x128 [0, 2, 1] (Host.dotGeneral (F := Ideal) (φ₁ := .f32) (φ₂ := .f32) dot_S6x64x128_S6x64x64_S6x128x64_1_1_2_2_0_0 none l r) h = wtsTRows r l := by
  funext y; pointwise [wtsTRows]
  exact Finset.sum_congr rfl fun k _ => mul_comm _ _
theorem dot_rowsRowsT (l r : Rows) : Host.dotGeneral dot_S6x64x128_S6x64x128_S6x64x64_2_2_1_1_0_0 none l r = rowsRowsT l r := by
  funext y; pointwise [rowsRowsT]
theorem dot_rowsStateT (l : Rows) (r : State) : Host.dotGeneral dot_S6x64x128_S6x128x128_S6x64x128_2_2_1_1_0_0 none l r = rowsStateT l r := by
  funext y; pointwise [rowsStateT]
theorem neg_rows (x : Rows) : Host.negf x = negRows x := by
  funext y; pointwise [negRows]
theorem red_colSum (s d : State) (h) :
    shapeCast S6x1x128 (Host.reduceAdd (F := Ideal) (mulf s d) (constant S_ .f32 0x00000000#32) reducesTo_S6x128x128_S6x128_d1 h_S_) h = colSum s d := by
  funext y; pointwise [colSum]
theorem zero_state : broadcastInDim S6x128x128 ![] bcast_S_S6x128x128 (constant (F := Ideal) S_ .f32 0x00000000#32) = zeroState := by
  funext y; pointwise [zeroState]

end Cert.Scan.Ref

end
-- ==== Proof.RefTrip.lean ====
module

public import proofs.«01_k».proof.Proof.RefRun
public import proofs.«01_k».proof.Proof.RefTerms

@[expose] public section

set_option maxRecDepth 100000
set_option maxHeartbeats 2000000

/-!
What one trip of each of the reference's loops does to the buffers it carries, in the terms of `Scan`.
-/

noncomputable section

namespace Cert.ReferenceIdeal.Loops

open Idealize.ShloMosaic Idealize.ShloMosaic.TcCoe Idealize.ShloMosaic.StableHlo Cert.ReferenceIdeal.Gen
open Cert.Scan Cert.Scan.Ref

/-- `Scan.next`, the decays still one row. -/
def nextH (u w k : Rows) (g : FVec Ideal S6x1x128 .f32) (S : State) : State :=
  next u w k (broadcastInDim S6x128x128 ![0, 1, 2] bcast_S6x1x128_S6x128x128_0_1_2 g) S
/-- `Scan.prev`, the decays still one row. -/
def prevH (w q k o : Rows) (a : Wts) (g : FVec Ideal S6x1x128 .f32) (D : State) : State :=
  prev w q k o a (broadcastInDim S6x128x128 ![0, 1, 2] bcast_S6x1x128_S6x128x128_0_1_2 g) D
/-- The chunk the backward loop takes when its counter is `n`: counted from the end. -/
def fromEnd (n : Word) : Word := subi (subi (constantI S_ 32 32#32) n) (constantI S_ 32 1#32)

variable (X : Valuation τ sig (Elt Ideal))

theorem eff_w0b_v38 : after while0Ops0 X (Proc.devRef .tc main_while0b_v38) = takeRows (X (Proc.devRef .tc main_v14_0)) (X (Proc.devRef .tc main_v14_6)) := by
  after_results_simp_entrywise
  rfl
theorem eff_w0b_v39 : after while0Ops0_1 X (Proc.devRef .tc main_while0b_v39) = takeRows (X (Proc.devRef .tc main_v14_1)) (X (Proc.devRef .tc main_v14_6)) := by
  after_results_simp_entrywise
  rfl
theorem eff_w0b_v42 : after while0Ops0_4 X (Proc.devRef .tc main_while0b_v42) = takeRows (X (Proc.devRef .tc main_v14_4)) (X (Proc.devRef .tc main_v14_6)) := by
  after_results_simp_entrywise
  rfl
theorem eff_w0b_v43 : after while0Ops0_5 X (Proc.devRef .tc main_while0b_v43) = takeDecay (X (Proc.devRef .tc main_v14_5)) (X (Proc.devRef .tc main_v14_6)) := by
  after_results_simp_entrywise
  rfl
theorem eff_w0b_v45 : after while0Ops0_6 X (Proc.devRef .tc main_while0b_v45) = vNew (X (Proc.devRef .tc main_while0b_v38)) (X (Proc.devRef .tc main_while0b_v39)) (X (Proc.devRef .tc main_v14_7)) := by
  after_results
  repeat rw [dot_rowsState]
  all_goals rfl
theorem eff_w0b_v52 : after while0Ops0_6 X (Proc.devRef .tc main_while0b_v52) = nextH (X (Proc.devRef .tc main_while0b_v38)) (X (Proc.devRef .tc main_while0b_v39)) (X (Proc.devRef .tc main_while0b_v42)) (X (Proc.devRef .tc main_while0b_v43)) (X (Proc.devRef .tc main_v14_7)) := by
  after_results
  repeat rw [dot_rowsState]
  repeat rw [dot_rowsTRows]
  all_goals rfl
theorem eff_w0b_v54 : after while0Ops0_8 X (Proc.devRef .tc main_while0b_v54) = putState (X (Proc.devRef .tc main_v14_9)) (X (Proc.devRef .tc main_v14_7)) (X (Proc.devRef .tc main_v14_6)) := by
  after_results_simp_entrywise
  rfl
theorem eff_w0b_v55 : after while0Ops0_9 X (Proc.devRef .tc main_while0b_v55) = putRows (X (Proc.devRef .tc main_v14_10)) (X (Proc.devRef .tc main_while0b_v45)) (X (Proc.devRef .tc main_v14_6)) := by
  after_results_simp_entrywise
  rfl
theorem eff_v14_7 : after while0Ops0_10 X (Proc.devRef .tc main_v14_7) = X (Proc.devRef .tc main_while0b_v52) := by
  after_results_simp_entrywise
  rfl
theorem eff_v14_9 : after while0Ops0_10 X (Proc.devRef .tc main_v14_9) = X (Proc.devRef .tc main_while0b_v54) := by
  after_results_simp_entrywise
  rfl
theorem eff_v14_10 : after while0Ops0_10 X (Proc.devRef .tc main_v14_10) = X (Proc.devRef .tc main_while0b_v55) := by
  after_results_simp_entrywise
  rfl
theorem eff_w1b_v39 : after while1Ops0 X (Proc.devRef .tc main_while1b_v39) = fromEnd (X (Proc.devRef .tc main_v27_8)) := by
  after_results_simp_entrywise
  rfl
theorem eff_w1b_v40 : after while1Ops0_1 X (Proc.devRef .tc main_while1b_v40) = takeRows (X (Proc.devRef .tc main_v27_0)) (X (Proc.devRef .tc main_while1b_v39)) := by
  after_results_simp_entrywise
  rfl
theorem eff_w1b_v41 : after while1Ops0_2 X (Proc.devRef .tc main_while1b_v41) = takeState (X (Proc.devRef .tc main_v27_1)) (X (Proc.devRef .tc main_while1b_v39)) := by
  after_results_simp_entrywise
  rfl
theorem eff_w1b_v42 : after while1Ops0_3 X (Proc.devRef .tc main_while1b_v42) = takeRows (X (Proc.devRef .tc main_v27_2)) (X (Proc.devRef .tc main_while1b_v39)) := by
  after_results_simp_entrywise
  rfl
theorem eff_w1b_v43 : after while1Ops0_4 X (Proc.devRef .tc main_while1b_v43) = takeRows (X (Proc.devRef .tc main_v27_3)) (X (Proc.devRef .tc main_while1b_v39)) := by
  after_results_simp_entrywise
  rfl
theorem eff_w1b_v44 : after while1Ops0_5 X (Proc.devRef .tc main_while1b_v44) = takeRows (X (Proc.devRef .tc main_v27_4)) (X (Proc.devRef .tc main_while1b_v39)) := by
  after_results_simp_entrywise
  rfl
theorem eff_w1b_v45 : after while1Ops0_6 X (Proc.devRef .tc main_while1b_v45) = takeWts (X (Proc.devRef .tc main_v27_5)) (X (Proc.devRef .tc main_while1b_v39)) := by
  after_results_simp_entrywise
  rfl
theorem eff_w1b_v46 : after while1Ops0_7 X (Proc.devRef .tc main_while1b_v46) = takeDecay (X (Proc.devRef .tc main_v27_6)) (X (Proc.devRef .tc main_while1b_v39)) := by
  after_results_simp_entrywise
  rfl
theorem eff_w1b_v47 : after while1Ops0_8 X (Proc.devRef .tc main_while1b_v47) = takeRows (X (Proc.devRef .tc main_v27_7)) (X (Proc.devRef .tc main_while1b_v39)) := by
  after_results_simp_entrywise
  rfl
theorem eff_w1b_v51 : after while1Ops0_9 X (Proc.devRef .tc main_while1b_v51) = rowsStateT (X (Proc.devRef .tc main_while1b_v44)) (X (Proc.devRef .tc main_v27_9)) := by
  after_results
  repeat rw [dot_rowsStateT_swap]
  all_goals rfl
theorem eff_w1b_v54 : after while1Ops0_9 X (Proc.devRef .tc main_while1b_v54) = colSum (X (Proc.devRef .tc main_while1b_v41)) (X (Proc.devRef .tc main_v27_9)) := by
  after_results
  exact red_colSum _ _ _
theorem eff_w1b_v59 : after while1Ops0_9 X (Proc.devRef .tc main_while1b_v59) = dU (X (Proc.devRef .tc main_while1b_v47)) (X (Proc.devRef .tc main_while1b_v40)) (X (Proc.devRef .tc main_while1b_v45)) (X (Proc.devRef .tc main_v27_9)) := by
  after_results
  repeat rw [dot_rowsState_swap]
  repeat rw [dot_wtsTRows_swap]
  all_goals rfl
theorem eff_w1b_v60 : after while1Ops0_9 X (Proc.devRef .tc main_while1b_v60) = rowsRowsT (X (Proc.devRef .tc main_while1b_v40)) (X (Proc.devRef .tc main_while1b_v44)) := by
  after_results
  repeat rw [dot_rowsRowsT]
  all_goals rfl
theorem eff_w1b_v64 : after while1Ops0_9 X (Proc.devRef .tc main_while1b_v64) = dQ (X (Proc.devRef .tc main_while1b_v40)) (X (Proc.devRef .tc main_while1b_v41)) := by
  after_results
  repeat rw [dot_rowsStateT]
  all_goals rfl
theorem eff_w1b_v68 : after while1Ops0_9 X (Proc.devRef .tc main_while1b_v68) = prevH (X (Proc.devRef .tc main_while1b_v42)) (X (Proc.devRef .tc main_while1b_v43)) (X (Proc.devRef .tc main_while1b_v47)) (X (Proc.devRef .tc main_while1b_v40)) (X (Proc.devRef .tc main_while1b_v45)) (X (Proc.devRef .tc main_while1b_v46)) (X (Proc.devRef .tc main_v27_9)) := by
  after_results
  repeat rw [dot_rowsState_swap]
  repeat rw [dot_wtsTRows_swap]
  repeat rw [dot_rowsTRows_swap]
  repeat rw [neg_rows]
  all_goals rfl
theorem eff_w1b_v69 : after while1Ops0_9 X (Proc.devRef .tc main_while1b_v69) = dW (X (Proc.devRef .tc main_while1b_v47)) (X (Proc.devRef .tc main_while1b_v40)) (X (Proc.devRef .tc main_while1b_v45)) (X (Proc.devRef .tc main_while1b_v41)) (X (Proc.devRef .tc main_v27_9)) := by
  after_results
  repeat rw [dot_rowsState_swap]
  repeat rw [dot_wtsTRows_swap]
  repeat rw [neg_rows]
  repeat rw [dot_rowsStateT]
  all_goals rfl
theorem eff_w1b_v70 : after while1Ops0_10 X (Proc.devRef .tc main_while1b_v70) = putRows (X (Proc.devRef .tc main_v27_10)) (X (Proc.devRef .tc main_while1b_v59)) (X (Proc.devRef .tc main_while1b_v39)) := by
  after_results_simp_entrywise
  rfl
theorem eff_w1b_v71 : after while1Ops0_11 X (Proc.devRef .tc main_while1b_v71) = putRows (X (Proc.devRef .tc main_v27_11)) (X (Proc.devRef .tc main_while1b_v69)) (X (Proc.devRef .tc main_while1b_v39)) := by
  after_results_simp_entrywise
  rfl
theorem eff_w1b_v72 : after while1Ops0_12 X (Proc.devRef .tc main_while1b_v72) = putRows (X (Proc.devRef .tc main_v27_12)) (X (Proc.devRef .tc main_while1b_v64)) (X (Proc.devRef .tc main_while1b_v39)) := by
  after_results_simp_entrywise
  rfl
theorem eff_w1b_v73 : after while1Ops0_13 X (Proc.devRef .tc main_while1b_v73) = putWts (X (Proc.devRef .tc main_v27_13)) (X (Proc.devRef .tc main_while1b_v60)) (X (Proc.devRef .tc main_while1b_v39)) := by
  after_results_simp_entrywise
  rfl
theorem eff_w1b_v74 : after while1Ops0_14 X (Proc.devRef .tc main_while1b_v74) = putRows (X (Proc.devRef .tc main_v27_14)) (X (Proc.devRef .tc main_while1b_v51)) (X (Proc.devRef .tc main_while1b_v39)) := by
  after_results_simp_entrywise
  rfl
theorem eff_w1b_v75 : after while1Ops0_15 X (Proc.devRef .tc main_while1b_v75) = putDecay (X (Proc.devRef .tc main_v27_15)) (X (Proc.devRef .tc main_while1b_v54)) (X (Proc.devRef .tc main_while1b_v39)) := by
  after_results_simp_entrywise
  rfl
theorem eff_v27_9 : after while1Ops0_16 X (Proc.devRef .tc main_v27_9) = X (Proc.devRef .tc main_while1b_v68) := by
  after_results_simp_entrywise
  rfl
theorem eff_v27_10 : after while1Ops0_16 X (Proc.devRef .tc main_v27_10) = X (Proc.devRef .tc main_while1b_v70) := by
  after_results_simp_entrywise
  rfl
theorem eff_v27_11 : after while1Ops0_16 X (Proc.devRef .tc main_v27_11) = X (Proc.devRef .tc main_while1b_v71) := by
  after_results_simp_entrywise
  rfl
theorem eff_v27_12 : after while1Ops0_16 X (Proc.devRef .tc main_v27_12) = X (Proc.devRef .tc main_while1b_v72) := by
  after_results_simp_entrywise
  rfl
theorem eff_v27_13 : after while1Ops0_16 X (Proc.devRef .tc main_v27_13) = X (Proc.devRef .tc main_while1b_v73) := by
  after_results_simp_entrywise
  rfl
theorem eff_v27_14 : after while1Ops0_16 X (Proc.devRef .tc main_v27_14) = X (Proc.devRef .tc main_while1b_v74) := by
  after_results_simp_entrywise
  rfl
theorem eff_v27_15 : after while1Ops0_16 X (Proc.devRef .tc main_v27_15) = X (Proc.devRef .tc main_while1b_v75) := by
  after_results_simp_entrywise
  rfl

/-! ## A trip of the forward loop -/

theorem trip0_7 : afterL body0 (after cond0 X) (Proc.devRef .tc main_v14_7)
    = nextH (takeRows (X (Proc.devRef .tc main_v14_0)) (X (Proc.devRef .tc main_v14_6))) (takeRows (X (Proc.devRef .tc main_v14_1)) (X (Proc.devRef .tc main_v14_6))) (takeRows (X (Proc.devRef .tc main_v14_4)) (X (Proc.devRef .tc main_v14_6))) (takeDecay (X (Proc.devRef .tc main_v14_5)) (X (Proc.devRef .tc main_v14_6))) (X (Proc.devRef .tc main_v14_7)) := by
  simp only [afterL_cons, afterL_nil]
  rw [eff_v14_7, while0Ops0_9_keep main_while0b_v52 (by decide +kernel), while0Ops0_8_keep main_while0b_v52 (by decide +kernel), while0Ops0_7_keep main_while0b_v52 (by decide +kernel), eff_w0b_v52, while0Ops0_5_keep main_v14_7 (by decide +kernel), while0Ops0_5_keep main_while0b_v38 (by decide +kernel), while0Ops0_5_keep main_while0b_v39 (by decide +kernel), while0Ops0_5_keep main_while0b_v42 (by decide +kernel), eff_w0b_v43, while0Ops0_4_keep main_v14_5 (by decide +kernel), while0Ops0_4_keep main_v14_6 (by decide +kernel), while0Ops0_4_keep main_v14_7 (by decide +kernel), while0Ops0_4_keep main_while0b_v38 (by decide +kernel), while0Ops0_4_keep main_while0b_v39 (by decide +kernel), eff_w0b_v42, while0Ops0_3_keep main_v14_4 (by decide +kernel), while0Ops0_3_keep main_v14_5 (by decide +kernel), while0Ops0_3_keep main_v14_6 (by decide +kernel), while0Ops0_3_keep main_v14_7 (by decide +kernel), while0Ops0_3_keep main_while0b_v38 (by decide +kernel), while0Ops0_3_keep main_while0b_v39 (by decide +kernel), while0Ops0_2_keep main_v14_4 (by decide +kernel), while0Ops0_2_keep main_v14_5 (by decide +kernel), while0Ops0_2_keep main_v14_6 (by decide +kernel), while0Ops0_2_keep main_v14_7 (by decide +kernel), while0Ops0_2_keep main_while0b_v38 (by decide +kernel), while0Ops0_2_keep main_while0b_v39 (by decide +kernel), while0Ops0_1_keep main_v14_4 (by decide +kernel), while0Ops0_1_keep main_v14_5 (by decide +kernel), while0Ops0_1_keep main_v14_6 (by decide +kernel), while0Ops0_1_keep main_v14_7 (by decide +kernel), while0Ops0_1_keep main_while0b_v38 (by decide +kernel), eff_w0b_v39, while0Ops0_keep main_v14_1 (by decide +kernel), while0Ops0_keep main_v14_4 (by decide +kernel), while0Ops0_keep main_v14_5 (by decide +kernel), while0Ops0_keep main_v14_6 (by decide +kernel), while0Ops0_keep main_v14_7 (by decide +kernel), eff_w0b_v38, cond0_keep main_v14_0 (by decide +kernel), cond0_keep main_v14_1 (by decide +kernel), cond0_keep main_v14_4 (by decide +kernel), cond0_keep main_v14_5 (by decide +kernel), cond0_keep main_v14_6 (by decide +kernel), cond0_keep main_v14_7 (by decide +kernel)]

theorem trip0_9 : afterL body0 (after cond0 X) (Proc.devRef .tc main_v14_9)
    = putState (X (Proc.devRef .tc main_v14_9)) (X (Proc.devRef .tc main_v14_7)) (X (Proc.devRef .tc main_v14_6)) := by
  simp only [afterL_cons, afterL_nil]
  rw [eff_v14_9, while0Ops0_9_keep main_while0b_v54 (by decide +kernel), eff_w0b_v54, while0Ops0_7_keep main_v14_6 (by decide +kernel), while0Ops0_7_keep main_v14_7 (by decide +kernel), while0Ops0_7_keep main_v14_9 (by decide +kernel), while0Ops0_6_keep main_v14_6 (by decide +kernel), while0Ops0_6_keep main_v14_7 (by decide +kernel), while0Ops0_6_keep main_v14_9 (by decide +kernel), while0Ops0_5_keep main_v14_6 (by decide +kernel), while0Ops0_5_keep main_v14_7 (by decide +kernel), while0Ops0_5_keep main_v14_9 (by decide +kernel), while0Ops0_4_keep main_v14_6 (by decide +kernel), while0Ops0_4_keep main_v14_7 (by decide +kernel), while0Ops0_4_keep main_v14_9 (by decide +kernel), while0Ops0_3_keep main_v14_6 (by decide +kernel), while0Ops0_3_keep main_v14_7 (by decide +kernel), while0Ops0_3_keep main_v14_9 (by decide +kernel), while0Ops0_2_keep main_v14_6 (by decide +kernel), while0Ops0_2_keep main_v14_7 (by decide +kernel), while0Ops0_2_keep main_v14_9 (by decide +kernel), while0Ops0_1_keep main_v14_6 (by decide +kernel), while0Ops0_1_keep main_v14_7 (by decide +kernel), while0Ops0_1_keep main_v14_9 (by decide +kernel), while0Ops0_keep main_v14_6 (by decide +kernel), while0Ops0_keep main_v14_7 (by decide +kernel), while0Ops0_keep main_v14_9 (by decide +kernel), cond0_keep main_v14_6 (by decide +kernel), cond0_keep main_v14_7 (by decide +kernel), cond0_keep main_v14_9 (by decide +kernel)]

theorem trip0_10 : afterL body0 (after cond0 X) (Proc.devRef .tc main_v14_10)
    = putRows (X (Proc.devRef .tc main_v14_10)) (vNew (takeRows (X (Proc.devRef .tc main_v14_0)) (X (Proc.devRef .tc main_v14_6))) (takeRows (X (Proc.devRef .tc main_v14_1)) (X (Proc.devRef .tc main_v14_6))) (X (Proc.devRef .tc main_v14_7))) (X (Proc.devRef .tc main_v14_6)) := by
  simp only [afterL_cons, afterL_nil]
  rw [eff_v14_10, eff_w0b_v55, while0Ops0_8_keep main_v14_10 (by decide +kernel), while0Ops0_8_keep main_v14_6 (by decide +kernel), while0Ops0_8_keep main_while0b_v45 (by decide +kernel), while0Ops0_7_keep main_v14_10 (by decide +kernel), while0Ops0_7_keep main_v14_6 (by decide +kernel), while0Ops0_7_keep main_while0b_v45 (by decide +kernel), while0Ops0_6_keep main_v14_10 (by decide +kernel), while0Ops0_6_keep main_v14_6 (by decide +kernel), eff_w0b_v45, while0Ops0_5_keep main_v14_10 (by decide +kernel), while0Ops0_5_keep main_v14_6 (by decide +kernel), while0Ops0_5_keep main_v14_7 (by decide +kernel), while0Ops0_5_keep main_while0b_v38 (by decide +kernel), while0Ops0_5_keep main_while0b_v39 (by decide +kernel), while0Ops0_4_keep main_v14_10 (by decide +kernel), while0Ops0_4_keep main_v14_6 (by decide +kernel), while0Ops0_4_keep main_v14_7 (by decide +kernel), while0Ops0_4_keep main_while0b_v38 (by decide +kernel), while0Ops0_4_keep main_while0b_v39 (by decide +kernel), while0Ops0_3_keep main_v14_10 (by decide +kernel), while0Ops0_3_keep main_v14_6 (by decide +kernel), while0Ops0_3_keep main_v14_7 (by decide +kernel), while0Ops0_3_keep main_while0b_v38 (by decide +kernel), while0Ops0_3_keep main_while0b_v39 (by decide +kernel), while0Ops0_2_keep main_v14_10 (by decide +kernel), while0Ops0_2_keep main_v14_6 (by decide +kernel), while0Ops0_2_keep main_v14_7 (by decide +kernel), while0Ops0_2_keep main_while0b_v38 (by decide +kernel), while0Ops0_2_keep main_while0b_v39 (by decide +kernel), while0Ops0_1_keep main_v14_10 (by decide +kernel), while0Ops0_1_keep main_v14_6 (by decide +kernel), while0Ops0_1_keep main_v14_7 (by decide +kernel), while0Ops0_1_keep main_while0b_v38 (by decide +kernel), eff_w0b_v39, while0Ops0_keep main_v14_1 (by decide +kernel), while0Ops0_keep main_v14_10 (by decide +kernel), while0Ops0_keep main_v14_6 (by decide +kernel), while0Ops0_keep main_v14_7 (by decide +kernel), eff_w0b_v38, cond0_keep main_v14_0 (by decide +kernel), cond0_keep main_v14_1 (by decide +kernel), cond0_keep main_v14_10 (by decide +kernel), cond0_keep main_v14_6 (by decide +kernel), cond0_keep main_v14_7 (by decide +kernel)]

/-! ## A trip of the backward loop -/

theorem trip1_9 : afterL body1 (after cond1 X) (Proc.devRef .tc main_v27_9)
    = prevH (takeRows (X (Proc.devRef .tc main_v27_2)) (fromEnd (X (Proc.devRef .tc main_v27_8)))) (takeRows (X (Proc.devRef .tc main_v27_3)) (fromEnd (X (Proc.devRef .tc main_v27_8)))) (takeRows (X (Proc.devRef .tc main_v27_7)) (fromEnd (X (Proc.devRef .tc main_v27_8)))) (takeRows (X (Proc.devRef .tc main_v27_0)) (fromEnd (X (Proc.devRef .tc main_v27_8)))) (takeWts (X (Proc.devRef .tc main_v27_5)) (fromEnd (X (Proc.devRef .tc main_v27_8)))) (takeDecay (X (Proc.devRef .tc main_v27_6)) (fromEnd (X (Proc.devRef .tc main_v27_8)))) (X (Proc.devRef .tc main_v27_9)) := by
  simp only [afterL_cons, afterL_nil]
  rw [eff_v27_9, while1Ops0_15_keep main_while1b_v68 (by decide +kernel), while1Ops0_14_keep main_while1b_v68 (by decide +kernel), while1Ops0_13_keep main_while1b_v68 (by decide +kernel), while1Ops0_12_keep main_while1b_v68 (by decide +kernel), while1Ops0_11_keep main_while1b_v68 (by decide +kernel), while1Ops0_10_keep main_while1b_v68 (by decide +kernel), eff_w1b_v68, while1Ops0_8_keep main_v27_9 (by decide +kernel), while1Ops0_8_keep main_while1b_v40 (by decide +kernel), while1Ops0_8_keep main_while1b_v42 (by decide +kernel), while1Ops0_8_keep main_while1b_v43 (by decide +kernel), while1Ops0_8_keep main_while1b_v45 (by decide +kernel), while1Ops0_8_keep main_while1b_v46 (by decide +kernel), eff_w1b_v47, while1Ops0_7_keep main_v27_7 (by decide +kernel), while1Ops0_7_keep main_v27_9 (by decide +kernel), while1Ops0_7_keep main_while1b_v39 (by decide +kernel), while1Ops0_7_keep main_while1b_v40 (by decide +kernel), while1Ops0_7_keep main_while1b_v42 (by decide +kernel), while1Ops0_7_keep main_while1b_v43 (by decide +kernel), while1Ops0_7_keep main_while1b_v45 (by decide +kernel), eff_w1b_v46, while1Ops0_6_keep main_v27_6 (by decide +kernel), while1Ops0_6_keep main_v27_7 (by decide +kernel), while1Ops0_6_keep main_v27_9 (by decide +kernel), while1Ops0_6_keep main_while1b_v39 (by decide +kernel), while1Ops0_6_keep main_while1b_v40 (by decide +kernel), while1Ops0_6_keep main_while1b_v42 (by decide +kernel), while1Ops0_6_keep main_while1b_v43 (by decide +kernel), eff_w1b_v45, while1Ops0_5_keep main_v27_5 (by decide +kernel), while1Ops0_5_keep main_v27_6 (by decide +kernel), while1Ops0_5_keep main_v27_7 (by decide +kernel), while1Ops0_5_keep main_v27_9 (by decide +kernel), while1Ops0_5_keep main_while1b_v39 (by decide +kernel), while1Ops0_5_keep main_while1b_v40 (by decide +kernel), while1Ops0_5_keep main_while1b_v42 (by decide +kernel), while1Ops0_5_keep main_while1b_v43 (by decide +kernel), while1Ops0_4_keep main_v27_5 (by decide +kernel), while1Ops0_4_keep main_v27_6 (by decide +kernel), while1Ops0_4_keep main_v27_7 (by decide +kernel), while1Ops0_4_keep main_v27_9 (by decide +kernel), while1Ops0_4_keep main_while1b_v39 (by decide +kernel), while1Ops0_4_keep main_while1b_v40 (by decide +kernel), while1Ops0_4_keep main_while1b_v42 (by decide +kernel), eff_w1b_v43, while1Ops0_3_keep main_v27_3 (by decide +kernel), while1Ops0_3_keep main_v27_5 (by decide +kernel), while1Ops0_3_keep main_v27_6 (by decide +kernel), while1Ops0_3_keep main_v27_7 (by decide +kernel), while1Ops0_3_keep main_v27_9 (by decide +kernel), while1Ops0_3_keep main_while1b_v39 (by decide +kernel), while1Ops0_3_keep main_while1b_v40 (by decide +kernel), eff_w1b_v42, while1Ops0_2_keep main_v27_2 (by decide +kernel), while1Ops0_2_keep main_v27_3 (by decide +kernel), while1Ops0_2_keep main_v27_5 (by decide +kernel), while1Ops0_2_keep main_v27_6 (by decide +kernel), while1Ops0_2_keep main_v27_7 (by decide +kernel), while1Ops0_2_keep main_v27_9 (by decide +kernel), while1Ops0_2_keep main_while1b_v39 (by decide +kernel), while1Ops0_2_keep main_while1b_v40 (by decide +kernel), while1Ops0_1_keep main_v27_2 (by decide +kernel), while1Ops0_1_keep main_v27_3 (by decide +kernel), while1Ops0_1_keep main_v27_5 (by decide +kernel), while1Ops0_1_keep main_v27_6 (by decide +kernel), while1Ops0_1_keep main_v27_7 (by decide +kernel), while1Ops0_1_keep main_v27_9 (by decide +kernel), while1Ops0_1_keep main_while1b_v39 (by decide +kernel), eff_w1b_v40, while1Ops0_keep main_v27_0 (by decide +kernel), while1Ops0_keep main_v27_2 (by decide +kernel), while1Ops0_keep main_v27_3 (by decide +kernel), while1Ops0_keep main_v27_5 (by decide +kernel), while1Ops0_keep main_v27_6 (by decide +kernel), while1Ops0_keep main_v27_7 (by decide +kernel), while1Ops0_keep main_v27_9 (by decide +kernel), eff_w1b_v39, cond1_keep main_v27_0 (by decide +kernel), cond1_keep main_v27_2 (by decide +kernel), cond1_keep main_v27_3 (by decide +kernel), cond1_keep main_v27_5 (by decide +kernel), cond1_keep main_v27_6 (by decide +kernel), cond1_keep main_v27_7 (by decide +kernel), cond1_keep main_v27_8 (by decide +kernel), cond1_keep main_v27_9 (by decide +kernel)]

theorem trip1_10 : afterL body1 (after cond1 X) (Proc.devRef .tc main_v27_10)
    = putRows (X (Proc.devRef .tc main_v27_10)) (dU (takeRows (X (Proc.devRef .tc main_v27_7)) (fromEnd (X (Proc.devRef .tc main_v27_8)))) (takeRows (X (Proc.devRef .tc main_v27_0)) (fromEnd (X (Proc.devRef .tc main_v27_8)))) (takeWts (X (Proc.devRef .tc main_v27_5)) (fromEnd (X (Proc.devRef .tc main_v27_8)))) (X (Proc.devRef .tc main_v27_9))) (fromEnd (X (Proc.devRef .tc main_v27_8))) := by
  simp only [afterL_cons, afterL_nil]
  rw [eff_v27_10, while1Ops0_15_keep main_while1b_v70 (by decide +kernel), while1Ops0_14_keep main_while1b_v70 (by decide +kernel), while1Ops0_13_keep main_while1b_v70 (by decide +kernel), while1Ops0_12_keep main_while1b_v70 (by decide +kernel), while1Ops0_11_keep main_while1b_v70 (by decide +kernel), eff_w1b_v70, while1Ops0_9_keep main_v27_10 (by decide +kernel), while1Ops0_9_keep main_while1b_v39 (by decide +kernel), eff_w1b_v59, while1Ops0_8_keep main_v27_10 (by decide +kernel), while1Ops0_8_keep main_v27_9 (by decide +kernel), while1Ops0_8_keep main_while1b_v39 (by decide +kernel), while1Ops0_8_keep main_while1b_v40 (by decide +kernel), while1Ops0_8_keep main_while1b_v45 (by decide +kernel), eff_w1b_v47, while1Ops0_7_keep main_v27_10 (by decide +kernel), while1Ops0_7_keep main_v27_7 (by decide +kernel), while1Ops0_7_keep main_v27_9 (by decide +kernel), while1Ops0_7_keep main_while1b_v39 (by decide +kernel), while1Ops0_7_keep main_while1b_v40 (by decide +kernel), while1Ops0_7_keep main_while1b_v45 (by decide +kernel), while1Ops0_6_keep main_v27_10 (by decide +kernel), while1Ops0_6_keep main_v27_7 (by decide +kernel), while1Ops0_6_keep main_v27_9 (by decide +kernel), while1Ops0_6_keep main_while1b_v39 (by decide +kernel), while1Ops0_6_keep main_while1b_v40 (by decide +kernel), eff_w1b_v45, while1Ops0_5_keep main_v27_10 (by decide +kernel), while1Ops0_5_keep main_v27_5 (by decide +kernel), while1Ops0_5_keep main_v27_7 (by decide +kernel), while1Ops0_5_keep main_v27_9 (by decide +kernel), while1Ops0_5_keep main_while1b_v39 (by decide +kernel), while1Ops0_5_keep main_while1b_v40 (by decide +kernel), while1Ops0_4_keep main_v27_10 (by decide +kernel), while1Ops0_4_keep main_v27_5 (by decide +kernel), while1Ops0_4_keep main_v27_7 (by decide +kernel), while1Ops0_4_keep main_v27_9 (by decide +kernel), while1Ops0_4_keep main_while1b_v39 (by decide +kernel), while1Ops0_4_keep main_while1b_v40 (by decide +kernel), while1Ops0_3_keep main_v27_10 (by decide +kernel), while1Ops0_3_keep main_v27_5 (by decide +kernel), while1Ops0_3_keep main_v27_7 (by decide +kernel), while1Ops0_3_keep main_v27_9 (by decide +kernel), while1Ops0_3_keep main_while1b_v39 (by decide +kernel), while1Ops0_3_keep main_while1b_v40 (by decide +kernel), while1Ops0_2_keep main_v27_10 (by decide +kernel), while1Ops0_2_keep main_v27_5 (by decide +kernel), while1Ops0_2_keep main_v27_7 (by decide +kernel), while1Ops0_2_keep main_v27_9 (by decide +kernel), while1Ops0_2_keep main_while1b_v39 (by decide +kernel), while1Ops0_2_keep main_while1b_v40 (by decide +kernel), while1Ops0_1_keep main_v27_10 (by decide +kernel), while1Ops0_1_keep main_v27_5 (by decide +kernel), while1Ops0_1_keep main_v27_7 (by decide +kernel), while1Ops0_1_keep main_v27_9 (by decide +kernel), while1Ops0_1_keep main_while1b_v39 (by decide +kernel), eff_w1b_v40, while1Ops0_keep main_v27_0 (by decide +kernel), while1Ops0_keep main_v27_10 (by decide +kernel), while1Ops0_keep main_v27_5 (by decide +kernel), while1Ops0_keep main_v27_7 (by decide +kernel), while1Ops0_keep main_v27_9 (by decide +kernel), eff_w1b_v39, cond1_keep main_v27_0 (by decide +kernel), cond1_keep main_v27_10 (by decide +kernel), cond1_keep main_v27_5 (by decide +kernel), cond1_keep main_v27_7 (by decide +kernel), cond1_keep main_v27_8 (by decide +kernel), cond1_keep main_v27_9 (by decide +kernel)]

theorem trip1_11 : afterL body1 (after cond1 X) (Proc.devRef .tc main_v27_11)
    = putRows (X (Proc.devRef .tc main_v27_11)) (dW (takeRows (X (Proc.devRef .tc main_v27_7)) (fromEnd (X (Proc.devRef .tc main_v27_8)))) (takeRows (X (Proc.devRef .tc main_v27_0)) (fromEnd (X (Proc.devRef .tc main_v27_8)))) (takeWts (X (Proc.devRef .tc main_v27_5)) (fromEnd (X (Proc.devRef .tc main_v27_8)))) (takeState (X (Proc.devRef .tc main_v27_1)) (fromEnd (X (Proc.devRef .tc main_v27_8)))) (X (Proc.devRef .tc main_v27_9))) (fromEnd (X (Proc.devRef .tc main_v27_8))) := by
  simp only [afterL_cons, afterL_nil]
  rw [eff_v27_11, while1Ops0_15_keep main_while1b_v71 (by decide +kernel), while1Ops0_14_keep main_while1b_v71 (by decide +kernel), while1Ops0_13_keep main_while1b_v71 (by decide +kernel), while1Ops0_12_keep main_while1b_v71 (by decide +kernel), eff_w1b_v71, while1Ops0_10_keep main_v27_11 (by decide +kernel), while1Ops0_10_keep main_while1b_v39 (by decide +kernel), while1Ops0_10_keep main_while1b_v69 (by decide +kernel), while1Ops0_9_keep main_v27_11 (by decide +kernel), while1Ops0_9_keep main_while1b_v39 (by decide +kernel), eff_w1b_v69, while1Ops0_8_keep main_v27_11 (by decide +kernel), while1Ops0_8_keep main_v27_9 (by decide +kernel), while1Ops0_8_keep main_while1b_v39 (by decide +kernel), while1Ops0_8_keep main_while1b_v40 (by decide +kernel), while1Ops0_8_keep main_while1b_v41 (by decide +kernel), while1Ops0_8_keep main_while1b_v45 (by decide +kernel), eff_w1b_v47, while1Ops0_7_keep main_v27_11 (by decide +kernel), while1Ops0_7_keep main_v27_7 (by decide +kernel), while1Ops0_7_keep main_v27_9 (by decide +kernel), while1Ops0_7_keep main_while1b_v39 (by decide +kernel), while1Ops0_7_keep main_while1b_v40 (by decide +kernel), while1Ops0_7_keep main_while1b_v41 (by decide +kernel), while1Ops0_7_keep main_while1b_v45 (by decide +kernel), while1Ops0_6_keep main_v27_11 (by decide +kernel), while1Ops0_6_keep main_v27_7 (by decide +kernel), while1Ops0_6_keep main_v27_9 (by decide +kernel), while1Ops0_6_keep main_while1b_v39 (by decide +kernel), while1Ops0_6_keep main_while1b_v40 (by decide +kernel), while1Ops0_6_keep main_while1b_v41 (by decide +kernel), eff_w1b_v45, while1Ops0_5_keep main_v27_11 (by decide +kernel), while1Ops0_5_keep main_v27_5 (by decide +kernel), while1Ops0_5_keep main_v27_7 (by decide +kernel), while1Ops0_5_keep main_v27_9 (by decide +kernel), while1Ops0_5_keep main_while1b_v39 (by decide +kernel), while1Ops0_5_keep main_while1b_v40 (by decide +kernel), while1Ops0_5_keep main_while1b_v41 (by decide +kernel), while1Ops0_4_keep main_v27_11 (by decide +kernel), while1Ops0_4_keep main_v27_5 (by decide +kernel), while1Ops0_4_keep main_v27_7 (by decide +kernel), while1Ops0_4_keep main_v27_9 (by decide +kernel), while1Ops0_4_keep main_while1b_v39 (by decide +kernel), while1Ops0_4_keep main_while1b_v40 (by decide +kernel), while1Ops0_4_keep main_while1b_v41 (by decide +kernel), while1Ops0_3_keep main_v27_11 (by decide +kernel), while1Ops0_3_keep main_v27_5 (by decide +kernel), while1Ops0_3_keep main_v27_7 (by decide +kernel), while1Ops0_3_keep main_v27_9 (by decide +kernel), while1Ops0_3_keep main_while1b_v39 (by decide +kernel), while1Ops0_3_keep main_while1b_v40 (by decide +kernel), while1Ops0_3_keep main_while1b_v41 (by decide +kernel), while1Ops0_2_keep main_v27_11 (by decide +kernel), while1Ops0_2_keep main_v27_5 (by decide +kernel), while1Ops0_2_keep main_v27_7 (by decide +kernel), while1Ops0_2_keep main_v27_9 (by decide +kernel), while1Ops0_2_keep main_while1b_v39 (by decide +kernel), while1Ops0_2_keep main_while1b_v40 (by decide +kernel), eff_w1b_v41, while1Ops0_1_keep main_v27_1 (by decide +kernel), while1Ops0_1_keep main_v27_11 (by decide +kernel), while1Ops0_1_keep main_v27_5 (by decide +kernel), while1Ops0_1_keep main_v27_7 (by decide +kernel), while1Ops0_1_keep main_v27_9 (by decide +kernel), while1Ops0_1_keep main_while1b_v39 (by decide +kernel), eff_w1b_v40, while1Ops0_keep main_v27_0 (by decide +kernel), while1Ops0_keep main_v27_1 (by decide +kernel), while1Ops0_keep main_v27_11 (by decide +kernel), while1Ops0_keep main_v27_5 (by decide +kernel), while1Ops0_keep main_v27_7 (by decide +kernel), while1Ops0_keep main_v27_9 (by decide +kernel), eff_w1b_v39, cond1_keep main_v27_0 (by decide +kernel), cond1_keep main_v27_1 (by decide +kernel), cond1_keep main_v27_11 (by decide +kernel), cond1_keep main_v27_5 (by decide +kernel), cond1_keep main_v27_7 (by decide +kernel), cond1_keep main_v27_8 (by decide +kernel), cond1_keep main_v27_9 (by decide +kernel)]

theorem trip1_12 : afterL body1 (after cond1 X) (Proc.devRef .tc main_v27_12)
    = putRows (X (Proc.devRef .tc main_v27_12)) (dQ (takeRows (X (Proc.devRef .tc main_v27_0)) (fromEnd (X (Proc.devRef .tc main_v27_8)))) (takeState (X (Proc.devRef .tc main_v27_1)) (fromEnd (X (Proc.devRef .tc main_v27_8))))) (fromEnd (X (Proc.devRef .tc main_v27_8))) := by
  simp only [afterL_cons, afterL_nil]
  rw [eff_v27_12, while1Ops0_15_keep main_while1b_v72 (by decide +kernel), while1Ops0_14_keep main_while1b_v72 (by decide +kernel), while1Ops0_13_keep main_while1b_v72 (by decide +kernel), eff_w1b_v72, while1Ops0_11_keep main_v27_12 (by decide +kernel), while1Ops0_11_keep main_while1b_v39 (by decide +kernel), while1Ops0_11_keep main_while1b_v64 (by decide +kernel), while1Ops0_10_keep main_v27_12 (by decide +kernel), while1Ops0_10_keep main_while1b_v39 (by decide +kernel), while1Ops0_10_keep main_while1b_v64 (by decide +kernel), while1Ops0_9_keep main_v27_12 (by decide +kernel), while1Ops0_9_keep main_while1b_v39 (by decide +kernel), eff_w1b_v64, while1Ops0_8_keep main_v27_12 (by decide +kernel), while1Ops0_8_keep main_while1b_v39 (by decide +kernel), while1Ops0_8_keep main_while1b_v40 (by decide +kernel), while1Ops0_8_keep main_while1b_v41 (by decide +kernel), while1Ops0_7_keep main_v27_12 (by decide +kernel), while1Ops0_7_keep main_while1b_v39 (by decide +kernel), while1Ops0_7_keep main_while1b_v40 (by decide +kernel), while1Ops0_7_keep main_while1b_v41 (by decide +kernel), while1Ops0_6_keep main_v27_12 (by decide +kernel), while1Ops0_6_keep main_while1b_v39 (by decide +kernel), while1Ops0_6_keep main_while1b_v40 (by decide +kernel), while1Ops0_6_keep main_while1b_v41 (by decide +kernel), while1Ops0_5_keep main_v27_12 (by decide +kernel), while1Ops0_5_keep main_while1b_v39 (by decide +kernel), while1Ops0_5_keep main_while1b_v40 (by decide +kernel), while1Ops0_5_keep main_while1b_v41 (by decide +kernel), while1Ops0_4_keep main_v27_12 (by decide +kernel), while1Ops0_4_keep main_while1b_v39 (by decide +kernel), while1Ops0_4_keep main_while1b_v40 (by decide +kernel), while1Ops0_4_keep main_while1b_v41 (by decide +kernel), while1Ops0_3_keep main_v27_12 (by decide +kernel), while1Ops0_3_keep main_while1b_v39 (by decide +kernel), while1Ops0_3_keep main_while1b_v40 (by decide +kernel), while1Ops0_3_keep main_while1b_v41 (by decide +kernel), while1Ops0_2_keep main_v27_12 (by decide +kernel), while1Ops0_2_keep main_while1b_v39 (by decide +kernel), while1Ops0_2_keep main_while1b_v40 (by decide +kernel), eff_w1b_v41, while1Ops0_1_keep main_v27_1 (by decide +kernel), while1Ops0_1_keep main_v27_12 (by decide +kernel), while1Ops0_1_keep main_while1b_v39 (by decide +kernel), eff_w1b_v40, while1Ops0_keep main_v27_0 (by decide +kernel), while1Ops0_keep main_v27_1 (by decide +kernel), while1Ops0_keep main_v27_12 (by decide +kernel), eff_w1b_v39, cond1_keep main_v27_0 (by decide +kernel), cond1_keep main_v27_1 (by decide +kernel), cond1_keep main_v27_12 (by decide +kernel), cond1_keep main_v27_8 (by decide +kernel)]

theorem trip1_13 : afterL body1 (after cond1 X) (Proc.devRef .tc main_v27_13)
    = putWts (X (Proc.devRef .tc main_v27_13)) (rowsRowsT (takeRows (X (Proc.devRef .tc main_v27_0)) (fromEnd (X (Proc.devRef .tc main_v27_8)))) (takeRows (X (Proc.devRef .tc main_v27_4)) (fromEnd (X (Proc.devRef .tc main_v27_8))))) (fromEnd (X (Proc.devRef .tc main_v27_8))) := by
  simp only [afterL_cons, afterL_nil]
  rw [eff_v27_13, while1Ops0_15_keep main_while1b_v73 (by decide +kernel), while1Ops0_14_keep main_while1b_v73 (by decide +kernel), eff_w1b_v73, while1Ops0_12_keep main_v27_13 (by decide +kernel), while1Ops0_12_keep main_while1b_v39 (by decide +kernel), while1Ops0_12_keep main_while1b_v60 (by decide +kernel), while1Ops0_11_keep main_v27_13 (by decide +kernel), while1Ops0_11_keep main_while1b_v39 (by decide +kernel), while1Ops0_11_keep main_while1b_v60 (by decide +kernel), while1Ops0_10_keep main_v27_13 (by decide +kernel), while1Ops0_10_keep main_while1b_v39 (by decide +kernel), while1Ops0_10_keep main_while1b_v60 (by decide +kernel), while1Ops0_9_keep main_v27_13 (by decide +kernel), while1Ops0_9_keep main_while1b_v39 (by decide +kernel), eff_w1b_v60, while1Ops0_8_keep main_v27_13 (by decide +kernel), while1Ops0_8_keep main_while1b_v39 (by decide +kernel), while1Ops0_8_keep main_while1b_v40 (by decide +kernel), while1Ops0_8_keep main_while1b_v44 (by decide +kernel), while1Ops0_7_keep main_v27_13 (by decide +kernel), while1Ops0_7_keep main_while1b_v39 (by decide +kernel), while1Ops0_7_keep main_while1b_v40 (by decide +kernel), while1Ops0_7_keep main_while1b_v44 (by decide +kernel), while1Ops0_6_keep main_v27_13 (by decide +kernel), while1Ops0_6_keep main_while1b_v39 (by decide +kernel), while1Ops0_6_keep main_while1b_v40 (by decide +kernel), while1Ops0_6_keep main_while1b_v44 (by decide +kernel), while1Ops0_5_keep main_v27_13 (by decide +kernel), while1Ops0_5_keep main_while1b_v39 (by decide +kernel), while1Ops0_5_keep main_while1b_v40 (by decide +kernel), eff_w1b_v44, while1Ops0_4_keep main_v27_13 (by decide +kernel), while1Ops0_4_keep main_v27_4 (by decide +kernel), while1Ops0_4_keep main_while1b_v39 (by decide +kernel), while1Ops0_4_keep main_while1b_v40 (by decide +kernel), while1Ops0_3_keep main_v27_13 (by decide +kernel), while1Ops0_3_keep main_v27_4 (by decide +kernel), while1Ops0_3_keep main_while1b_v39 (by decide +kernel), while1Ops0_3_keep main_while1b_v40 (by decide +kernel), while1Ops0_2_keep main_v27_13 (by decide +kernel), while1Ops0_2_keep main_v27_4 (by decide +kernel), while1Ops0_2_keep main_while1b_v39 (by decide +kernel), while1Ops0_2_keep main_while1b_v40 (by decide +kernel), while1Ops0_1_keep main_v27_13 (by decide +kernel), while1Ops0_1_keep main_v27_4 (by decide +kernel), while1Ops0_1_keep main_while1b_v39 (by decide +kernel), eff_w1b_v40, while1Ops0_keep main_v27_0 (by decide +kernel), while1Ops0_keep main_v27_13 (by decide +kernel), while1Ops0_keep main_v27_4 (by decide +kernel), eff_w1b_v39, cond1_keep main_v27_0 (by decide +kernel), cond1_keep main_v27_13 (by decide +kernel), cond1_keep main_v27_4 (by decide +kernel), cond1_keep main_v27_8 (by decide +kernel)]

theorem trip1_14 : afterL body1 (after cond1 X) (Proc.devRef .tc main_v27_14)
    = putRows (X (Proc.devRef .tc main_v27_14)) (rowsStateT (takeRows (X (Proc.devRef .tc main_v27_4)) (fromEnd (X (Proc.devRef .tc main_v27_8)))) (X (Proc.devRef .tc main_v27_9))) (fromEnd (X (Proc.devRef .tc main_v27_8))) := by
  simp only [afterL_cons, afterL_nil]
  rw [eff_v27_14, while1Ops0_15_keep main_while1b_v74 (by decide +kernel), eff_w1b_v74, while1Ops0_13_keep main_v27_14 (by decide +kernel), while1Ops0_13_keep main_while1b_v39 (by decide +kernel), while1Ops0_13_keep main_while1b_v51 (by decide +kernel), while1Ops0_12_keep main_v27_14 (by decide +kernel), while1Ops0_12_keep main_while1b_v39 (by decide +kernel), while1Ops0_12_keep main_while1b_v51 (by decide +kernel), while1Ops0_11_keep main_v27_14 (by decide +kernel), while1Ops0_11_keep main_while1b_v39 (by decide +kernel), while1Ops0_11_keep main_while1b_v51 (by decide +kernel), while1Ops0_10_keep main_v27_14 (by decide +kernel), while1Ops0_10_keep main_while1b_v39 (by decide +kernel), while1Ops0_10_keep main_while1b_v51 (by decide +kernel), while1Ops0_9_keep main_v27_14 (by decide +kernel), while1Ops0_9_keep main_while1b_v39 (by decide +kernel), eff_w1b_v51, while1Ops0_8_keep main_v27_14 (by decide +kernel), while1Ops0_8_keep main_v27_9 (by decide +kernel), while1Ops0_8_keep main_while1b_v39 (by decide +kernel), while1Ops0_8_keep main_while1b_v44 (by decide +kernel), while1Ops0_7_keep main_v27_14 (by decide +kernel), while1Ops0_7_keep main_v27_9 (by decide +kernel), while1Ops0_7_keep main_while1b_v39 (by decide +kernel), while1Ops0_7_keep main_while1b_v44 (by decide +kernel), while1Ops0_6_keep main_v27_14 (by decide +kernel), while1Ops0_6_keep main_v27_9 (by decide +kernel), while1Ops0_6_keep main_while1b_v39 (by decide +kernel), while1Ops0_6_keep main_while1b_v44 (by decide +kernel), while1Ops0_5_keep main_v27_14 (by decide +kernel), while1Ops0_5_keep main_v27_9 (by decide +kernel), while1Ops0_5_keep main_while1b_v39 (by decide +kernel), eff_w1b_v44, while1Ops0_4_keep main_v27_14 (by decide +kernel), while1Ops0_4_keep main_v27_4 (by decide +kernel), while1Ops0_4_keep main_v27_9 (by decide +kernel), while1Ops0_4_keep main_while1b_v39 (by decide +kernel), while1Ops0_3_keep main_v27_14 (by decide +kernel), while1Ops0_3_keep main_v27_4 (by decide +kernel), while1Ops0_3_keep main_v27_9 (by decide +kernel), while1Ops0_3_keep main_while1b_v39 (by decide +kernel), while1Ops0_2_keep main_v27_14 (by decide +kernel), while1Ops0_2_keep main_v27_4 (by decide +kernel), while1Ops0_2_keep main_v27_9 (by decide +kernel), while1Ops0_2_keep main_while1b_v39 (by decide +kernel), while1Ops0_1_keep main_v27_14 (by decide +kernel), while1Ops0_1_keep main_v27_4 (by decide +kernel), while1Ops0_1_keep main_v27_9 (by decide +kernel), while1Ops0_1_keep main_while1b_v39 (by decide +kernel), while1Ops0_keep main_v27_14 (by decide +kernel), while1Ops0_keep main_v27_4 (by decide +kernel), while1Ops0_keep main_v27_9 (by decide +kernel), eff_w1b_v39, cond1_keep main_v27_14 (by decide +kernel), cond1_keep main_v27_4 (by decide +kernel), cond1_keep main_v27_8 (by decide +kernel), cond1_keep main_v27_9 (by decide +kernel)]

theorem trip1_15 : afterL body1 (after cond1 X) (Proc.devRef .tc main_v27_15)
    = putDecay (X (Proc.devRef .tc main_v27_15)) (colSum (takeState (X (Proc.devRef .tc main_v27_1)) (fromEnd (X (Proc.devRef .tc main_v27_8)))) (X (Proc.devRef .tc main_v27_9))) (fromEnd (X (Proc.devRef .tc main_v27_8))) := by
  simp only [afterL_cons, afterL_nil]
  rw [eff_v27_15, eff_w1b_v75, while1Ops0_14_keep main_v27_15 (by decide +kernel), while1Ops0_14_keep main_while1b_v39 (by decide +kernel), while1Ops0_14_keep main_while1b_v54 (by decide +kernel), while1Ops0_13_keep main_v27_15 (by decide +kernel), while1Ops0_13_keep main_while1b_v39 (by decide +kernel), while1Ops0_13_keep main_while1b_v54 (by decide +kernel), while1Ops0_12_keep main_v27_15 (by decide +kernel), while1Ops0_12_keep main_while1b_v39 (by decide +kernel), while1Ops0_12_keep main_while1b_v54 (by decide +kernel), while1Ops0_11_keep main_v27_15 (by decide +kernel), while1Ops0_11_keep main_while1b_v39 (by decide +kernel), while1Ops0_11_keep main_while1b_v54 (by decide +kernel), while1Ops0_10_keep main_v27_15 (by decide +kernel), while1Ops0_10_keep main_while1b_v39 (by decide +kernel), while1Ops0_10_keep main_while1b_v54 (by decide +kernel), while1Ops0_9_keep main_v27_15 (by decide +kernel), while1Ops0_9_keep main_while1b_v39 (by decide +kernel), eff_w1b_v54, while1Ops0_8_keep main_v27_15 (by decide +kernel), while1Ops0_8_keep main_v27_9 (by decide +kernel), while1Ops0_8_keep main_while1b_v39 (by decide +kernel), while1Ops0_8_keep main_while1b_v41 (by decide +kernel), while1Ops0_7_keep main_v27_15 (by decide +kernel), while1Ops0_7_keep main_v27_9 (by decide +kernel), while1Ops0_7_keep main_while1b_v39 (by decide +kernel), while1Ops0_7_keep main_while1b_v41 (by decide +kernel), while1Ops0_6_keep main_v27_15 (by decide +kernel), while1Ops0_6_keep main_v27_9 (by decide +kernel), while1Ops0_6_keep main_while1b_v39 (by decide +kernel), while1Ops0_6_keep main_while1b_v41 (by decide +kernel), while1Ops0_5_keep main_v27_15 (by decide +kernel), while1Ops0_5_keep main_v27_9 (by decide +kernel), while1Ops0_5_keep main_while1b_v39 (by decide +kernel), while1Ops0_5_keep main_while1b_v41 (by decide +kernel), while1Ops0_4_keep main_v27_15 (by decide +kernel), while1Ops0_4_keep main_v27_9 (by decide +kernel), while1Ops0_4_keep main_while1b_v39 (by decide +kernel), while1Ops0_4_keep main_while1b_v41 (by decide +kernel), while1Ops0_3_keep main_v27_15 (by decide +kernel), while1Ops0_3_keep main_v27_9 (by decide +kernel), while1Ops0_3_keep main_while1b_v39 (by decide +kernel), while1Ops0_3_keep main_while1b_v41 (by decide +kernel), while1Ops0_2_keep main_v27_15 (by decide +kernel), while1Ops0_2_keep main_v27_9 (by decide +kernel), while1Ops0_2_keep main_while1b_v39 (by decide +kernel), eff_w1b_v41, while1Ops0_1_keep main_v27_1 (by decide +kernel), while1Ops0_1_keep main_v27_15 (by decide +kernel), while1Ops0_1_keep main_v27_9 (by decide +kernel), while1Ops0_1_keep main_while1b_v39 (by decide +kernel), while1Ops0_keep main_v27_1 (by decide +kernel), while1Ops0_keep main_v27_15 (by decide +kernel), while1Ops0_keep main_v27_9 (by decide +kernel), eff_w1b_v39, cond1_keep main_v27_1 (by decide +kernel), cond1_keep main_v27_15 (by decide +kernel), cond1_keep main_v27_8 (by decide +kernel), cond1_keep main_v27_9 (by decide +kernel)]

end Cert.ReferenceIdeal.Loops

end
-- ==== Proof.RefVals.lean ====
module

public import proofs.«01_k».proof.Proof.RefTrip

@[expose] public section

set_option maxRecDepth 100000
set_option maxHeartbeats 2000000

/-!
What the reference's results hold at the end: the gradients of `Scan`.  Each loop's carried buffers are read before every
test, by induction over the trips.
-/

noncomputable section

namespace Cert.ReferenceIdeal.Loops

open Idealize.ShloMosaic Idealize.ShloMosaic.TcCoe Idealize.ShloMosaic.StableHlo Cert.ReferenceIdeal.Gen
open Cert.Scan Cert.Scan.Ref

variable (m : (ℓ : Loc nD τ sig) → Buf (Elt Ideal) ℓ) (c : Dev nD)

/-! ## The arguments -/

abbrev inU : Wide := m ((c.tc : Thread nD τ).loc main_arg0)
abbrev inW : Wide := m ((c.tc : Thread nD τ).loc main_arg1)
abbrev inQ : Wide := m ((c.tc : Thread nD τ).loc main_arg2)
abbrev inK : Wide := m ((c.tc : Thread nD τ).loc main_arg3)
abbrev inA : FVec Ideal S6x32x64x64 .f32 := m ((c.tc : Thread nD τ).loc main_arg4)
abbrev inG : FVec Ideal S6x32x1x128 .f32 := m ((c.tc : Thread nD τ).loc main_arg5)
abbrev inO : Wide := m ((c.tc : Thread nD τ).loc main_arg6)
/-- The state before chunk `i`. -/
abbrev fwdAt (i : ℕ) : State := fwd (inU m c) (inW m c) (inK m c) (inG m c) i
/-- The gradient of the state after chunk `31 - i`. -/
abbrev bwdAt (i : ℕ) : State := bwd (inW m c) (inQ m c) (inK m c) (inA m c) (inG m c) (inO m c) i

/-! ## The counters -/

/-- The counter before trip `k`. -/
def word (k : ℕ) : Word := fun _ => Scf.iv 0#32 1#32 k
theorem at0_word (k : ℕ) : at0 m k c (Proc.devRef .tc main_v14_6) = word k := at0_ctr m c k
theorem at1_word (k : ℕ) : at1 m k c (Proc.devRef .tc main_v27_8) = word k := at1_ctr m c k
theorem says_iv (k : ℕ) (h : k < 32) : Says (word k) k := by
  have e : ∀ k : Fin 32, (Scf.iv 0#32 1#32 k.val).toInt = (k.val : ℤ) := by decide +kernel
  exact e ⟨k, h⟩
theorem says_fromEnd (k : ℕ) (h : k < 32) : Says (fromEnd (word k)) (31 - k) := by
  have e : ∀ k : Fin 32, ((32#32 - Scf.iv 0#32 1#32 k.val) - 1#32 : BitVec 32).toInt = ((31 - k.val : ℕ) : ℤ) := by decide +kernel
  exact e ⟨k, h⟩

/-! ## The forward loop -/

theorem entry0_v14_0 : entry0 m c (Proc.devRef .tc main_v14_0) = chunks (inU m c) := by
  unfold entry0
  after_reads_simp
  all_goals rfl
theorem at0_v14_0 (k : ℕ) : at0 m k c (Proc.devRef .tc main_v14_0) = chunks (inU m c) := by
  rw [at0_keep m main_v14_0 (by decide +kernel), entry0_v14_0]
theorem entry0_v14_1 : entry0 m c (Proc.devRef .tc main_v14_1) = chunks (inW m c) := by
  unfold entry0
  after_reads_simp
  all_goals rfl
theorem at0_v14_1 (k : ℕ) : at0 m k c (Proc.devRef .tc main_v14_1) = chunks (inW m c) := by
  rw [at0_keep m main_v14_1 (by decide +kernel), entry0_v14_1]
theorem entry0_v14_4 : entry0 m c (Proc.devRef .tc main_v14_4) = chunks (inK m c) := by
  unfold entry0
  after_reads_simp
  all_goals rfl
theorem at0_v14_4 (k : ℕ) : at0 m k c (Proc.devRef .tc main_v14_4) = chunks (inK m c) := by
  rw [at0_keep m main_v14_4 (by decide +kernel), entry0_v14_4]
theorem entry0_v14_5 : entry0 m c (Proc.devRef .tc main_v14_5) = transpose S32x6x1x128 [1, 0, 2, 3] (inG m c) transposes_S6x32x1x128_S32x6x1x128_1_0_2_3 := by
  unfold entry0
  after_reads_simp
  all_goals rfl
theorem at0_v14_5 (k : ℕ) : at0 m k c (Proc.devRef .tc main_v14_5) = transpose S32x6x1x128 [1, 0, 2, 3] (inG m c) transposes_S6x32x1x128_S32x6x1x128_1_0_2_3 := by
  rw [at0_keep m main_v14_5 (by decide +kernel), entry0_v14_5]
theorem entry0_v4 : entry0 m c (Proc.devRef .tc main_v4) = chunks (inW m c) := by
  unfold entry0
  after_reads_simp
  all_goals rfl
theorem at0_v4 (k : ℕ) : at0 m k c (Proc.devRef .tc main_v4) = chunks (inW m c) := by
  rw [at0_keep m main_v4 (by decide +kernel), entry0_v4]
theorem entry0_v6 : entry0 m c (Proc.devRef .tc main_v6) = chunks (inQ m c) := by
  unfold entry0
  after_reads_simp
  all_goals rfl
theorem at0_v6 (k : ℕ) : at0 m k c (Proc.devRef .tc main_v6) = chunks (inQ m c) := by
  rw [at0_keep m main_v6 (by decide +kernel), entry0_v6]
theorem entry0_v7 : entry0 m c (Proc.devRef .tc main_v7) = transpose S32x6x64x64 [1, 0, 2, 3] (inA m c) transposes_S6x32x64x64_S32x6x64x64_1_0_2_3 := by
  unfold entry0
  after_reads_simp
  all_goals rfl
theorem at0_v7 (k : ℕ) : at0 m k c (Proc.devRef .tc main_v7) = transpose S32x6x64x64 [1, 0, 2, 3] (inA m c) transposes_S6x32x64x64_S32x6x64x64_1_0_2_3 := by
  rw [at0_keep m main_v7 (by decide +kernel), entry0_v7]
theorem entry0_v9 : entry0 m c (Proc.devRef .tc main_v9) = chunks (inK m c) := by
  unfold entry0
  after_reads_simp
  all_goals rfl
theorem at0_v9 (k : ℕ) : at0 m k c (Proc.devRef .tc main_v9) = chunks (inK m c) := by
  rw [at0_keep m main_v9 (by decide +kernel), entry0_v9]
theorem entry0_v10 : entry0 m c (Proc.devRef .tc main_v10) = transpose S32x6x1x128 [1, 0, 2, 3] (inG m c) transposes_S6x32x1x128_S32x6x1x128_1_0_2_3 := by
  unfold entry0
  after_reads_simp
  all_goals rfl
theorem at0_v10 (k : ℕ) : at0 m k c (Proc.devRef .tc main_v10) = transpose S32x6x1x128 [1, 0, 2, 3] (inG m c) transposes_S6x32x1x128_S32x6x1x128_1_0_2_3 := by
  rw [at0_keep m main_v10 (by decide +kernel), entry0_v10]
theorem entry0_v14_7 : entry0 m c (Proc.devRef .tc main_v14_7) = zeroState := by
  unfold entry0
  after_reads_simp
  exact zero_state

theorem at0_succ (k : ℕ) : at0 m (k + 1) c = afterL body0 (after cond0 (at0 m k c)) := rfl

/-- The carried state before trip `k`. -/
theorem at0_state : ∀ k, k ≤ 32 → at0 m k c (Proc.devRef .tc main_v14_7) = fwdAt m c k
  | 0, _ => entry0_v14_7 m c
  | k + 1, h => by
    have hk := says_iv k (by omega)
    rw [at0_succ, trip0_7, at0_v14_0, at0_v14_1, at0_v14_4, at0_v14_5, at0_word, at0_state k (by omega),
      takeRows_eq _ _ k hk (by omega), takeRows_eq _ _ k hk (by omega), takeRows_eq _ _ k hk (by omega), takeDecay_eq _ _ k hk (by omega),
      chunks_at _ k (by omega), chunks_at _ k (by omega), chunks_at _ k (by omega)]
    unfold nextH
    rw [decay_at _ _ _ k (by omega)]
    rfl

/-- The stacked states before trip `k`. -/
theorem at0_states : ∀ k, k ≤ 32 → ∀ i, i < k → atState (at0 m k c (Proc.devRef .tc main_v14_9)) i = fwdAt m c i
  | 0, _, i, hi => absurd hi (Nat.not_lt_zero i)
  | k + 1, h, i, hi => by
    have hk := says_iv k (by omega)
    rw [at0_succ, trip0_9, at0_word, at0_state m c k (by omega), putState_eq _ _ _ k hk (by omega) i (by omega)]
    by_cases e : i = k
    · rw [if_pos e, e]
    · rw [if_neg e, at0_states k (by omega) i (by omega)]

/-- The stacked new values before trip `k`. -/
theorem at0_news : ∀ k, k ≤ 32 → ∀ i, i < k →
    atRows (at0 m k c (Proc.devRef .tc main_v14_10)) i = vNew (rows (inU m c) i) (rows (inW m c) i) (fwdAt m c i)
  | 0, _, i, hi => absurd hi (Nat.not_lt_zero i)
  | k + 1, h, i, hi => by
    have hk := says_iv k (by omega)
    rw [at0_succ, trip0_10, at0_word, at0_v14_0, at0_v14_1, at0_state m c k (by omega), putRows_eq _ _ _ k hk (by omega) i (by omega),
      takeRows_eq _ _ k hk (by omega), takeRows_eq _ _ k hk (by omega), chunks_at _ k (by omega), chunks_at _ k (by omega)]
    by_cases e : i = k
    · rw [if_pos e, e]
    · rw [if_neg e, at0_news k (by omega) i (by omega)]

/-! ## The backward loop -/

theorem mid_v27_0 (X : Valuation τ sig (Elt Ideal)) : after hostOps0_1 X (Proc.devRef .tc main_v27_0) = chunks (X (Proc.devRef .tc main_arg6)) := by
  after_reads_simp
  all_goals rfl
theorem entry1_v27_0 : entry1 m c (Proc.devRef .tc main_v27_0) = chunks (inO m c) := by
  unfold entry1
  rw [mid_v27_0, cond0_keep main_arg6 (by decide +kernel), at0_keep m main_arg6 (by decide +kernel)]
  exact congrArg chunks (hostOps0_keep main_arg6 (by decide +kernel) (launchContents m c))
theorem at1_v27_0 (k : ℕ) : at1 m k c (Proc.devRef .tc main_v27_0) = chunks (inO m c) := by
  rw [at1_keep m main_v27_0 (by decide +kernel), entry1_v27_0]
theorem mid_v27_1 (X : Valuation τ sig (Elt Ideal)) : after hostOps0_1 X (Proc.devRef .tc main_v27_1) = X (Proc.devRef .tc main_v14_9) := by
  after_reads_simp
  all_goals rfl
theorem entry1_v27_1 : entry1 m c (Proc.devRef .tc main_v27_1) = at0 m 32 c (Proc.devRef .tc main_v14_9) := by
  unfold entry1
  rw [mid_v27_1, cond0_keep main_v14_9 (by decide +kernel)]
theorem at1_v27_1 (k : ℕ) : at1 m k c (Proc.devRef .tc main_v27_1) = at0 m 32 c (Proc.devRef .tc main_v14_9) := by
  rw [at1_keep m main_v27_1 (by decide +kernel), entry1_v27_1]
theorem mid_v27_2 (X : Valuation τ sig (Elt Ideal)) : after hostOps0_1 X (Proc.devRef .tc main_v27_2) = X (Proc.devRef .tc main_v4) := by
  after_reads_simp
  all_goals rfl
theorem entry1_v27_2 : entry1 m c (Proc.devRef .tc main_v27_2) = chunks (inW m c) := by
  unfold entry1
  rw [mid_v27_2, cond0_keep main_v4 (by decide +kernel), at0_v4]
theorem at1_v27_2 (k : ℕ) : at1 m k c (Proc.devRef .tc main_v27_2) = chunks (inW m c) := by
  rw [at1_keep m main_v27_2 (by decide +kernel), entry1_v27_2]
theorem mid_v27_3 (X : Valuation τ sig (Elt Ideal)) : after hostOps0_1 X (Proc.devRef .tc main_v27_3) = X (Proc.devRef .tc main_v6) := by
  after_reads_simp
  all_goals rfl
theorem entry1_v27_3 : entry1 m c (Proc.devRef .tc main_v27_3) = chunks (inQ m c) := by
  unfold entry1
  rw [mid_v27_3, cond0_keep main_v6 (by decide +kernel), at0_v6]
theorem at1_v27_3 (k : ℕ) : at1 m k c (Proc.devRef .tc main_v27_3) = chunks (inQ m c) := by
  rw [at1_keep m main_v27_3 (by decide +kernel), entry1_v27_3]
theorem mid_v27_4 (X : Valuation τ sig (Elt Ideal)) : after hostOps0_1 X (Proc.devRef .tc main_v27_4) = X (Proc.devRef .tc main_v14_10) := by
  after_reads_simp
  all_goals rfl
theorem entry1_v27_4 : entry1 m c (Proc.devRef .tc main_v27_4) = at0 m 32 c (Proc.devRef .tc main_v14_10) := by
  unfold entry1
  rw [mid_v27_4, cond0_keep main_v14_10 (by decide +kernel)]
theorem at1_v27_4 (k : ℕ) : at1 m k c (Proc.devRef .tc main_v27_4) = at0 m 32 c (Proc.devRef .tc main_v14_10) := by
  rw [at1_keep m main_v27_4 (by decide +kernel), entry1_v27_4]
theorem mid_v27_5 (X : Valuation τ sig (Elt Ideal)) : after hostOps0_1 X (Proc.devRef .tc main_v27_5) = X (Proc.devRef .tc main_v7) := by
  after_reads_simp
  all_goals rfl
theorem entry1_v27_5 : entry1 m c (Proc.devRef .tc main_v27_5) = transpose S32x6x64x64 [1, 0, 2, 3] (inA m c) transposes_S6x32x64x64_S32x6x64x64_1_0_2_3 := by
  unfold entry1
  rw [mid_v27_5, cond0_keep main_v7 (by decide +kernel), at0_v7]
theorem at1_v27_5 (k : ℕ) : at1 m k c (Proc.devRef .tc main_v27_5) = transpose S32x6x64x64 [1, 0, 2, 3] (inA m c) transposes_S6x32x64x64_S32x6x64x64_1_0_2_3 := by
  rw [at1_keep m main_v27_5 (by decide +kernel), entry1_v27_5]
theorem mid_v27_6 (X : Valuation τ sig (Elt Ideal)) : after hostOps0_1 X (Proc.devRef .tc main_v27_6) = X (Proc.devRef .tc main_v10) := by
  after_reads_simp
  all_goals rfl
theorem entry1_v27_6 : entry1 m c (Proc.devRef .tc main_v27_6) = transpose S32x6x1x128 [1, 0, 2, 3] (inG m c) transposes_S6x32x1x128_S32x6x1x128_1_0_2_3 := by
  unfold entry1
  rw [mid_v27_6, cond0_keep main_v10 (by decide +kernel), at0_v10]
theorem at1_v27_6 (k : ℕ) : at1 m k c (Proc.devRef .tc main_v27_6) = transpose S32x6x1x128 [1, 0, 2, 3] (inG m c) transposes_S6x32x1x128_S32x6x1x128_1_0_2_3 := by
  rw [at1_keep m main_v27_6 (by decide +kernel), entry1_v27_6]
theorem mid_v27_7 (X : Valuation τ sig (Elt Ideal)) : after hostOps0_1 X (Proc.devRef .tc main_v27_7) = X (Proc.devRef .tc main_v9) := by
  after_reads_simp
  all_goals rfl
theorem entry1_v27_7 : entry1 m c (Proc.devRef .tc main_v27_7) = chunks (inK m c) := by
  unfold entry1
  rw [mid_v27_7, cond0_keep main_v9 (by decide +kernel), at0_v9]
theorem at1_v27_7 (k : ℕ) : at1 m k c (Proc.devRef .tc main_v27_7) = chunks (inK m c) := by
  rw [at1_keep m main_v27_7 (by decide +kernel), entry1_v27_7]
theorem entry1_v27_9 : entry1 m c (Proc.devRef .tc main_v27_9) = zeroState := by
  unfold entry1
  after_reads_simp
  exact zero_state

theorem at1_succ (k : ℕ) : at1 m (k + 1) c = afterL body1 (after cond1 (at1 m k c)) := rfl

/-- The carried gradient before trip `k`. -/
theorem at1_state : ∀ k, k ≤ 32 → at1 m k c (Proc.devRef .tc main_v27_9) = bwdAt m c k
  | 0, _ => entry1_v27_9 m c
  | k + 1, h => by
    have hk := says_fromEnd k (by omega)
    rw [at1_succ, trip1_9, at1_v27_0, at1_v27_2, at1_v27_3, at1_v27_5, at1_v27_6, at1_v27_7, at1_word, at1_state k (by omega)]
    rw [takeRows_eq _ _ (31 - k) hk (by omega), takeRows_eq _ _ (31 - k) hk (by omega), takeRows_eq _ _ (31 - k) hk (by omega),
      takeRows_eq _ _ (31 - k) hk (by omega), takeWts_eq _ _ (31 - k) hk (by omega), takeDecay_eq _ _ (31 - k) hk (by omega),
      chunks_at _ (31 - k) (by omega), chunks_at _ (31 - k) (by omega), chunks_at _ (31 - k) (by omega), chunks_at _ (31 - k) (by omega), wts_at _ _ (31 - k) (by omega)]
    unfold prevH
    rw [decay_at _ _ _ (31 - k) (by omega)]
    rfl

theorem at1_du : ∀ k, k ≤ 32 → ∀ i, i < 32 → 32 - k ≤ i → atRows (at1 m k c (Proc.devRef .tc main_v27_10)) i = dU (rows (inK m c) i) (rows (inO m c) i) (wts (inA m c) i) (bwdAt m c (31 - i))
  | 0, _, i, hi, hj => by omega
  | k + 1, h, i, hi, hj => by
    have hk := says_fromEnd k (by omega)
    rw [at1_succ, trip1_10, at1_word, at1_v27_7, at1_v27_0, at1_v27_5, at1_state m c k (by omega), putRows_eq _ _ _ (31 - k) hk (by omega) i hi]
    by_cases e : i = 31 - k
    · rw [if_pos e, takeRows_eq _ _ (31 - k) hk (by omega), chunks_at _ (31 - k) (by omega), takeRows_eq _ _ (31 - k) hk (by omega), chunks_at _ (31 - k) (by omega), takeWts_eq _ _ (31 - k) hk (by omega), wts_at _ _ (31 - k) (by omega), e, show 31 - (31 - k) = k by omega]
    · rw [if_neg e, at1_du k (by omega) i hi (by omega)]

theorem at1_dw : ∀ k, k ≤ 32 → ∀ i, i < 32 → 32 - k ≤ i → atRows (at1 m k c (Proc.devRef .tc main_v27_11)) i = dW (rows (inK m c) i) (rows (inO m c) i) (wts (inA m c) i) (fwdAt m c i) (bwdAt m c (31 - i))
  | 0, _, i, hi, hj => by omega
  | k + 1, h, i, hi, hj => by
    have hk := says_fromEnd k (by omega)
    rw [at1_succ, trip1_11, at1_word, at1_v27_7, at1_v27_0, at1_v27_5, at1_v27_1, at1_state m c k (by omega), putRows_eq _ _ _ (31 - k) hk (by omega) i hi]
    by_cases e : i = 31 - k
    · rw [if_pos e, takeRows_eq _ _ (31 - k) hk (by omega), chunks_at _ (31 - k) (by omega), takeRows_eq _ _ (31 - k) hk (by omega), chunks_at _ (31 - k) (by omega), takeWts_eq _ _ (31 - k) hk (by omega), wts_at _ _ (31 - k) (by omega), takeState_eq _ _ (31 - k) hk (by omega), at0_states m c 32 le_rfl (31 - k) (by omega), e, show 31 - (31 - k) = k by omega]
    · rw [if_neg e, at1_dw k (by omega) i hi (by omega)]

theorem at1_dq : ∀ k, k ≤ 32 → ∀ i, i < 32 → 32 - k ≤ i → atRows (at1 m k c (Proc.devRef .tc main_v27_12)) i = dQ (rows (inO m c) i) (fwdAt m c i)
  | 0, _, i, hi, hj => by omega
  | k + 1, h, i, hi, hj => by
    have hk := says_fromEnd k (by omega)
    rw [at1_succ, trip1_12, at1_word, at1_v27_0, at1_v27_1, putRows_eq _ _ _ (31 - k) hk (by omega) i hi]
    by_cases e : i = 31 - k
    · rw [if_pos e, takeRows_eq _ _ (31 - k) hk (by omega), chunks_at _ (31 - k) (by omega), takeState_eq _ _ (31 - k) hk (by omega), at0_states m c 32 le_rfl (31 - k) (by omega), e]
    · rw [if_neg e, at1_dq k (by omega) i hi (by omega)]

theorem at1_da : ∀ k, k ≤ 32 → ∀ i, i < 32 → 32 - k ≤ i → atWts (at1 m k c (Proc.devRef .tc main_v27_13)) i = dA (rows (inU m c) i) (rows (inW m c) i) (rows (inO m c) i) (fwdAt m c i)
  | 0, _, i, hi, hj => by omega
  | k + 1, h, i, hi, hj => by
    have hk := says_fromEnd k (by omega)
    rw [at1_succ, trip1_13, at1_word, at1_v27_0, at1_v27_4, putWts_eq _ _ _ (31 - k) hk (by omega) i hi]
    by_cases e : i = 31 - k
    · rw [if_pos e, takeRows_eq _ _ (31 - k) hk (by omega), chunks_at _ (31 - k) (by omega), takeRows_eq _ _ (31 - k) hk (by omega), at0_news m c 32 le_rfl (31 - k) (by omega), e]
      rfl
    · rw [if_neg e, at1_da k (by omega) i hi (by omega)]

theorem at1_dk : ∀ k, k ≤ 32 → ∀ i, i < 32 → 32 - k ≤ i → atRows (at1 m k c (Proc.devRef .tc main_v27_14)) i = dK (rows (inU m c) i) (rows (inW m c) i) (fwdAt m c i) (bwdAt m c (31 - i))
  | 0, _, i, hi, hj => by omega
  | k + 1, h, i, hi, hj => by
    have hk := says_fromEnd k (by omega)
    rw [at1_succ, trip1_14, at1_word, at1_v27_4, at1_state m c k (by omega), putRows_eq _ _ _ (31 - k) hk (by omega) i hi]
    by_cases e : i = 31 - k
    · rw [if_pos e, takeRows_eq _ _ (31 - k) hk (by omega), at0_news m c 32 le_rfl (31 - k) (by omega), e, show 31 - (31 - k) = k by omega]
      rfl
    · rw [if_neg e, at1_dk k (by omega) i hi (by omega)]

theorem at1_dg : ∀ k, k ≤ 32 → ∀ i, i < 32 → 32 - k ≤ i → atDecay (at1 m k c (Proc.devRef .tc main_v27_15)) i = colSum (fwdAt m c i) (bwdAt m c (31 - i))
  | 0, _, i, hi, hj => by omega
  | k + 1, h, i, hi, hj => by
    have hk := says_fromEnd k (by omega)
    rw [at1_succ, trip1_15, at1_word, at1_v27_1, at1_state m c k (by omega), putDecay_eq _ _ _ (31 - k) hk (by omega) i hi]
    by_cases e : i = 31 - k
    · rw [if_pos e, takeState_eq _ _ (31 - k) hk (by omega), at0_states m c 32 le_rfl (31 - k) (by omega), e, show 31 - (31 - k) = k by omega]
    · rw [if_neg e, at1_dg k (by omega) i hi (by omega)]

/-! ## The results -/

theorem last_du (X : Valuation τ sig (Elt Ideal)) : after hostOps0_2 X (Proc.devRef .tc main_v37) = wide (atRows (X (Proc.devRef .tc main_v27_10))) := by
  after_reads_simp
  exact chunks_back _ _ _
theorem final_du : final m c (Proc.devRef .tc main_v37) = gradU (inW m c) (inQ m c) (inK m c) (inA m c) (inG m c) (inO m c) := by
  rw [show final m c = after hostOps0_2 (after cond1 (at1 m 32 c)) from rfl, last_du, cond1_keep main_v27_10 (by decide +kernel)]
  unfold gradU
  funext y
  have h0 : (y 0).val < 2048 := (y 0).isLt
  exact congrFun (at1_du m c 32 le_rfl ((y 0).val / 64) (by omega) (by omega)) _

theorem last_dw (X : Valuation τ sig (Elt Ideal)) : after hostOps0_2 X (Proc.devRef .tc main_v35) = wide (atRows (X (Proc.devRef .tc main_v27_11))) := by
  after_reads_simp
  exact chunks_back _ _ _
theorem final_dw : final m c (Proc.devRef .tc main_v35) = gradW (inU m c) (inW m c) (inQ m c) (inK m c) (inA m c) (inG m c) (inO m c) := by
  rw [show final m c = after hostOps0_2 (after cond1 (at1 m 32 c)) from rfl, last_dw, cond1_keep main_v27_11 (by decide +kernel)]
  unfold gradW
  funext y
  have h0 : (y 0).val < 2048 := (y 0).isLt
  exact congrFun (at1_dw m c 32 le_rfl ((y 0).val / 64) (by omega) (by omega)) _

theorem last_dq (X : Valuation τ sig (Elt Ideal)) : after hostOps0_2 X (Proc.devRef .tc main_v33) = wide (atRows (X (Proc.devRef .tc main_v27_12))) := by
  after_reads_simp
  exact chunks_back _ _ _
theorem final_dq : final m c (Proc.devRef .tc main_v33) = gradQ (inU m c) (inW m c) (inK m c) (inG m c) (inO m c) := by
  rw [show final m c = after hostOps0_2 (after cond1 (at1 m 32 c)) from rfl, last_dq, cond1_keep main_v27_12 (by decide +kernel)]
  unfold gradQ
  funext y
  have h0 : (y 0).val < 2048 := (y 0).isLt
  exact congrFun (at1_dq m c 32 le_rfl ((y 0).val / 64) (by omega) (by omega)) _

theorem last_dk (X : Valuation τ sig (Elt Ideal)) : after hostOps0_2 X (Proc.devRef .tc main_v30) = wide (atRows (X (Proc.devRef .tc main_v27_14))) := by
  after_reads_simp
  exact chunks_back _ _ _
theorem final_dk : final m c (Proc.devRef .tc main_v30) = gradK (inU m c) (inW m c) (inQ m c) (inK m c) (inA m c) (inG m c) (inO m c) := by
  rw [show final m c = after hostOps0_2 (after cond1 (at1 m 32 c)) from rfl, last_dk, cond1_keep main_v27_14 (by decide +kernel)]
  unfold gradK
  funext y
  have h0 : (y 0).val < 2048 := (y 0).isLt
  exact congrFun (at1_dk m c 32 le_rfl ((y 0).val / 64) (by omega) (by omega)) _

theorem last_da (X : Valuation τ sig (Elt Ideal)) (y : S6x32x64x64.Idx) :
    (after hostOps0_2 X (Proc.devRef .tc main_v31) : FVec Ideal S6x32x64x64 .f32) y = atWts (X (Proc.devRef .tc main_v27_13)) (y 1).val (ix3 (y 0) (y 2) (y 3)) := by
  after_reads_simp
  exact wts_back _ _ y
theorem final_da : final m c (Proc.devRef .tc main_v31) = gradA (inU m c) (inW m c) (inK m c) (inG m c) (inO m c) := by
  funext y
  have h1 : (y 1).val < 32 := (y 1).isLt
  rw [show final m c = after hostOps0_2 (after cond1 (at1 m 32 c)) from rfl]
  refine (last_da _ y).trans ?_
  rw [cond1_keep main_v27_13 (by decide +kernel), at1_da m c 32 le_rfl (y 1).val h1 (by omega)]
  rfl

theorem last_dg (X : Valuation τ sig (Elt Ideal)) (y : S6x32x1x128.Idx) :
    (after hostOps0_2 X (Proc.devRef .tc main_v28) : FVec Ideal S6x32x1x128 .f32) y = atDecay (X (Proc.devRef .tc main_v27_15)) (y 1).val (ix3 (y 0) 0 (y 3)) := by
  after_reads_simp
  exact decay_back _ _ y
theorem final_dg : final m c (Proc.devRef .tc main_v28) = gradG (inU m c) (inW m c) (inQ m c) (inK m c) (inA m c) (inG m c) (inO m c) := by
  funext y
  have h1 : (y 1).val < 32 := (y 1).isLt
  rw [show final m c = after hostOps0_2 (after cond1 (at1 m 32 c)) from rfl]
  refine (last_dg _ y).trans ?_
  rw [cond1_keep main_v27_15 (by decide +kernel), at1_dg m c 32 le_rfl (y 1).val h1 (by omega)]
  rfl

end Cert.ReferenceIdeal.Loops

end
-- ==== Proof.Values.lean ====
module

public import proofs.«01_k».proof.Proof.Frames
public import proofs.«01_k».proof.Proof.BwdArr
public import proofs.«01_k».proof.Proof.RefVals

@[expose] public section

set_option maxRecDepth 16384

/-!
The values: the kernel's two calls leave the gradients of `Scan`, and so does the reference.
-/

noncomputable section

namespace Cert.KernelIdeal.Run

open Cert.KernelIdeal.Gen
open Idealize.ShloMosaic Idealize.ShloMosaic.TcCoe

variable (m : (ℓ : Loc nD τ sig) → Buf (Elt Ideal) ℓ) (c : Dev nD)

/-- The `i`-th argument. -/
abbrev in0 : Scan.Wide := m ((c.tc : Thread nD τ).loc main_arg0)
abbrev in1 : Scan.Wide := m ((c.tc : Thread nD τ).loc main_arg1)
abbrev in2 : Scan.Wide := m ((c.tc : Thread nD τ).loc main_arg2)
abbrev in3 : Scan.Wide := m ((c.tc : Thread nD τ).loc main_arg3)
abbrev in4 : FVec Ideal S6x32x64x64 .f32 := m ((c.tc : Thread nD τ).loc main_arg4)
abbrev in5 : FVec Ideal S6x32x1x128 .f32 := m ((c.tc : Thread nD τ).loc main_arg5)
abbrev in6 : Scan.Wide := m ((c.tc : Thread nD τ).loc main_arg6)
theorem W1_in0 : W1 m c (Proc.devRef .tc main_arg0) = in0 m c := W1_keeps m main_arg0 (by decide +kernel) c
theorem W1_in1 : W1 m c (Proc.devRef .tc main_arg1) = in1 m c := W1_keeps m main_arg1 (by decide +kernel) c
theorem W1_in2 : W1 m c (Proc.devRef .tc main_arg2) = in2 m c := W1_keeps m main_arg2 (by decide +kernel) c
theorem W1_in3 : W1 m c (Proc.devRef .tc main_arg3) = in3 m c := W1_keeps m main_arg3 (by decide +kernel) c
theorem W1_in4 : W1 m c (Proc.devRef .tc main_arg4) = in4 m c := W1_keeps m main_arg4 (by decide +kernel) c
theorem W1_in5 : W1 m c (Proc.devRef .tc main_arg5) = in5 m c := W1_keeps m main_arg5 (by decide +kernel) c
theorem W1_in6 : W1 m c (Proc.devRef .tc main_arg6) = in6 m c := W1_keeps m main_arg6 (by decide +kernel) c

/-- The states the forward call leaves. -/
theorem W1_states : W1 m c (Proc.devRef .tc main_v0_1) = Fwd.statesArr (in0 m c) (in1 m c) (in3 m c) (in5 m c) :=
  (Pipeline.afterRegion_arr (dat0 m c) (W0 m c) launch0.win.arr_inj 7).trans
    (Fwd.final (fun c b => W0 m c (Proc.devRef .tc b)) c)

theorem states_read : W1 m c (Proc.devRef .tc main_v0_1) = Fwd.statesArr (W1 m c (Proc.devRef .tc main_arg0)) (W1 m c (Proc.devRef .tc main_arg1))
    (W1 m c (Proc.devRef .tc main_arg3)) (W1 m c (Proc.devRef .tc main_arg5)) := by
  rw [W1_in0, W1_in1, W1_in3, W1_in5, W1_states]

theorem W2_du : W2 m c (Proc.devRef .tc main_v1_0) = Scan.gradU (in1 m c) (in2 m c) (in3 m c) (in4 m c) (in5 m c) (in6 m c) := by
  refine (Pipeline.afterRegion_arr (dat1 m c) (W1 m c) launch1.win.arr_inj 8).trans
    ((Bwd.final_du (fun c b => W1 m c (Proc.devRef .tc b)) c).trans ?_)
  dsimp only
  rw [W1_in1, W1_in2, W1_in3, W1_in4, W1_in5, W1_in6]
theorem W2_dw : W2 m c (Proc.devRef .tc main_v1_1) = Scan.gradW (in0 m c) (in1 m c) (in2 m c) (in3 m c) (in4 m c) (in5 m c) (in6 m c) := by
  refine (Pipeline.afterRegion_arr (dat1 m c) (W1 m c) launch1.win.arr_inj 9).trans
    ((Bwd.final_dw (fun c b => W1 m c (Proc.devRef .tc b)) c (states_read m c)).trans ?_)
  dsimp only
  rw [W1_in0, W1_in1, W1_in2, W1_in3, W1_in4, W1_in5, W1_in6]
theorem W2_dqg : W2 m c (Proc.devRef .tc main_v1_2) = Scan.gradQ (in0 m c) (in1 m c) (in3 m c) (in5 m c) (in6 m c) := by
  refine (Pipeline.afterRegion_arr (dat1 m c) (W1 m c) launch1.win.arr_inj 10).trans
    ((Bwd.final_dqg (fun c b => W1 m c (Proc.devRef .tc b)) c (states_read m c)).trans ?_)
  dsimp only
  rw [W1_in0, W1_in1, W1_in3, W1_in5, W1_in6]
theorem W2_dkd : W2 m c (Proc.devRef .tc main_v1_3) = Scan.gradK (in0 m c) (in1 m c) (in2 m c) (in3 m c) (in4 m c) (in5 m c) (in6 m c) := by
  refine (Pipeline.afterRegion_arr (dat1 m c) (W1 m c) launch1.win.arr_inj 11).trans
    ((Bwd.final_dkd (fun c b => W1 m c (Proc.devRef .tc b)) c (states_read m c)).trans ?_)
  dsimp only
  rw [W1_in0, W1_in1, W1_in2, W1_in3, W1_in4, W1_in5, W1_in6]
theorem W2_dat : W2 m c (Proc.devRef .tc main_v1_4) = Scan.gradA (in0 m c) (in1 m c) (in3 m c) (in5 m c) (in6 m c) := by
  refine (Pipeline.afterRegion_arr (dat1 m c) (W1 m c) launch1.win.arr_inj 12).trans
    ((Bwd.final_dat (fun c b => W1 m c (Proc.devRef .tc b)) c (states_read m c)).trans ?_)
  dsimp only
  rw [W1_in0, W1_in1, W1_in3, W1_in5, W1_in6]
theorem W2_deg : W2 m c (Proc.devRef .tc main_v1_5) = Scan.gradG (in0 m c) (in1 m c) (in2 m c) (in3 m c) (in4 m c) (in5 m c) (in6 m c) := by
  refine (Pipeline.afterRegion_arr (dat1 m c) (W1 m c) launch1.win.arr_inj 13).trans
    ((Bwd.final_deg (fun c b => W1 m c (Proc.devRef .tc b)) c (states_read m c)).trans ?_)
  dsimp only
  rw [W1_in0, W1_in1, W1_in2, W1_in3, W1_in4, W1_in5, W1_in6]

end Cert.KernelIdeal.Run

namespace Cert.Proof

open Idealize.ShloMosaic Idealize.SL.Sem
open Cert.KernelIdeal.Run (in0 in1 in2 in3 in4 in5 in6)

theorem algebraic : Cert.algebraic_KernelIdeal_ReferenceIdeal := by
  intro m g m' g' _ hagree
  refine ⟨fun c => Scan.gradU (in1 m c) (in2 m c) (in3 m c) (in4 m c) (in5 m c) (in6 m c), fun c => Scan.gradW (in0 m c) (in1 m c) (in2 m c) (in3 m c) (in4 m c) (in5 m c) (in6 m c), fun c => Scan.gradQ (in0 m c) (in1 m c) (in3 m c) (in5 m c) (in6 m c), fun c => Scan.gradK (in0 m c) (in1 m c) (in2 m c) (in3 m c) (in4 m c) (in5 m c) (in6 m c), fun c => Scan.gradA (in0 m c) (in1 m c) (in3 m c) (in5 m c) (in6 m c), fun c => Scan.gradG (in0 m c) (in1 m c) (in2 m c) (in3 m c) (in4 m c) (in5 m c) (in6 m c), ?_, ?_⟩
  · refine (θ_run _ _ _).mono (fun r h => fun c => ⟨(h.1 c _ rfl).trans (Cert.KernelIdeal.Run.W2_du m c), (h.1 c _ rfl).trans (Cert.KernelIdeal.Run.W2_dw m c), (h.1 c _ rfl).trans (Cert.KernelIdeal.Run.W2_dqg m c), (h.1 c _ rfl).trans (Cert.KernelIdeal.Run.W2_dkd m c), (h.1 c _ rfl).trans (Cert.KernelIdeal.Run.W2_dat m c), (h.1 c _ rfl).trans (Cert.KernelIdeal.Run.W2_deg m c), (h.1 c _ rfl).trans (Cert.KernelIdeal.Run.W2_arg0 m c), (h.1 c _ rfl).trans (Cert.KernelIdeal.Run.W2_arg1 m c), (h.1 c _ rfl).trans (Cert.KernelIdeal.Run.W2_arg2 m c), (h.1 c _ rfl).trans (Cert.KernelIdeal.Run.W2_arg3 m c), (h.1 c _ rfl).trans (Cert.KernelIdeal.Run.W2_arg4 m c), (h.1 c _ rfl).trans (Cert.KernelIdeal.Run.W2_arg5 m c), (h.1 c _ rfl).trans (Cert.KernelIdeal.Run.W2_arg6 m c)⟩) (Cert.KernelIdeal.Run.run_main (F := Ideal) m g)
  · refine (θ_run _ _ _).mono (fun r h => fun c => ?_) (Cert.ReferenceIdeal.Loops.run_final (F := Ideal) m' g')
    obtain ⟨e0, e1, e2, e3, e4, e5, e6⟩ := hagree c
    refine ⟨(h.1 c _ rfl).trans ((Cert.ReferenceIdeal.Loops.final_du m' c).trans ?_), (h.1 c _ rfl).trans ((Cert.ReferenceIdeal.Loops.final_dw m' c).trans ?_), (h.1 c _ rfl).trans ((Cert.ReferenceIdeal.Loops.final_dq m' c).trans ?_), (h.1 c _ rfl).trans ((Cert.ReferenceIdeal.Loops.final_dk m' c).trans ?_), (h.1 c _ rfl).trans ((Cert.ReferenceIdeal.Loops.final_da m' c).trans ?_), (h.1 c _ rfl).trans ((Cert.ReferenceIdeal.Loops.final_dg m' c).trans ?_), (h.1 c _ rfl).trans (Cert.ReferenceIdeal.Loops.final_arg0 m' c), (h.1 c _ rfl).trans (Cert.ReferenceIdeal.Loops.final_arg1 m' c), (h.1 c _ rfl).trans (Cert.ReferenceIdeal.Loops.final_arg2 m' c), (h.1 c _ rfl).trans (Cert.ReferenceIdeal.Loops.final_arg3 m' c), (h.1 c _ rfl).trans (Cert.ReferenceIdeal.Loops.final_arg4 m' c), (h.1 c _ rfl).trans (Cert.ReferenceIdeal.Loops.final_arg5 m' c), (h.1 c _ rfl).trans (Cert.ReferenceIdeal.Loops.final_arg6 m' c)⟩
    · unfold Cert.ReferenceIdeal.Loops.inW Cert.ReferenceIdeal.Loops.inQ Cert.ReferenceIdeal.Loops.inK Cert.ReferenceIdeal.Loops.inA Cert.ReferenceIdeal.Loops.inG Cert.ReferenceIdeal.Loops.inO
      rw [e1, e2, e3, e4, e5, e6]
    · unfold Cert.ReferenceIdeal.Loops.inU Cert.ReferenceIdeal.Loops.inW Cert.ReferenceIdeal.Loops.inQ Cert.ReferenceIdeal.Loops.inK Cert.ReferenceIdeal.Loops.inA Cert.ReferenceIdeal.Loops.inG Cert.ReferenceIdeal.Loops.inO
      rw [e0, e1, e2, e3, e4, e5, e6]
    · unfold Cert.ReferenceIdeal.Loops.inU Cert.ReferenceIdeal.Loops.inW Cert.ReferenceIdeal.Loops.inK Cert.ReferenceIdeal.Loops.inG Cert.ReferenceIdeal.Loops.inO
      rw [e0, e1, e3, e5, e6]
    · unfold Cert.ReferenceIdeal.Loops.inU Cert.ReferenceIdeal.Loops.inW Cert.ReferenceIdeal.Loops.inQ Cert.ReferenceIdeal.Loops.inK Cert.ReferenceIdeal.Loops.inA Cert.ReferenceIdeal.Loops.inG Cert.ReferenceIdeal.Loops.inO
      rw [e0, e1, e2, e3, e4, e5, e6]
    · unfold Cert.ReferenceIdeal.Loops.inU Cert.ReferenceIdeal.Loops.inW Cert.ReferenceIdeal.Loops.inK Cert.ReferenceIdeal.Loops.inG Cert.ReferenceIdeal.Loops.inO
      rw [e0, e1, e3, e5, e6]
    · unfold Cert.ReferenceIdeal.Loops.inU Cert.ReferenceIdeal.Loops.inW Cert.ReferenceIdeal.Loops.inQ Cert.ReferenceIdeal.Loops.inK Cert.ReferenceIdeal.Loops.inA Cert.ReferenceIdeal.Loops.inG Cert.ReferenceIdeal.Loops.inO
      rw [e0, e1, e2, e3, e4, e5, e6]

end Cert.Proof

end
-- ==== Proof.ProductFrames.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Reference24Ideal.Run

@[expose] public section

/-!
The frames of the calls that are products, of the optimiser's steps, their ideal forms and their references.  A reference has no semaphore, so its
counters are zero at the end.
-/

noncomputable section

namespace Cert.Proof

open Idealize.ShloMosaic Idealize.SL.Sem

theorem frame_Kernel2 : Cert.quiescent_Kernel2 := fun m ρ _ => Cert.Kernel2.Gen.frame (F := Bits) m ρ
theorem frame_Kernel2Ideal : Cert.quiescent_Kernel2Ideal := fun m ρ _ => Cert.Kernel2Ideal.Gen.frame (F := Ideal) m ρ
theorem frame_Reference2Ideal : Cert.quiescent_Reference2Ideal := fun m ρ _ =>
  (θ_run _ _ _).mono (fun r h => ⟨fun c => (h c).2, sem_eq_zero_of_no_sems (by decide) r.2⟩) (Cert.Reference2Ideal.Value.run (F := Ideal) m ρ)

theorem frame_Kernel3 : Cert.quiescent_Kernel3 := fun m ρ _ => Cert.Kernel3.Gen.frame (F := Bits) m ρ
theorem frame_Kernel3Ideal : Cert.quiescent_Kernel3Ideal := fun m ρ _ => Cert.Kernel3Ideal.Gen.frame (F := Ideal) m ρ
theorem frame_Reference3Ideal : Cert.quiescent_Reference3Ideal := fun m ρ _ =>
  (θ_run _ _ _).mono (fun r h => ⟨fun c => (h c).2, sem_eq_zero_of_no_sems (by decide) r.2⟩) (Cert.Reference3Ideal.Value.run (F := Ideal) m ρ)

theorem frame_Kernel4 : Cert.quiescent_Kernel4 := fun m ρ _ => Cert.Kernel4.Gen.frame (F := Bits) m ρ
theorem frame_Kernel4Ideal : Cert.quiescent_Kernel4Ideal := fun m ρ _ => Cert.Kernel4Ideal.Gen.frame (F := Ideal) m ρ
theorem frame_Reference4Ideal : Cert.quiescent_Reference4Ideal := fun m ρ _ =>
  (θ_run _ _ _).mono (fun r h => ⟨fun c => (h c).2, sem_eq_zero_of_no_sems (by decide) r.2⟩) (Cert.Reference4Ideal.Value.run (F := Ideal) m ρ)

theorem frame_Kernel5 : Cert.quiescent_Kernel5 := fun m ρ _ => Cert.Kernel5.Gen.frame (F := Bits) m ρ
theorem frame_Kernel5Ideal : Cert.quiescent_Kernel5Ideal := fun m ρ _ => Cert.Kernel5Ideal.Gen.frame (F := Ideal) m ρ
theorem frame_Reference5Ideal : Cert.quiescent_Reference5Ideal := fun m ρ _ =>
  (θ_run _ _ _).mono (fun r h => ⟨fun c => (h c).2, sem_eq_zero_of_no_sems (by decide) r.2⟩) (Cert.Reference5Ideal.Value.run (F := Ideal) m ρ)

theorem frame_Kernel6 : Cert.quiescent_Kernel6 := fun m ρ _ => Cert.Kernel6.Gen.frame (F := Bits) m ρ
theorem frame_Kernel6Ideal : Cert.quiescent_Kernel6Ideal := fun m ρ _ => Cert.Kernel6Ideal.Gen.frame (F := Ideal) m ρ
theorem frame_Reference6Ideal : Cert.quiescent_Reference6Ideal := fun m ρ _ =>
  (θ_run _ _ _).mono (fun r h => ⟨fun c => (h c).2.2, sem_eq_zero_of_no_sems (by decide) r.2⟩) (Cert.Reference6Ideal.Value.run (F := Ideal) m ρ)

theorem frame_Kernel7 : Cert.quiescent_Kernel7 := fun m ρ _ => Cert.Kernel7.Gen.frame (F := Bits) m ρ
theorem frame_Kernel7Ideal : Cert.quiescent_Kernel7Ideal := fun m ρ _ => Cert.Kernel7Ideal.Gen.frame (F := Ideal) m ρ
theorem frame_Reference7Ideal : Cert.quiescent_Reference7Ideal := fun m ρ _ =>
  (θ_run _ _ _).mono (fun r h => ⟨fun c => (h c).2, sem_eq_zero_of_no_sems (by decide) r.2⟩) (Cert.Reference7Ideal.Value.run (F := Ideal) m ρ)

theorem frame_Kernel8 : Cert.quiescent_Kernel8 := fun m ρ _ => Cert.Kernel8.Gen.frame (F := Bits) m ρ
theorem frame_Kernel8Ideal : Cert.quiescent_Kernel8Ideal := fun m ρ _ => Cert.Kernel8Ideal.Gen.frame (F := Ideal) m ρ
theorem frame_Reference8Ideal : Cert.quiescent_Reference8Ideal := fun m ρ _ =>
  (θ_run _ _ _).mono (fun r h => ⟨fun c => (h c).2, sem_eq_zero_of_no_sems (by decide) r.2⟩) (Cert.Reference8Ideal.Value.run (F := Ideal) m ρ)

theorem frame_Kernel9 : Cert.quiescent_Kernel9 := fun m ρ _ => Cert.Kernel9.Gen.frame (F := Bits) m ρ
theorem frame_Kernel9Ideal : Cert.quiescent_Kernel9Ideal := fun m ρ _ => Cert.Kernel9Ideal.Gen.frame (F := Ideal) m ρ
theorem frame_Reference9Ideal : Cert.quiescent_Reference9Ideal := fun m ρ _ =>
  (θ_run _ _ _).mono (fun r h => ⟨fun c => (h c).2, sem_eq_zero_of_no_sems (by decide) r.2⟩) (Cert.Reference9Ideal.Value.run (F := Ideal) m ρ)

theorem frame_Kernel10 : Cert.quiescent_Kernel10 := fun m ρ _ => Cert.Kernel10.Gen.frame (F := Bits) m ρ
theorem frame_Kernel10Ideal : Cert.quiescent_Kernel10Ideal := fun m ρ _ => Cert.Kernel10Ideal.Gen.frame (F := Ideal) m ρ
theorem frame_Reference10Ideal : Cert.quiescent_Reference10Ideal := fun m ρ _ =>
  (θ_run _ _ _).mono (fun r h => ⟨fun c => (h c).2, sem_eq_zero_of_no_sems (by decide) r.2⟩) (Cert.Reference10Ideal.Value.run (F := Ideal) m ρ)

theorem frame_Kernel11 : Cert.quiescent_Kernel11 := fun m ρ _ => Cert.Kernel11.Gen.frame (F := Bits) m ρ
theorem frame_Kernel11Ideal : Cert.quiescent_Kernel11Ideal := fun m ρ _ => Cert.Kernel11Ideal.Gen.frame (F := Ideal) m ρ
theorem frame_Reference11Ideal : Cert.quiescent_Reference11Ideal := fun m ρ _ =>
  (θ_run _ _ _).mono (fun r h => ⟨fun c => (h c).2, sem_eq_zero_of_no_sems (by decide) r.2⟩) (Cert.Reference11Ideal.Value.run (F := Ideal) m ρ)

theorem frame_Kernel12 : Cert.quiescent_Kernel12 := fun m ρ _ => Cert.Kernel12.Gen.frame (F := Bits) m ρ
theorem frame_Kernel12Ideal : Cert.quiescent_Kernel12Ideal := fun m ρ _ => Cert.Kernel12Ideal.Gen.frame (F := Ideal) m ρ
theorem frame_Reference12Ideal : Cert.quiescent_Reference12Ideal := fun m ρ _ =>
  (θ_run _ _ _).mono (fun r h => ⟨fun c => (h c).2, sem_eq_zero_of_no_sems (by decide) r.2⟩) (Cert.Reference12Ideal.Value.run (F := Ideal) m ρ)

theorem frame_Kernel13 : Cert.quiescent_Kernel13 := fun m ρ _ => Cert.Kernel13.Gen.frame (F := Bits) m ρ
theorem frame_Kernel13Ideal : Cert.quiescent_Kernel13Ideal := fun m ρ _ => Cert.Kernel13Ideal.Gen.frame (F := Ideal) m ρ
theorem frame_Reference13Ideal : Cert.quiescent_Reference13Ideal := fun m ρ _ =>
  (θ_run _ _ _).mono (fun r h => ⟨fun c => (h c).2, sem_eq_zero_of_no_sems (by decide) r.2⟩) (Cert.Reference13Ideal.Value.run (F := Ideal) m ρ)

theorem frame_Kernel14 : Cert.quiescent_Kernel14 := fun m ρ _ => Cert.Kernel14.Gen.frame (F := Bits) m ρ
theorem frame_Kernel14Ideal : Cert.quiescent_Kernel14Ideal := fun m ρ _ => Cert.Kernel14Ideal.Gen.frame (F := Ideal) m ρ
theorem frame_Reference14Ideal : Cert.quiescent_Reference14Ideal := fun m ρ _ =>
  (θ_run _ _ _).mono (fun r h => ⟨fun c => (h c).2, sem_eq_zero_of_no_sems (by decide) r.2⟩) (Cert.Reference14Ideal.Value.run (F := Ideal) m ρ)

theorem frame_Kernel15 : Cert.quiescent_Kernel15 := fun m ρ _ => Cert.Kernel15.Gen.frame (F := Bits) m ρ
theorem frame_Kernel15Ideal : Cert.quiescent_Kernel15Ideal := fun m ρ _ => Cert.Kernel15Ideal.Gen.frame (F := Ideal) m ρ
theorem frame_Reference15Ideal : Cert.quiescent_Reference15Ideal := fun m ρ _ =>
  (θ_run _ _ _).mono (fun r h => ⟨fun c => (h c).2, sem_eq_zero_of_no_sems (by decide) r.2⟩) (Cert.Reference15Ideal.Value.run (F := Ideal) m ρ)

theorem frame_Kernel16 : Cert.quiescent_Kernel16 := fun m ρ _ => Cert.Kernel16.Gen.frame (F := Bits) m ρ
theorem frame_Kernel16Ideal : Cert.quiescent_Kernel16Ideal := fun m ρ _ => Cert.Kernel16Ideal.Gen.frame (F := Ideal) m ρ
theorem frame_Reference16Ideal : Cert.quiescent_Reference16Ideal := fun m ρ _ =>
  (θ_run _ _ _).mono (fun r h => ⟨fun c => (h c).2, sem_eq_zero_of_no_sems (by decide) r.2⟩) (Cert.Reference16Ideal.Value.run (F := Ideal) m ρ)

theorem frame_Kernel17 : Cert.quiescent_Kernel17 := fun m ρ _ => Cert.Kernel17.Gen.frame (F := Bits) m ρ
theorem frame_Kernel17Ideal : Cert.quiescent_Kernel17Ideal := fun m ρ _ => Cert.Kernel17Ideal.Gen.frame (F := Ideal) m ρ
theorem frame_Reference17Ideal : Cert.quiescent_Reference17Ideal := fun m ρ _ =>
  (θ_run _ _ _).mono (fun r h => ⟨fun c => (h c).2, sem_eq_zero_of_no_sems (by decide) r.2⟩) (Cert.Reference17Ideal.Value.run (F := Ideal) m ρ)

theorem frame_Kernel18 : Cert.quiescent_Kernel18 := fun m ρ _ => Cert.Kernel18.Gen.frame (F := Bits) m ρ
theorem frame_Kernel18Ideal : Cert.quiescent_Kernel18Ideal := fun m ρ _ => Cert.Kernel18Ideal.Gen.frame (F := Ideal) m ρ
theorem frame_Reference18Ideal : Cert.quiescent_Reference18Ideal := fun m ρ _ =>
  (θ_run _ _ _).mono (fun r h => ⟨fun c => (h c).2, sem_eq_zero_of_no_sems (by decide) r.2⟩) (Cert.Reference18Ideal.Value.run (F := Ideal) m ρ)

theorem frame_Kernel19 : Cert.quiescent_Kernel19 := fun m ρ _ => Cert.Kernel19.Gen.frame (F := Bits) m ρ
theorem frame_Kernel19Ideal : Cert.quiescent_Kernel19Ideal := fun m ρ _ => Cert.Kernel19Ideal.Gen.frame (F := Ideal) m ρ
theorem frame_Reference19Ideal : Cert.quiescent_Reference19Ideal := fun m ρ _ =>
  (θ_run _ _ _).mono (fun r h => ⟨fun c => (h c).2, sem_eq_zero_of_no_sems (by decide) r.2⟩) (Cert.Reference19Ideal.Value.run (F := Ideal) m ρ)

theorem frame_Kernel20 : Cert.quiescent_Kernel20 := fun m ρ _ => Cert.Kernel20.Gen.frame (F := Bits) m ρ
theorem frame_Kernel20Ideal : Cert.quiescent_Kernel20Ideal := fun m ρ _ => Cert.Kernel20Ideal.Gen.frame (F := Ideal) m ρ
theorem frame_Reference20Ideal : Cert.quiescent_Reference20Ideal := fun m ρ _ =>
  (θ_run _ _ _).mono (fun r h => ⟨fun c => (h c).2.2.2.2, sem_eq_zero_of_no_sems (by decide) r.2⟩) (Cert.Reference20Ideal.Value.run (F := Ideal) m ρ)

theorem frame_Kernel21 : Cert.quiescent_Kernel21 := fun m ρ _ => Cert.Kernel21.Gen.frame (F := Bits) m ρ
theorem frame_Kernel21Ideal : Cert.quiescent_Kernel21Ideal := fun m ρ _ => Cert.Kernel21Ideal.Gen.frame (F := Ideal) m ρ
theorem frame_Reference21Ideal : Cert.quiescent_Reference21Ideal := fun m ρ _ =>
  (θ_run _ _ _).mono (fun r h => ⟨fun c => (h c).2.2.2.2, sem_eq_zero_of_no_sems (by decide) r.2⟩) (Cert.Reference21Ideal.Value.run (F := Ideal) m ρ)

theorem frame_Kernel22 : Cert.quiescent_Kernel22 := fun m ρ _ => Cert.Kernel22.Gen.frame (F := Bits) m ρ
theorem frame_Kernel22Ideal : Cert.quiescent_Kernel22Ideal := fun m ρ _ => Cert.Kernel22Ideal.Gen.frame (F := Ideal) m ρ
theorem frame_Reference22Ideal : Cert.quiescent_Reference22Ideal := fun m ρ _ =>
  (θ_run _ _ _).mono (fun r h => ⟨fun c => (h c).2.2.2.2, sem_eq_zero_of_no_sems (by decide) r.2⟩) (Cert.Reference22Ideal.Value.run (F := Ideal) m ρ)

theorem frame_Kernel23 : Cert.quiescent_Kernel23 := fun m ρ _ => Cert.Kernel23.Gen.frame (F := Bits) m ρ
theorem frame_Kernel23Ideal : Cert.quiescent_Kernel23Ideal := fun m ρ _ => Cert.Kernel23Ideal.Gen.frame (F := Ideal) m ρ
theorem frame_Reference23Ideal : Cert.quiescent_Reference23Ideal := fun m ρ _ =>
  (θ_run _ _ _).mono (fun r h => ⟨fun c => (h c).2.2.2.2, sem_eq_zero_of_no_sems (by decide) r.2⟩) (Cert.Reference23Ideal.Value.run (F := Ideal) m ρ)

theorem frame_Kernel24 : Cert.quiescent_Kernel24 := fun m ρ _ => Cert.Kernel24.Gen.frame (F := Bits) m ρ
theorem frame_Kernel24Ideal : Cert.quiescent_Kernel24Ideal := fun m ρ _ => Cert.Kernel24Ideal.Gen.frame (F := Ideal) m ρ
theorem frame_Reference24Ideal : Cert.quiescent_Reference24Ideal := fun m ρ _ =>
  (θ_run _ _ _).mono (fun r h => ⟨fun c => (h c).2.2.2.2, sem_eq_zero_of_no_sems (by decide) r.2⟩) (Cert.Reference24Ideal.Value.run (F := Ideal) m ρ)

end Cert.Proof

end
-- ==== Proof.Slab.lean ====
module

public import proofs.«01_k».proof.Defs
public import Idealize.ShloMosaic.Lib.Pipeline.ValueKit
public import Idealize.ShloMosaic.Lib.Pointwise

@[expose] public section

set_option maxRecDepth 16384
set_option maxHeartbeats 2000000

/-!
The layout of the FFN's first weights and of their gradients: `[2048, 11264]` holds the gate's
5632 columns and then the up projection's; the four slabs of `[4, 2048, 2816]` hold the first half
of the gate's columns, the first half of the up projection's, and the two second halves.
-/

noncomputable section

namespace Cert.Slab

open Idealize.ShloMosaic Idealize.ShloMosaic.Tactic

abbrev Wide : Shape := ⟨2, ![2048, 11264]⟩
abbrev Cut : Shape := ⟨4, ![2048, 2, 2, 2816]⟩
abbrev Turned : Shape := ⟨4, ![2, 2, 2048, 2816]⟩
abbrev Slabs : Shape := ⟨3, ![4, 2048, 2816]⟩
abbrev Half : Shape := ⟨2, ![2048, 5632]⟩
abbrev Quarter : Shape := ⟨2, ![2048, 2816]⟩
abbrev One : Shape := ⟨3, ![1, 2048, 2816]⟩

/-- The column of the wide array at which column `j` of slab `s` lies. -/
def col (s : Fin 4) (j : Fin 2816) : Fin 11264 := ⟨5632 * (s.val % 2) + 2816 * (s.val / 2) + j.val, by omega⟩

variable {α : Type}

/-- The wide array laid out in slabs. -/
def slabs (x : Wide.Idx → α) : Slabs.Idx → α := fun y => x (ix2 ⟨(y 1).val, (y 1).isLt⟩ (col ⟨(y 0).val, (y 0).isLt⟩ ⟨(y 2).val, (y 2).isLt⟩))

/-- Cutting the columns in four, moving the cuts to the front and joining them are the slabs. -/
theorem of_casts (x : Wide.Idx → α) (h1 : Wide.ShapeCasts Cut) (h2 : Cut.Transposes [2, 1, 0, 3] Turned) (h3 : Turned.ShapeCasts Slabs) :
    shapeCast Slabs (transpose Turned [2, 1, 0, 3] (shapeCast Cut x h1) h2) h3 = slabs x := by
  funext y
  have y0 := (y 0).isLt
  have y1 := (y 1).isLt
  have y2 := (y 2).isLt
  replace y0 : (y 0).val < 4 := y0
  replace y1 : (y 1).val < 2048 := y1
  replace y2 : (y 2).val < 2816 := y2
  refine (shapeCast_apply _ h3 y (ix4 (⟨(y 0).val / 2, by omega⟩ : Fin 2) (⟨(y 0).val % 2, by omega⟩ : Fin 2) (⟨(y 1).val, y1⟩ : Fin 2048) (⟨(y 2).val, y2⟩ : Fin 2816)) ?_).trans ?_
  · rw [Shape.rowMajor_val_four, Shape.rowMajor_val_three]
    show (((y 0).val / 2 * 2 + (y 0).val % 2) * 2048 + (y 1).val) * 2816 + (y 2).val = ((y 0).val * 2048 + (y 1).val) * 2816 + (y 2).val
    omega
  refine (transpose_apply _ _ h2 _ (ix4 (⟨(y 1).val, y1⟩ : Fin 2048) (⟨(y 0).val % 2, by omega⟩ : Fin 2) (⟨(y 0).val / 2, by omega⟩ : Fin 2) (⟨(y 2).val, y2⟩ : Fin 2816)) fun b => ?_).trans ?_
  · match b with
    | ⟨0, _⟩ => rfl
    | ⟨1, _⟩ => rfl
    | ⟨2, _⟩ => rfl
    | ⟨3, _⟩ => rfl
  refine shapeCast_apply _ h1 _ _ ?_
  rw [Shape.rowMajor_val_four, Shape.rowMajor_val_two]
  show (y 1).val * 11264 + (5632 * ((y 0).val % 2) + 2816 * ((y 0).val / 2) + (y 2).val)
    = (((y 1).val * 2 + (y 0).val % 2) * 2 + (y 0).val / 2) * 2816 + (y 2).val
  omega

/-- Four arrays one above the other, read at an entry of the `s`-th. -/
theorem stack_apply (f : Fin 4 → One.Idx → α) (h : Shape.Concatenates [One, One, One, One] Slabs 0) (y : Slabs.Idx) :
    concatenate Slabs 0 [⟨One, f 0⟩, ⟨One, f 1⟩, ⟨One, f 2⟩, ⟨One, f 3⟩] h y
      = f ⟨(y 0).val, (y 0).isLt⟩ (ix3 (0 : Fin 1) ⟨(y 1).val, (y 1).isLt⟩ ⟨(y 2).val, (y 2).isLt⟩) := by
  refine (concatenate_ofFn_unit_apply 0 f h rfl rfl y ⟨(y 0).val, (y 0).isLt⟩ rfl _ fun b hb => ?_)
  match b, hb with
  | ⟨0, _⟩, hb => exact absurd rfl hb
  | ⟨1, _⟩, _ => rfl
  | ⟨2, _⟩, _ => rfl

/-- The gate's columns and the up projection's cut in halves, the four stacked gate, up, gate, up: the slabs. -/
theorem of_slices (x : Wide.Idx → α) (ha : Wide.Slices ![0, 0] Half) (hb : Wide.Slices ![0, 5632] Half)
    (hc : Half.Slices ![0, 0] Quarter) (hd : Half.Slices ![0, 2816] Quarter) (hq : Quarter.BroadcastsInDim One ![1, 2])
    (h : Shape.Concatenates [One, One, One, One] Slabs 0) :
    concatenate Slabs 0
        [⟨One, broadcastInDim One ![1, 2] hq (extractStridedSlice Quarter ![0, 0] (extractStridedSlice Half ![0, 0] x ha) hc)⟩,
          ⟨One, broadcastInDim One ![1, 2] hq (extractStridedSlice Quarter ![0, 0] (extractStridedSlice Half ![0, 5632] x hb) hc)⟩,
          ⟨One, broadcastInDim One ![1, 2] hq (extractStridedSlice Quarter ![0, 2816] (extractStridedSlice Half ![0, 0] x ha) hd)⟩,
          ⟨One, broadcastInDim One ![1, 2] hq (extractStridedSlice Quarter ![0, 2816] (extractStridedSlice Half ![0, 5632] x hb) hd)⟩] h
      = slabs x := by
  have read : ∀ (p q : ℕ) (hp : Wide.Slices ![0, p] Half) (hh : Half.Slices ![0, q] Quarter) (i : Fin 2048) (j : Fin 2816) (hlt : p + (q + j.val) < 11264),
      broadcastInDim One ![1, 2] hq (extractStridedSlice Quarter ![0, q] (extractStridedSlice Half ![0, p] x hp) hh) (ix3 (0 : Fin 1) i j)
        = x (ix2 i ⟨p + (q + j.val), hlt⟩) := by
    intro p q hp hh i j hlt
    have hq' : q + j.val < 5632 := by
      have := hh.2 1
      have : q + 2816 ≤ 5632 := by simpa using this
      omega
    refine (broadcastInDim_apply ![1, 2] hq _ _ (ix2 i j) fun a => ?_).trans
      ((extractStridedSlice_apply (s := Half) (t := Quarter) ![0, q] _ hh _ (ix2 i (⟨q + j.val, hq'⟩ : Fin 5632)) fun a => ?_).trans
        (extractStridedSlice_apply (s := Wide) (t := Half) ![0, p] x hp _ _ fun a => ?_))
    · match a with
      | ⟨0, _⟩ => show i.val = if (2048 : ℕ) = 1 then 0 else i.val; rw [if_neg (by decide)]
      | ⟨1, _⟩ => show j.val = if (2816 : ℕ) = 1 then 0 else j.val; rw [if_neg (by decide)]
    · match a with
      | ⟨0, _⟩ => show i.val = 0 + i.val; omega
      | ⟨1, _⟩ => rfl
    · match a with
      | ⟨0, _⟩ => show i.val = 0 + i.val; omega
      | ⟨1, _⟩ => rfl
  funext y
  refine (stack_apply ![_, _, _, _] h y).trans ?_
  have y2 := (y 2).isLt
  replace y2 : (y 2).val < 2816 := y2
  unfold slabs
  generalize hs : (⟨(y 0).val, (y 0).isLt⟩ : Fin 4) = s
  generalize hi : (⟨(y 1).val, (y 1).isLt⟩ : Fin 2048) = i
  generalize hj : (⟨(y 2).val, (y 2).isLt⟩ : Fin 2816) = j
  match s with
  | 0 => refine (read 0 0 ha hc i j (by omega)).trans (congrArg x (congrArg (ix2 i) (Fin.ext ?_))); show 0 + (0 + j.val) = 5632 * (0 % 2) + 2816 * (0 / 2) + j.val; omega
  | 1 => refine (read 5632 0 hb hc i j (by omega)).trans (congrArg x (congrArg (ix2 i) (Fin.ext ?_))); show 5632 + (0 + j.val) = 5632 * (1 % 2) + 2816 * (1 / 2) + j.val; omega
  | 2 => refine (read 0 2816 ha hd i j (by omega)).trans (congrArg x (congrArg (ix2 i) (Fin.ext ?_))); show 0 + (2816 + j.val) = 5632 * (2 % 2) + 2816 * (2 / 2) + j.val; omega
  | 3 => refine (read 5632 2816 hb hd i j (by omega)).trans (congrArg x (congrArg (ix2 i) (Fin.ext ?_))); show 5632 + (2816 + j.val) = 5632 * (3 % 2) + 2816 * (3 / 2) + j.val; omega

/-- Every column lies in one slab, at one place. -/
theorem col_bijective : Function.Bijective fun p : Fin 4 × Fin 2816 => col p.1 p.2 := by
  refine (Fintype.bijective_iff_injective_and_card _).2 ⟨fun p q h => ?_, by simp⟩
  obtain ⟨a, b⟩ := p
  obtain ⟨c, d⟩ := q
  have h : 5632 * (a.val % 2) + 2816 * (a.val / 2) + b.val = 5632 * (c.val % 2) + 2816 * (c.val / 2) + d.val := congrArg Fin.val h
  refine Prod.ext (Fin.ext ?_) (Fin.ext ?_)
  · show a.val = c.val
    omega
  · show b.val = d.val
    omega

/-- A sum over all the columns, slab by slab. -/
theorem sum_col {M : Type} [AddCommMonoid M] (f : Fin 11264 → M) :
    ∑ k : Fin 11264, f k = (∑ j : Fin 2816, f (col 0 j)) + (∑ j : Fin 2816, f (col 1 j)) + (∑ j : Fin 2816, f (col 2 j)) + ∑ j : Fin 2816, f (col 3 j) := by
  refine (Fintype.sum_equiv (Equiv.ofBijective _ col_bijective) (fun p => f (col p.1 p.2)) f fun p => rfl).symm.trans ?_
  rw [Fintype.sum_prod_type, Fin.sum_univ_four]

end Cert.Slab

end
-- ==== Proof.Logistic.lean ====
module

public import proofs.«01_k».proof.Defs
public import Idealize.ShloMosaic.Lib.IdealHost

@[expose] public section

/-!
The logistic function as the reference spells it.
-/

noncomputable section

namespace Cert.Proof

open Idealize.ShloMosaic

/-- One over one and the exponential of the negative is the logistic function. -/
theorem logistic_host (x : EReal) : Ideal.div (Ideal.ofBits .f32 0x3F800000#32) (Ideal.ofBits .f32 0x3F800000#32 + Ideal.exp (-x)) = Ideal.logistic x := by
  rw [Ideal.ofBits_one_f32]
  rfl

end Cert.Proof

end
-- ==== Proof.Dact.lean ====
module

public import proofs.«01_k».proof.Defs
public import Idealize.ShloMosaic.Lib.Pipeline.ValueKit
public import Idealize.ShloMosaic.Lib.Pointwise
public import proofs.«01_k».proof.Proof.Slab
public import proofs.«01_k».proof.Proof.Logistic
public import proofs.«01_k».proof.Proof.Gen.Kernel2Ideal.Value
public import proofs.«01_k».proof.Proof.Gen.Reference2Ideal.Read

@[expose] public section

set_option maxRecDepth 16384
set_option maxHeartbeats 2000000

/-!
The gradient through the down projection and the activation: the gradient of the activation is the
result's gradient times the down weights, transposed; the gate and the up projection take their
shares of it.
-/

noncomputable section

namespace Cert.Kernel2Ideal.Product

open Cert.Kernel2Ideal Cert.Kernel2Ideal.Gen
open Idealize.ShloMosaic Idealize.ShloMosaic.TcCoe Idealize.ShloMosaic.Tactic

/-- The gate's share of the activation's gradient `a`. -/
def dgate (g u a : EReal) : EReal := a * u * Ideal.logistic g + g * (a * u) * (Ideal.logistic g * (1 - Ideal.logistic g))

/-- The up projection's share. -/
def dup (g a : EReal) : EReal := g * Ideal.logistic g * a

/-- The gradient of the activation at row `i` and column `j`. -/
def dact (w : FVec Ideal S5632x2048 .f32) (d : FVec Ideal S2048x2048 .f32) (i : Fin 2048) (j : Fin 5632) : EReal :=
  ∑ k : Fin 2048, d (ix2 i k) * w (ix2 j k)

/-- Column `j` of the gate, and of the up projection. -/
def gateCol (j : Fin 5632) : Fin 11264 := ⟨j.val, by omega⟩
def upCol (j : Fin 5632) : Fin 11264 := ⟨5632 + j.val, by omega⟩

/-- The gate's gradient. -/
def gateGrad (x : FVec Ideal S2048x11264 .f32) (w : FVec Ideal S5632x2048 .f32) (d : FVec Ideal S2048x2048 .f32) (i : Fin 2048) (j : Fin 5632) : EReal :=
  dgate (x (ix2 i (gateCol j))) (x (ix2 i (upCol j))) (dact w d i j)

/-- The up projection's gradient. -/
def upGrad (x : FVec Ideal S2048x11264 .f32) (w : FVec Ideal S5632x2048 .f32) (d : FVec Ideal S2048x2048 .f32) (i : Fin 2048) (j : Fin 5632) : EReal :=
  dup (x (ix2 i (gateCol j))) (dact w d i j)

/-- The two side by side. -/
def wide (x : FVec Ideal S2048x11264 .f32) (w : FVec Ideal S5632x2048 .f32) (d : FVec Ideal S2048x2048 .f32) : FVec Ideal S2048x11264 .f32 := fun y =>
  if h : (y 1).val < 5632 then gateGrad x w d ⟨(y 0).val, (y 0).isLt⟩ ⟨(y 1).val, h⟩
  else upGrad x w d ⟨(y 0).val, (y 0).isLt⟩ ⟨(y 1).val - 5632, by have h : (y 1).val < 11264 := (y 1).isLt; omega⟩

theorem wide_gate (x : FVec Ideal S2048x11264 .f32) (w : FVec Ideal S5632x2048 .f32) (d : FVec Ideal S2048x2048 .f32) (i : Fin 2048) (j : Fin 5632) :
    wide x w d (ix2 i (gateCol j)) = gateGrad x w d i j :=
  (dif_pos (show j.val < 5632 from j.isLt)).trans rfl

theorem wide_up (x : FVec Ideal S2048x11264 .f32) (w : FVec Ideal S5632x2048 .f32) (d : FVec Ideal S2048x2048 .f32) (i : Fin 2048) (j : Fin 5632) :
    wide x w d (ix2 i (upCol j)) = upGrad x w d i j :=
  (dif_neg (show ¬5632 + j.val < 5632 by omega)).trans (congrArg (upGrad x w d i) (Fin.ext (show 5632 + j.val - 5632 = j.val by omega)))

/-- The gradient in slabs. -/
def grad (x : FVec Ideal S2048x11264 .f32) (w : FVec Ideal S5632x2048 .f32) (d : FVec Ideal S2048x2048 .f32) : FVec Ideal S4x2048x2816 .bf16 :=
  Slab.slabs (wide x w d)

/-- The product of two blocks. -/
def part (d : FVec Ideal S2048x2048 .bf16) (w : FVec Ideal S256x2048 .bf16) (i : Fin 2048) (j : Fin 256) : EReal :=
  ∑ k : Fin 2048, d (ix2 i k) * w (ix2 j k)

/-- What a grid point computes from its blocks. -/
theorem block (d : FVec Ideal S2048x2048 .bf16) (w : FVec Ideal S256x2048 .bf16) (x : FVec Ideal S2x2048x256 .bf16) (k : FVec Ideal S8x128 .f32) (y : S2x2048x256.Idx) :
    out0_4 (F := Ideal) d w x k y
      = if (y 0).val = 0 then
          dgate (x (ix3 (0 : Fin 2) ⟨(y 1).val, (y 1).isLt⟩ ⟨(y 2).val, (y 2).isLt⟩)) (x (ix3 (1 : Fin 2) ⟨(y 1).val, (y 1).isLt⟩ ⟨(y 2).val, (y 2).isLt⟩))
            (part d w ⟨(y 1).val, (y 1).isLt⟩ ⟨(y 2).val, (y 2).isLt⟩)
        else dup (x (ix3 (0 : Fin 2) ⟨(y 1).val, (y 1).isLt⟩ ⟨(y 2).val, (y 2).isLt⟩)) (part d w ⟨(y 1).val, (y 1).isLt⟩ ⟨(y 2).val, (y 2).isLt⟩) := by
  unfold out0_4 part
  frame_out
  canon_tiles z h
  · rw [if_neg (by omega)]
    unfold dup
    pointwise [k0_pay5, k0_pay3, k0_pay2, k0_pay1]
    rw [show y 1 = z 1 from Fin.ext h1, show y 2 = z 2 from Fin.ext h2]
  · rw [if_pos (by omega)]
    unfold dgate
    pointwise [k0_pay4, k0_pay3, k0_pay2, k0_pay1]
    rw [show y 1 = z 1 from Fin.ext h1, show y 2 = z 2 from Fin.ext h2]

variable (m : (ℓ : Loc nD τ sig) → Buf (Elt Ideal) ℓ) (c : Dev nD)

theorem idx : ∀ t : Fin cfg0.N, win0_0.index t = ![0, 0] ∧ win0_1.index t = ![t.val, 0] ∧ win0_2.index t = ![t.val / 11, 0, t.val % 11]
    ∧ win0_4.index t = ![t.val / 11, 0, t.val % 11] :=
  (by decide +kernel : ∀ t : Fin grid0.N, _)

/-- The region finds the gate and the up projection in slabs. -/
theorem entered : (V m c main_v5 : FVec Ideal S4x2048x2816 .bf16) = Slab.slabs (m ((c : Thread nD τ).loc main_arg0)) := by
  exact Slab.of_casts (m ((c : Thread nD τ).loc main_arg0)) (by decide) (by decide) (by decide)

theorem part_eq (t : Fin cfg0.N) (i : Fin 2048) (j : Fin 256) (p : Fin 5632) (hp : p.val = t.val * 256 + j.val) :
    part (iblk m c 0 t) (iblk m c 1 t) i j = dact (m ((c : Thread nD τ).loc main_arg1)) (m ((c : Thread nD τ).loc main_arg2)) i p := by
  unfold part dact
  refine Finset.sum_congr (M := EReal) rfl fun k _ => ?_
  congr 1
  · blk_point [iblk, idx t]
  · blk_point [iblk, idx t]

theorem entry_eq (t : Fin cfg0.N) (s : Fin 2) (i : Fin 2048) (j : Fin 256) (p : Fin 11264) (hp : p.val = 5632 * s.val + (t.val * 256 + j.val)) :
    (iblk m c 2 t : FVec Ideal S2x2048x256 .bf16) (ix3 s i j) = (m ((c : Thread nD τ).loc main_arg0) : FVec Ideal S2048x11264 .f32) (ix2 i p) := by
  have hN : t.val < 22 := lt_of_lt_of_eq t.isLt N_0
  refine (congrArg (fun z : FVec Ideal S4x2048x2816 .bf16 => (((cfg0.win 2).blk t).view.read (Elt Ideal) z) _) (entered m c)).trans ?_
  unfold Slab.slabs
  blk_point [idx t]
  show 5632 * ((t.val / 11 * 2 + s.val) % 2) + 2816 * ((t.val / 11 * 2 + s.val) / 2) + (t.val % 11 * 256 + j.val) = p.val
  omega

theorem final : (dats m 0 c).arrAt 4 cfg0.N
    = grad (m ((c : Thread nD τ).loc main_arg0)) (m ((c : Thread nD τ).loc main_arg1)) (m ((c : Thread nD τ).loc main_arg2)) := by
  refine (dats m 0 c).arrAt_eq_of_covers 4 _ (by decide +kernel) fun t hf y => ?_
  have hN : t.val < 22 := lt_of_lt_of_eq t.isLt N_0
  have y0 : (y 0).val < 2 := (y 0).isLt
  have y2 : (y 2).val < 256 := (y 2).isLt
  have hcol : (Slab.col ⟨(((cfg0.win 4).blk t).view.emb y 0).val, (((cfg0.win 4).blk t).view.emb y 0).isLt⟩ ⟨(((cfg0.win 4).blk t).view.emb y 2).val, (((cfg0.win 4).blk t).view.emb y 2).isLt⟩).val
      = 5632 * (y 0).val + (t.val * 256 + (y 2).val) := by
    show 5632 * ((win0_4.index t 0 * 2 + 1 * (y 0).val) % 2) + 2816 * ((win0_4.index t 0 * 2 + 1 * (y 0).val) / 2) + (win0_4.index t 2 * 256 + 1 * (y 2).val) = _
    rw [(idx t).2.2.2]
    show 5632 * ((t.val / 11 * 2 + 1 * (y 0).val) % 2) + 2816 * ((t.val / 11 * 2 + 1 * (y 0).val) / 2) + (t.val % 11 * 256 + 1 * (y 2).val) = 5632 * (y 0).val + (t.val * 256 + (y 2).val)
    omega
  have hrow : (((cfg0.win 4).blk t).view.emb y 1).val = (y 1).val := by
    show win0_4.index t 1 * 2048 + 1 * (y 1).val = _
    rw [(idx t).2.2.2]
    show 0 * 2048 + 1 * (y 1).val = _
    omega
  blk_simp
  rw [after0_4, block]
  let p : Fin 5632 := ⟨t.val * 256 + (y 2).val, by omega⟩
  have eg := entry_eq m c t 0 ⟨(y 1).val, (y 1).isLt⟩ ⟨(y 2).val, y2⟩ (gateCol p) (by show t.val * 256 + (y 2).val = 5632 * 0 + (t.val * 256 + (y 2).val); omega)
  have eu := entry_eq m c t 1 ⟨(y 1).val, (y 1).isLt⟩ ⟨(y 2).val, y2⟩ (upCol p) (by show 5632 + (t.val * 256 + (y 2).val) = 5632 * 1 + (t.val * 256 + (y 2).val); omega)
  have ea := part_eq m c t ⟨(y 1).val, (y 1).isLt⟩ ⟨(y 2).val, y2⟩ p rfl
  unfold grad Slab.slabs
  split
  case isTrue h =>
    refine (congr (congr (congrArg dgate eg) eu) ea).trans ((wide_gate _ _ _ _ p).symm.trans (congrArg _ ?_))
    refine congrArg₂ ix2 (Fin.ext hrow.symm) (Fin.ext ((?_ : _ = _).trans hcol.symm))
    show t.val * 256 + (y 2).val = _
    omega
  case isFalse h =>
    refine (congr (congrArg dup eg) ea).trans ((wide_up _ _ _ _ p).symm.trans (congrArg _ ?_))
    refine congrArg₂ ix2 (Fin.ext hrow.symm) (Fin.ext ((?_ : _ = _).trans hcol.symm))
    show 5632 + (t.val * 256 + (y 2).val) = _
    omega

end Cert.Kernel2Ideal.Product

namespace Cert.Proof

open Idealize.ShloMosaic Idealize.SL.Sem
open Cert.Reference2Ideal.Read

variable (x : FVec Ideal Kernel2Ideal.S2048x11264 .f32) (w : FVec Ideal Kernel2Ideal.S5632x2048 .f32) (d : FVec Ideal Kernel2Ideal.S2048x2048 .f32)

theorem dact_product (i : Fin 2048) (j : Fin 5632) : val_main_v5 (F := Ideal) w d (ix2 i j) = Kernel2Ideal.Product.dact w d i j := by
  refine (val_main_v5_apply w d _).trans ?_
  refine Finset.sum_congr (M := EReal) rfl fun k _ => ?_
  congr 1
  · congr 1
    funext a
    match a with
    | 0 => rfl
    | 1 => rfl
  · congr 1
    funext a
    match a with
    | 0 => rfl
    | 1 => rfl

theorem dact_gate (i : Fin 2048) (j : Fin 5632) : val_main_v0 (F := Ideal) x (ix2 i j) = x (ix2 i (Kernel2Ideal.Product.gateCol j)) := by
  refine (val_main_v0_apply (F := Ideal) x _).trans (congrArg x ?_)
  funext a
  match a with
  | 0 => rfl
  | 1 => rfl

theorem dact_up (i : Fin 2048) (j : Fin 5632) : val_main_v1 (F := Ideal) x (ix2 i j) = x (ix2 i (Kernel2Ideal.Product.upCol j)) := by
  refine (val_main_v1_apply (F := Ideal) x _).trans (congrArg x ?_)
  funext a
  match a with
  | 0 => rfl
  | 1 => rfl

theorem dact_logistic (y : Reference2Ideal.S2048x5632.Idx) : val_main_v2_2 (F := Ideal) x y = Ideal.logistic (val_main_v0 (F := Ideal) x y) := by
  refine Eq.trans ?_ (logistic_host _)
  refine (val_main_v2_2_apply (F := Ideal) x y).trans ?_
  rw [val_main_call0_v4_apply, val_main_call0_v3_apply, val_main_call0_v2_apply, val_main_call0_v1_apply, val_main_call0_v0_apply]
  rfl

theorem dact_slope (y : Reference2Ideal.S2048x5632.Idx) :
    val_main_v2_1 (F := Ideal) x y = (Ideal.logistic (val_main_v0 (F := Ideal) x y) * (1 - Ideal.logistic (val_main_v0 (F := Ideal) x y)) : EReal) := by
  rw [val_main_v2_1_apply, val_main_call0_v7_apply, val_main_call0_v6_apply, dact_logistic, val_main_call0_cst_1_apply]
  refine congrArg (fun o : EReal => (Ideal.logistic (val_main_v0 (F := Ideal) x y) * (o - Ideal.logistic (val_main_v0 (F := Ideal) x y)) : EReal)) ?_
  exact Ideal.ofBits_one_f32

theorem dact_gateGrad (i : Fin 2048) (j : Fin 5632) : val_main_v8 (F := Ideal) x w d (ix2 i j) = Kernel2Ideal.Product.gateGrad x w d i j := by
  rw [val_main_v8_apply, val_main_call1_v1_apply, val_main_call1_v2_apply, val_main_call1_v0_apply, val_main_v7_apply, dact_slope, dact_logistic,
    dact_gate, dact_up, dact_product]
  rfl

theorem dact_upGrad (i : Fin 2048) (j : Fin 5632) : val_main_v6 (F := Ideal) x w d (ix2 i j) = Kernel2Ideal.Product.upGrad x w d i j := by
  rw [val_main_v6_apply, val_main_v2_0_apply, dact_logistic, dact_gate, dact_product]
  rfl

theorem dact_wide : val_main_v9 (F := Ideal) x w d = Kernel2Ideal.Product.wide x w d := by
  funext y
  have hy : (y 1).val < 11264 := (y 1).isLt
  unfold val_main_v9 Kernel2Ideal.Product.wide
  split
  case isTrue h =>
    refine (concatenate_pair_apply_left 1 (val_main_v8 (F := Ideal) x w d) (val_main_v6 (F := Ideal) x w d) _ y rfl (ix2 (⟨(y 0).val, (y 0).isLt⟩ : Fin 2048) (⟨(y 1).val, h⟩ : Fin 5632)) fun b => ?_).trans (dact_gateGrad x w d _ _)
    match b with
    | ⟨0, _⟩ => rfl
    | ⟨1, _⟩ => rfl
  case isFalse h =>
    refine (concatenate_pair_apply_right 1 (val_main_v8 (F := Ideal) x w d) (val_main_v6 (F := Ideal) x w d) _ y rfl rfl (ix2 (⟨(y 0).val, (y 0).isLt⟩ : Fin 2048) (⟨(y 1).val - 5632, by omega⟩ : Fin 5632)) (fun b hb => ?_) ?_).trans
      (dact_upGrad x w d _ _)
    · match b, hb with
      | ⟨0, _⟩, _ => rfl
      | ⟨1, _⟩, hb => exact absurd rfl hb
    · show (y 1).val - 5632 + 5632 = (y 1).val
      omega

theorem dact_reference : val_main_v21 (F := Ideal) x w d = Kernel2Ideal.Product.grad x w d := by
  show val_main_v20 (F := Ideal) x w d = _
  unfold Kernel2Ideal.Product.grad
  rw [← dact_wide]
  exact Slab.of_slices (val_main_v9 (F := Ideal) x w d) (by decide) (by decide) (by decide) (by decide) (by decide) (by decide)

theorem algebraic_dact : Cert.algebraic_Kernel2Ideal_Reference2Ideal := by
  intro m g m' g' _ hagree
  refine ⟨fun c => Kernel2Ideal.Product.grad (m (c.tc.loc Kernel2Ideal.main_arg0)) (m (c.tc.loc Kernel2Ideal.main_arg1)) (m (c.tc.loc Kernel2Ideal.main_arg2)), ?_, ?_⟩
  · refine (θ_run _ _ _).mono (fun r h c => ?_) (Kernel2Ideal.Value.run_blocks (F := Ideal) m g)
    obtain ⟨h, hr⟩ := h c
    exact ⟨h.trans (Kernel2Ideal.Product.final m c), hr⟩
  · refine (θ_run _ _ _).mono (fun r h c => ?_) (Reference2Ideal.Value.run (F := Ideal) m' g')
    obtain ⟨h, hr⟩ := h c
    obtain ⟨e0, e1, e2, e3⟩ := hagree c
    refine ⟨h.trans ((val_main_v21_eq m' c).trans ((dact_reference _ _ _).trans ?_)), hr⟩
    rw [e0, e1, e2]

end Cert.Proof

end
-- ==== Proof.DwGateUp.lean ====
module

public import proofs.«01_k».proof.Defs
public import Idealize.ShloMosaic.Lib.Pipeline.ValueKit
public import Idealize.ShloMosaic.Lib.Pointwise
public import proofs.«01_k».proof.Proof.Slab
public import proofs.«01_k».proof.Proof.Gen.Kernel3Ideal.Value
public import proofs.«01_k».proof.Proof.Gen.Reference3Ideal.Read

@[expose] public section

set_option maxRecDepth 16384
set_option maxHeartbeats 2000000

/-!
The gradient of the gate and up weights: the normalised rows, transposed, times the gradient of
the product, one slab of columns at a time.
-/

noncomputable section

namespace Cert.Kernel3Ideal.Product

open Cert.Kernel3Ideal Cert.Kernel3Ideal.Gen
open Idealize.ShloMosaic Idealize.ShloMosaic.TcCoe Idealize.ShloMosaic.Tactic

/-- The gradient, entry by entry. -/
def wide (n : FVec Ideal S2048x2048 .f32) (d : FVec Ideal S2048x11264 .f32) : FVec Ideal S2048x11264 .f32 := fun y =>
  ∑ k : Fin 2048, n (ix2 k ⟨(y 0).val, (y 0).isLt⟩) * d (ix2 k ⟨(y 1).val, (y 1).isLt⟩)

/-- The gradient in slabs. -/
def grad (n : FVec Ideal S2048x2048 .f32) (d : FVec Ideal S2048x11264 .f32) : FVec Ideal S4x2048x2816 .bf16 := Slab.slabs (wide n d)

/-- What a grid point computes from its blocks. -/
theorem block (n : FVec Ideal S2048x2048 .bf16) (d : FVec Ideal S1x2048x1408 .bf16) (y : S1x2048x1408.Idx) :
    out0_2 (F := Ideal) n d y = ∑ k : Fin 2048, n (ix2 k ⟨(y 1).val, (y 1).isLt⟩) * d (ix3 (0 : Fin 1) k ⟨(y 2).val, (y 2).isLt⟩) := by
  unfold out0_2
  frame_out
  pointwise [k0_pay1]

variable (m : (ℓ : Loc nD τ sig) → Buf (Elt Ideal) ℓ) (c : Dev nD)

theorem idx : ∀ t : Fin cfg0.N, win0_0.index t = ![0, 0] ∧ win0_1.index t = ![t.val / 2, 0, t.val % 2] ∧ win0_2.index t = ![t.val / 2, 0, t.val % 2] :=
  (by decide +kernel : ∀ t : Fin grid0.N, _)

/-- The region finds the gradient of the product in slabs. -/
theorem entered : (V m c main_v4 : FVec Ideal S4x2048x2816 .bf16) = Slab.slabs (m ((c : Thread nD τ).loc main_arg1)) := by
  exact Slab.of_casts (m ((c : Thread nD τ).loc main_arg1)) (by decide) (by decide) (by decide)

theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2, block]
  unfold grad Slab.slabs wide
  refine Finset.sum_congr (M := EReal) rfl fun k _ => ?_
  congr 1
  · blk_point [iblk, idx t]
  · refine (congrArg (fun z : FVec Ideal S4x2048x2816 .bf16 => (((cfg0.win 1).blk t).view.read (Elt Ideal) z) _) (entered m c)).trans ?_
    unfold Slab.slabs
    blk_point [idx t]
    rfl

end Cert.Kernel3Ideal.Product

namespace Cert.Proof

open Idealize.ShloMosaic Idealize.SL.Sem
open Cert.Reference3Ideal.Read

theorem dw_gate_up_wide (n : FVec Ideal Kernel3Ideal.S2048x2048 .f32) (d : FVec Ideal Kernel3Ideal.S2048x11264 .f32) :
    val_main_v3 (F := Ideal) n d = Kernel3Ideal.Product.wide n d := by
  funext y
  refine (val_main_v3_apply (F := Ideal) n d y).trans ((val_main_v2_apply n d _).trans ?_)
  refine Finset.sum_congr (M := EReal) rfl fun k _ => (mul_comm (G := EReal) _ _).trans ?_
  congr 1
  · congr 1
    funext x
    match x with
    | 0 => rfl
    | 1 => rfl
  · congr 1
    funext x
    match x with
    | 0 => rfl
    | 1 => rfl

theorem dw_gate_up_reference (n : FVec Ideal Kernel3Ideal.S2048x2048 .f32) (d : FVec Ideal Kernel3Ideal.S2048x11264 .f32) :
    val_main_v15 (F := Ideal) n d = Kernel3Ideal.Product.grad n d := by
  show val_main_v14 (F := Ideal) n d = _
  unfold Kernel3Ideal.Product.grad
  rw [← dw_gate_up_wide]
  exact Slab.of_slices (val_main_v3 (F := Ideal) n d) (by decide) (by decide) (by decide) (by decide) (by decide) (by decide)

theorem algebraic_dw_gate_up : Cert.algebraic_Kernel3Ideal_Reference3Ideal := by
  intro m g m' g' _ hagree
  refine ⟨fun c => Kernel3Ideal.Product.grad (m (c.tc.loc Kernel3Ideal.main_arg0)) (m (c.tc.loc Kernel3Ideal.main_arg1)), ?_, ?_⟩
  · refine (θ_run _ _ _).mono (fun r h c => ?_) (Kernel3Ideal.Value.run_blocks (F := Ideal) m g)
    obtain ⟨h, hr⟩ := h c
    exact ⟨h.trans (Kernel3Ideal.Product.final m c), hr⟩
  · refine (θ_run _ _ _).mono (fun r h c => ?_) (Reference3Ideal.Value.run (F := Ideal) m' g')
    obtain ⟨h, hr⟩ := h c
    obtain ⟨e0, e1⟩ := hagree c
    refine ⟨h.trans ((val_main_v15_eq _ _).trans ((dw_gate_up_reference _ _).trans ?_)), hr⟩
    rw [e0, e1]

end Cert.Proof

end
-- ==== Proof.Dn.lean ====
module

public import proofs.«01_k».proof.Defs
public import Idealize.ShloMosaic.Lib.Pipeline.ValueKit
public import Idealize.ShloMosaic.Lib.Pointwise
public import proofs.«01_k».proof.Proof.Slab
public import proofs.«01_k».proof.Proof.Gen.Kernel4Ideal.Value
public import proofs.«01_k».proof.Proof.Gen.Reference4Ideal.Read

@[expose] public section

set_option maxRecDepth 16384
set_option maxHeartbeats 2000000

/-!
The gradient of the normalised rows: the gradient of the product times the gate and up weights,
transposed; the four slabs of columns are added one after another.
-/

noncomputable section

namespace Cert.Kernel4Ideal.Product

open Cert.Kernel4Ideal Cert.Kernel4Ideal.Gen
open Idealize.ShloMosaic Idealize.ShloMosaic.TcCoe Idealize.ShloMosaic.Tactic

/-- The gradient, entry by entry. -/
def grad (d : FVec Ideal S2048x11264 .f32) (w : FVec Ideal S2048x11264 .f32) : FVec Ideal S2048x2048 .f32 := fun y =>
  ∑ k : Fin 11264, d (ix2 ⟨(y 0).val, (y 0).isLt⟩ k) * w (ix2 ⟨(y 1).val, (y 1).isLt⟩ k)

/-- A block of the product of two blocks. -/
def part (d w : FVec Ideal S1x1024x2816 .bf16) (y : S1024x1024.Idx) : EReal :=
  ∑ k : Fin 2816, d (ix3 (0 : Fin 1) ⟨(y 0).val, (y 0).isLt⟩ k) * w (ix3 (0 : Fin 1) ⟨(y 1).val, (y 1).isLt⟩ k)

/-- One step of the sum. -/
theorem step (a : FVec Ideal S1024x1024 .f32) (d w : FVec Ideal S1x1024x2816 .bf16) (y : S1024x1024.Idx) :
    k0_pay2 (F := Ideal) a d w y = a y + part d w y := by
  unfold part
  pointwise [k0_pay2]

theorem start (y : S1024x1024.Idx) : k0_pay1 (F := Ideal) y = (0 : EReal) := by
  pointwise [k0_pay1]

variable (m : (ℓ : Loc nD τ sig) → Buf (Elt Ideal) ℓ) (c : Dev nD)

/-- The point before. -/
abbrev before (t : Fin cfg0.N) : Fin cfg0.N := ⟨t.val - 1, Nat.lt_of_le_of_lt (Nat.sub_le _ _) t.isLt⟩

theorem scratch_A (t : Fin cfg0.N) (h0 : t.val % 4 = 0) (y : S1024x1024.Idx) :
    (outsAt0 m c t.val t.isLt).2 y = (0 : EReal) + part (iblk m c 0 t) (iblk m c 1 t) y := by
  rw [← start y]
  refine Eq.trans (congrFun ?_ y) (step k0_pay1 (iblk m c 0 t) (iblk m c 1 t) y)
  rw [outsAt0_A m c t h0 (by omega)]
  frame_out

theorem scratch_B (t : Fin cfg0.N) (h0 : ¬t.val % 4 = 0) (h1 : ¬t.val % 4 = 3) (y : S1024x1024.Idx) :
    (outsAt0 m c t.val t.isLt).2 y = (outsAt0 m c (before t).val (before t).isLt).2 y + part (iblk m c 0 t) (iblk m c 1 t) y := by
  refine Eq.trans (congrFun ?_ y) (step _ (iblk m c 0 t) (iblk m c 1 t) y)
  rw [outsAt0_B m c t h0 h1]
  frame_out
  exact congrArg (fun a => k0_pay2 (F := Ideal) a (iblk m c 0 t) (iblk m c 1 t)) ((Memref.isWhole_whole _).read_unread _)

theorem out_C (t : Fin cfg0.N) (h1 : t.val % 4 = 3) (y : S1024x1024.Idx) :
    (outsAt0 m c t.val t.isLt).1 y = (outsAt0 m c (before t).val (before t).isLt).2 y + part (iblk m c 0 t) (iblk m c 1 t) y := by
  refine Eq.trans (congrFun ?_ y) (step _ (iblk m c 0 t) (iblk m c 1 t) y)
  rw [outsAt0_C m c t (by omega) h1]
  frame_out
  exact congrArg (fun a => k0_pay2 (F := Ideal) a (iblk m c 0 t) (iblk m c 1 t)) ((Memref.isWhole_whole _).read_unread _)

theorem idx : ∀ t : Fin cfg0.N, win0_0.index t = ![t.val % 4, t.val / 8, 0] ∧ win0_1.index t = ![t.val % 4, t.val / 4 % 2, 0]
    ∧ win0_3.index t = ![t.val / 8, t.val / 4 % 2] :=
  (by decide +kernel : ∀ t : Fin grid0.N, _)

/-- The region finds the gradient of the product in slabs, -/
theorem entered_d : (V m c main_v3 : FVec Ideal S4x2048x2816 .bf16) = Slab.slabs (m ((c : Thread nD τ).loc main_arg0)) := by
  exact Slab.of_casts (m ((c : Thread nD τ).loc main_arg0)) (by decide) (by decide) (by decide)

/-- and the weights. -/
theorem entered_w : (V m c main_v7 : FVec Ideal S4x2048x2816 .bf16) = Slab.slabs (m ((c : Thread nD τ).loc main_arg1)) := by
  exact Slab.of_casts (m ((c : Thread nD τ).loc main_arg1)) (by decide) (by decide) (by decide)

/-- The columns of slab `s` in the sum at row `i` and column `j`. -/
def slab (d w : FVec Ideal S2048x11264 .f32) (s : Fin 4) (i j : Fin 2048) : EReal :=
  ∑ k : Fin 2816, d (ix2 i (Slab.col s k)) * w (ix2 j (Slab.col s k))

/-- A point's part of the sum, by the arguments: the columns of slab `s`. -/
theorem part_eq (t : Fin cfg0.N) (y : S1024x1024.Idx) (s : Fin 4) (hs : t.val % 4 = s.val) (i j : Fin 2048)
    (hi : i.val = t.val / 8 * 1024 + (y 0).val) (hj : j.val = t.val / 4 % 2 * 1024 + (y 1).val) :
    part (iblk m c 0 t) (iblk m c 1 t) y
      = slab (m ((c : Thread nD τ).loc main_arg0)) (m ((c : Thread nD τ).loc main_arg1)) s i j := by
  obtain ⟨s, hs'⟩ := s
  obtain ⟨i, hi'⟩ := i
  obtain ⟨j, hj'⟩ := j
  obtain rfl : t.val % 4 = s := hs
  obtain rfl := hi
  obtain rfl := hj
  unfold part slab
  refine Finset.sum_congr (M := EReal) rfl fun k _ => ?_
  congr 1
  · refine (congrArg (fun z : FVec Ideal S4x2048x2816 .bf16 => (((cfg0.win 0).blk t).view.read (Elt Ideal) z) _) (entered_d m c)).trans ?_
    unfold Slab.slabs
    blk_point [idx t]
    rfl
  · refine (congrArg (fun z : FVec Ideal S4x2048x2816 .bf16 => (((cfg0.win 1).blk t).view.read (Elt Ideal) z) _) (entered_w m c)).trans ?_
    unfold Slab.slabs
    blk_point [idx t]
    rfl

theorem final : (dats m 0 c).arrAt 3 cfg0.N = grad (m ((c : Thread nD τ).loc main_arg0)) (m ((c : Thread nD τ).loc main_arg1)) := by
  refine (dats m 0 c).arrAt_eq_of_covers 3 _ (by decide +kernel) fun t hf y => ?_
  have ht : t.val % 4 = 3 := (flush0_3 t).mp hf
  have hN : t.val < 16 := lt_of_lt_of_eq t.isLt N_0
  blk_simp
  rw [after0_3, out_C m c t ht, scratch_B m c (before t) (by show ¬(t.val - 1) % 4 = 0; omega) (by show ¬(t.val - 1) % 4 = 3; omega),
    scratch_B m c (before (before t)) (by show ¬(t.val - 1 - 1) % 4 = 0; omega) (by show ¬(t.val - 1 - 1) % 4 = 3; omega),
    scratch_A m c (before (before (before t))) (by show (t.val - 1 - 1 - 1) % 4 = 0; omega), zero_add]
  unfold grad
  rw [Slab.sum_col]
  have e0 : ((win0_3.blk t).view.emb y 0).val = t.val / 8 * 1024 + (y 0).val := by
    show win0_3.index t 0 * 1024 + 1 * (y 0).val = _
    rw [(idx t).2.2]
    show t.val / 8 * 1024 + 1 * (y 0).val = _
    omega
  have e1 : ((win0_3.blk t).view.emb y 1).val = t.val / 4 % 2 * 1024 + (y 1).val := by
    show win0_3.index t 1 * 1024 + 1 * (y 1).val = _
    rw [(idx t).2.2]
    show t.val / 4 % 2 * 1024 + 1 * (y 1).val = _
    omega
  refine congrArg₂ (fun p q : EReal => p + q) (congrArg₂ (fun p q : EReal => p + q) (congrArg₂ (fun p q : EReal => p + q)
    (part_eq m c (before (before (before t))) _ 0 ?_ ⟨_, _⟩ ⟨_, _⟩ ?_ ?_) (part_eq m c (before (before t)) _ 1 ?_ ⟨_, _⟩ ⟨_, _⟩ ?_ ?_))
      (part_eq m c (before t) _ 2 ?_ ⟨_, _⟩ ⟨_, _⟩ ?_ ?_)) (part_eq m c t _ 3 ?_ ⟨_, _⟩ ⟨_, _⟩ ?_ ?_)
  · show (t.val - 1 - 1 - 1) % 4 = 0; omega
  · refine e0.trans ?_; show _ = (t.val - 1 - 1 - 1) / 8 * 1024 + _; congr 2; omega
  · refine e1.trans ?_; show _ = (t.val - 1 - 1 - 1) / 4 % 2 * 1024 + _; congr 2; omega
  · show (t.val - 1 - 1) % 4 = 1; omega
  · refine e0.trans ?_; show _ = (t.val - 1 - 1) / 8 * 1024 + _; congr 2; omega
  · refine e1.trans ?_; show _ = (t.val - 1 - 1) / 4 % 2 * 1024 + _; congr 2; omega
  · show (t.val - 1) % 4 = 2; omega
  · refine e0.trans ?_; show _ = (t.val - 1) / 8 * 1024 + _; congr 2; omega
  · refine e1.trans ?_; show _ = (t.val - 1) / 4 % 2 * 1024 + _; congr 2; omega
  · show t.val % 4 = 3; omega
  · exact e0
  · exact e1

end Cert.Kernel4Ideal.Product

namespace Cert.Proof

open Idealize.ShloMosaic Idealize.SL.Sem
open Cert.Reference4Ideal.Read

theorem dn_reference (d w : FVec Ideal Kernel4Ideal.S2048x11264 .f32) : val_main_v2 (F := Ideal) d w = Kernel4Ideal.Product.grad d w := by
  funext y
  refine (val_main_v2_apply d w y).trans ?_
  refine Finset.sum_congr (M := EReal) rfl fun k _ => ?_
  congr 1
  · congr 1
    funext x
    match x with
    | 0 => rfl
    | 1 => rfl
  · congr 1
    funext x
    match x with
    | 0 => rfl
    | 1 => rfl

theorem algebraic_dn : Cert.algebraic_Kernel4Ideal_Reference4Ideal := by
  intro m g m' g' _ hagree
  refine ⟨fun c => Kernel4Ideal.Product.grad (m (c.tc.loc Kernel4Ideal.main_arg0)) (m (c.tc.loc Kernel4Ideal.main_arg1)), ?_, ?_⟩
  · refine (θ_run _ _ _).mono (fun r h c => ?_) (Kernel4Ideal.Value.run_blocks (F := Ideal) m g)
    obtain ⟨h, hr⟩ := h c
    exact ⟨h.trans (Kernel4Ideal.Product.final m c), hr⟩
  · refine (θ_run _ _ _).mono (fun r h c => ?_) (Reference4Ideal.Value.run (F := Ideal) m' g')
    obtain ⟨h, hr⟩ := h c
    obtain ⟨e0, e1, e2⟩ := hagree c
    refine ⟨h.trans ((val_main_v2_eq _ _).trans ((dn_reference _ _).trans ?_)), hr⟩
    rw [e0, e1]

end Cert.Proof

end
-- ==== Proof.DwDown.lean ====
module

public import proofs.«01_k».proof.Defs
public import Idealize.ShloMosaic.Lib.Pipeline.ValueKit
public import Idealize.ShloMosaic.Lib.Pointwise
public import proofs.«01_k».proof.Proof.Gen.Kernel5Ideal.Value
public import proofs.«01_k».proof.Proof.Gen.Reference5Ideal.Read

@[expose] public section

set_option maxRecDepth 16384
set_option maxHeartbeats 2000000

/-!
The gradient of the down weights: the activations, transposed, times the gradient of the result.
-/

noncomputable section

namespace Cert.Kernel5Ideal.Product

open Cert.Kernel5Ideal Cert.Kernel5Ideal.Gen
open Idealize.ShloMosaic Idealize.ShloMosaic.TcCoe Idealize.ShloMosaic.Tactic

/-- The product, entry by entry. -/
def grad (a : FVec Ideal S2048x5632 .f32) (d : FVec Ideal S2048x2048 .f32) : FVec Ideal S5632x2048 .bf16 := fun y =>
  ∑ k : Fin 2048, a (ix2 k ⟨(y 0).val, (y 0).isLt⟩) * d (ix2 k ⟨(y 1).val, (y 1).isLt⟩)

/-- What a grid point computes from its blocks. -/
theorem block (a : FVec Ideal S2048x1408 .bf16) (d : FVec Ideal S2048x2048 .bf16) (y : S1408x2048.Idx) :
    out0_2 (F := Ideal) a d y = ∑ k : Fin 2048, a (ix2 k ⟨(y 0).val, (y 0).isLt⟩) * d (ix2 k ⟨(y 1).val, (y 1).isLt⟩) := by
  unfold out0_2
  frame_out
  pointwise [k0_pay1]

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] :=
  (by decide +kernel : ∀ t : Fin grid0.N, _)

theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2, block]
  unfold grad
  refine Finset.sum_congr (M := EReal) rfl fun k _ => ?_
  congr 1
  · blk_point [iblk, idx t]
  · blk_point [iblk, idx t]

end Cert.Kernel5Ideal.Product

namespace Cert.Proof

open Idealize.ShloMosaic Idealize.SL.Sem
open Cert.Reference5Ideal.Read

theorem dw_down_reference (a : FVec Ideal Kernel5Ideal.S2048x5632 .f32) (d : FVec Ideal Kernel5Ideal.S2048x2048 .f32) :
    val_main_v4 (F := Ideal) a d = Kernel5Ideal.Product.grad a d := by
  funext y
  show val_main_v3 (F := Ideal) a d y = _
  refine (val_main_v3_apply (F := Ideal) a d y).trans ((val_main_v2_apply a d _).trans ?_)
  refine Finset.sum_congr (M := EReal) rfl fun k _ => (mul_comm (G := EReal) _ _).trans ?_
  congr 1
  · congr 1
    funext x
    match x with
    | 0 => rfl
    | 1 => rfl
  · congr 1
    funext x
    match x with
    | 0 => rfl
    | 1 => rfl

theorem algebraic_dw_down : Cert.algebraic_Kernel5Ideal_Reference5Ideal := by
  intro m g m' g' _ hagree
  refine ⟨fun c => Kernel5Ideal.Product.grad (m (c.tc.loc Kernel5Ideal.main_arg0)) (m (c.tc.loc Kernel5Ideal.main_arg1)), ?_, ?_⟩
  · refine (θ_run _ _ _).mono (fun r h c => ?_) (Kernel5Ideal.Value.run_blocks (F := Ideal) m g)
    obtain ⟨h, hr⟩ := h c
    exact ⟨h.trans (Kernel5Ideal.Product.final m c), hr⟩
  · refine (θ_run _ _ _).mono (fun r h c => ?_) (Reference5Ideal.Value.run (F := Ideal) m' g')
    obtain ⟨h, hr⟩ := h c
    obtain ⟨e0, e1⟩ := hagree c
    refine ⟨h.trans ((val_main_v4_eq _ _).trans ((dw_down_reference _ _).trans ?_)), hr⟩
    rw [e0, e1]

end Cert.Proof

end
-- ==== Proof.Up.lean ====
module

public import proofs.«01_k».proof.Defs
public import Idealize.ShloMosaic.Lib.Pipeline.ValueKit
public import Idealize.ShloMosaic.Lib.Pointwise
public import proofs.«01_k».proof.Proof.Slab
public import proofs.«01_k».proof.Proof.Logistic
public import proofs.«01_k».proof.Proof.Gen.Kernel6Ideal.Value
public import proofs.«01_k».proof.Proof.Gen.Reference6Ideal.Read

@[expose] public section

set_option maxRecDepth 16384
set_option maxHeartbeats 2000000

/-!
The FFN's first product: the normalised rows times the gate and up weights, kept for the backward
pass in slabs, and the activation, the gate times its logistic times the up projection.
-/

noncomputable section

namespace Cert.Kernel6Ideal.Product

open Cert.Kernel6Ideal Cert.Kernel6Ideal.Gen
open Idealize.ShloMosaic Idealize.ShloMosaic.TcCoe Idealize.ShloMosaic.Tactic

/-- The product, entry by entry. -/
def wide (n : FVec Ideal S2048x2048 .f32) (w : FVec Ideal S2048x11264 .f32) : FVec Ideal S2048x11264 .f32 := fun y =>
  ∑ k : Fin 2048, n (ix2 ⟨(y 0).val, (y 0).isLt⟩ k) * w (ix2 k ⟨(y 1).val, (y 1).isLt⟩)

/-- The product in slabs. -/
def kept (n : FVec Ideal S2048x2048 .f32) (w : FVec Ideal S2048x11264 .f32) : FVec Ideal S4x2048x2816 .bf16 := Slab.slabs (wide n w)

/-- The activation of a gate and an up projection. -/
def act (g u : EReal) : EReal := g * Ideal.logistic g * u

/-- The activations: column `j` takes the gate's column `j` and the up projection's. -/
def acts (n : FVec Ideal S2048x2048 .f32) (w : FVec Ideal S2048x11264 .f32) : FVec Ideal S2048x5632 .bf16 := fun y =>
  act (wide n w (ix2 ⟨(y 0).val, (y 0).isLt⟩ ⟨(y 1).val, by have h : (y 1).val < 5632 := (y 1).isLt; omega⟩))
    (wide n w (ix2 ⟨(y 0).val, (y 0).isLt⟩ ⟨5632 + (y 1).val, by have h : (y 1).val < 5632 := (y 1).isLt; omega⟩))

/-- The product of two blocks. -/
def part (n : FVec Ideal S2048x2048 .bf16) (w : FVec Ideal S2x2048x256 .bf16) (s : Fin 2) (i : Fin 2048) (j : Fin 256) : EReal :=
  ∑ k : Fin 2048, n (ix2 i k) * w (ix3 s k j)

theorem block_kept (n : FVec Ideal S2048x2048 .bf16) (w : FVec Ideal S2x2048x256 .bf16) (y : S2x2048x256.Idx) :
    out0_2 (F := Ideal) n w y = part n w ⟨(y 0).val, (y 0).isLt⟩ ⟨(y 1).val, (y 1).isLt⟩ ⟨(y 2).val, (y 2).isLt⟩ := by
  unfold out0_2 part
  frame_out
  canon_tiles x h
  · pointwise [k0_pay5, k0_pay3, k0_pay1]
    rw [show y 0 = (1 : Fin 2) from Fin.ext (by show (y 0).val = 1; omega), show y 1 = x 1 from Fin.ext h1, show y 2 = x 2 from Fin.ext h2]
  · pointwise [k0_pay4, k0_pay2, k0_pay1]
    rw [show y 0 = (0 : Fin 2) from Fin.ext (by show (y 0).val = 0; omega), show y 1 = x 1 from Fin.ext h1, show y 2 = x 2 from Fin.ext h2]

theorem block_act (n : FVec Ideal S2048x2048 .bf16) (w : FVec Ideal S2x2048x256 .bf16) (y : S2048x256.Idx) :
    out0_3 (F := Ideal) n w y = act (part n w 0 ⟨(y 0).val, (y 0).isLt⟩ ⟨(y 1).val, (y 1).isLt⟩) (part n w 1 ⟨(y 0).val, (y 0).isLt⟩ ⟨(y 1).val, (y 1).isLt⟩) := by
  unfold out0_3 part act
  frame_out
  pointwise [k0_pay6, k0_pay3, k0_pay2, k0_pay1]

variable (m : (ℓ : Loc nD τ sig) → Buf (Elt Ideal) ℓ) (c : Dev nD)

theorem idx : ∀ t : Fin cfg0.N, win0_0.index t = ![0, 0] ∧ win0_1.index t = ![t.val / 11, 0, t.val % 11] ∧ win0_2.index t = ![t.val / 11, 0, t.val % 11]
    ∧ win0_3.index t = ![0, t.val] :=
  (by decide +kernel : ∀ t : Fin grid0.N, _)

/-- The region finds the weights in slabs. -/
theorem entered : (V m c main_v4 : FVec Ideal S4x2048x2816 .bf16) = Slab.slabs (m ((c : Thread nD τ).loc main_arg1)) := by
  exact Slab.of_casts (m ((c : Thread nD τ).loc main_arg1)) (by decide) (by decide) (by decide)

/-- A point's product is a block of the whole: of the gate's columns, or of the up projection's. -/
theorem part_eq (t : Fin cfg0.N) (s : Fin 2) (i : Fin 2048) (j : Fin 256) (p : Fin 11264) (hp : p.val = 5632 * s.val + (t.val * 256 + j.val)) :
    part (iblk m c 0 t) (iblk m c 1 t) s i j = wide (m ((c : Thread nD τ).loc main_arg0)) (m ((c : Thread nD τ).loc main_arg1)) (ix2 i p) := by
  have hN : t.val < 22 := lt_of_lt_of_eq t.isLt N_0
  unfold part wide
  refine Finset.sum_congr (M := EReal) rfl fun k _ => ?_
  congr 1
  · blk_point [iblk, idx t]
  · refine (congrArg (fun z : FVec Ideal S4x2048x2816 .bf16 => (((cfg0.win 1).blk t).view.read (Elt Ideal) z) _) (entered m c)).trans ?_
    unfold Slab.slabs
    blk_point [idx t]
    show 5632 * ((t.val / 11 * 2 + s.val) % 2) + 2816 * ((t.val / 11 * 2 + s.val) / 2) + (t.val % 11 * 256 + j.val) = p.val
    omega

theorem final_kept : (dats m 0 c).arrAt 2 cfg0.N = kept (m ((c : Thread nD τ).loc main_arg0)) (m ((c : Thread nD τ).loc main_arg1)) := by
  refine (dats m 0 c).arrAt_eq_of_covers 2 _ (by decide +kernel) fun t hf y => ?_
  have hN : t.val < 22 := lt_of_lt_of_eq t.isLt N_0
  have y0 : (y 0).val < 2 := (y 0).isLt
  have y2 : (y 2).val < 256 := (y 2).isLt
  blk_simp
  rw [after0_2, block_kept]
  refine (part_eq m c t _ _ _ ⟨5632 * (y 0).val + (t.val * 256 + (y 2).val), by omega⟩ rfl).trans ?_
  unfold kept Slab.slabs
  blk_point [idx t]
  show _ = 5632 * ((win0_2.index t 0 * 2 + 1 * (y 0).val) % 2) + 2816 * ((win0_2.index t 0 * 2 + 1 * (y 0).val) / 2) + (win0_2.index t 2 * 256 + 1 * (y 2).val)
  rw [(idx t).2.2.1]
  show 5632 * (y 0).val + (t.val * 256 + (y 2).val) = 5632 * ((t.val / 11 * 2 + 1 * (y 0).val) % 2) + 2816 * ((t.val / 11 * 2 + 1 * (y 0).val) / 2) + (t.val % 11 * 256 + 1 * (y 2).val)
  omega

theorem final_acts : (dats m 0 c).arrAt 3 cfg0.N = acts (m ((c : Thread nD τ).loc main_arg0)) (m ((c : Thread nD τ).loc main_arg1)) := by
  refine (dats m 0 c).arrAt_eq_of_covers 3 _ (by decide +kernel) fun t hf y => ?_
  have hN : t.val < 22 := lt_of_lt_of_eq t.isLt N_0
  have y1 : (y 1).val < 256 := (y 1).isLt
  blk_simp
  rw [after0_3, block_act]
  refine (congrArg₂ act (part_eq m c t 0 _ _ ⟨t.val * 256 + (y 1).val, by omega⟩ (by show t.val * 256 + (y 1).val = 5632 * 0 + (t.val * 256 + (y 1).val); omega))
    (part_eq m c t 1 _ _ ⟨5632 + (t.val * 256 + (y 1).val), by omega⟩ (by show 5632 + (t.val * 256 + (y 1).val) = 5632 * 1 + (t.val * 256 + (y 1).val); omega))).trans ?_
  unfold acts
  refine congrArg₂ act ?_ ?_
  · blk_point [idx t]
  · blk_point [idx t]

end Cert.Kernel6Ideal.Product

namespace Cert.Proof

open Idealize.ShloMosaic Idealize.SL.Sem
open Cert.Reference6Ideal.Read

theorem up_wide (n : FVec Ideal Kernel6Ideal.S2048x2048 .f32) (w : FVec Ideal Kernel6Ideal.S2048x11264 .f32) :
    val_main_v0 (F := Ideal) n w = Kernel6Ideal.Product.wide n w := by
  funext y
  refine (val_main_v0_apply n w y).trans ?_
  refine Finset.sum_congr (M := EReal) rfl fun k _ => ?_
  congr 1
  · congr 1
    funext x
    match x with
    | 0 => rfl
    | 1 => rfl
  · congr 1
    funext x
    match x with
    | 0 => rfl
    | 1 => rfl

theorem up_kept (n : FVec Ideal Kernel6Ideal.S2048x2048 .f32) (w : FVec Ideal Kernel6Ideal.S2048x11264 .f32) :
    val_main_v12 (F := Ideal) n w = Kernel6Ideal.Product.kept n w := by
  show val_main_v11 (F := Ideal) n w = _
  unfold Kernel6Ideal.Product.kept
  rw [← up_wide]
  exact Slab.of_slices (val_main_v0 (F := Ideal) n w) (by decide) (by decide) (by decide) (by decide) (by decide) (by decide)

theorem up_acts (n : FVec Ideal Kernel6Ideal.S2048x2048 .f32) (w : FVec Ideal Kernel6Ideal.S2048x11264 .f32) :
    val_main_v17 (F := Ideal) n w = Kernel6Ideal.Product.acts n w := by
  funext y
  show val_main_v16 (F := Ideal) n w y = _
  have hg : val_main_v13 (F := Ideal) n w y = Kernel6Ideal.Product.wide n w (ix2 ⟨(y 0).val, (y 0).isLt⟩ ⟨(y 1).val, by have h : (y 1).val < 5632 := (y 1).isLt; omega⟩) := by
    refine (val_main_v13_apply (F := Ideal) n w y).trans ?_
    rw [up_wide]
    rfl
  have hu : val_main_v14 (F := Ideal) n w y = Kernel6Ideal.Product.wide n w (ix2 ⟨(y 0).val, (y 0).isLt⟩ ⟨5632 + (y 1).val, by have h : (y 1).val < 5632 := (y 1).isLt; omega⟩) := by
    refine (val_main_v14_apply (F := Ideal) n w y).trans ?_
    rw [up_wide]
    rfl
  have hs : val_main_call0_v5 (F := Ideal) n w y = Ideal.logistic (val_main_v13 (F := Ideal) n w y) := by
    refine Eq.trans ?_ (logistic_host _)
    refine (val_main_call0_v5_apply (F := Ideal) n w y).trans ?_
    rw [val_main_call0_v4_apply, val_main_call0_v3_apply, val_main_call0_v2_apply, val_main_call0_v1_apply, val_main_call0_v0_apply]
    rfl
  refine (val_main_v16_apply (F := Ideal) n w y).trans ?_
  rw [val_main_v15_apply, hs, hg, hu]
  rfl

theorem algebraic_up : Cert.algebraic_Kernel6Ideal_Reference6Ideal := by
  intro m g m' g' _ hagree
  refine ⟨fun c => Kernel6Ideal.Product.kept (m (c.tc.loc Kernel6Ideal.main_arg0)) (m (c.tc.loc Kernel6Ideal.main_arg1)),
    fun c => Kernel6Ideal.Product.acts (m (c.tc.loc Kernel6Ideal.main_arg0)) (m (c.tc.loc Kernel6Ideal.main_arg1)), ?_, ?_⟩
  · refine (θ_run _ _ _).mono (fun r h c => ?_) (Kernel6Ideal.Value.run_blocks (F := Ideal) m g)
    obtain ⟨h, h', hr⟩ := h c
    exact ⟨h.trans (Kernel6Ideal.Product.final_kept m c), h'.trans (Kernel6Ideal.Product.final_acts m c), hr⟩
  · refine (θ_run _ _ _).mono (fun r h c => ?_) (Reference6Ideal.Value.run (F := Ideal) m' g')
    obtain ⟨h, h', hr⟩ := h c
    obtain ⟨e0, e1⟩ := hagree c
    refine ⟨h.trans ((val_main_v12_eq _ _).trans ((up_kept _ _).trans ?_)), h'.trans ((val_main_v17_eq _ _).trans ((up_acts _ _).trans ?_)), hr⟩
    · rw [e0, e1]
    · rw [e0, e1]

end Cert.Proof

end
-- ==== Proof.Down.lean ====
module

public import proofs.«01_k».proof.Defs
public import Idealize.ShloMosaic.Lib.Pipeline.ValueKit
public import Idealize.ShloMosaic.Lib.Pointwise
public import proofs.«01_k».proof.Proof.Gen.Kernel7Ideal.Value
public import proofs.«01_k».proof.Proof.Gen.Reference7Ideal.Read

@[expose] public section

set_option maxRecDepth 16384
set_option maxHeartbeats 2000000

/-!
The down projection: the activations times the down weights, and the residual.
-/

noncomputable section

namespace Cert.Kernel7Ideal.Product

open Cert.Kernel7Ideal Cert.Kernel7Ideal.Gen
open Idealize.ShloMosaic Idealize.ShloMosaic.TcCoe Idealize.ShloMosaic.Tactic

/-- The result, entry by entry. -/
def result (a : FVec Ideal S2048x5632 .f32) (w : FVec Ideal S5632x2048 .f32) (h : FVec Ideal S2048x2048 .f32) : FVec Ideal S2048x2048 .f32 := fun y =>
  (∑ k : Fin 5632, a (ix2 ⟨(y 0).val, (y 0).isLt⟩ k) * w (ix2 k ⟨(y 1).val, (y 1).isLt⟩)) + h y

/-- What a grid point computes from its blocks. -/
theorem block (a : FVec Ideal S1024x5632 .bf16) (w : FVec Ideal S5632x256 .bf16) (h : FVec Ideal S1024x256 .f32) (y : S1024x256.Idx) :
    out0_3 (F := Ideal) a w h y = (∑ k : Fin 5632, a (ix2 ⟨(y 0).val, (y 0).isLt⟩ k) * w (ix2 k ⟨(y 1).val, (y 1).isLt⟩)) + h y := by
  unfold out0_3
  frame_out
  pointwise [k0_pay1]

variable (m : (ℓ : Loc nD τ sig) → Buf (Elt Ideal) ℓ) (c : Dev nD)

theorem idx : ∀ t : Fin cfg0.N, win0_0.index t = ![t.val / 8, 0] ∧ win0_1.index t = ![0, t.val % 8] ∧ win0_2.index t = ![t.val / 8, t.val % 8]
    ∧ win0_3.index t = ![t.val / 8, t.val % 8] :=
  (by decide +kernel : ∀ t : Fin grid0.N, _)

theorem final : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, block]
  unfold result
  refine congrArg₂ (fun p q : EReal => p + q) ?_ ?_
  · refine Finset.sum_congr (M := EReal) rfl fun k _ => ?_
    congr 1
    · blk_point [iblk, idx t]
    · blk_point [iblk, idx t]
  · blk_point [iblk, idx t]

end Cert.Kernel7Ideal.Product

namespace Cert.Proof

open Idealize.ShloMosaic Idealize.SL.Sem
open Cert.Reference7Ideal.Read

theorem down_reference (a : FVec Ideal Kernel7Ideal.S2048x5632 .f32) (w : FVec Ideal Kernel7Ideal.S5632x2048 .f32) (h : FVec Ideal Kernel7Ideal.S2048x2048 .f32) :
    val_main_v1 (F := Ideal) a w h = Kernel7Ideal.Product.result a w h := by
  funext y
  refine (val_main_v1_apply (F := Ideal) a w h y).trans ((add_comm (G := EReal) _ _).trans ?_)
  refine congrArg (fun p : EReal => p + h y) ((val_main_v0_apply a w y).trans ?_)
  refine Finset.sum_congr (M := EReal) rfl fun k _ => ?_
  congr 1
  · congr 1
    funext x
    match x with
    | 0 => rfl
    | 1 => rfl
  · congr 1
    funext x
    match x with
    | 0 => rfl
    | 1 => rfl

theorem algebraic_down : Cert.algebraic_Kernel7Ideal_Reference7Ideal := by
  intro m g m' g' _ hagree
  refine ⟨fun c => Kernel7Ideal.Product.result (m (c.tc.loc Kernel7Ideal.main_arg0)) (m (c.tc.loc Kernel7Ideal.main_arg1)) (m (c.tc.loc Kernel7Ideal.main_arg2)), ?_, ?_⟩
  · refine (θ_run _ _ _).mono (fun r h c => ?_) (Kernel7Ideal.Value.run_blocks (F := Ideal) m g)
    obtain ⟨h, hr⟩ := h c
    exact ⟨h.trans (Kernel7Ideal.Product.final m c), hr⟩
  · refine (θ_run _ _ _).mono (fun r h c => ?_) (Reference7Ideal.Value.run (F := Ideal) m' g')
    obtain ⟨h, hr⟩ := h c
    obtain ⟨e0, e1, e2⟩ := hagree c
    refine ⟨h.trans ((val_main_v1_eq _ _ _).trans ((down_reference _ _ _).trans ?_)), hr⟩
    rw [e0, e1, e2]

end Cert.Proof

end
-- ==== Proof.Out.lean ====
module

public import proofs.«01_k».proof.Defs
public import Idealize.ShloMosaic.Lib.Pipeline.ValueKit
public import Idealize.ShloMosaic.Lib.Pointwise
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read

@[expose] public section

set_option maxRecDepth 16384
set_option maxHeartbeats 2000000

/-!
The out projection with its residual, and its two gradients.
-/

noncomputable section

namespace Cert.Kernel8Ideal.Product

open Cert.Kernel8Ideal Cert.Kernel8Ideal.Gen
open Idealize.ShloMosaic Idealize.ShloMosaic.TcCoe Idealize.ShloMosaic.Tactic

/-- The gradient of the weights: the mixed heads, transposed, times the gradient of the result. -/
def result (a : FVec Ideal S2048x2048 .f32) (b : FVec Ideal S2048x2048 .f32) : FVec Ideal S2048x2048 .bf16 := fun y =>
  ∑ k : Fin 2048, a (ix2 k ⟨(y 0).val, (y 0).isLt⟩) * b (ix2 k ⟨(y 1).val, (y 1).isLt⟩)

/-- What a grid point computes from its blocks. -/
theorem block (a : FVec Ideal S2048x2048 .bf16) (b : FVec Ideal S2048x1024 .f32) (y : S2048x1024.Idx) :
    out0_2 (F := Ideal) a b y = ∑ k : Fin 2048, a (ix2 k ⟨(y 0).val, (y 0).isLt⟩) * b (ix2 k ⟨(y 1).val, (y 1).isLt⟩) := by
  unfold out0_2
  frame_out
  pointwise [k0_pay1]

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

theorem final : (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, block]
  unfold result
  refine Finset.sum_congr (M := EReal) rfl fun k _ => ?_
  congr 1
  · blk_point [iblk, idx t]
  · blk_point [iblk, idx t]

end Cert.Kernel8Ideal.Product

namespace Cert.Proof

open Idealize.ShloMosaic Idealize.SL.Sem
open Cert.Reference8Ideal.Read in
theorem dw_out_reference (a : FVec Ideal Kernel8Ideal.S2048x2048 .f32) (b : FVec Ideal Kernel8Ideal.S2048x2048 .f32) :
    val_main_v4 (F := Ideal) a b = Kernel8Ideal.Product.result a b := by
  funext y
  show val_main_v3 (F := Ideal) a b y = _
  refine (val_main_v3_apply (F := Ideal) a b y).trans ((val_main_v2_apply a b _).trans ?_)
  refine Finset.sum_congr (M := EReal) rfl fun k _ => (mul_comm (G := EReal) _ _).trans ?_
  congr 1
  · congr 1
    funext x
    match x with
    | 0 => rfl
    | 1 => rfl
  · congr 1
    funext x
    match x with
    | 0 => rfl
    | 1 => rfl

theorem algebraic_dw_out : Cert.algebraic_Kernel8Ideal_Reference8Ideal := by
  intro m g m' g' _ hagree
  refine ⟨fun c => Kernel8Ideal.Product.result (m (c.tc.loc Kernel8Ideal.main_arg0)) (m (c.tc.loc Kernel8Ideal.main_arg1)), ?_, ?_⟩
  · refine (θ_run _ _ _).mono (fun r h c => ?_) (Kernel8Ideal.Value.run_blocks (F := Ideal) m g)
    obtain ⟨h, hr⟩ := h c
    exact ⟨h.trans (Kernel8Ideal.Product.final m c), hr⟩
  · refine (θ_run _ _ _).mono (fun r h c => ?_) (Reference8Ideal.Value.run (F := Ideal) m' g')
    obtain ⟨h, hr⟩ := h c
    obtain ⟨e0, e1⟩ := hagree c
    refine ⟨h.trans ((Reference8Ideal.Read.val_main_v4_eq _ _).trans ((dw_out_reference _ _).trans ?_)), hr⟩
    rw [e0, e1]

end Cert.Proof

namespace Cert.Kernel9Ideal.Product

open Cert.Kernel9Ideal Cert.Kernel9Ideal.Gen
open Idealize.ShloMosaic Idealize.ShloMosaic.TcCoe Idealize.ShloMosaic.Tactic

/-- The gradient of the mixed heads: the gradient of the result times the weights, transposed. -/
def result (a : FVec Ideal S2048x2048 .f32) (b : FVec Ideal S2048x2048 .f32) : FVec Ideal S2048x2048 .f32 := fun y =>
  ∑ k : Fin 2048, a (ix2 ⟨(y 0).val, (y 0).isLt⟩ k) * b (ix2 ⟨(y 1).val, (y 1).isLt⟩ k)

/-- What a grid point computes from its blocks. -/
theorem block (a : FVec Ideal S2048x2048 .f32) (b : FVec Ideal S256x2048 .bf16) (s : FVec Ideal S8x128 .f32) (y : S2048x256.Idx) :
    out0_3 (F := Ideal) a b s y = ∑ k : Fin 2048, a (ix2 ⟨(y 0).val, (y 0).isLt⟩ k) * b (ix2 ⟨(y 1).val, (y 1).isLt⟩ k) := by
  unfold out0_3
  frame_out
  pointwise [k0_pay1]

variable (m : (ℓ : Loc nD τ sig) → Buf (Elt Ideal) ℓ) (c : Dev nD)

theorem idx : ∀ t : Fin cfg0.N, win0_0.index t = ![0, 0] ∧ win0_1.index t = ![t.val, 0] ∧ win0_3.index t = ![0, t.val] :=
  (by decide +kernel : ∀ t : Fin grid0.N, _)

theorem final : (dats m 0 c).arrAt 3 cfg0.N = result (m ((c : Thread nD τ).loc main_arg0)) (m ((c : Thread nD τ).loc main_arg1)) := by
  refine (dats m 0 c).arrAt_eq_of_covers 3 _ (by decide +kernel) fun t hf y => ?_
  blk_simp
  rw [after0_3, block]
  unfold result
  refine Finset.sum_congr (M := EReal) rfl fun k _ => ?_
  congr 1
  · blk_point [iblk, idx t]
  · blk_point [iblk, idx t]

end Cert.Kernel9Ideal.Product

namespace Cert.Proof

open Idealize.ShloMosaic Idealize.SL.Sem
open Cert.Reference9Ideal.Read in
theorem dmix_reference (a : FVec Ideal Kernel9Ideal.S2048x2048 .f32) (b : FVec Ideal Kernel9Ideal.S2048x2048 .f32) :
    val_main_v2 (F := Ideal) a b = Kernel9Ideal.Product.result a b := by
  funext y
  refine (val_main_v2_apply a b y).trans ?_
  refine Finset.sum_congr (M := EReal) rfl fun k _ => ?_
  congr 1
  · congr 1
    funext x
    match x with
    | 0 => rfl
    | 1 => rfl
  · congr 1
    funext x
    match x with
    | 0 => rfl
    | 1 => rfl

theorem algebraic_dmix : Cert.algebraic_Kernel9Ideal_Reference9Ideal := by
  intro m g m' g' _ hagree
  refine ⟨fun c => Kernel9Ideal.Product.result (m (c.tc.loc Kernel9Ideal.main_arg0)) (m (c.tc.loc Kernel9Ideal.main_arg1)), ?_, ?_⟩
  · refine (θ_run _ _ _).mono (fun r h c => ?_) (Kernel9Ideal.Value.run_blocks (F := Ideal) m g)
    obtain ⟨h, hr⟩ := h c
    exact ⟨h.trans (Kernel9Ideal.Product.final m c), hr⟩
  · refine (θ_run _ _ _).mono (fun r h c => ?_) (Reference9Ideal.Value.run (F := Ideal) m' g')
    obtain ⟨h, hr⟩ := h c
    obtain ⟨e0, e1, e2⟩ := hagree c
    refine ⟨h.trans ((Reference9Ideal.Read.val_main_v2_eq _ _).trans ((dmix_reference _ _).trans ?_)), hr⟩
    rw [e0, e1]

end Cert.Proof

namespace Cert.Kernel10Ideal.Product

open Cert.Kernel10Ideal Cert.Kernel10Ideal.Gen
open Idealize.ShloMosaic Idealize.ShloMosaic.TcCoe Idealize.ShloMosaic.Tactic

/-- The mixed heads times the weights, and the residual. -/
def result (a : FVec Ideal S2048x2048 .f32) (b : FVec Ideal S2048x2048 .f32) (h : FVec Ideal S2048x2048 .f32) : FVec Ideal S2048x2048 .f32 := fun y =>
  (∑ k : Fin 2048, a (ix2 ⟨(y 0).val, (y 0).isLt⟩ k) * b (ix2 k ⟨(y 1).val, (y 1).isLt⟩)) + h y

/-- What a grid point computes from its blocks. -/
theorem block (a : FVec Ideal S2048x2048 .bf16) (b : FVec Ideal S2048x512 .bf16) (h : FVec Ideal S2048x512 .f32) (y : S2048x512.Idx) :
    out0_3 (F := Ideal) a b h y = (∑ k : Fin 2048, a (ix2 ⟨(y 0).val, (y 0).isLt⟩ k) * b (ix2 k ⟨(y 1).val, (y 1).isLt⟩)) + h y := by
  unfold out0_3
  frame_out
  pointwise [k0_pay1]

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

theorem final : (dats m 0 c).arrAt 3 cfg0.N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, block]
  unfold result
  refine congrArg₂ (fun p q : EReal => p + q) ?_ ?_
  · refine Finset.sum_congr (M := EReal) rfl fun k _ => ?_
    congr 1
    · blk_point [iblk, idx t]
    · blk_point [iblk, idx t]
  · blk_point [iblk, idx t]

end Cert.Kernel10Ideal.Product

namespace Cert.Proof

open Idealize.ShloMosaic Idealize.SL.Sem
open Cert.Reference10Ideal.Read in
theorem out_reference (a : FVec Ideal Kernel10Ideal.S2048x2048 .f32) (b : FVec Ideal Kernel10Ideal.S2048x2048 .f32) (h : FVec Ideal Kernel10Ideal.S2048x2048 .f32) :
    val_main_v1 (F := Ideal) a b h = Kernel10Ideal.Product.result a b h := by
  funext y
  refine (val_main_v1_apply (F := Ideal) a b h y).trans ((add_comm (G := EReal) _ _).trans ?_)
  refine congrArg (fun p : EReal => p + h y) ((val_main_v0_apply a b y).trans ?_)
  refine Finset.sum_congr (M := EReal) rfl fun k _ => ?_
  congr 1
  · congr 1
    funext x
    match x with
    | 0 => rfl
    | 1 => rfl
  · congr 1
    funext x
    match x with
    | 0 => rfl
    | 1 => rfl

theorem algebraic_out : Cert.algebraic_Kernel10Ideal_Reference10Ideal := by
  intro m g m' g' _ hagree
  refine ⟨fun c => Kernel10Ideal.Product.result (m (c.tc.loc Kernel10Ideal.main_arg0)) (m (c.tc.loc Kernel10Ideal.main_arg1)) (m (c.tc.loc Kernel10Ideal.main_arg2)), ?_, ?_⟩
  · refine (θ_run _ _ _).mono (fun r h c => ?_) (Kernel10Ideal.Value.run_blocks (F := Ideal) m g)
    obtain ⟨h, hr⟩ := h c
    exact ⟨h.trans (Kernel10Ideal.Product.final m c), hr⟩
  · refine (θ_run _ _ _).mono (fun r h c => ?_) (Reference10Ideal.Value.run (F := Ideal) m' g')
    obtain ⟨h, hr⟩ := h c
    obtain ⟨e0, e1, e2⟩ := hagree c
    refine ⟨h.trans ((Reference10Ideal.Read.val_main_v1_eq _ _ _).trans ((out_reference _ _ _).trans ?_)), hr⟩
    rw [e0, e1, e2]

end Cert.Proof

end
-- ==== Proof.Memory.lean ====
module

public import proofs.«01_k».proof.Defs
public import Idealize.ShloMosaic.Lib.Pipeline.ValueKit
public import Idealize.ShloMosaic.Lib.Pointwise
public import proofs.«01_k».proof.Proof.Gen.Kernel11Ideal.Value
public import proofs.«01_k».proof.Proof.Gen.Reference11Ideal.Read
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read

@[expose] public section

set_option maxRecDepth 16384
set_option maxHeartbeats 2000000

/-!
The keys and values of the memory, and the two gradients of their projection.
-/

noncomputable section

namespace Cert.Kernel11Ideal.Product

open Cert.Kernel11Ideal Cert.Kernel11Ideal.Gen
open Idealize.ShloMosaic Idealize.ShloMosaic.TcCoe Idealize.ShloMosaic.Tactic

/-- The gradient of the weights: the normed memory, transposed, times the gradient of the keys and values. -/
def result (a : FVec Ideal S256x2048 .f32) (b : FVec Ideal S256x1024 .f32) : FVec Ideal S2048x1024 .bf16 := fun y =>
  ∑ k : Fin 256, a (ix2 k ⟨(y 0).val, (y 0).isLt⟩) * b (ix2 k ⟨(y 1).val, (y 1).isLt⟩)

/-- What a grid point computes from its blocks. -/
theorem block (a : FVec Ideal S256x2048 .bf16) (b : FVec Ideal S256x1024 .f32) (y : S2048x1024.Idx) :
    out0_2 (F := Ideal) a b y = ∑ k : Fin 256, a (ix2 k ⟨(y 0).val, (y 0).isLt⟩) * b (ix2 k ⟨(y 1).val, (y 1).isLt⟩) := by
  unfold out0_2
  frame_out
  pointwise [k0_pay1]

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

theorem final : (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, block]
  unfold result
  refine Finset.sum_congr (M := EReal) rfl fun k _ => ?_
  congr 1
  · blk_point [iblk, idx t]
  · blk_point [iblk, idx t]

end Cert.Kernel11Ideal.Product

namespace Cert.Proof

open Idealize.ShloMosaic Idealize.SL.Sem
open Cert.Reference11Ideal.Read in
theorem dw_memkv_reference (a : FVec Ideal Kernel11Ideal.S256x2048 .f32) (b : FVec Ideal Kernel11Ideal.S256x1024 .f32) :
    val_main_v4 (F := Ideal) a b = Kernel11Ideal.Product.result a b := by
  funext y
  show val_main_v3 (F := Ideal) a b y = _
  refine (val_main_v3_apply (F := Ideal) a b y).trans ((val_main_v2_apply a b _).trans ?_)
  refine Finset.sum_congr (M := EReal) rfl fun k _ => (mul_comm (G := EReal) _ _).trans ?_
  congr 1
  · congr 1
    funext x
    match x with
    | 0 => rfl
    | 1 => rfl
  · congr 1
    funext x
    match x with
    | 0 => rfl
    | 1 => rfl

theorem algebraic_dw_memkv : Cert.algebraic_Kernel11Ideal_Reference11Ideal := by
  intro m g m' g' _ hagree
  refine ⟨fun c => Kernel11Ideal.Product.result (m (c.tc.loc Kernel11Ideal.main_arg0)) (m (c.tc.loc Kernel11Ideal.main_arg1)), ?_, ?_⟩
  · refine (θ_run _ _ _).mono (fun r h c => ?_) (Kernel11Ideal.Value.run_blocks (F := Ideal) m g)
    obtain ⟨h, hr⟩ := h c
    exact ⟨h.trans (Kernel11Ideal.Product.final m c), hr⟩
  · refine (θ_run _ _ _).mono (fun r h c => ?_) (Reference11Ideal.Value.run (F := Ideal) m' g')
    obtain ⟨h, hr⟩ := h c
    obtain ⟨e0, e1⟩ := hagree c
    refine ⟨h.trans ((Reference11Ideal.Read.val_main_v4_eq _ _).trans ((dw_memkv_reference _ _).trans ?_)), hr⟩
    rw [e0, e1]

end Cert.Proof

namespace Cert.Kernel12Ideal.Product

open Cert.Kernel12Ideal Cert.Kernel12Ideal.Gen
open Idealize.ShloMosaic Idealize.ShloMosaic.TcCoe Idealize.ShloMosaic.Tactic

/-- The gradient of the normed memory: the gradient of the keys and values times the weights, transposed. -/
def result (a : FVec Ideal S256x1024 .f32) (b : FVec Ideal S2048x1024 .f32) : FVec Ideal S256x2048 .f32 := fun y =>
  ∑ k : Fin 1024, a (ix2 ⟨(y 0).val, (y 0).isLt⟩ k) * b (ix2 ⟨(y 1).val, (y 1).isLt⟩ k)

/-- What a grid point computes from its blocks. -/
theorem block (a : FVec Ideal S256x1024 .f32) (b : FVec Ideal S2048x1024 .bf16) (s : FVec Ideal S8x128 .f32) (y : S256x2048.Idx) :
    out0_3 (F := Ideal) a b s y = ∑ k : Fin 1024, a (ix2 ⟨(y 0).val, (y 0).isLt⟩ k) * b (ix2 ⟨(y 1).val, (y 1).isLt⟩ k) := by
  unfold out0_3
  frame_out
  pointwise [k0_pay1]

variable (m : (ℓ : Loc nD τ sig) → Buf (Elt Ideal) ℓ) (c : Dev nD)

theorem idx : ∀ t : Fin cfg0.N, win0_0.index t = ![0, 0] ∧ win0_1.index t = ![0, 0] ∧ win0_3.index t = ![0, 0] :=
  (by decide +kernel : ∀ t : Fin grid0.N, _)

theorem final : (dats m 0 c).arrAt 3 cfg0.N = result (m ((c : Thread nD τ).loc main_arg0)) (m ((c : Thread nD τ).loc main_arg1)) := by
  refine (dats m 0 c).arrAt_eq_of_covers 3 _ (by decide +kernel) fun t hf y => ?_
  blk_simp
  rw [after0_3, block]
  unfold result
  refine Finset.sum_congr (M := EReal) rfl fun k _ => ?_
  congr 1
  · blk_point [iblk, idx t]
  · blk_point [iblk, idx t]

end Cert.Kernel12Ideal.Product

namespace Cert.Proof

open Idealize.ShloMosaic Idealize.SL.Sem
open Cert.Reference12Ideal.Read in
theorem dmem_reference (a : FVec Ideal Kernel12Ideal.S256x1024 .f32) (b : FVec Ideal Kernel12Ideal.S2048x1024 .f32) :
    val_main_v2 (F := Ideal) a b = Kernel12Ideal.Product.result a b := by
  funext y
  refine (val_main_v2_apply a b y).trans ?_
  refine Finset.sum_congr (M := EReal) rfl fun k _ => ?_
  congr 1
  · congr 1
    funext x
    match x with
    | 0 => rfl
    | 1 => rfl
  · congr 1
    funext x
    match x with
    | 0 => rfl
    | 1 => rfl

theorem algebraic_dmem : Cert.algebraic_Kernel12Ideal_Reference12Ideal := by
  intro m g m' g' _ hagree
  refine ⟨fun c => Kernel12Ideal.Product.result (m (c.tc.loc Kernel12Ideal.main_arg0)) (m (c.tc.loc Kernel12Ideal.main_arg1)), ?_, ?_⟩
  · refine (θ_run _ _ _).mono (fun r h c => ?_) (Kernel12Ideal.Value.run_blocks (F := Ideal) m g)
    obtain ⟨h, hr⟩ := h c
    exact ⟨h.trans (Kernel12Ideal.Product.final m c), hr⟩
  · refine (θ_run _ _ _).mono (fun r h c => ?_) (Reference12Ideal.Value.run (F := Ideal) m' g')
    obtain ⟨h, hr⟩ := h c
    obtain ⟨e0, e1, e2⟩ := hagree c
    refine ⟨h.trans ((Reference12Ideal.Read.val_main_v2_eq _ _).trans ((dmem_reference _ _).trans ?_)), hr⟩
    rw [e0, e1]

end Cert.Proof

namespace Cert.Kernel13Ideal.Product

open Cert.Kernel13Ideal Cert.Kernel13Ideal.Gen
open Idealize.ShloMosaic Idealize.ShloMosaic.TcCoe Idealize.ShloMosaic.Tactic

/-- The normed memory times the weights. -/
def result (a : FVec Ideal S256x2048 .f32) (b : FVec Ideal S2048x1024 .f32) : FVec Ideal S256x1024 .f32 := fun y =>
  ∑ k : Fin 2048, a (ix2 ⟨(y 0).val, (y 0).isLt⟩ k) * b (ix2 k ⟨(y 1).val, (y 1).isLt⟩)

/-- What a grid point computes from its blocks. -/
theorem block (a : FVec Ideal S256x2048 .bf16) (b : FVec Ideal S2048x1024 .bf16) (y : S256x1024.Idx) :
    out0_2 (F := Ideal) a b y = ∑ k : Fin 2048, a (ix2 ⟨(y 0).val, (y 0).isLt⟩ k) * b (ix2 k ⟨(y 1).val, (y 1).isLt⟩) := by
  unfold out0_2
  frame_out
  pointwise [k0_pay1]

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

theorem final : (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, block]
  unfold result
  refine Finset.sum_congr (M := EReal) rfl fun k _ => ?_
  congr 1
  · blk_point [iblk, idx t]
  · blk_point [iblk, idx t]

end Cert.Kernel13Ideal.Product

namespace Cert.Proof

open Idealize.ShloMosaic Idealize.SL.Sem
open Cert.Reference13Ideal.Read in
theorem memkv_reference (a : FVec Ideal Kernel13Ideal.S256x2048 .f32) (b : FVec Ideal Kernel13Ideal.S2048x1024 .f32) :
    val_main_v0 (F := Ideal) a b = Kernel13Ideal.Product.result a b := by
  funext y
  refine (val_main_v0_apply a b y).trans ?_
  refine Finset.sum_congr (M := EReal) rfl fun k _ => ?_
  congr 1
  · congr 1
    funext x
    match x with
    | 0 => rfl
    | 1 => rfl
  · congr 1
    funext x
    match x with
    | 0 => rfl
    | 1 => rfl

theorem algebraic_memkv : Cert.algebraic_Kernel13Ideal_Reference13Ideal := by
  intro m g m' g' _ hagree
  refine ⟨fun c => Kernel13Ideal.Product.result (m (c.tc.loc Kernel13Ideal.main_arg0)) (m (c.tc.loc Kernel13Ideal.main_arg1)), ?_, ?_⟩
  · refine (θ_run _ _ _).mono (fun r h c => ?_) (Kernel13Ideal.Value.run_blocks (F := Ideal) m g)
    obtain ⟨h, hr⟩ := h c
    exact ⟨h.trans (Kernel13Ideal.Product.final m c), hr⟩
  · refine (θ_run _ _ _).mono (fun r h c => ?_) (Reference13Ideal.Value.run (F := Ideal) m' g')
    obtain ⟨h, hr⟩ := h c
    obtain ⟨e0, e1⟩ := hagree c
    refine ⟨h.trans ((Reference13Ideal.Read.val_main_v0_eq _ _).trans ((memkv_reference _ _).trans ?_)), hr⟩
    rw [e0, e1]

end Cert.Proof

end
-- ==== Proof.Regroup.lean ====
module

public import proofs.«01_k».proof.Defs
public import Idealize.ShloMosaic.Lib.Pipeline.ValueKit
public import Idealize.ShloMosaic.Lib.Pointwise

@[expose] public section

set_option maxRecDepth 16384
set_option maxHeartbeats 2000000

/-!
The two groups into which the 5906 columns of the in projection are parted. The early group, of
2560 columns, holds columns 0 to 2309, columns 5382 to 5393 and then 238 columns of zeros; the late
group, of 3584, holds columns 2310 to 5381 and columns 5394 to 5905.
-/

noncomputable section

namespace Cert.Regroup

open Idealize.ShloMosaic Idealize.ShloMosaic.Tactic

abbrev Rows (r n : ℕ) : Shape := ⟨2, ![r, n]⟩
abbrev Cols (n : ℕ) : Shape := Rows 2048 n

/-- An entry by its row and its column. -/
theorem entry {n : ℕ} (y : (Cols n).Idx) : y = ix2 (⟨(y 0).val, (y 0).isLt⟩ : Fin 2048) (⟨(y 1).val, (y 1).isLt⟩ : Fin n) := by
  funext t
  match t with
  | ⟨0, _⟩ => rfl
  | ⟨1, _⟩ => rfl

/-- The early group of columns. -/
def early (x : (Cols 5906).Idx → EReal) : (Cols 2560).Idx → EReal := fun y =>
  if h : (y 1).val < 2310 then x (ix2 ⟨(y 0).val, (y 0).isLt⟩ ⟨(y 1).val, by omega⟩)
  else if h' : (y 1).val < 2322 then x (ix2 ⟨(y 0).val, (y 0).isLt⟩ ⟨(y 1).val + 3072, by omega⟩)
  else 0

/-- The column of the whole array at which column `j` of the late group lies. -/
def lateCol (j : Fin 3584) : Fin 5906 := if h : j.val < 3072 then ⟨j.val + 2310, by omega⟩ else ⟨j.val + 2322, by omega⟩

/-- The late group of columns. -/
def late (x : (Cols 5906).Idx → EReal) : (Cols 3584).Idx → EReal := fun y =>
  x (ix2 ⟨(y 0).val, (y 0).isLt⟩ (lateCol ⟨(y 1).val, (y 1).isLt⟩))

/-- A block of columns starting at column `p`, read at an entry. -/
theorem cut_apply {r w : ℕ} (x : (Rows r w).Idx → EReal) (n p : ℕ) (h : (Rows r w).Slices ![0, p] (Rows r n)) (i : Fin r) (j : Fin n) (hlt : p + j.val < w) :
    extractStridedSlice (Rows r n) ![0, p] x h (ix2 i j) = x (ix2 i ⟨p + j.val, hlt⟩) := by
  refine extractStridedSlice_apply (s := Rows r w) (t := Rows r n) ![0, p] x h _ _ fun a => ?_
  match a with
  | ⟨0, _⟩ => show i.val = 0 + i.val; omega
  | ⟨1, _⟩ => rfl

/-- Arrays side by side, read at an entry of the `k`-th, before which lie `pre` columns. -/
theorem beside_apply {r w : ℕ} (xs : List (Σ s : Shape, s.Idx → EReal)) (h : Shape.Concatenates (xs.map (·.1)) (Rows r w) 1)
    (k n pre : ℕ) (hk : k < xs.length) (x : (Rows r n).Idx → EReal) (hx : xs[k] = ⟨Rows r n, x⟩)
    (hpre : (((xs.take k).map (·.1)).map fun s => if h : s.rank = (Rows r w).rank then s.size ((1 : Fin (Rows r w).rank).cast h.symm) else 0).sum = pre)
    (i : Fin r) (j : Fin w) (l : Fin n) (hj : pre + l.val = j.val) :
    concatenate (Rows r w) 1 xs h (ix2 i j) = x (ix2 i l) := by
  refine concatenate_apply_piece (1 : Fin (Rows r w).rank) xs h (ix2 i j) k hk (Rows r n) x hx rfl pre hpre (ix2 i l) (fun b hb => ?_) hj
  match b, hb with
  | ⟨0, _⟩, _ => rfl
  | ⟨1, _⟩, hb => exact absurd rfl hb

/-- The same where the `k`-th is a block of the columns of `x`, starting at column `p`. -/
theorem piece_apply {r w v : ℕ} (x : (Rows r v).Idx → EReal) (xs : List (Σ s : Shape, s.Idx → EReal)) (h : Shape.Concatenates (xs.map (·.1)) (Rows r w) 1)
    (k n p pre : ℕ) (hp : (Rows r v).Slices ![0, p] (Rows r n)) (hk : k < xs.length) (hx : xs[k] = ⟨Rows r n, extractStridedSlice (Rows r n) ![0, p] x hp⟩)
    (hpre : (((xs.take k).map (·.1)).map fun s => if h : s.rank = (Rows r w).rank then s.size ((1 : Fin (Rows r w).rank).cast h.symm) else 0).sum = pre)
    (i : Fin r) (j : Fin w) (u : Fin v) (hj : pre ≤ j.val) (hjn : j.val < pre + n) (hu : j.val + p = u.val + pre) :
    concatenate (Rows r w) 1 xs h (ix2 i j) = x (ix2 i u) := by
  have hu' := u.isLt
  refine (beside_apply xs h k n pre hk _ hx hpre i j ⟨j.val - pre, by omega⟩ (by show pre + (j.val - pre) = j.val; omega)).trans
    ((cut_apply x n p hp i ⟨j.val - pre, by omega⟩ (by show p + (j.val - pre) < v; omega)).trans (congrArg x (congrArg (ix2 i) (Fin.ext ?_))))
  show p + (j.val - pre) = u.val
  omega

/-- Columns of zeros. -/
abbrev zeros (h : (⟨0, ![]⟩ : Shape).BroadcastsInDim (Cols 238) ![]) : (Cols 238).Idx → EReal :=
  broadcastInDim (Cols 238) ![] h (constant (F := Ideal) ⟨0, ![]⟩ .f32 0x00000000#32)

theorem zeros_apply (h : (⟨0, ![]⟩ : Shape).BroadcastsInDim (Cols 238) ![]) (y : (Cols 238).Idx) : zeros h y = 0 :=
  Ideal.ofBits_zero_f32

/-- The columns cut in nine, with the zeros between, in the order of the two groups. -/
abbrev joined (x : (Cols 5906).Idx → EReal) (a : (Cols 5906).Slices ![0, 0] (Cols 768)) (b : (Cols 5906).Slices ![0, 768] (Cols 768))
    (c : (Cols 5906).Slices ![0, 1536] (Cols 768)) (d : (Cols 5906).Slices ![0, 2304] (Cols 6)) (e : (Cols 5906).Slices ![0, 5382] (Cols 6))
    (f : (Cols 5906).Slices ![0, 5388] (Cols 6)) (z : (⟨0, ![]⟩ : Shape).BroadcastsInDim (Cols 238) ![]) (p : (Cols 5906).Slices ![0, 2310] (Cols 2304))
    (q : (Cols 5906).Slices ![0, 4614] (Cols 768)) (r : (Cols 5906).Slices ![0, 5394] (Cols 512)) : List (Σ s : Shape, s.Idx → EReal) :=
  [⟨Cols 768, extractStridedSlice (Cols 768) ![0, 0] x a⟩, ⟨Cols 768, extractStridedSlice (Cols 768) ![0, 768] x b⟩,
    ⟨Cols 768, extractStridedSlice (Cols 768) ![0, 1536] x c⟩, ⟨Cols 6, extractStridedSlice (Cols 6) ![0, 2304] x d⟩,
    ⟨Cols 6, extractStridedSlice (Cols 6) ![0, 5382] x e⟩, ⟨Cols 6, extractStridedSlice (Cols 6) ![0, 5388] x f⟩,
    ⟨Cols 238, zeros z⟩, ⟨Cols 2304, extractStridedSlice (Cols 2304) ![0, 2310] x p⟩,
    ⟨Cols 768, extractStridedSlice (Cols 768) ![0, 4614] x q⟩, ⟨Cols 512, extractStridedSlice (Cols 512) ![0, 5394] x r⟩]

section
variable (x : (Cols 5906).Idx → EReal) (a : (Cols 5906).Slices ![0, 0] (Cols 768)) (b : (Cols 5906).Slices ![0, 768] (Cols 768))
    (c : (Cols 5906).Slices ![0, 1536] (Cols 768)) (d : (Cols 5906).Slices ![0, 2304] (Cols 6)) (e : (Cols 5906).Slices ![0, 5382] (Cols 6))
    (f : (Cols 5906).Slices ![0, 5388] (Cols 6)) (z : (⟨0, ![]⟩ : Shape).BroadcastsInDim (Cols 238) ![]) (p : (Cols 5906).Slices ![0, 2310] (Cols 2304))
    (q : (Cols 5906).Slices ![0, 4614] (Cols 768)) (r : (Cols 5906).Slices ![0, 5394] (Cols 512))
    (h : Shape.Concatenates [Cols 768, Cols 768, Cols 768, Cols 6, Cols 6, Cols 6, Cols 238, Cols 2304, Cols 768, Cols 512] (Cols 6144) 1)

/-- An entry of the joined columns that lies in the `k`-th piece, a block of the array's own columns. -/
theorem joined_apply (k n s pre : ℕ) (hs : (Cols 5906).Slices ![0, s] (Cols n)) (hk : k < (joined x a b c d e f z p q r).length)
    (hx : (joined x a b c d e f z p q r)[k] = ⟨Cols n, extractStridedSlice (Cols n) ![0, s] x hs⟩)
    (hpre : ((((joined x a b c d e f z p q r).take k).map (·.1)).map fun s => if h : s.rank = (Cols 6144).rank then s.size ((1 : Fin (Cols 6144).rank).cast h.symm) else 0).sum = pre)
    (i : Fin 2048) (j : Fin 6144) (u : Fin 5906) (hj : pre ≤ j.val) (hjn : j.val < pre + n) (hu : j.val + s = u.val + pre) :
    concatenate (Cols 6144) 1 (joined x a b c d e f z p q r) h (ix2 i j) = x (ix2 i u) :=
  piece_apply x (joined x a b c d e f z p q r) h k n s pre hs hk hx hpre i j u hj hjn hu

theorem joined_early (g : (Cols 6144).Slices ![0, 0] (Cols 2560)) :
    extractStridedSlice (Cols 2560) ![0, 0] (concatenate (Cols 6144) 1 (joined x a b c d e f z p q r) h) g = early x := by
  funext y
  have y1 : (y 1).val < 2560 := (y 1).isLt
  refine (extractStridedSlice_apply (s := Cols 6144) (t := Cols 2560) ![0, 0] _ g y (ix2 (⟨(y 0).val, (y 0).isLt⟩ : Fin 2048) (⟨(y 1).val, by omega⟩ : Fin 6144)) fun t => ?_).trans ?_
  · match t with
    | ⟨0, _⟩ => show (y 0).val = 0 + (y 0).val; omega
    | ⟨1, _⟩ => show (y 1).val = 0 + (y 1).val; omega
  unfold early
  by_cases h1 : (y 1).val < 768
  · rw [dif_pos (by omega)]
    exact joined_apply x a b c d e f z p q r h 0 768 0 0 a (by exact Nat.zero_lt_succ _) rfl rfl _ _ _ (by show 0 ≤ (y 1).val; omega) (by show (y 1).val < 0 + 768; omega) rfl
  by_cases h2 : (y 1).val < 1536
  · rw [dif_pos (by omega)]
    exact joined_apply x a b c d e f z p q r h 1 768 768 768 b (by decide : 1 < 10) rfl rfl _ _ _ (by show 768 ≤ (y 1).val; omega) (by show (y 1).val < 768 + 768; omega) rfl
  by_cases h3 : (y 1).val < 2304
  · rw [dif_pos (by omega)]
    exact joined_apply x a b c d e f z p q r h 2 768 1536 1536 c (by decide : 2 < 10) rfl rfl _ _ _ (by show 1536 ≤ (y 1).val; omega) (by show (y 1).val < 1536 + 768; omega) rfl
  by_cases h4 : (y 1).val < 2310
  · rw [dif_pos h4]
    exact joined_apply x a b c d e f z p q r h 3 6 2304 2304 d (by decide : 3 < 10) rfl rfl _ _ _ (by show 2304 ≤ (y 1).val; omega) (by show (y 1).val < 2304 + 6; omega) rfl
  rw [dif_neg h4]
  by_cases h5 : (y 1).val < 2316
  · rw [dif_pos (by omega)]
    exact joined_apply x a b c d e f z p q r h 4 6 5382 2310 e (by decide : 4 < 10) rfl rfl _ _ _ (by show 2310 ≤ (y 1).val; omega) (by show (y 1).val < 2310 + 6; omega)
      (by show (y 1).val + 5382 = (y 1).val + 3072 + 2310; omega)
  by_cases h6 : (y 1).val < 2322
  · rw [dif_pos h6]
    exact joined_apply x a b c d e f z p q r h 5 6 5388 2316 f (by decide : 5 < 10) rfl rfl _ _ _ (by show 2316 ≤ (y 1).val; omega) (by show (y 1).val < 2316 + 6; omega)
      (by show (y 1).val + 5388 = (y 1).val + 3072 + 2316; omega)
  rw [dif_neg h6]
  exact (beside_apply (w := 6144) (joined x a b c d e f z p q r) h 6 238 2322 (by decide : 6 < 10) (zeros z) rfl rfl _ _ ⟨(y 1).val - 2322, by omega⟩ (by show 2322 + ((y 1).val - 2322) = (y 1).val; omega)).trans (zeros_apply z _)

theorem joined_late (g : (Cols 6144).Slices ![0, 2560] (Cols 3584)) :
    extractStridedSlice (Cols 3584) ![0, 2560] (concatenate (Cols 6144) 1 (joined x a b c d e f z p q r) h) g = late x := by
  funext y
  have y1 : (y 1).val < 3584 := (y 1).isLt
  refine (extractStridedSlice_apply (s := Cols 6144) (t := Cols 3584) ![0, 2560] _ g y (ix2 (⟨(y 0).val, (y 0).isLt⟩ : Fin 2048) (⟨2560 + (y 1).val, by omega⟩ : Fin 6144)) fun t => ?_).trans ?_
  · match t with
    | ⟨0, _⟩ => show (y 0).val = 0 + (y 0).val; omega
    | ⟨1, _⟩ => rfl
  unfold late lateCol
  by_cases h1 : (y 1).val < 2304
  · rw [dif_pos (by show (y 1).val < 3072; omega)]
    exact joined_apply x a b c d e f z p q r h 7 2304 2310 2560 p (by decide : 7 < 10) rfl rfl _ _ _ (by show 2560 ≤ 2560 + (y 1).val; omega) (by show 2560 + (y 1).val < 2560 + 2304; omega)
      (by show 2560 + (y 1).val + 2310 = (y 1).val + 2310 + 2560; omega)
  by_cases h2 : (y 1).val < 3072
  · rw [dif_pos h2]
    exact joined_apply x a b c d e f z p q r h 8 768 4614 4864 q (by decide : 8 < 10) rfl rfl _ _ _ (by show 4864 ≤ 2560 + (y 1).val; omega) (by show 2560 + (y 1).val < 4864 + 768; omega)
      (by show 2560 + (y 1).val + 4614 = (y 1).val + 2310 + 4864; omega)
  rw [dif_neg h2]
  exact joined_apply x a b c d e f z p q r h 9 512 5394 5632 r (by decide : 9 < 10) rfl rfl _ _ _ (by show 5632 ≤ 2560 + (y 1).val; omega) (by show 2560 + (y 1).val < 5632 + 512; omega)
    (by show 2560 + (y 1).val + 5394 = (y 1).val + 2322 + 5632; omega)

end

/-- Two blocks of columns and the zeros side by side are the early group. -/
theorem three_early (x : (Cols 5906).Idx → EReal) (a : (Cols 5906).Slices ![0, 0] (Cols 2310)) (b : (Cols 5906).Slices ![0, 5382] (Cols 12))
    (z : (⟨0, ![]⟩ : Shape).BroadcastsInDim (Cols 238) ![]) (h : Shape.Concatenates [Cols 2310, Cols 12, Cols 238] (Cols 2560) 1) :
    concatenate (Cols 2560) 1 [⟨Cols 2310, extractStridedSlice (Cols 2310) ![0, 0] x a⟩, ⟨Cols 12, extractStridedSlice (Cols 12) ![0, 5382] x b⟩, ⟨Cols 238, zeros z⟩] h
      = early x := by
  funext y
  have y1 : (y 1).val < 2560 := (y 1).isLt
  have hy := entry y
  unfold early
  by_cases h1 : (y 1).val < 2310
  · rw [dif_pos h1]
    refine (congrArg _ hy).trans ((beside_apply (w := 2560) [⟨Cols 2310, _⟩, ⟨Cols 12, _⟩, ⟨Cols 238, _⟩] h 0 2310 0 (by decide : 0 < 3) _ rfl rfl _ _ ⟨(y 1).val, h1⟩ (Nat.zero_add _)).trans
      ((cut_apply x 2310 0 a _ ⟨(y 1).val, h1⟩ (by show 0 + (y 1).val < 5906; omega)).trans (congrArg x (congrArg (ix2 _) (Fin.ext ?_)))))
    exact Nat.zero_add _
  rw [dif_neg h1]
  by_cases h2 : (y 1).val < 2322
  · rw [dif_pos h2]
    refine (congrArg _ hy).trans ((beside_apply (w := 2560) [⟨Cols 2310, _⟩, ⟨Cols 12, _⟩, ⟨Cols 238, _⟩] h 1 12 2310 (by decide : 1 < 3) _ rfl rfl _ _ ⟨(y 1).val - 2310, by omega⟩ (by show 2310 + ((y 1).val - 2310) = (y 1).val; omega)).trans
      ((cut_apply x 12 5382 b _ ⟨(y 1).val - 2310, by omega⟩ (by show 5382 + ((y 1).val - 2310) < 5906; omega)).trans (congrArg x (congrArg (ix2 _) (Fin.ext ?_)))))
    show 5382 + ((y 1).val - 2310) = (y 1).val + 3072
    omega
  rw [dif_neg h2]
  exact (congrArg _ hy).trans ((beside_apply (w := 2560) [⟨Cols 2310, _⟩, ⟨Cols 12, _⟩, ⟨Cols 238, _⟩] h 2 238 2322 (by decide : 2 < 3) (zeros z) rfl rfl _ _ ⟨(y 1).val - 2322, by omega⟩ (by show 2322 + ((y 1).val - 2322) = (y 1).val; omega)).trans
    (zeros_apply z _))

/-- Two blocks of columns side by side are the late group. -/
theorem two_late (x : (Cols 5906).Idx → EReal) (a : (Cols 5906).Slices ![0, 2310] (Cols 3072)) (b : (Cols 5906).Slices ![0, 5394] (Cols 512))
    (h : Shape.Concatenates [Cols 3072, Cols 512] (Cols 3584) 1) :
    concatenate (Cols 3584) 1 [⟨Cols 3072, extractStridedSlice (Cols 3072) ![0, 2310] x a⟩, ⟨Cols 512, extractStridedSlice (Cols 512) ![0, 5394] x b⟩] h = late x := by
  funext y
  have y1 : (y 1).val < 3584 := (y 1).isLt
  have hy := entry y
  unfold late lateCol
  by_cases h1 : (y 1).val < 3072
  · rw [dif_pos h1]
    refine (congrArg _ hy).trans ((beside_apply (w := 3584) [⟨Cols 3072, _⟩, ⟨Cols 512, _⟩] h 0 3072 0 (by decide : 0 < 2) _ rfl rfl _ _ ⟨(y 1).val, h1⟩ (Nat.zero_add _)).trans
      ((cut_apply x 3072 2310 a _ ⟨(y 1).val, h1⟩ (by show 2310 + (y 1).val < 5906; omega)).trans (congrArg x (congrArg (ix2 _) (Fin.ext ?_)))))
    exact Nat.add_comm _ _
  rw [dif_neg h1]
  refine (congrArg _ hy).trans ((beside_apply (w := 3584) [⟨Cols 3072, _⟩, ⟨Cols 512, _⟩] h 1 512 3072 (by decide : 1 < 2) _ rfl rfl _ _ ⟨(y 1).val - 3072, by omega⟩ (by show 3072 + ((y 1).val - 3072) = (y 1).val; omega)).trans
    ((cut_apply x 512 5394 b _ ⟨(y 1).val - 3072, by omega⟩ (by show 5394 + ((y 1).val - 3072) < 5906; omega)).trans (congrArg x (congrArg (ix2 _) (Fin.ext ?_)))))
  show 5394 + ((y 1).val - 3072) = (y 1).val + 2322
  omega

section
variable (x : (Cols 5906).Idx → EReal) (i : Fin 2048) (j : Fin 2560)

theorem early_first (h : j.val < 2310) : early x (ix2 i j) = x (ix2 i ⟨j.val, by omega⟩) := by
  exact dif_pos (c := j.val < 2310) h

theorem early_second (h : ¬j.val < 2310) (h' : j.val < 2322) : early x (ix2 i j) = x (ix2 i ⟨j.val + 3072, by omega⟩) := by
  exact (dif_neg (c := j.val < 2310) h).trans (dif_pos (c := j.val < 2322) h')

theorem early_zero (h : ¬j.val < 2322) : early x (ix2 i j) = 0 := by
  exact (dif_neg (c := j.val < 2310) (by omega)).trans (dif_neg (c := j.val < 2322) h)

end

/-- A product whose right factor's columns are the early group is the early group of the product. -/
theorem early_product {κ : Type} [Fintype κ] (a : κ → Fin 2048 → EReal) (v : κ → Fin 2048) (d : (Cols 5906).Idx → EReal) (i : Fin 2048) (j : Fin 2560) :
    early (fun w => ∑ k, a k ⟨(w 0).val, (w 0).isLt⟩ * d (ix2 (v k) ⟨(w 1).val, (w 1).isLt⟩)) (ix2 i j)
      = ∑ k, a k i * early d (ix2 (v k) j) := by
  by_cases h1 : j.val < 2310
  · refine (early_first _ i j h1).trans ?_
    exact Finset.sum_congr (M := EReal) rfl fun k _ => congrArg (fun p : EReal => a k i * p) (early_first d (v k) j h1).symm
  by_cases h2 : j.val < 2322
  · refine (early_second _ i j h1 h2).trans ?_
    exact Finset.sum_congr (M := EReal) rfl fun k _ => congrArg (fun p : EReal => a k i * p) (early_second d (v k) j h1 h2).symm
  refine (early_zero _ i j h2).trans ?_
  exact (Finset.sum_eq_zero (M := EReal) fun k _ => (congrArg (fun p : EReal => a k i * p) (early_zero d (v k) j h2)).trans (mul_zero (M₀ := EReal) _)).symm

/-- A sum over the early group: the twelve columns from 5382 on, and the first 2310. -/
theorem early_sum (x w : (Cols 5906).Idx → EReal) (i j : Fin 2048) :
    ∑ k : Fin 2560, early x (ix2 i k) * early w (ix2 j k)
      = (∑ k : Fin 12, x (ix2 i ⟨5382 + k.val, by omega⟩) * w (ix2 j ⟨5382 + k.val, by omega⟩))
        + ∑ k : Fin 2310, x (ix2 i ⟨k.val, by omega⟩) * w (ix2 j ⟨k.val, by omega⟩) := by
  have second : ∀ (t : (Cols 5906).Idx → EReal) (r : Fin 2048) (k : Fin 12), early t (ix2 r (⟨2310 + k.val, by omega⟩ : Fin 2560)) = t (ix2 r ⟨5382 + k.val, by omega⟩) := by
    intro t r k
    refine (early_second t r ⟨2310 + k.val, by omega⟩ (by show ¬(2310 + k.val < 2310); omega) (by show 2310 + k.val < 2322; omega)).trans (congrArg t (congrArg (ix2 r) (Fin.ext ?_)))
    show 2310 + k.val + 3072 = 5382 + k.val
    omega
  have third : ∀ (t : (Cols 5906).Idx → EReal) (r : Fin 2048) (k : Fin 238), early t (ix2 r (⟨2310 + (12 + k.val), by omega⟩ : Fin 2560)) = 0 := by
    intro t r k
    exact early_zero t r ⟨2310 + (12 + k.val), by omega⟩ (by show ¬(2310 + (12 + k.val) < 2322); omega)
  refine (Fin.sum_univ_add (M := EReal) (a := 2310) (b := 250) fun k : Fin 2560 => early x (ix2 i k) * early w (ix2 j k)).trans ((add_comm (G := EReal) _ _).trans ?_)
  refine congrArg₂ (fun p q : EReal => p + q) ?_ ?_
  · refine (Fin.sum_univ_add (M := EReal) (a := 12) (b := 238) fun k : Fin 250 => early x (ix2 i (⟨2310 + k.val, by omega⟩ : Fin 2560)) * early w (ix2 j (⟨2310 + k.val, by omega⟩ : Fin 2560))).trans ?_
    refine (congrArg₂ (fun p q : EReal => p + q) (Finset.sum_congr (M := EReal) rfl fun k _ => congrArg₂ (fun p q : EReal => p * q) (second x i k) (second w j k))
      (Finset.sum_eq_zero (M := EReal) fun k _ => (congrArg (fun p : EReal => p * _) (third x i k)).trans (zero_mul (M₀ := EReal) _))).trans (add_zero (M := EReal) _)
  · exact Finset.sum_congr (M := EReal) rfl fun k _ => congrArg₂ (fun p q : EReal => p * q) (early_first x i ⟨k.val, by omega⟩ k.isLt) (early_first w j ⟨k.val, by omega⟩ k.isLt)

/-- A sum over the late group: the 512 columns from 5394 on, and the 3072 from 2310 on. -/
theorem late_sum (x w : (Cols 5906).Idx → EReal) (i j : Fin 2048) :
    ∑ k : Fin 3584, late x (ix2 i k) * late w (ix2 j k)
      = (∑ k : Fin 512, x (ix2 i ⟨5394 + k.val, by omega⟩) * w (ix2 j ⟨5394 + k.val, by omega⟩))
        + ∑ k : Fin 3072, x (ix2 i ⟨2310 + k.val, by omega⟩) * w (ix2 j ⟨2310 + k.val, by omega⟩) := by
  have first : ∀ k : Fin 3072, lateCol (⟨k.val, by omega⟩ : Fin 3584) = ⟨2310 + k.val, by omega⟩ := by
    intro k
    exact (dif_pos (c := _ < 3072) k.isLt).trans (Fin.ext (Nat.add_comm _ _))
  have second : ∀ k : Fin 512, lateCol (⟨3072 + k.val, by omega⟩ : Fin 3584) = ⟨5394 + k.val, by omega⟩ := by
    intro k
    refine (dif_neg (c := _ < 3072) (by show ¬(3072 + k.val < 3072); omega)).trans (Fin.ext ?_)
    show 3072 + k.val + 2322 = 5394 + k.val
    omega
  refine (Fin.sum_univ_add (M := EReal) (a := 3072) (b := 512) fun k : Fin 3584 => late x (ix2 i k) * late w (ix2 j k)).trans ((add_comm (G := EReal) _ _).trans ?_)
  refine congrArg₂ (fun p q : EReal => p + q) ?_ ?_
  · exact Finset.sum_congr (M := EReal) rfl fun k _ => congrArg₂ (fun p q : EReal => p * q) (congrArg (fun u => x (ix2 i u)) (second k)) (congrArg (fun u => w (ix2 j u)) (second k))
  · exact Finset.sum_congr (M := EReal) rfl fun k _ => congrArg₂ (fun p q : EReal => p * q) (congrArg (fun u => x (ix2 i u)) (first k)) (congrArg (fun u => w (ix2 j u)) (first k))

end Cert.Regroup

end
-- ==== Proof.DwIn.lean ====
module

public import proofs.«01_k».proof.Defs
public import Idealize.ShloMosaic.Lib.Pipeline.ValueKit
public import Idealize.ShloMosaic.Lib.Pointwise
public import proofs.«01_k».proof.Proof.Regroup
public import proofs.«01_k».proof.Proof.Gen.Kernel14Ideal.Value
public import proofs.«01_k».proof.Proof.Gen.Reference14Ideal.Read
public import proofs.«01_k».proof.Proof.Gen.Kernel15Ideal.Value
public import proofs.«01_k».proof.Proof.Gen.Reference15Ideal.Read

@[expose] public section

set_option maxRecDepth 16384
set_option maxHeartbeats 2000000

/-!
The gradient of the in projection's weights, one group of columns at a time.
-/

noncomputable section

namespace Cert.Kernel14Ideal.Product

open Cert.Kernel14Ideal Cert.Kernel14Ideal.Gen
open Idealize.ShloMosaic Idealize.ShloMosaic.TcCoe Idealize.ShloMosaic.Tactic

/-- The gradient of the weights: the normed rows, transposed, times the gradient of the projected rows. -/
def wide (a : FVec Ideal S2048x2048 .f32) (b : FVec Ideal S2048x5906 .f32) : FVec Ideal S2048x5906 .f32 := fun y =>
  ∑ k : Fin 2048, a (ix2 k ⟨(y 0).val, (y 0).isLt⟩) * b (ix2 k ⟨(y 1).val, (y 1).isLt⟩)

/-- Its early group of columns. -/
def result (a : FVec Ideal S2048x2048 .f32) (b : FVec Ideal S2048x5906 .f32) : FVec Ideal S2048x2560 .bf16 := Regroup.early (wide a b)

/-- A column of the early group of the product: the sum over that column of the right factor's early group. -/
theorem result_apply (a : FVec Ideal S2048x2048 .f32) (b : FVec Ideal S2048x5906 .f32) (y : S2048x2560.Idx) :
    result a b y = ∑ k : Fin 2048, a (ix2 k ⟨(y 0).val, (y 0).isLt⟩) * Regroup.early b (ix2 k ⟨(y 1).val, (y 1).isLt⟩) := by
  exact (congrArg (Regroup.early (wide a b)) (Regroup.entry y)).trans (Regroup.early_product (fun k i => a (ix2 k i)) (fun k => k) b _ _)

/-- What a grid point computes from its blocks. -/
theorem block (a : FVec Ideal S2048x2048 .bf16) (b : FVec Ideal S2048x1280 .bf16) (y : S2048x1280.Idx) :
    out0_2 (F := Ideal) a b y = ∑ k : Fin 2048, a (ix2 k ⟨(y 0).val, (y 0).isLt⟩) * b (ix2 k ⟨(y 1).val, (y 1).isLt⟩) := by
  unfold out0_2
  frame_out
  pointwise [k0_pay1]

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

/-- The region finds the right factor's early group. -/
theorem entered : (V m c main_v13 : FVec Ideal S2048x2560 .bf16) = Regroup.early (m ((c : Thread nD τ).loc main_arg1)) := by
  exact Regroup.joined_early (m ((c : Thread nD τ).loc main_arg1)) (by decide) (by decide) (by decide) (by decide) (by decide) (by decide) (by decide) (by decide) (by decide) (by decide) (by decide) (by decide)

theorem final : (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, block]
  refine Eq.trans ?_ (result_apply _ _ _).symm
  refine Finset.sum_congr (M := EReal) rfl fun k _ => ?_
  congr 1
  · blk_point [iblk, idx t]
  · refine (congrArg (fun z : FVec Ideal S2048x2560 .bf16 => (((cfg0.win 1).blk t).view.read (Elt Ideal) z) _) (entered m c)).trans ?_
    generalize Regroup.early (m ((c : Thread nD τ).loc main_arg1)) = g
    blk_point [idx t]

end Cert.Kernel14Ideal.Product

namespace Cert.Proof

open Idealize.ShloMosaic Idealize.SL.Sem
open Cert.Reference14Ideal.Read in
theorem dw_in_a_wide (a : FVec Ideal Kernel14Ideal.S2048x2048 .f32) (b : FVec Ideal Kernel14Ideal.S2048x5906 .f32) :
    val_main_v3 (F := Ideal) a b = Kernel14Ideal.Product.wide a b := by
  funext y
  refine (val_main_v3_apply (F := Ideal) a b y).trans ((val_main_v2_apply a b _).trans ?_)
  refine Finset.sum_congr (M := EReal) rfl fun k _ => (mul_comm (G := EReal) _ _).trans ?_
  congr 1
  · congr 1
    funext x
    match x with
    | 0 => rfl
    | 1 => rfl
  · congr 1
    funext x
    match x with
    | 0 => rfl
    | 1 => rfl

open Cert.Reference14Ideal.Read in
theorem dw_in_a_reference (a : FVec Ideal Kernel14Ideal.S2048x2048 .f32) (b : FVec Ideal Kernel14Ideal.S2048x5906 .f32) :
    val_main_v8 (F := Ideal) a b = Kernel14Ideal.Product.result a b := by
  unfold Kernel14Ideal.Product.result
  rw [← dw_in_a_wide]
  exact Regroup.three_early (val_main_v3 (F := Ideal) a b) (by decide) (by decide) (by decide) (by decide)

theorem algebraic_dw_in_a : Cert.algebraic_Kernel14Ideal_Reference14Ideal := by
  intro m g m' g' _ hagree
  refine ⟨fun c => Kernel14Ideal.Product.result (m (c.tc.loc Kernel14Ideal.main_arg0)) (m (c.tc.loc Kernel14Ideal.main_arg1)), ?_, ?_⟩
  · refine (θ_run _ _ _).mono (fun r h c => ?_) (Kernel14Ideal.Value.run_blocks (F := Ideal) m g)
    obtain ⟨h, hr⟩ := h c
    exact ⟨h.trans (Kernel14Ideal.Product.final m c), hr⟩
  · refine (θ_run _ _ _).mono (fun r h c => ?_) (Reference14Ideal.Value.run (F := Ideal) m' g')
    obtain ⟨h, hr⟩ := h c
    obtain ⟨e0, e1⟩ := hagree c
    refine ⟨h.trans ((Reference14Ideal.Read.val_main_v8_eq _ _).trans ((dw_in_a_reference _ _).trans ?_)), hr⟩
    rw [e0, e1]

end Cert.Proof

namespace Cert.Kernel15Ideal.Product

open Cert.Kernel15Ideal Cert.Kernel15Ideal.Gen
open Idealize.ShloMosaic Idealize.ShloMosaic.TcCoe Idealize.ShloMosaic.Tactic

/-- The gradient of the weights: the normed rows, transposed, times the gradient of the projected rows. -/
def wide (a : FVec Ideal S2048x2048 .f32) (b : FVec Ideal S2048x5906 .f32) : FVec Ideal S2048x5906 .f32 := fun y =>
  ∑ k : Fin 2048, a (ix2 k ⟨(y 0).val, (y 0).isLt⟩) * b (ix2 k ⟨(y 1).val, (y 1).isLt⟩)

/-- Its late group of columns. -/
def result (a : FVec Ideal S2048x2048 .f32) (b : FVec Ideal S2048x5906 .f32) : FVec Ideal S2048x3584 .bf16 := Regroup.late (wide a b)

/-- A column of the late group of the product: the sum over that column of the right factor's late group. -/
theorem result_apply (a : FVec Ideal S2048x2048 .f32) (b : FVec Ideal S2048x5906 .f32) (y : S2048x3584.Idx) :
    result a b y = ∑ k : Fin 2048, a (ix2 k ⟨(y 0).val, (y 0).isLt⟩) * Regroup.late b (ix2 k ⟨(y 1).val, (y 1).isLt⟩) := by
  exact rfl

/-- What a grid point computes from its blocks. -/
theorem block (a : FVec Ideal S2048x2048 .bf16) (b : FVec Ideal S2048x512 .bf16) (s : FVec Ideal S8x128 .f32) (y : S2048x512.Idx) :
    out0_3 (F := Ideal) a b s y = ∑ k : Fin 2048, a (ix2 k ⟨(y 0).val, (y 0).isLt⟩) * b (ix2 k ⟨(y 1).val, (y 1).isLt⟩) := by
  unfold out0_3
  frame_out
  pointwise [k0_pay1]

variable (m : (ℓ : Loc nD τ sig) → Buf (Elt Ideal) ℓ) (c : Dev nD)

theorem idx : ∀ t : Fin cfg0.N, win0_0.index t = ![0, 0] ∧ win0_1.index t = ![0, t.val] ∧ win0_3.index t = ![0, t.val] :=
  (by decide +kernel : ∀ t : Fin grid0.N, _)

/-- The region finds the right factor's late group. -/
theorem entered : (V m c main_v13 : FVec Ideal S2048x3584 .bf16) = Regroup.late (m ((c : Thread nD τ).loc main_arg1)) := by
  exact Regroup.joined_late (m ((c : Thread nD τ).loc main_arg1)) (by decide) (by decide) (by decide) (by decide) (by decide) (by decide) (by decide) (by decide) (by decide) (by decide) (by decide) (by decide)

theorem final : (dats m 0 c).arrAt 3 cfg0.N = result (m ((c : Thread nD τ).loc main_arg0)) (m ((c : Thread nD τ).loc main_arg1)) := by
  refine (dats m 0 c).arrAt_eq_of_covers 3 _ (by decide +kernel) fun t hf y => ?_
  blk_simp
  rw [after0_3, block]
  refine Eq.trans ?_ (result_apply _ _ _).symm
  refine Finset.sum_congr (M := EReal) rfl fun k _ => ?_
  congr 1
  · blk_point [iblk, idx t]
  · refine (congrArg (fun z : FVec Ideal S2048x3584 .bf16 => (((cfg0.win 1).blk t).view.read (Elt Ideal) z) _) (entered m c)).trans ?_
    generalize Regroup.late (m ((c : Thread nD τ).loc main_arg1)) = g
    blk_point [idx t]

end Cert.Kernel15Ideal.Product

namespace Cert.Proof

open Idealize.ShloMosaic Idealize.SL.Sem
open Cert.Reference15Ideal.Read in
theorem dw_in_b_wide (a : FVec Ideal Kernel15Ideal.S2048x2048 .f32) (b : FVec Ideal Kernel15Ideal.S2048x5906 .f32) :
    val_main_v3 (F := Ideal) a b = Kernel15Ideal.Product.wide a b := by
  funext y
  refine (val_main_v3_apply (F := Ideal) a b y).trans ((val_main_v2_apply a b _).trans ?_)
  refine Finset.sum_congr (M := EReal) rfl fun k _ => (mul_comm (G := EReal) _ _).trans ?_
  congr 1
  · congr 1
    funext x
    match x with
    | 0 => rfl
    | 1 => rfl
  · congr 1
    funext x
    match x with
    | 0 => rfl
    | 1 => rfl

open Cert.Reference15Ideal.Read in
theorem dw_in_b_reference (a : FVec Ideal Kernel15Ideal.S2048x2048 .f32) (b : FVec Ideal Kernel15Ideal.S2048x5906 .f32) :
    val_main_v7 (F := Ideal) a b = Kernel15Ideal.Product.result a b := by
  unfold Kernel15Ideal.Product.result
  rw [← dw_in_b_wide]
  exact Regroup.two_late (val_main_v3 (F := Ideal) a b) (by decide) (by decide) (by decide)

theorem algebraic_dw_in_b : Cert.algebraic_Kernel15Ideal_Reference15Ideal := by
  intro m g m' g' _ hagree
  refine ⟨fun c => Kernel15Ideal.Product.result (m (c.tc.loc Kernel15Ideal.main_arg0)) (m (c.tc.loc Kernel15Ideal.main_arg1)), ?_, ?_⟩
  · refine (θ_run _ _ _).mono (fun r h c => ?_) (Kernel15Ideal.Value.run_blocks (F := Ideal) m g)
    obtain ⟨h, hr⟩ := h c
    exact ⟨h.trans (Kernel15Ideal.Product.final m c), hr⟩
  · refine (θ_run _ _ _).mono (fun r h c => ?_) (Reference15Ideal.Value.run (F := Ideal) m' g')
    obtain ⟨h, hr⟩ := h c
    obtain ⟨e0, e1, e2⟩ := hagree c
    refine ⟨h.trans ((Reference15Ideal.Read.val_main_v7_eq _ _).trans ((dw_in_b_reference _ _).trans ?_)), hr⟩
    rw [e0, e1]

end Cert.Proof

end
-- ==== Proof.Du.lean ====
module

public import proofs.«01_k».proof.Defs
public import Idealize.ShloMosaic.Lib.Pipeline.ValueKit
public import Idealize.ShloMosaic.Lib.Pointwise
public import proofs.«01_k».proof.Proof.Regroup
public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read

@[expose] public section

set_option maxRecDepth 16384
set_option maxHeartbeats 2000000

/-!
The gradient of the in projection's rows: one group of columns of the projected rows' gradient,
then the other, each times the same columns of the weights.
-/

noncomputable section

namespace Cert.Kernel16Ideal.Product

open Cert.Kernel16Ideal Cert.Kernel16Ideal.Gen
open Idealize.ShloMosaic Idealize.ShloMosaic.TcCoe Idealize.ShloMosaic.Tactic

/-- The early columns of the gradient times the early columns of the weights, transposed. -/
def result (a : FVec Ideal S2048x5906 .f32) (b : FVec Ideal S2048x5906 .f32) : FVec Ideal S2048x2048 .f32 := fun y =>
  ∑ k : Fin 2560, Regroup.early a (ix2 ⟨(y 0).val, (y 0).isLt⟩ k) * Regroup.early b (ix2 ⟨(y 1).val, (y 1).isLt⟩ k)

/-- What a grid point computes from its blocks. -/
theorem block (a : FVec Ideal S2048x2560 .bf16) (b : FVec Ideal S512x2560 .bf16) (s : FVec Ideal S8x128 .f32) (y : S2048x512.Idx) :
    out0_3 (F := Ideal) a b s y = ∑ k : Fin 2560, a (ix2 ⟨(y 0).val, (y 0).isLt⟩ k) * b (ix2 ⟨(y 1).val, (y 1).isLt⟩ k) := by
  unfold out0_3
  frame_out
  pointwise [k0_pay1]

variable (m : (ℓ : Loc nD τ sig) → Buf (Elt Ideal) ℓ) (c : Dev nD)

theorem idx : ∀ t : Fin cfg0.N, win0_0.index t = ![0, 0] ∧ win0_1.index t = ![t.val, 0] ∧ win0_3.index t = ![0, t.val] :=
  (by decide +kernel : ∀ t : Fin grid0.N, _)

/-- The region finds the early group of the gradient. -/
theorem entered_rows : (V m c main_v12 : FVec Ideal S2048x2560 .bf16) = Regroup.early (m ((c : Thread nD τ).loc main_arg0)) := by
  exact Regroup.joined_early (m ((c : Thread nD τ).loc main_arg0)) (by decide) (by decide) (by decide) (by decide) (by decide) (by decide) (by decide) (by decide) (by decide) (by decide) (by decide) (by decide)

/-- The region finds the early group of the weights. -/
theorem entered_weights : (V m c main_v25 : FVec Ideal S2048x2560 .bf16) = Regroup.early (m ((c : Thread nD τ).loc main_arg1)) := by
  exact Regroup.joined_early (m ((c : Thread nD τ).loc main_arg1)) (by decide) (by decide) (by decide) (by decide) (by decide) (by decide) (by decide) (by decide) (by decide) (by decide) (by decide) (by decide)

theorem final : (dats m 0 c).arrAt 3 cfg0.N = result (m ((c : Thread nD τ).loc main_arg0)) (m ((c : Thread nD τ).loc main_arg1)) := by
  refine (dats m 0 c).arrAt_eq_of_covers 3 _ (by decide +kernel) fun t hf y => ?_
  blk_simp
  rw [after0_3, block]
  unfold result
  refine Finset.sum_congr (M := EReal) rfl fun k _ => ?_
  congr 1
  · refine (congrArg (fun z : FVec Ideal S2048x2560 .bf16 => (((cfg0.win 0).blk t).view.read (Elt Ideal) z) _) (entered_rows m c)).trans ?_
    generalize Regroup.early (m ((c : Thread nD τ).loc main_arg0)) = g
    blk_point [idx t]
  · refine (congrArg (fun z : FVec Ideal S2048x2560 .bf16 => (((cfg0.win 1).blk t).view.read (Elt Ideal) z) _) (entered_weights m c)).trans ?_
    generalize Regroup.early (m ((c : Thread nD τ).loc main_arg1)) = g
    blk_point [idx t]

end Cert.Kernel16Ideal.Product

namespace Cert.Proof

open Idealize.ShloMosaic Idealize.SL.Sem
open Cert.Reference16Ideal.Read in
theorem du_a_reference (a : FVec Ideal Kernel16Ideal.S2048x5906 .f32) (b : FVec Ideal Kernel16Ideal.S2048x5906 .f32) :
    val_main_v9 (F := Ideal) a b = Kernel16Ideal.Product.result a b := by
  funext y
  refine (val_main_v9_apply (F := Ideal) a b y).trans (Eq.trans ?_ (Regroup.early_sum a b _ _).symm)
  refine congrArg₂ (fun p q : EReal => p + q) ?_ ?_
  · refine (val_main_v7_apply a b y).trans (Finset.sum_congr (M := EReal) rfl fun k _ => congrArg₂ (fun p q : EReal => p * q) ?_ ?_)
    · refine (val_main_v6_apply (F := Ideal) a _).trans (congrArg a ?_)
      funext x
      match x with
      | 0 => rfl
      | 1 => rfl
    · refine (val_main_v2_apply (F := Ideal) b _).trans (congrArg b ?_)
      funext x
      match x with
      | 0 => rfl
      | 1 => rfl
  · refine (val_main_v8_apply a b y).trans (Finset.sum_congr (M := EReal) rfl fun k _ => congrArg₂ (fun p q : EReal => p * q) ?_ ?_)
    · refine (val_main_v5_apply (F := Ideal) a _).trans (congrArg a ?_)
      funext x
      match x with
      | 0 => rfl
      | 1 => rfl
    · refine (val_main_v1_apply (F := Ideal) b _).trans (congrArg b ?_)
      funext x
      match x with
      | 0 => rfl
      | 1 => rfl

theorem algebraic_du_a : Cert.algebraic_Kernel16Ideal_Reference16Ideal := by
  intro m g m' g' _ hagree
  refine ⟨fun c => Kernel16Ideal.Product.result (m (c.tc.loc Kernel16Ideal.main_arg0)) (m (c.tc.loc Kernel16Ideal.main_arg1)), ?_, ?_⟩
  · refine (θ_run _ _ _).mono (fun r h c => ?_) (Kernel16Ideal.Value.run_blocks (F := Ideal) m g)
    obtain ⟨h, hr⟩ := h c
    exact ⟨h.trans (Kernel16Ideal.Product.final m c), hr⟩
  · refine (θ_run _ _ _).mono (fun r h c => ?_) (Reference16Ideal.Value.run (F := Ideal) m' g')
    obtain ⟨h, hr⟩ := h c
    obtain ⟨e0, e1, e2⟩ := hagree c
    refine ⟨h.trans ((Reference16Ideal.Read.val_main_v9_eq _ _).trans ((du_a_reference _ _).trans ?_)), hr⟩
    rw [e0, e1]

end Cert.Proof

namespace Cert.Kernel17Ideal.Product

open Cert.Kernel17Ideal Cert.Kernel17Ideal.Gen
open Idealize.ShloMosaic Idealize.ShloMosaic.TcCoe Idealize.ShloMosaic.Tactic

/-- The late columns of the gradient times the late columns of the weights, transposed, and what came in. -/
def result (a : FVec Ideal S2048x5906 .f32) (b : FVec Ideal S2048x5906 .f32) (h : FVec Ideal S2048x2048 .f32) : FVec Ideal S2048x2048 .f32 := fun y =>
  (∑ k : Fin 3584, Regroup.late a (ix2 ⟨(y 0).val, (y 0).isLt⟩ k) * Regroup.late b (ix2 ⟨(y 1).val, (y 1).isLt⟩ k)) + h y

/-- What a grid point computes from its blocks. -/
theorem block (a : FVec Ideal S2048x3584 .bf16) (b : FVec Ideal S256x3584 .bf16) (h : FVec Ideal S2048x256 .f32) (s : FVec Ideal S8x128 .f32) (y : S2048x256.Idx) :
    out0_4 (F := Ideal) a b h s y = (∑ k : Fin 3584, a (ix2 ⟨(y 0).val, (y 0).isLt⟩ k) * b (ix2 ⟨(y 1).val, (y 1).isLt⟩ k)) + h y := by
  unfold out0_4
  frame_out
  pointwise [k0_pay1]

variable (m : (ℓ : Loc nD τ sig) → Buf (Elt Ideal) ℓ) (c : Dev nD)

theorem idx : ∀ t : Fin cfg0.N, win0_0.index t = ![0, 0] ∧ win0_1.index t = ![t.val, 0] ∧ win0_2.index t = ![0, t.val] ∧ win0_4.index t = ![0, t.val] :=
  (by decide +kernel : ∀ t : Fin grid0.N, _)

/-- The region finds the late group of the gradient. -/
theorem entered_rows : (V m c main_v12 : FVec Ideal S2048x3584 .bf16) = Regroup.late (m ((c : Thread nD τ).loc main_arg0)) := by
  exact Regroup.joined_late (m ((c : Thread nD τ).loc main_arg0)) (by decide) (by decide) (by decide) (by decide) (by decide) (by decide) (by decide) (by decide) (by decide) (by decide) (by decide) (by decide)

/-- The region finds the late group of the weights. -/
theorem entered_weights : (V m c main_v25 : FVec Ideal S2048x3584 .bf16) = Regroup.late (m ((c : Thread nD τ).loc main_arg1)) := by
  exact Regroup.joined_late (m ((c : Thread nD τ).loc main_arg1)) (by decide) (by decide) (by decide) (by decide) (by decide) (by decide) (by decide) (by decide) (by decide) (by decide) (by decide) (by decide)

theorem final : (dats m 0 c).arrAt 4 cfg0.N = result (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, block]
  unfold result
  refine congrArg₂ (fun p q : EReal => p + q) ?_ ?_
  · refine Finset.sum_congr (M := EReal) rfl fun k _ => ?_
    congr 1
    · refine (congrArg (fun z : FVec Ideal S2048x3584 .bf16 => (((cfg0.win 0).blk t).view.read (Elt Ideal) z) _) (entered_rows m c)).trans ?_
      generalize Regroup.late (m ((c : Thread nD τ).loc main_arg0)) = g
      blk_point [idx t]
    · refine (congrArg (fun z : FVec Ideal S2048x3584 .bf16 => (((cfg0.win 1).blk t).view.read (Elt Ideal) z) _) (entered_weights m c)).trans ?_
      generalize Regroup.late (m ((c : Thread nD τ).loc main_arg1)) = g
      blk_point [idx t]
  · blk_point [iblk, idx t]

end Cert.Kernel17Ideal.Product

namespace Cert.Proof

open Idealize.ShloMosaic Idealize.SL.Sem
open Cert.Reference17Ideal.Read in
theorem du_b_reference (a : FVec Ideal Kernel17Ideal.S2048x5906 .f32) (b : FVec Ideal Kernel17Ideal.S2048x5906 .f32) (h : FVec Ideal Kernel17Ideal.S2048x2048 .f32) :
    val_main_v10 (F := Ideal) a b h = Kernel17Ideal.Product.result a b h := by
  funext y
  refine (val_main_v10_apply (F := Ideal) a b h y).trans ((add_comm (G := EReal) _ _).trans ?_)
  refine congrArg (fun p : EReal => p + h y) ?_
  refine (val_main_v9_apply (F := Ideal) a b y).trans (Eq.trans ?_ (Regroup.late_sum a b _ _).symm)
  refine congrArg₂ (fun p q : EReal => p + q) ?_ ?_
  · refine (val_main_v7_apply a b y).trans (Finset.sum_congr (M := EReal) rfl fun k _ => congrArg₂ (fun p q : EReal => p * q) ?_ ?_)
    · refine (val_main_v6_apply (F := Ideal) a _).trans (congrArg a ?_)
      funext x
      match x with
      | 0 => rfl
      | 1 => rfl
    · refine (val_main_v2_apply (F := Ideal) b _).trans (congrArg b ?_)
      funext x
      match x with
      | 0 => rfl
      | 1 => rfl
  · refine (val_main_v8_apply a b y).trans (Finset.sum_congr (M := EReal) rfl fun k _ => congrArg₂ (fun p q : EReal => p * q) ?_ ?_)
    · refine (val_main_v5_apply (F := Ideal) a _).trans (congrArg a ?_)
      funext x
      match x with
      | 0 => rfl
      | 1 => rfl
    · refine (val_main_v1_apply (F := Ideal) b _).trans (congrArg b ?_)
      funext x
      match x with
      | 0 => rfl
      | 1 => rfl

theorem algebraic_du_b : Cert.algebraic_Kernel17Ideal_Reference17Ideal := by
  intro m g m' g' _ hagree
  refine ⟨fun c => Kernel17Ideal.Product.result (m (c.tc.loc Kernel17Ideal.main_arg0)) (m (c.tc.loc Kernel17Ideal.main_arg1)) (m (c.tc.loc Kernel17Ideal.main_arg2)), ?_, ?_⟩
  · refine (θ_run _ _ _).mono (fun r h c => ?_) (Kernel17Ideal.Value.run_blocks (F := Ideal) m g)
    obtain ⟨h, hr⟩ := h c
    exact ⟨h.trans (Kernel17Ideal.Product.final m c), hr⟩
  · refine (θ_run _ _ _).mono (fun r h c => ?_) (Reference17Ideal.Value.run (F := Ideal) m' g')
    obtain ⟨h, hr⟩ := h c
    obtain ⟨e0, e1, e2, e3⟩ := hagree c
    refine ⟨h.trans ((Reference17Ideal.Read.val_main_v10_eq _ _ _).trans ((du_b_reference _ _ _).trans ?_)), hr⟩
    rw [e0, e1, e2]

end Cert.Proof

end
-- ==== Proof.In.lean ====
module

public import proofs.«01_k».proof.Defs
public import Idealize.ShloMosaic.Lib.Pipeline.ValueKit
public import Idealize.ShloMosaic.Lib.Pointwise
public import proofs.«01_k».proof.Proof.Regroup
public import proofs.«01_k».proof.Proof.Gen.Kernel18Ideal.Value
public import proofs.«01_k».proof.Proof.Gen.Reference18Ideal.Read
public import proofs.«01_k».proof.Proof.Gen.Kernel19Ideal.Value
public import proofs.«01_k».proof.Proof.Gen.Reference19Ideal.Read

@[expose] public section

set_option maxRecDepth 16384
set_option maxHeartbeats 2000000

/-!
The in projection of the normed rows, one group of columns at a time.
-/

noncomputable section

namespace Cert.Kernel18Ideal.Product

open Cert.Kernel18Ideal Cert.Kernel18Ideal.Gen
open Idealize.ShloMosaic Idealize.ShloMosaic.TcCoe Idealize.ShloMosaic.Tactic

/-- The normed rows times the weights. -/
def wide (a : FVec Ideal S2048x2048 .f32) (b : FVec Ideal S2048x5906 .f32) : FVec Ideal S2048x5906 .f32 := fun y =>
  ∑ k : Fin 2048, a (ix2 ⟨(y 0).val, (y 0).isLt⟩ k) * b (ix2 k ⟨(y 1).val, (y 1).isLt⟩)

/-- Its early group of columns. -/
def result (a : FVec Ideal S2048x2048 .f32) (b : FVec Ideal S2048x5906 .f32) : FVec Ideal S2048x2560 .f32 := Regroup.early (wide a b)

/-- A column of the early group of the product: the sum over that column of the right factor's early group. -/
theorem result_apply (a : FVec Ideal S2048x2048 .f32) (b : FVec Ideal S2048x5906 .f32) (y : S2048x2560.Idx) :
    result a b y = ∑ k : Fin 2048, a (ix2 ⟨(y 0).val, (y 0).isLt⟩ k) * Regroup.early b (ix2 k ⟨(y 1).val, (y 1).isLt⟩) := by
  exact (congrArg (Regroup.early (wide a b)) (Regroup.entry y)).trans (Regroup.early_product (fun k i => a (ix2 i k)) (fun k => k) b _ _)

/-- What a grid point computes from its blocks. -/
theorem block (a : FVec Ideal S2048x2048 .bf16) (b : FVec Ideal S2048x512 .bf16) (y : S2048x512.Idx) :
    out0_2 (F := Ideal) a b y = ∑ k : Fin 2048, a (ix2 ⟨(y 0).val, (y 0).isLt⟩ k) * b (ix2 k ⟨(y 1).val, (y 1).isLt⟩) := by
  unfold out0_2
  frame_out
  pointwise [k0_pay1]

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

/-- The region finds the right factor's early group. -/
theorem entered : (V m c main_v13 : FVec Ideal S2048x2560 .bf16) = Regroup.early (m ((c : Thread nD τ).loc main_arg1)) := by
  exact Regroup.joined_early (m ((c : Thread nD τ).loc main_arg1)) (by decide) (by decide) (by decide) (by decide) (by decide) (by decide) (by decide) (by decide) (by decide) (by decide) (by decide) (by decide)

theorem final : (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, block]
  refine Eq.trans ?_ (result_apply _ _ _).symm
  refine Finset.sum_congr (M := EReal) rfl fun k _ => ?_
  congr 1
  · blk_point [iblk, idx t]
  · refine (congrArg (fun z : FVec Ideal S2048x2560 .bf16 => (((cfg0.win 1).blk t).view.read (Elt Ideal) z) _) (entered m c)).trans ?_
    generalize Regroup.early (m ((c : Thread nD τ).loc main_arg1)) = g
    blk_point [idx t]

end Cert.Kernel18Ideal.Product

namespace Cert.Proof

open Idealize.ShloMosaic Idealize.SL.Sem
open Cert.Reference18Ideal.Read in
theorem in_a_wide (a : FVec Ideal Kernel18Ideal.S2048x2048 .f32) (b : FVec Ideal Kernel18Ideal.S2048x5906 .f32) :
    val_main_v0 (F := Ideal) a b = Kernel18Ideal.Product.wide a b := by
  funext y
  refine (val_main_v0_apply a b y).trans ?_
  refine Finset.sum_congr (M := EReal) rfl fun k _ => ?_
  congr 1
  · congr 1
    funext x
    match x with
    | 0 => rfl
    | 1 => rfl
  · congr 1
    funext x
    match x with
    | 0 => rfl
    | 1 => rfl

open Cert.Reference18Ideal.Read in
theorem in_a_reference (a : FVec Ideal Kernel18Ideal.S2048x2048 .f32) (b : FVec Ideal Kernel18Ideal.S2048x5906 .f32) :
    val_main_v4 (F := Ideal) a b = Kernel18Ideal.Product.result a b := by
  unfold Kernel18Ideal.Product.result
  rw [← in_a_wide]
  exact Regroup.three_early (val_main_v0 (F := Ideal) a b) (by decide) (by decide) (by decide) (by decide)

theorem algebraic_in_a : Cert.algebraic_Kernel18Ideal_Reference18Ideal := by
  intro m g m' g' _ hagree
  refine ⟨fun c => Kernel18Ideal.Product.result (m (c.tc.loc Kernel18Ideal.main_arg0)) (m (c.tc.loc Kernel18Ideal.main_arg1)), ?_, ?_⟩
  · refine (θ_run _ _ _).mono (fun r h c => ?_) (Kernel18Ideal.Value.run_blocks (F := Ideal) m g)
    obtain ⟨h, hr⟩ := h c
    exact ⟨h.trans (Kernel18Ideal.Product.final m c), hr⟩
  · refine (θ_run _ _ _).mono (fun r h c => ?_) (Reference18Ideal.Value.run (F := Ideal) m' g')
    obtain ⟨h, hr⟩ := h c
    obtain ⟨e0, e1⟩ := hagree c
    refine ⟨h.trans ((Reference18Ideal.Read.val_main_v4_eq _ _).trans ((in_a_reference _ _).trans ?_)), hr⟩
    rw [e0, e1]

end Cert.Proof

namespace Cert.Kernel19Ideal.Product

open Cert.Kernel19Ideal Cert.Kernel19Ideal.Gen
open Idealize.ShloMosaic Idealize.ShloMosaic.TcCoe Idealize.ShloMosaic.Tactic

/-- The normed rows times the weights. -/
def wide (a : FVec Ideal S2048x2048 .f32) (b : FVec Ideal S2048x5906 .f32) : FVec Ideal S2048x5906 .f32 := fun y =>
  ∑ k : Fin 2048, a (ix2 ⟨(y 0).val, (y 0).isLt⟩ k) * b (ix2 k ⟨(y 1).val, (y 1).isLt⟩)

/-- Its late group of columns. -/
def result (a : FVec Ideal S2048x2048 .f32) (b : FVec Ideal S2048x5906 .f32) : FVec Ideal S2048x3584 .f32 := Regroup.late (wide a b)

/-- A column of the late group of the product: the sum over that column of the right factor's late group. -/
theorem result_apply (a : FVec Ideal S2048x2048 .f32) (b : FVec Ideal S2048x5906 .f32) (y : S2048x3584.Idx) :
    result a b y = ∑ k : Fin 2048, a (ix2 ⟨(y 0).val, (y 0).isLt⟩ k) * Regroup.late b (ix2 k ⟨(y 1).val, (y 1).isLt⟩) := by
  exact rfl

/-- What a grid point computes from its blocks. -/
theorem block (a : FVec Ideal S2048x2048 .bf16) (b : FVec Ideal S2048x512 .bf16) (y : S2048x512.Idx) :
    out0_2 (F := Ideal) a b y = ∑ k : Fin 2048, a (ix2 ⟨(y 0).val, (y 0).isLt⟩ k) * b (ix2 k ⟨(y 1).val, (y 1).isLt⟩) := by
  unfold out0_2
  frame_out
  pointwise [k0_pay1]

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

/-- The region finds the right factor's late group. -/
theorem entered : (V m c main_v13 : FVec Ideal S2048x3584 .bf16) = Regroup.late (m ((c : Thread nD τ).loc main_arg1)) := by
  exact Regroup.joined_late (m ((c : Thread nD τ).loc main_arg1)) (by decide) (by decide) (by decide) (by decide) (by decide) (by decide) (by decide) (by decide) (by decide) (by decide) (by decide) (by decide)

theorem final : (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2, block]
  refine Eq.trans ?_ (result_apply _ _ _).symm
  refine Finset.sum_congr (M := EReal) rfl fun k _ => ?_
  congr 1
  · blk_point [iblk, idx t]
  · refine (congrArg (fun z : FVec Ideal S2048x3584 .bf16 => (((cfg0.win 1).blk t).view.read (Elt Ideal) z) _) (entered m c)).trans ?_
    generalize Regroup.late (m ((c : Thread nD τ).loc main_arg1)) = g
    blk_point [idx t]

end Cert.Kernel19Ideal.Product

namespace Cert.Proof

open Idealize.ShloMosaic Idealize.SL.Sem
open Cert.Reference19Ideal.Read in
theorem in_b_wide (a : FVec Ideal Kernel19Ideal.S2048x2048 .f32) (b : FVec Ideal Kernel19Ideal.S2048x5906 .f32) :
    val_main_v0 (F := Ideal) a b = Kernel19Ideal.Product.wide a b := by
  funext y
  refine (val_main_v0_apply a b y).trans ?_
  refine Finset.sum_congr (M := EReal) rfl fun k _ => ?_
  congr 1
  · congr 1
    funext x
    match x with
    | 0 => rfl
    | 1 => rfl
  · congr 1
    funext x
    match x with
    | 0 => rfl
    | 1 => rfl

open Cert.Reference19Ideal.Read in
theorem in_b_reference (a : FVec Ideal Kernel19Ideal.S2048x2048 .f32) (b : FVec Ideal Kernel19Ideal.S2048x5906 .f32) :
    val_main_v3 (F := Ideal) a b = Kernel19Ideal.Product.result a b := by
  unfold Kernel19Ideal.Product.result
  rw [← in_b_wide]
  exact Regroup.two_late (val_main_v0 (F := Ideal) a b) (by decide) (by decide) (by decide)

theorem algebraic_in_b : Cert.algebraic_Kernel19Ideal_Reference19Ideal := by
  intro m g m' g' _ hagree
  refine ⟨fun c => Kernel19Ideal.Product.result (m (c.tc.loc Kernel19Ideal.main_arg0)) (m (c.tc.loc Kernel19Ideal.main_arg1)), ?_, ?_⟩
  · refine (θ_run _ _ _).mono (fun r h c => ?_) (Kernel19Ideal.Value.run_blocks (F := Ideal) m g)
    obtain ⟨h, hr⟩ := h c
    exact ⟨h.trans (Kernel19Ideal.Product.final m c), hr⟩
  · refine (θ_run _ _ _).mono (fun r h c => ?_) (Reference19Ideal.Value.run (F := Ideal) m' g')
    obtain ⟨h, hr⟩ := h c
    obtain ⟨e0, e1⟩ := hagree c
    refine ⟨h.trans ((Reference19Ideal.Read.val_main_v3_eq _ _).trans ((in_b_reference _ _).trans ?_)), hr⟩
    rw [e0, e1]

end Cert.Proof

end
-- ==== Proof.Step.lean ====
module

public import proofs.«01_k».proof.Defs
public import Idealize.ShloMosaic.Lib.Pointwise

@[expose] public section

/-!
One AdamW step, entry by entry: from the weight, its gradient and the two running averages it makes
the new averages and the change of the weight.
-/

noncomputable section

namespace Cert.Step

open Idealize.ShloMosaic

/-- A number by its bits. -/
abbrev lit (b : BitVec 32) : EReal := (FloatOps.ofBits (F := Ideal) .f32 b : Ideal .f32)

/-- The new average of the gradient: nine tenths of the old, a tenth of the gradient. -/
def mean (g m : EReal) : EReal := lit 0x3F666666#32 * m + lit 0x3DCCCCCD#32 * g

/-- The new average of the gradient's square. -/
def square (g v : EReal) : EReal := lit 0x3F7FBE77#32 * v + lit 0x3A83126F#32 * (g * g)

/-- The change of the weight: the average over the root of the average square, both made up for the
start at zero, and the weight's decay, times the rate. -/
def change (w g m v : EReal) : EReal :=
  lit 0xBA83126F#32 * (Ideal.div (Ideal.div (mean g m) (lit 0x3F26BD02#32))
    (Ideal.sqrt (Ideal.div (square g v) (lit 0x3C231ACC#32)) + lit 0x322BCC77#32) + lit 0x3C23D70A#32 * w)

variable {s : Shape}

/-- The three of whole arrays. -/
def means (g m : FVec Ideal s .f32) : FVec Ideal s .f32 := fun y => mean (g y) (m y)
def squares (g v : FVec Ideal s .f32) : FVec Ideal s .f32 := fun y => square (g y) (v y)
def changes (w g m v : FVec Ideal s .f32) : FVec Ideal s .f32 := fun y => change (w y) (g y) (m y) (v y)

end Cert.Step

end
-- ==== Proof.AdamW.lean ====
module

public import proofs.«01_k».proof.Defs
public import Idealize.ShloMosaic.Lib.Pipeline.ValueKit
public import Idealize.ShloMosaic.Lib.Pointwise
public import proofs.«01_k».proof.Proof.Step
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run

@[expose] public section

set_option maxRecDepth 16384
set_option maxHeartbeats 2000000

/-!
The AdamW steps whose gradient is one array: those of the out projection, the memory's keys and values, the
gate with the up projection, and the down projection. Each grid point takes a block of rows of the weight,
its gradient and its averages.
-/

noncomputable section

namespace Cert.Kernel20Ideal.Product

open Cert.Kernel20Ideal Cert.Kernel20Ideal.Gen
open Idealize.ShloMosaic Idealize.ShloMosaic.TcCoe Idealize.ShloMosaic.Tactic

/-- What a grid point computes from its blocks. -/
theorem blocks (w g m v : FVec Ideal S256x2048 .f32) :
    out0_4 (F := Ideal) w g m v = g ∧ out0_5 (F := Ideal) w g m v = Step.changes w g m v
      ∧ out0_6 (F := Ideal) w g m v = Step.means g m ∧ out0_7 (F := Ideal) w g m v = Step.squares g v := by
  refine ⟨funext fun y => ?_, funext fun y => ?_, funext fun y => ?_, funext fun y => ?_⟩
  · unfold out0_4; frame_out
  · unfold out0_5; frame_out; rfl
  · unfold out0_6; frame_out; rfl
  · unfold out0_7; frame_out; rfl

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem final (w g a v : FVec Ideal S512x2048 .f32) (hw : m ((c : Thread nD τ).loc main_arg0) = w) (hg : m ((c : Thread nD τ).loc main_arg1) = g)
    (ha : m ((c : Thread nD τ).loc main_arg2) = a) (hv : m ((c : Thread nD τ).loc main_arg3) = v) :
    (dats m 0 c).arrAt 4 cfg0.N = g ∧ (dats m 0 c).arrAt 5 cfg0.N = Step.changes w g a v
      ∧ (dats m 0 c).arrAt 6 cfg0.N = Step.means g a ∧ (dats m 0 c).arrAt 7 cfg0.N = Step.squares g v := by
  subst hw hg ha hv
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  all_goals blk_simp
  · rw [after0_4, (blocks _ _ _ _).1]; blk_point [iblk, idx t]
  · rw [after0_5, (blocks _ _ _ _).2.1]; unfold Step.changes; congr 1 <;> blk_point [iblk, idx t]
  · rw [after0_6, (blocks _ _ _ _).2.2.1]; unfold Step.means; congr 1 <;> blk_point [iblk, idx t]
  · rw [after0_7, (blocks _ _ _ _).2.2.2]; unfold Step.squares; congr 1 <;> blk_point [iblk, idx t]

end Cert.Kernel20Ideal.Product

namespace Cert.Kernel21Ideal.Product

open Cert.Kernel21Ideal Cert.Kernel21Ideal.Gen
open Idealize.ShloMosaic Idealize.ShloMosaic.TcCoe Idealize.ShloMosaic.Tactic

/-- What a grid point computes from its blocks. -/
theorem blocks (w g m v : FVec Ideal S512x1024 .f32) :
    out0_4 (F := Ideal) w g m v = g ∧ out0_5 (F := Ideal) w g m v = Step.changes w g m v
      ∧ out0_6 (F := Ideal) w g m v = Step.means g m ∧ out0_7 (F := Ideal) w g m v = Step.squares g v := by
  refine ⟨funext fun y => ?_, funext fun y => ?_, funext fun y => ?_, funext fun y => ?_⟩
  · unfold out0_4; frame_out
  · unfold out0_5; frame_out; rfl
  · unfold out0_6; frame_out; rfl
  · unfold out0_7; frame_out; rfl

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem final (w g a v : FVec Ideal S512x1024 .f32) (hw : m ((c : Thread nD τ).loc main_arg0) = w) (hg : m ((c : Thread nD τ).loc main_arg1) = g)
    (ha : m ((c : Thread nD τ).loc main_arg2) = a) (hv : m ((c : Thread nD τ).loc main_arg3) = v) :
    (dats m 0 c).arrAt 4 cfg0.N = g ∧ (dats m 0 c).arrAt 5 cfg0.N = Step.changes w g a v
      ∧ (dats m 0 c).arrAt 6 cfg0.N = Step.means g a ∧ (dats m 0 c).arrAt 7 cfg0.N = Step.squares g v := by
  subst hw hg ha hv
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  all_goals blk_simp
  · rw [after0_4, (blocks _ _ _ _).1]; blk_point [iblk, idx t]
  · rw [after0_5, (blocks _ _ _ _).2.1]; unfold Step.changes; congr 1 <;> blk_point [iblk, idx t]
  · rw [after0_6, (blocks _ _ _ _).2.2.1]; unfold Step.means; congr 1 <;> blk_point [iblk, idx t]
  · rw [after0_7, (blocks _ _ _ _).2.2.2]; unfold Step.squares; congr 1 <;> blk_point [iblk, idx t]

end Cert.Kernel21Ideal.Product

namespace Cert.Kernel22Ideal.Product

open Cert.Kernel22Ideal Cert.Kernel22Ideal.Gen
open Idealize.ShloMosaic Idealize.ShloMosaic.TcCoe Idealize.ShloMosaic.Tactic

/-- What a grid point computes from its blocks. -/
theorem blocks (w g m v : FVec Ideal S128x2816 .f32) :
    out0_4 (F := Ideal) w g m v = g ∧ out0_5 (F := Ideal) w g m v = Step.changes w g m v
      ∧ out0_6 (F := Ideal) w g m v = Step.means g m ∧ out0_7 (F := Ideal) w g m v = Step.squares g v := by
  refine ⟨funext fun y => ?_, funext fun y => ?_, funext fun y => ?_, funext fun y => ?_⟩
  · unfold out0_4; frame_out
  · unfold out0_5; frame_out; rfl
  · unfold out0_6; frame_out; rfl
  · unfold out0_7; frame_out; rfl

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem final (w g a v : FVec Ideal S2048x2816 .f32) (hw : m ((c : Thread nD τ).loc main_arg0) = w) (hg : m ((c : Thread nD τ).loc main_arg1) = g)
    (ha : m ((c : Thread nD τ).loc main_arg2) = a) (hv : m ((c : Thread nD τ).loc main_arg3) = v) :
    (dats m 0 c).arrAt 4 cfg0.N = g ∧ (dats m 0 c).arrAt 5 cfg0.N = Step.changes w g a v
      ∧ (dats m 0 c).arrAt 6 cfg0.N = Step.means g a ∧ (dats m 0 c).arrAt 7 cfg0.N = Step.squares g v := by
  subst hw hg ha hv
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  all_goals blk_simp
  · rw [after0_4, (blocks _ _ _ _).1]; blk_point [iblk, idx t]
  · rw [after0_5, (blocks _ _ _ _).2.1]; unfold Step.changes; congr 1 <;> blk_point [iblk, idx t]
  · rw [after0_6, (blocks _ _ _ _).2.2.1]; unfold Step.means; congr 1 <;> blk_point [iblk, idx t]
  · rw [after0_7, (blocks _ _ _ _).2.2.2]; unfold Step.squares; congr 1 <;> blk_point [iblk, idx t]

end Cert.Kernel22Ideal.Product

namespace Cert.Kernel23Ideal.Product

open Cert.Kernel23Ideal Cert.Kernel23Ideal.Gen
open Idealize.ShloMosaic Idealize.ShloMosaic.TcCoe Idealize.ShloMosaic.Tactic

/-- What a grid point computes from its blocks. -/
theorem blocks (w g m v : FVec Ideal S176x2048 .f32) :
    out0_4 (F := Ideal) w g m v = g ∧ out0_5 (F := Ideal) w g m v = Step.changes w g m v
      ∧ out0_6 (F := Ideal) w g m v = Step.means g m ∧ out0_7 (F := Ideal) w g m v = Step.squares g v := by
  refine ⟨funext fun y => ?_, funext fun y => ?_, funext fun y => ?_, funext fun y => ?_⟩
  · unfold out0_4; frame_out
  · unfold out0_5; frame_out; rfl
  · unfold out0_6; frame_out; rfl
  · unfold out0_7; frame_out; rfl

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem final (w g a v : FVec Ideal S1408x2048 .f32) (hw : m ((c : Thread nD τ).loc main_arg0) = w) (hg : m ((c : Thread nD τ).loc main_arg1) = g)
    (ha : m ((c : Thread nD τ).loc main_arg2) = a) (hv : m ((c : Thread nD τ).loc main_arg3) = v) :
    (dats m 0 c).arrAt 4 cfg0.N = g ∧ (dats m 0 c).arrAt 5 cfg0.N = Step.changes w g a v
      ∧ (dats m 0 c).arrAt 6 cfg0.N = Step.means g a ∧ (dats m 0 c).arrAt 7 cfg0.N = Step.squares g v := by
  subst hw hg ha hv
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  all_goals blk_simp
  · rw [after0_4, (blocks _ _ _ _).1]; blk_point [iblk, idx t]
  · rw [after0_5, (blocks _ _ _ _).2.1]; unfold Step.changes; congr 1 <;> blk_point [iblk, idx t]
  · rw [after0_6, (blocks _ _ _ _).2.2.1]; unfold Step.means; congr 1 <;> blk_point [iblk, idx t]
  · rw [after0_7, (blocks _ _ _ _).2.2.2]; unfold Step.squares; congr 1 <;> blk_point [iblk, idx t]

end Cert.Kernel23Ideal.Product

namespace Cert.Proof

open Idealize.ShloMosaic Idealize.SL.Sem

theorem algebraic_adamw_out : Cert.algebraic_Kernel20Ideal_Reference20Ideal := by
  intro m g m' g' _ hagree
  refine ⟨fun c => (Kernel20Ideal.Gen.dats m 0 c).arrAt 4 _, fun c => (Kernel20Ideal.Gen.dats m 0 c).arrAt 5 _,
    fun c => (Kernel20Ideal.Gen.dats m 0 c).arrAt 6 _, fun c => (Kernel20Ideal.Gen.dats m 0 c).arrAt 7 _, Kernel20Ideal.Value.run_blocks (F := Ideal) m g, ?_⟩
  refine (θ_run _ _ _).mono (fun r h c => ?_) (Reference20Ideal.Value.run (F := Ideal) m' g')
  obtain ⟨h4, h5, h6, h7, hr⟩ := h c
  obtain ⟨e0, e1, e2, e3⟩ := hagree c
  obtain ⟨f4, f5, f6, f7⟩ := Kernel20Ideal.Product.final m c _ _ _ _ e0.symm e1.symm e2.symm e3.symm
  exact ⟨h4.trans f4.symm, h5.trans f5.symm, h6.trans f6.symm, h7.trans f7.symm, hr⟩

theorem algebraic_adamw_mem_kv : Cert.algebraic_Kernel21Ideal_Reference21Ideal := by
  intro m g m' g' _ hagree
  refine ⟨fun c => (Kernel21Ideal.Gen.dats m 0 c).arrAt 4 _, fun c => (Kernel21Ideal.Gen.dats m 0 c).arrAt 5 _,
    fun c => (Kernel21Ideal.Gen.dats m 0 c).arrAt 6 _, fun c => (Kernel21Ideal.Gen.dats m 0 c).arrAt 7 _, Kernel21Ideal.Value.run_blocks (F := Ideal) m g, ?_⟩
  refine (θ_run _ _ _).mono (fun r h c => ?_) (Reference21Ideal.Value.run (F := Ideal) m' g')
  obtain ⟨h4, h5, h6, h7, hr⟩ := h c
  obtain ⟨e0, e1, e2, e3⟩ := hagree c
  obtain ⟨f4, f5, f6, f7⟩ := Kernel21Ideal.Product.final m c _ _ _ _ e0.symm e1.symm e2.symm e3.symm
  exact ⟨h4.trans f4.symm, h5.trans f5.symm, h6.trans f6.symm, h7.trans f7.symm, hr⟩

theorem algebraic_adamw_gate_up : Cert.algebraic_Kernel22Ideal_Reference22Ideal := by
  intro m g m' g' _ hagree
  refine ⟨fun c => (Kernel22Ideal.Gen.dats m 0 c).arrAt 4 _, fun c => (Kernel22Ideal.Gen.dats m 0 c).arrAt 5 _,
    fun c => (Kernel22Ideal.Gen.dats m 0 c).arrAt 6 _, fun c => (Kernel22Ideal.Gen.dats m 0 c).arrAt 7 _, Kernel22Ideal.Value.run_blocks (F := Ideal) m g, ?_⟩
  refine (θ_run _ _ _).mono (fun r h c => ?_) (Reference22Ideal.Value.run (F := Ideal) m' g')
  obtain ⟨h4, h5, h6, h7, hr⟩ := h c
  obtain ⟨e0, e1, e2, e3⟩ := hagree c
  obtain ⟨f4, f5, f6, f7⟩ := Kernel22Ideal.Product.final m c _ _ _ _ e0.symm e1.symm e2.symm e3.symm
  exact ⟨h4.trans f4.symm, h5.trans f5.symm, h6.trans f6.symm, h7.trans f7.symm, hr⟩

theorem algebraic_adamw_down : Cert.algebraic_Kernel23Ideal_Reference23Ideal := by
  intro m g m' g' _ hagree
  refine ⟨fun c => (Kernel23Ideal.Gen.dats m 0 c).arrAt 4 _, fun c => (Kernel23Ideal.Gen.dats m 0 c).arrAt 5 _,
    fun c => (Kernel23Ideal.Gen.dats m 0 c).arrAt 6 _, fun c => (Kernel23Ideal.Gen.dats m 0 c).arrAt 7 _, Kernel23Ideal.Value.run_blocks (F := Ideal) m g, ?_⟩
  refine (θ_run _ _ _).mono (fun r h c => ?_) (Reference23Ideal.Value.run (F := Ideal) m' g')
  obtain ⟨h4, h5, h6, h7, hr⟩ := h c
  obtain ⟨e0, e1, e2, e3⟩ := hagree c
  obtain ⟨f4, f5, f6, f7⟩ := Kernel23Ideal.Product.final m c _ _ _ _ e0.symm e1.symm e2.symm e3.symm
  exact ⟨h4.trans f4.symm, h5.trans f5.symm, h6.trans f6.symm, h7.trans f7.symm, hr⟩

end Cert.Proof

end
-- ==== Proof.Ungroup.lean ====
module

public import proofs.«01_k».proof.Defs
public import Idealize.ShloMosaic.Lib.Pointwise
public import proofs.«01_k».proof.Proof.Regroup

@[expose] public section

set_option maxRecDepth 16384
set_option maxHeartbeats 2000000

/-!
The two groups of columns put back in the order of the in projection's columns.
-/

noncomputable section

namespace Cert.Regroup

open Idealize.ShloMosaic Idealize.ShloMosaic.Tactic

variable {r : ℕ} (a : (Rows r 2560).Idx → EReal) (b : (Rows r 3584).Idx → EReal)

/-- The 5906 columns of the early group `a` and the late group `b`. -/
def ungrouped : (Rows r 5906).Idx → EReal := fun y =>
  if h : (y 1).val < 2310 then a (ix2 ⟨(y 0).val, (y 0).isLt⟩ ⟨(y 1).val, by omega⟩)
  else if h' : (y 1).val < 5382 then b (ix2 ⟨(y 0).val, (y 0).isLt⟩ ⟨(y 1).val - 2310, by omega⟩)
  else if h'' : (y 1).val < 5394 then a (ix2 ⟨(y 0).val, (y 0).isLt⟩ ⟨(y 1).val - 3072, by omega⟩)
  else b (ix2 ⟨(y 0).val, (y 0).isLt⟩ ⟨(y 1).val - 2322, by have h : (y 1).val < 5906 := (y 1).isLt; omega⟩)

/-- An entry by its row and its column. -/
theorem entry' {n : ℕ} (y : (Rows r n).Idx) : y = ix2 (⟨(y 0).val, (y 0).isLt⟩ : Fin r) (⟨(y 1).val, (y 1).isLt⟩ : Fin n) := by
  funext t
  match t with
  | ⟨0, _⟩ => rfl
  | ⟨1, _⟩ => rfl

/-- Only the groups' row `y 0` is read. -/
theorem ungrouped_row {R : ℕ} (a' : (Rows R 2560).Idx → EReal) (b' : (Rows R 3584).Idx → EReal) (y : (Rows r 5906).Idx) (z : (Rows R 5906).Idx)
    (ha : ∀ j : Fin 2560, a (ix2 (⟨(y 0).val, (y 0).isLt⟩ : Fin r) j) = a' (ix2 (⟨(z 0).val, (z 0).isLt⟩ : Fin R) j))
    (hb : ∀ j : Fin 3584, b (ix2 (⟨(y 0).val, (y 0).isLt⟩ : Fin r) j) = b' (ix2 (⟨(z 0).val, (z 0).isLt⟩ : Fin R) j))
    (h : (z 1).val = (y 1).val) : ungrouped a b y = ungrouped a' b' z := by
  unfold ungrouped
  simp only [h, ha, hb]

/-- The two groups side by side, cut in four and joined in the columns' order. -/
theorem of_four (p : (Rows r 2560).Slices ![0, 0] (Rows r 2310)) (q : (Rows r 3584).Slices ![0, 0] (Rows r 3072))
    (s : (Rows r 2560).Slices ![0, 2310] (Rows r 12)) (t : (Rows r 3584).Slices ![0, 3072] (Rows r 512))
    (h : Shape.Concatenates [Rows r 2310, Rows r 3072, Rows r 12, Rows r 512] (Rows r 5906) 1) :
    concatenate (Rows r 5906) 1 [⟨Rows r 2310, extractStridedSlice (Rows r 2310) ![0, 0] a p⟩, ⟨Rows r 3072, extractStridedSlice (Rows r 3072) ![0, 0] b q⟩,
      ⟨Rows r 12, extractStridedSlice (Rows r 12) ![0, 2310] a s⟩, ⟨Rows r 512, extractStridedSlice (Rows r 512) ![0, 3072] b t⟩] h = ungrouped a b := by
  funext y
  have y1 : (y 1).val < 5906 := (y 1).isLt
  refine (congrArg _ (entry' y)).trans ?_
  unfold ungrouped
  split
  · exact piece_apply (w := 5906) a _ _ 0 2310 0 0 p (by exact Nat.zero_lt_succ _) rfl rfl _ _ _ (Nat.zero_le _) (by show (y 1).val < 0 + 2310; omega) rfl
  split
  · exact piece_apply (w := 5906) b _ _ 1 3072 0 2310 q (by exact (by decide : 1 < 4)) rfl rfl _ _ _ (by show 2310 ≤ (y 1).val; omega) (by show (y 1).val < 2310 + 3072; omega)
      (by show (y 1).val + 0 = (y 1).val - 2310 + 2310; omega)
  split
  · exact piece_apply (w := 5906) a _ _ 2 12 2310 5382 s (by exact (by decide : 2 < 4)) rfl rfl _ _ _ (by show 5382 ≤ (y 1).val; omega) (by show (y 1).val < 5382 + 12; omega)
      (by show (y 1).val + 2310 = (y 1).val - 3072 + 5382; omega)
  · exact piece_apply (w := 5906) b _ _ 3 512 3072 5394 t (by exact (by decide : 3 < 4)) rfl rfl _ _ _ (by show 5394 ≤ (y 1).val; omega) (by show (y 1).val < 5394 + 512; omega)
      (by show (y 1).val + 3072 = (y 1).val - 2322 + 5394; omega)

variable (g : Shape.Concatenates [Rows r 2560, Rows r 3584] (Rows r 6144) 1)

/-- The two groups side by side. -/
abbrev sides : (Rows r 6144).Idx → EReal := concatenate (Rows r 6144) 1 [⟨Rows r 2560, a⟩, ⟨Rows r 3584, b⟩] g

theorem sides_early (i : Fin r) (u : Fin 6144) (l : Fin 2560) (hl : l.val = u.val) : sides a b g (ix2 i u) = a (ix2 i l) :=
  beside_apply (w := 6144) [⟨Rows r 2560, a⟩, ⟨Rows r 3584, b⟩] g 0 2560 0 (by exact Nat.zero_lt_succ _) a rfl rfl i u l (by omega)

theorem sides_late (i : Fin r) (u : Fin 6144) (l : Fin 3584) (hl : 2560 + l.val = u.val) : sides a b g (ix2 i u) = b (ix2 i l) :=
  beside_apply (w := 6144) [⟨Rows r 2560, a⟩, ⟨Rows r 3584, b⟩] g 1 3584 2560 (by decide : 1 < 2) b rfl rfl i u l hl

/-- The two groups side by side, cut in seven and joined in the columns' order. -/
theorem of_seven (p : (Rows r 6144).Slices ![0, 0] (Rows r 2304)) (q : (Rows r 6144).Slices ![0, 2304] (Rows r 6)) (s : (Rows r 6144).Slices ![0, 2560] (Rows r 2304))
    (t : (Rows r 6144).Slices ![0, 4864] (Rows r 768)) (u : (Rows r 6144).Slices ![0, 2310] (Rows r 6)) (v : (Rows r 6144).Slices ![0, 2316] (Rows r 6))
    (w : (Rows r 6144).Slices ![0, 5632] (Rows r 512))
    (h : Shape.Concatenates [Rows r 2304, Rows r 6, Rows r 2304, Rows r 768, Rows r 6, Rows r 6, Rows r 512] (Rows r 5906) 1) :
    concatenate (Rows r 5906) 1 [⟨Rows r 2304, extractStridedSlice (Rows r 2304) ![0, 0] (sides a b g) p⟩, ⟨Rows r 6, extractStridedSlice (Rows r 6) ![0, 2304] (sides a b g) q⟩,
      ⟨Rows r 2304, extractStridedSlice (Rows r 2304) ![0, 2560] (sides a b g) s⟩, ⟨Rows r 768, extractStridedSlice (Rows r 768) ![0, 4864] (sides a b g) t⟩,
      ⟨Rows r 6, extractStridedSlice (Rows r 6) ![0, 2310] (sides a b g) u⟩, ⟨Rows r 6, extractStridedSlice (Rows r 6) ![0, 2316] (sides a b g) v⟩,
      ⟨Rows r 512, extractStridedSlice (Rows r 512) ![0, 5632] (sides a b g) w⟩] h = ungrouped a b := by
  funext y
  have y1 : (y 1).val < 5906 := (y 1).isLt
  refine (congrArg _ (entry' y)).trans ?_
  unfold ungrouped
  split
  · refine Eq.trans ?_ (sides_early a b g _ ⟨(y 1).val, by omega⟩ _ rfl)
    by_cases h1 : (y 1).val < 2304
    · exact piece_apply (w := 5906) (sides a b g) _ _ 0 2304 0 0 p (by exact Nat.zero_lt_succ _) rfl rfl _ _ _ (Nat.zero_le _) (by show (y 1).val < 0 + 2304; omega) rfl
    · exact piece_apply (w := 5906) (sides a b g) _ _ 1 6 2304 2304 q (by exact (by decide : 1 < 7)) rfl rfl _ _ _ (by show 2304 ≤ (y 1).val; omega) (by show (y 1).val < 2304 + 6; omega) rfl
  split
  · refine Eq.trans ?_ (sides_late a b g _ ⟨(y 1).val + 250, by omega⟩ _ (by show 2560 + ((y 1).val - 2310) = (y 1).val + 250; omega))
    by_cases h1 : (y 1).val < 4614
    · exact piece_apply (w := 5906) (sides a b g) _ _ 2 2304 2560 2310 s (by exact (by decide : 2 < 7)) rfl rfl _ _ _ (by show 2310 ≤ (y 1).val; omega) (by show (y 1).val < 2310 + 2304; omega) rfl
    · exact piece_apply (w := 5906) (sides a b g) _ _ 3 768 4864 4614 t (by exact (by decide : 3 < 7)) rfl rfl _ _ _ (by show 4614 ≤ (y 1).val; omega) (by show (y 1).val < 4614 + 768; omega) rfl
  split
  · refine Eq.trans ?_ (sides_early a b g _ ⟨(y 1).val - 3072, by omega⟩ _ rfl)
    by_cases h1 : (y 1).val < 5388
    · exact piece_apply (w := 5906) (sides a b g) _ _ 4 6 2310 5382 u (by exact (by decide : 4 < 7)) rfl rfl _ _ _ (by show 5382 ≤ (y 1).val; omega) (by show (y 1).val < 5382 + 6; omega)
        (by show (y 1).val + 2310 = (y 1).val - 3072 + 5382; omega)
    · exact piece_apply (w := 5906) (sides a b g) _ _ 5 6 2316 5388 v (by exact (by decide : 5 < 7)) rfl rfl _ _ _ (by show 5388 ≤ (y 1).val; omega) (by show (y 1).val < 5388 + 6; omega)
        (by show (y 1).val + 2316 = (y 1).val - 3072 + 5388; omega)
  · refine Eq.trans ?_ (sides_late a b g _ ⟨(y 1).val + 238, by omega⟩ _ (by show 2560 + ((y 1).val - 2322) = (y 1).val + 238; omega))
    exact piece_apply (w := 5906) (sides a b g) _ _ 6 512 5632 5394 w (by exact (by decide : 6 < 7)) rfl rfl _ _ _ (by show 5394 ≤ (y 1).val; omega) (by show (y 1).val < 5394 + 512; omega) rfl

end Cert.Regroup

end
-- ==== Proof.AdamWIn.lean ====
module

public import proofs.«01_k».proof.Defs
public import Idealize.ShloMosaic.Lib.Pipeline.ValueKit
public import Idealize.ShloMosaic.Lib.Pointwise
public import proofs.«01_k».proof.Proof.Step
public import proofs.«01_k».proof.Proof.Ungroup
public import proofs.«01_k».proof.Proof.Gen.Kernel24Ideal.Value
public import proofs.«01_k».proof.Proof.Gen.Reference24Ideal.Run

@[expose] public section

set_option maxRecDepth 16384
set_option maxHeartbeats 2000000

/-!
The AdamW step of the in projection, whose gradient comes in two groups of columns: each grid point
takes 64 rows of the weight, of both groups and of the averages, and puts the gradient's columns in order.
-/

noncomputable section

namespace Cert.Kernel24Ideal.Product

open Cert.Kernel24Ideal Cert.Kernel24Ideal.Gen
open Idealize.ShloMosaic Idealize.ShloMosaic.TcCoe Idealize.ShloMosaic.Tactic

theorem gradient (a : FVec Ideal S64x2560 .f32) (b : FVec Ideal S64x3584 .f32) : k0_pay2 (F := Ideal) a b = Regroup.ungrouped (r := 64) a b := by
  exact Regroup.of_seven (r := 64) a b (by decide) (by decide) (by decide) (by decide) (by decide) (by decide) (by decide) (by decide) (by decide)

/-- What a grid point computes from its blocks. -/
theorem blocks (w : FVec Ideal S64x5906 .f32) (a : FVec Ideal S64x2560 .f32) (b : FVec Ideal S64x3584 .f32) (m v : FVec Ideal S64x5906 .f32) :
    out0_5 (F := Ideal) w a b m v = Regroup.ungrouped (r := 64) a b ∧ out0_6 (F := Ideal) w a b m v = Step.changes w (Regroup.ungrouped (r := 64) a b) m v
      ∧ out0_7 (F := Ideal) w a b m v = Step.means (Regroup.ungrouped (r := 64) a b) m ∧ out0_8 (F := Ideal) w a b m v = Step.squares (Regroup.ungrouped (r := 64) a b) v := by
  rw [← gradient]
  refine ⟨funext fun y => ?_, funext fun y => ?_, funext fun y => ?_, funext fun y => ?_⟩
  · unfold out0_5; frame_out
  · unfold out0_6; frame_out; rfl
  · unfold out0_7; frame_out; rfl
  · unfold out0_8; frame_out; rfl

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)

/-- The gradient's columns in order, at a grid point's rows. -/
theorem gradient_rows (t : Fin cfg0.N) (y : S64x5906.Idx) (z : S512x5906.Idx) (h0 : (z 0).val = t.val * 64 + (y 0).val) (h1 : (z 1).val = (y 1).val) :
    Regroup.ungrouped (r := 64) (iblk m c 1 t) (iblk m c 2 t) y = Regroup.ungrouped (r := 512) (m ((c : Thread nD τ).loc main_arg1)) (m ((c : Thread nD τ).loc main_arg2)) z := by
  refine Regroup.ungrouped_row _ _ _ _ y z (fun j => ?_) (fun j => ?_) h1
  · blk_point [iblk, idx t]
  · blk_point [iblk, idx t]

/-- The row and the column at which a grid point's result lies. -/
theorem place (t : Fin cfg0.N) (y : S64x5906.Idx) : win0_5.index t 0 * 64 + 1 * (y 0).val = t.val * 64 + (y 0).val ∧ win0_5.index t 1 * 5906 + 1 * (y 1).val = (y 1).val := by
  rw [(idx t).2.2.2.2.2.1]
  constructor
  · show t.val * 64 + 1 * (y 0).val = _
    omega
  · show 0 * 5906 + 1 * (y 1).val = _
    omega

theorem final_gradient : (dats m 0 c).arrAt 5 cfg0.N = Regroup.ungrouped (r := 512) (m ((c : Thread nD τ).loc main_arg1)) (m ((c : Thread nD τ).loc main_arg2)) := by
  refine (dats m 0 c).arrAt_eq_of_covers 5 _ (by decide +kernel) fun t hf y => ?_
  blk_simp
  rw [after0_5, (blocks _ _ _ _ _).1]
  exact gradient_rows m c t y (((cfg0.win 5).blk t).view.emb y) (place t y).1 (place t y).2

theorem final_change : (dats m 0 c).arrAt 6 cfg0.N = Step.changes (s := S512x5906) (m ((c : Thread nD τ).loc main_arg0))
    (Regroup.ungrouped (r := 512) (m ((c : Thread nD τ).loc main_arg1)) (m ((c : Thread nD τ).loc main_arg2))) (m ((c : Thread nD τ).loc main_arg3)) (m ((c : Thread nD τ).loc main_arg4)) := by
  refine (dats m 0 c).arrAt_eq_of_covers 6 _ (by decide +kernel) fun t hf y => ?_
  blk_simp
  rw [after0_6, (blocks _ _ _ _ _).2.1]
  have e := gradient_rows m c t y (((cfg0.win 6).blk t).view.emb y) (place t y).1 (place t y).2
  unfold Step.changes
  rw [e]
  generalize Regroup.ungrouped (r := 512) (m ((c : Thread nD τ).loc main_arg1)) (m ((c : Thread nD τ).loc main_arg2)) (((cfg0.win 6).blk t).view.emb y) = g
  congr 1 <;> blk_point [iblk, idx t]

theorem final_mean : (dats m 0 c).arrAt 7 cfg0.N = Step.means (s := S512x5906)
    (Regroup.ungrouped (r := 512) (m ((c : Thread nD τ).loc main_arg1)) (m ((c : Thread nD τ).loc main_arg2))) (m ((c : Thread nD τ).loc main_arg3)) := by
  refine (dats m 0 c).arrAt_eq_of_covers 7 _ (by decide +kernel) fun t hf y => ?_
  blk_simp
  rw [after0_7, (blocks _ _ _ _ _).2.2.1]
  have e := gradient_rows m c t y (((cfg0.win 7).blk t).view.emb y) (place t y).1 (place t y).2
  unfold Step.means
  rw [e]
  generalize Regroup.ungrouped (r := 512) (m ((c : Thread nD τ).loc main_arg1)) (m ((c : Thread nD τ).loc main_arg2)) (((cfg0.win 7).blk t).view.emb y) = g
  congr 1

theorem final_square : (dats m 0 c).arrAt 8 cfg0.N = Step.squares (s := S512x5906)
    (Regroup.ungrouped (r := 512) (m ((c : Thread nD τ).loc main_arg1)) (m ((c : Thread nD τ).loc main_arg2))) (m ((c : Thread nD τ).loc main_arg4)) := by
  refine (dats m 0 c).arrAt_eq_of_covers 8 _ (by decide +kernel) fun t hf y => ?_
  blk_simp
  rw [after0_8, (blocks _ _ _ _ _).2.2.2]
  have e := gradient_rows m c t y (((cfg0.win 8).blk t).view.emb y) (place t y).1 (place t y).2
  unfold Step.squares
  rw [e]
  generalize Regroup.ungrouped (r := 512) (m ((c : Thread nD τ).loc main_arg1)) (m ((c : Thread nD τ).loc main_arg2)) (((cfg0.win 8).blk t).view.emb y) = g
  congr 1

end Cert.Kernel24Ideal.Product

namespace Cert.Proof

open Idealize.ShloMosaic Idealize.SL.Sem

theorem algebraic_adamw_in : Cert.algebraic_Kernel24Ideal_Reference24Ideal := by
  intro m g m' g' _ hagree
  refine ⟨fun c => (Kernel24Ideal.Gen.dats m 0 c).arrAt 5 _, fun c => (Kernel24Ideal.Gen.dats m 0 c).arrAt 6 _,
    fun c => (Kernel24Ideal.Gen.dats m 0 c).arrAt 7 _, fun c => (Kernel24Ideal.Gen.dats m 0 c).arrAt 8 _, Kernel24Ideal.Value.run_blocks (F := Ideal) m g, ?_⟩
  refine (θ_run _ _ _).mono (fun r h c => ?_) (Reference24Ideal.Value.run (F := Ideal) m' g')
  obtain ⟨h5, h6, h7, h8, hr⟩ := h c
  obtain ⟨e0, e1, e2, e3, e4⟩ := hagree c
  have f5 := Kernel24Ideal.Product.final_gradient m c
  have f6 := Kernel24Ideal.Product.final_change m c
  have f7 := Kernel24Ideal.Product.final_mean m c
  have f8 := Kernel24Ideal.Product.final_square m c
  rw [← e1, ← e2, ← Regroup.of_four (r := 512) _ _ (by decide) (by decide) (by decide) (by decide) (by decide)] at f5 f6 f7 f8
  rw [← e0, ← e3, ← e4] at f6
  rw [← e3] at f7
  rw [← e4] at f8
  exact ⟨h5.trans f5.symm, h6.trans f6.symm, h7.trans f7.symm, h8.trans f8.symm, hr⟩

end Cert.Proof

end
-- ==== Proof.lean ====
/- The claims, put together from the modules under Proof/. -/
module

public import proofs.«01_k».proof.Defs
public import proofs.«01_k».proof.Proof.Frames
public import proofs.«01_k».proof.Proof.Values
public import proofs.«01_k».proof.Proof.ProductFrames
public import proofs.«01_k».proof.Proof.Dact
public import proofs.«01_k».proof.Proof.DwGateUp
public import proofs.«01_k».proof.Proof.Dn
public import proofs.«01_k».proof.Proof.DwDown
public import proofs.«01_k».proof.Proof.Up
public import proofs.«01_k».proof.Proof.Down
public import proofs.«01_k».proof.Proof.Out
public import proofs.«01_k».proof.Proof.Memory
public import proofs.«01_k».proof.Proof.DwIn
public import proofs.«01_k».proof.Proof.Du
public import proofs.«01_k».proof.Proof.In
public import proofs.«01_k».proof.Proof.AdamW
public import proofs.«01_k».proof.Proof.AdamWIn
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  frame_Kernel, frame_KernelIdeal, frame_ReferenceIdeal,
  frame_Kernel2, frame_Kernel2Ideal, frame_Reference2Ideal,
  frame_Kernel3, frame_Kernel3Ideal, frame_Reference3Ideal,
  frame_Kernel4, frame_Kernel4Ideal, frame_Reference4Ideal,
  frame_Kernel5, frame_Kernel5Ideal, frame_Reference5Ideal,
  frame_Kernel6, frame_Kernel6Ideal, frame_Reference6Ideal,
  frame_Kernel7, frame_Kernel7Ideal, frame_Reference7Ideal,
  frame_Kernel8, frame_Kernel8Ideal, frame_Reference8Ideal,
  frame_Kernel9, frame_Kernel9Ideal, frame_Reference9Ideal,
  frame_Kernel10, frame_Kernel10Ideal, frame_Reference10Ideal,
  frame_Kernel11, frame_Kernel11Ideal, frame_Reference11Ideal,
  frame_Kernel12, frame_Kernel12Ideal, frame_Reference12Ideal,
  frame_Kernel13, frame_Kernel13Ideal, frame_Reference13Ideal,
  frame_Kernel14, frame_Kernel14Ideal, frame_Reference14Ideal,
  frame_Kernel15, frame_Kernel15Ideal, frame_Reference15Ideal,
  frame_Kernel16, frame_Kernel16Ideal, frame_Reference16Ideal,
  frame_Kernel17, frame_Kernel17Ideal, frame_Reference17Ideal,
  frame_Kernel18, frame_Kernel18Ideal, frame_Reference18Ideal,
  frame_Kernel19, frame_Kernel19Ideal, frame_Reference19Ideal,
  frame_Kernel20, frame_Kernel20Ideal, frame_Reference20Ideal,
  frame_Kernel21, frame_Kernel21Ideal, frame_Reference21Ideal,
  frame_Kernel22, frame_Kernel22Ideal, frame_Reference22Ideal,
  frame_Kernel23, frame_Kernel23Ideal, frame_Reference23Ideal,
  frame_Kernel24, frame_Kernel24Ideal, frame_Reference24Ideal,
  trivial, algebraic,
  trivial, algebraic_dact,
  trivial, algebraic_dw_gate_up,
  trivial, algebraic_dn,
  trivial, algebraic_dw_down,
  trivial, algebraic_up,
  trivial, algebraic_down,
  trivial, algebraic_dw_out,
  trivial, algebraic_dmix,
  trivial, algebraic_out,
  trivial, algebraic_dw_memkv,
  trivial, algebraic_dmem,
  trivial, algebraic_memkv,
  trivial, algebraic_dw_in_a,
  trivial, algebraic_dw_in_b,
  trivial, algebraic_du_a,
  trivial, algebraic_du_b,
  trivial, algebraic_in_a,
  trivial, algebraic_in_b,
  trivial, algebraic_adamw_out,
  trivial, algebraic_adamw_mem_kv,
  trivial, algebraic_adamw_gate_up,
  trivial, algebraic_adamw_down,
  trivial, algebraic_adamw_in⟩

end Cert.Proof

end
